-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2))) = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_diff_finite [hPre_diff_finite : Cert.Pre_diff_finite.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_diff_finite.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2))
      ∧ r.2.sem = fun _ => 0)

def quiescent_DiffReferenceIdeal_pre_diff_finite [hDiffReferenceIdeal : Cert.DiffReferenceIdeal.Facts] [hPre_diff_finite : Cert.Pre_diff_finite.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_diff_finite m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v40_0)) (v1 : (c : Dev Cert.InProjIdeal.nD) → Buf (Elt Ideal) ((c.tc : Thread Cert.InProjIdeal.nD Cert.InProjIdeal.τ).loc Cert.InProjIdeal.main_v40_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v40_0) = v0 c
          ∧ r.2.mem ((c.tc : Thread Cert.InProjIdeal.nD Cert.InProjIdeal.τ).loc Cert.InProjIdeal.main_v40_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v64) = v0 c
          ∧ r.2.mem ((c.tc : Thread Cert.InProjReferenceIdeal.nD Cert.InProjReferenceIdeal.τ).loc Cert.InProjReferenceIdeal.main_v65) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v9)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v16) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_Diff_DiffIdeal : Prop :=
  IdealRules.named_const.Statement Cert.DiffIdeal.κ "mask" .f32 0xF149F2CA#32 ⊥

def algebraic_DiffIdeal_DiffReferenceIdeal_pre_diff_finite [hDiffIdeal : Cert.DiffIdeal.Facts] [hDiffReferenceIdeal : Cert.DiffReferenceIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffIdeal_diff_finite m →
    (∀ c : Dev Cert.DiffIdeal.nD,
      m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0)
      ∧ m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1)
      ∧ m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2)) →
    ∃ (v0 : (c : Dev Cert.DiffIdeal.nD) → Buf (Elt Ideal) ((c.tc : Thread Cert.DiffIdeal.nD Cert.DiffIdeal.τ).loc Cert.DiffIdeal.main_v14)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v14) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v76) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hDiff : Cert.Diff.Facts) (hDiffIdeal : Cert.DiffIdeal.Facts) (hDiffReferenceIdeal : Cert.DiffReferenceIdeal.Facts) (hPre_finite : Cert.Pre_finite.Facts) (hPre_diff_finite : Cert.Pre_diff_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffReferenceIdeal (hDiffReferenceIdeal := hDiffReferenceIdeal)
    ∧ quiescent_DiffReferenceIdeal_pre_diff_finite (hDiffReferenceIdeal := hDiffReferenceIdeal) (hPre_diff_finite := hPre_diff_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Diff_DiffIdeal
    ∧ algebraic_DiffIdeal_DiffReferenceIdeal_pre_diff_finite (hDiffIdeal := hDiffIdeal) (hDiffReferenceIdeal := hDiffReferenceIdeal) (hPre_diff_finite := hPre_diff_finite)
-- ==== Pre_diff_finite.lean ====
abbrev S4x4096x6144 : Shape := ⟨3, ![4, 4096, 6144]⟩
abbrev S4x64 : Shape := ⟨2, ![4, 64]⟩
abbrev S128 : Shape := ⟨1, ![128]⟩
abbrev S_ : Shape := ⟨0, ![]⟩

class Facts : Prop where
  bcast_S_S4x4096x6144 : S_.BroadcastsInDim S4x4096x6144 (![] : Fin 0 → Fin S4x4096x6144.rank)
  reducesTo_S4x4096x6144_S_d0_1_2 : S4x4096x6144.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S4x4096x6144 .f32) (main_arg1 : FVec F S4x64 .f32) (main_arg2 : FVec F S128 .f32) : IVec S_ 1 :=
  let main_v0 : FVec F S4x4096x6144 .f32 := Host.absf main_arg0
  let main_cst : FVec F S_ .f32 := constant S_ .f32 0x7F800000#32
  let main_v1 : FVec F S4x4096x6144 .f32 := broadcastInDim S4x4096x6144 ![] bcast_S_S4x4096x6144 main_cst
  let main_v2 : IVec S4x4096x6144 1 := cmpf .olt main_v0 main_v1
  let main_c : IVec S_ 1 := constantI S_ 1 1#1
  let main_v3 : IVec S_ 1 := (fun x v => Host.reduce IntOp.andi x v reducesTo_S4x4096x6144_S_d0_1_2 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Pre_finite.lean ====
abbrev S4x4096x6144 : Shape := ⟨3, ![4, 4096, 6144]⟩
abbrev S4x8x4096 : Shape := ⟨3, ![4, 8, 4096]⟩
abbrev S_ : Shape := ⟨0, ![]⟩

class Facts : Prop where
  bcast_S_S4x4096x6144 : S_.BroadcastsInDim S4x4096x6144 (![] : Fin 0 → Fin S4x4096x6144.rank)
  reducesTo_S4x4096x6144_S_d0_1_2 : S4x4096x6144.ReducesTo [0, 1, 2] S_
  h_S_ : 0 < S_.numel
  bcast_S_S4x8x4096 : S_.BroadcastsInDim S4x8x4096 (![] : Fin 0 → Fin S4x8x4096.rank)
  reducesTo_S4x8x4096_S_d0_1_2 : S4x8x4096.ReducesTo [0, 1, 2] S_

variable [Facts]

def fn {F : FTy → Type} [FloatOps F] (main_arg0 : FVec F S4x4096x6144 .f32) (main_arg1 : FVec F S4x8x4096 .f32) : IVec S_ 1 :=
  let main_v0 : FVec F S4x4096x6144 .f32 := Host.absf main_arg0
  let main_cst : FVec F S_ .f32 := constant S_ .f32 0x7F800000#32
  let main_v1 : FVec F S4x4096x6144 .f32 := broadcastInDim S4x4096x6144 ![] bcast_S_S4x4096x6144 main_cst
  let main_v2 : IVec S4x4096x6144 1 := cmpf .olt main_v0 main_v1
  let main_c : IVec S_ 1 := constantI S_ 1 1#1
  let main_v3 : IVec S_ 1 := (fun x v => Host.reduce IntOp.andi x v reducesTo_S4x4096x6144_S_d0_1_2 h_S_) main_v2 main_c
  let main_v4 : FVec F S4x8x4096 .f32 := Host.absf main_arg1
  let main_cst_0 : FVec F S_ .f32 := constant S_ .f32 0x7F800000#32
  let main_v5 : FVec F S4x8x4096 .f32 := broadcastInDim S4x8x4096 ![] bcast_S_S4x8x4096 main_cst_0
  let main_v6 : IVec S4x8x4096 1 := cmpf .olt main_v4 main_v5
  let main_c_1 : IVec S_ 1 := constantI S_ 1 1#1
  let main_v7 : IVec S_ 1 := (fun x v => Host.reduce IntOp.andi x v reducesTo_S4x8x4096_S_d0_1_2 h_S_) main_v6 main_c_1
  let main_v8 : IVec S_ 1 := andi main_v3 main_v7
  main_v8
-- ==== Kernel.lean ====
abbrev S4x4096x6144 : Shape := ⟨3, ![4, 4096, 6144]⟩
abbrev S4x8x4096 : Shape := ⟨3, ![4, 8, 4096]⟩
abbrev S_ : Shape := ⟨0, ![]⟩
abbrev S6144 : Shape := ⟨1, ![6144]⟩
abbrev S1x1x6144 : Shape := ⟨3, ![1, 1, 6144]⟩
abbrev S4x4096x8 : Shape := ⟨3, ![4, 4096, 8]⟩
abbrev S4x4096x8x64 : Shape := ⟨4, ![4, 4096, 8, 64]⟩
abbrev S4x4096x512 : Shape := ⟨3, ![4, 4096, 512]⟩
abbrev S1x1024x128 : Shape := ⟨3, ![1, 1024, 128]⟩
abbrev S1x4096x128 : Shape := ⟨3, ![1, 4096, 128]⟩
abbrev S8x160x512 : Shape := ⟨3, ![8, 160, 512]⟩
abbrev S4096x128 : Shape := ⟨2, ![4096, 128]⟩
abbrev S1x512x128 : Shape := ⟨3, ![1, 512, 128]⟩
abbrev S512x128 : Shape := ⟨2, ![512, 128]⟩
abbrev S128x512 : Shape := ⟨2, ![128, 512]⟩
abbrev S64x512 : Shape := ⟨2, ![64, 512]⟩
abbrev S1x64x512 : Shape := ⟨3, ![1, 64, 512]⟩
abbrev S16x512 : Shape := ⟨2, ![16, 512]⟩
abbrev S1x16x512 : Shape := ⟨3, ![1, 16, 512]⟩
abbrev S1x128 : Shape := ⟨2, ![1, 128]⟩
abbrev S1024x128 : Shape := ⟨2, ![1024, 128]⟩
abbrev S1024x256 : Shape := ⟨2, ![1024, 256]⟩
abbrev S1x1024 : Shape := ⟨2, ![1, 1024]⟩
abbrev S80x1024 : Shape := ⟨2, ![80, 1024]⟩
abbrev S512x256 : Shape := ⟨2, ![512, 256]⟩
abbrev S512x1024 : Shape := ⟨2, ![512, 1024]⟩
abbrev S1x160x512 : Shape := ⟨3, ![1, 160, 512]⟩
abbrev S160x512 : Shape := ⟨2, ![160, 512]⟩
abbrev S80x512 : Shape := ⟨2, ![80, 512]⟩
abbrev S1024 : Shape := ⟨1, ![1024]⟩
abbrev S512x512 : Shape := ⟨2, ![512, 512]⟩
abbrev S1x512 : Shape := ⟨2, ![1, 512]⟩
abbrev S512 : Shape := ⟨1, ![512]⟩
abbrev S64x1024 : Shape := ⟨2, ![64, 1024]⟩
abbrev S128x1024 : Shape := ⟨2, ![128, 1024]⟩

abbrev nBuf : Space → Nat
  | .hbm => 71
  | .vmem => 14
  | .smem => 0
  | _ => 0

abbrev bufTy : (tb : Table) → Fin (tcTables nBuf tb) → BufTy
  | .hbm, ⟨0, _⟩ => ⟨S4x4096x6144, .f32⟩
  | .hbm, ⟨1, _⟩ => ⟨S4x8x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S6144, .i32⟩
  | .hbm, ⟨9, _⟩ => ⟨S_, .i32⟩
  | .hbm, ⟨10, _⟩ => ⟨S_, .i32⟩
  | .hbm, ⟨11, _⟩ => ⟨S6144, .i32⟩
  | .hbm, ⟨12, _⟩ => ⟨S6144, .i32⟩
  | .hbm, ⟨13, _⟩ => ⟨S6144, .i32⟩
  | .hbm, ⟨14, _⟩ => ⟨S_, .i32⟩
  | .hbm, ⟨15, _⟩ => ⟨S6144, .i32⟩
  | .hbm, ⟨16, _⟩ => ⟨S6144, .i1⟩
  | .hbm, ⟨17, _⟩ => ⟨S6144, .i32⟩
  | .hbm, ⟨18, _⟩ => ⟨S6144, .i32⟩
  | .hbm, ⟨19, _⟩ => ⟨S_, .i32⟩
  | .hbm, ⟨20, _⟩ => ⟨S6144, .i32⟩
  | .hbm, ⟨21, _⟩ => ⟨S6144, .i1⟩
  | .hbm, ⟨22, _⟩ => ⟨S6144, .i1⟩
  | .hbm, ⟨23, _⟩ => ⟨S_, .i32⟩
  | .hbm, ⟨24, _⟩ => ⟨S6144, .i32⟩
  | .hbm, ⟨25, _⟩ => ⟨S6144, .i32⟩
  | .hbm, ⟨26, _⟩ => ⟨S6144, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S6144, .i32⟩
  | .hbm, ⟨34, _⟩ => ⟨S6144, .i32⟩
  | .hbm, ⟨35, _⟩ => ⟨S_, .i32⟩
  | .hbm, ⟨36, _⟩ => ⟨S6144, .i32⟩
  | .hbm, ⟨37, _⟩ => ⟨S6144, .i1⟩
  | .hbm, ⟨38, _⟩ => ⟨S_, .i32⟩
  | .hbm, ⟨39, _⟩ => ⟨S6144, .i32⟩
  | .hbm, ⟨40, _⟩ => ⟨S6144, .i1⟩
  | .hbm, ⟨41, _⟩ => ⟨S_, .i32⟩
  | .hbm, ⟨42, _⟩ => ⟨S_, .i1⟩
  | .hbm, ⟨43, _⟩ => ⟨S6144, .i1⟩
  | .hbm, ⟨44, _⟩ => ⟨S6144, .i1⟩
  | .hbm, ⟨45, _⟩ => ⟨S6144, .i1⟩
  | .hbm, ⟨46, _⟩ => ⟨S6144, .i32⟩
  | .hbm, ⟨47, _⟩ => ⟨S6144, .i32⟩
  | .hbm, ⟨48, _⟩ => ⟨S6144, .i32⟩
  | .hbm, ⟨49, _⟩ => ⟨S_, .i32⟩
  | .hbm, ⟨50, _⟩ => ⟨S6144, .i32⟩
  | .hbm, ⟨51, _⟩ => ⟨S6144, .i1⟩
  | .hbm, ⟨52, _⟩ => ⟨S_, .f32⟩
  | .hbm, ⟨53, _⟩ => ⟨S_, .f32⟩
  | .hbm, ⟨54, _⟩ => ⟨S6144, .f32⟩
  | .hbm, ⟨55, _⟩ => ⟨S6144, .f32⟩
  | .hbm, ⟨56, _⟩ => ⟨S6144, .f32⟩
  | .hbm, ⟨57, _⟩ => ⟨S1x1x6144, .f32⟩
  | .hbm, ⟨58, _⟩ => ⟨S4x4096x6144, .f32⟩
  | .hbm, ⟨59, _⟩ => ⟨S4x4096x6144, .f32⟩
  | .hbm, ⟨60, _⟩ => ⟨S4x4096x6144, .bf16⟩
  | .hbm, ⟨61, _⟩ => ⟨S4x4096x8, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4x4096x8, .f32⟩
  | .hbm, ⟨67, _⟩ => ⟨S4x4096x8, .f32⟩
  | .hbm, ⟨68, _⟩ => ⟨S4x4096x8x64, .f32⟩
  | .hbm, ⟨69, _⟩ => ⟨S4x4096x512, .f32⟩
  | .hbm, ⟨70, _⟩ => ⟨S4x4096x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x4096x128, .f32⟩
  | .local _ .vmem, ⟨9, _⟩ => ⟨S1x4096x128, .f32⟩
  | .local _ .vmem, ⟨10, _⟩ => ⟨S1x1024x128, .bf16⟩
  | .local _ .vmem, ⟨11, _⟩ => ⟨S1x1024x128, .bf16⟩
  | .local _ .vmem, ⟨12, _⟩ => ⟨S8x160x512, .bf16⟩
  | .local _ .vmem, ⟨13, _⟩ => ⟨S4096x128, .bf16⟩
  | _, _ => ⟨S4x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_c_2 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v5 : Ref sig .tc := ⟨.hbm, 48, rfl⟩
abbrev main_c_3 : Ref sig .tc := ⟨.hbm, 49, rfl⟩
abbrev main_v6 : Ref sig .tc := ⟨.hbm, 50, rfl⟩
abbrev main_v7 : Ref sig .tc := ⟨.hbm, 51, rfl⟩
abbrev main_cst_4 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_cst_5 : Ref sig .tc := ⟨.hbm, 62, rfl⟩
abbrev main_v14 : Ref sig .tc := ⟨.hbm, 63, rfl⟩
abbrev main_cst_6 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c1024_i32 : BitVec 32 := 1024#32
  let v23 : BitVec 32 := Scalar.muli arg2 c1024_i32
  v23
def k0_off1 (i : grid0.Coords) : Fin 3 → Nat :=
  let c0 : Index := 0#32
  let arg2 : BitVec 32 := BitVec.ofNat 32 (i 2).val
  let c1024_i32 : BitVec 32 := 1024#32
  let v23 : BitVec 32 := Scalar.muli arg2 c1024_i32
  let v24 : BitVec 32 := v23
  let v25 : Index := Scalar.indexCast v24
  let c0_7 : Index := 0#32
  ![0, v25.toNat, 0]
@[reducible] def k0_t1_loop (i : grid0.Coords) : Scf.Loop 32 :=
  let c0_i32_23 : BitVec 32 := 0#32
  let arg2 : BitVec 32 := BitVec.ofNat 32 (i 2).val
  let v88 : BitVec 32 := Scalar.subi arg2 c0_i32_23
  let c1_i32_24 : BitVec 32 := 1#32
  let v90 : BitVec 32 := Scalar.divsi v88 c1_i32_24
  let v91 : BitVec 32 := Scalar.muli v90 c1_i32_24
  let v92 : BitVec 32 := Scalar.addi c0_i32_23 v91
  let c1_i32_25 : BitVec 32 := 1#32
  ⟨c0_i32_23, v92, c1_i32_25⟩
def k0_mult2 (i : grid0.Coords) (k0_t1 : Fin (k0_t1_loop i).trips) : BitVec 32 :=
  let c2_i32_64 : BitVec 32 := 2#32
  let c0_i32_23 : BitVec 32 := 0#32
  let c1_i32_25 : BitVec 32 := 1#32
  let arg11 : BitVec 32 := Scf.iv c0_i32_23 c1_i32_25 k0_t1
  let v227 : BitVec 32 := Scalar.muli c2_i32_64 arg11
  let c0_i32_65 : BitVec 32 := 0#32
  let v228 : BitVec 32 := Scalar.addi v227 c0_i32_65
  let c512_i32_66 : BitVec 32 := 512#32
  let v229 : BitVec 32 := Scalar.muli v228 c512_i32_66
  v229
def k0_off2 (i : grid0.Coords) (k0_t1 : Fin (k0_t1_loop i).trips) (c0_i32_65 : BitVec 32) : Fin 3 → Nat :=
  let c0_67 : Index := 0#32
  let c2_i32_64 : BitVec 32 := 2#32
  let c0_i32_23 : BitVec 32 := 0#32
  let c1_i32_25 : BitVec 32 := 1#32
  let arg11 : BitVec 32 := Scf.iv c0_i32_23 c1_i32_25 k0_t1
  let v227 : BitVec 32 := Scalar.muli c2_i32_64 arg11
  let v228 : BitVec 32 := Scalar.addi v227 c0_i32_65
  let c512_i32_66 : BitVec 32 := 512#32
  let v229 : BitVec 32 := Scalar.muli v228 c512_i32_66
  let v230 : BitVec 32 := v229
  let v231 : Index := Scalar.indexCast v230
  let c0_68 : Index := 0#32
  ![0, v231.toNat, 0]
def k0_off3 (i : grid0.Coords) (k0_t1 : Fin (k0_t1_loop i).trips) (c0_i32_65 : BitVec 32) : Fin 2 → Nat :=
  let c2_i32_64 : BitVec 32 := 2#32
  let c0_i32_23 : BitVec 32 := 0#32
  let c1_i32_25 : BitVec 32 := 1#32
  let arg11 : BitVec 32 := Scf.iv c0_i32_23 c1_i32_25 k0_t1
  let v227 : BitVec 32 := Scalar.muli c2_i32_64 arg11
  let v228 : BitVec 32 := Scalar.addi v227 c0_i32_65
  let c512_i32_66 : BitVec 32 := 512#32
  let v229 : BitVec 32 := Scalar.muli v228 c512_i32_66
  let v230 : BitVec 32 := v229
  let v234 : Index := Scalar.indexCast v230
  let c0_69 : Index := 0#32
  ![v234.toNat, 0]
def k0_off4 (i : grid0.Coords) (k0_t1 : Fin (k0_t1_loop i).trips) (c0_i32_73 : BitVec 32) : Fin 3 → Nat :=
  let c2_i32_72 : BitVec 32 := 2#32
  let c0_i32_23 : BitVec 32 := 0#32
  let c1_i32_25 : BitVec 32 := 1#32
  let arg11 : BitVec 32 := Scf.iv c0_i32_23 c1_i32_25 k0_t1
  let v239 : BitVec 32 := Scalar.muli c2_i32_72 arg11
  let v240 : BitVec 32 := Scalar.addi v239 c0_i32_73
  let v241 : Index := Scalar.indexCast v240
  let c0_74 : Index := 0#32
  let c0_75 : Index := 0#32
  ![v241.toNat, 0, 0]
def k0_mult3 (i : grid0.Coords) (k0_t1 : Fin (k0_t1_loop i).trips) : BitVec 32 :=
  let c2_i32_80 : BitVec 32 := 2#32
  let c0_i32_23 : BitVec 32 := 0#32
  let c1_i32_25 : BitVec 32 := 1#32
  let arg11 : BitVec 32 := Scf.iv c0_i32_23 c1_i32_25 k0_t1
  let v272 : BitVec 32 := Scalar.muli c2_i32_80 arg11
  let c1_i32_81 : BitVec 32 := 1#32
  let v273 : BitVec 32 := Scalar.addi v272 c1_i32_81
  let c512_i32_82 : BitVec 32 := 512#32
  let v274 : BitVec 32 := Scalar.muli v273 c512_i32_82
  v274
@[reducible] def k0_t2_loop (i : grid0.Coords) : Scf.Loop 32 :=
  let c0_i32_23 : BitVec 32 := 0#32
  let arg2 : BitVec 32 := BitVec.ofNat 32 (i 2).val
  let v88 : BitVec 32 := Scalar.subi arg2 c0_i32_23
  let c1_i32_24 : BitVec 32 := 1#32
  let v90 : BitVec 32 := Scalar.divsi v88 c1_i32_24
  let v91 : BitVec 32 := Scalar.muli v90 c1_i32_24
  let v92 : BitVec 32 := Scalar.addi c0_i32_23 v91
  let v89 : BitVec 32 := Scalar.addi c0_i32_23 v88
  let c1_i32_26 : BitVec 32 := 1#32
  ⟨v92, v89, c1_i32_26⟩
def k0_mult4 (i : grid0.Coords) (k0_t2 : Fin (k0_t2_loop i).trips) : BitVec 32 :=
  let c2_i32_64 : BitVec 32 := 2#32
  let c0_i32_23 : BitVec 32 := 0#32
  let arg2 : BitVec 32 := BitVec.ofNat 32 (i 2).val
  let v88 : BitVec 32 := Scalar.subi arg2 c0_i32_23
  let c1_i32_24 : BitVec 32 := 1#32
  let v90 : BitVec 32 := Scalar.divsi v88 c1_i32_24
  let v91 : BitVec 32 := Scalar.muli v90 c1_i32_24
  let v92 : BitVec 32 := Scalar.addi c0_i32_23 v91
  let c1_i32_26 : BitVec 32 := 1#32
  let arg11 : BitVec 32 := Scf.iv v92 c1_i32_26 k0_t2
  let v227 : BitVec 32 := Scalar.muli c2_i32_64 arg11
  let c0_i32_65 : BitVec 32 := 0#32
  let v228 : BitVec 32 := Scalar.addi v227 c0_i32_65
  let c512_i32_66 : BitVec 32 := 512#32
  let v229 : BitVec 32 := Scalar.muli v228 c512_i32_66
  v229
def k0_off5 (i : grid0.Coords) (k0_t2 : Fin (k0_t2_loop i).trips) (c0_i32_65 : BitVec 32) : Fin 3 → Nat :=
  let c0_67 : Index := 0#32
  let c2_i32_64 : BitVec 32 := 2#32
  let c0_i32_23 : BitVec 32 := 0#32
  let arg2 : BitVec 32 := BitVec.ofNat 32 (i 2).val
  let v88 : BitVec 32 := Scalar.subi arg2 c0_i32_23
  let c1_i32_24 : BitVec 32 := 1#32
  let v90 : BitVec 32 := Scalar.divsi v88 c1_i32_24
  let v91 : BitVec 32 := Scalar.muli v90 c1_i32_24
  let v92 : BitVec 32 := Scalar.addi c0_i32_23 v91
  let c1_i32_26 : BitVec 32 := 1#32
  let arg11 : BitVec 32 := Scf.iv v92 c1_i32_26 k0_t2
  let v227 : BitVec 32 := Scalar.muli c2_i32_64 arg11
  let v228 : BitVec 32 := Scalar.addi v227 c0_i32_65
  let c512_i32_66 : BitVec 32 := 512#32
  let v229 : BitVec 32 := Scalar.muli v228 c512_i32_66
  let v230 : BitVec 32 := v229
  let v231 : Index := Scalar.indexCast v230
  let c0_68 : Index := 0#32
  ![0, v231.toNat, 0]
def k0_off6 (i : grid0.Coords) (k0_t2 : Fin (k0_t2_loop i).trips) (c0_i32_65 : BitVec 32) : Fin 2 → Nat :=
  let c2_i32_64 : BitVec 32 := 2#32
  let c0_i32_23 : BitVec 32 := 0#32
  let arg2 : BitVec 32 := BitVec.ofNat 32 (i 2).val
  let v88 : BitVec 32 := Scalar.subi arg2 c0_i32_23
  let c1_i32_24 : BitVec 32 := 1#32
  let v90 : BitVec 32 := Scalar.divsi v88 c1_i32_24
  let v91 : BitVec 32 := Scalar.muli v90 c1_i32_24
  let v92 : BitVec 32 := Scalar.addi c0_i32_23 v91
  let c1_i32_26 : BitVec 32 := 1#32
  let arg11 : BitVec 32 := Scf.iv v92 c1_i32_26 k0_t2
  let v227 : BitVec 32 := Scalar.muli c2_i32_64 arg11
  let v228 : BitVec 32 := Scalar.addi v227 c0_i32_65
  let c512_i32_66 : BitVec 32 := 512#32
  let v229 : BitVec 32 := Scalar.muli v228 c512_i32_66
  let v230 : BitVec 32 := v229
  let v234 : Index := Scalar.indexCast v230
  let c0_69 : Index := 0#32
  ![v234.toNat, 0]
def k0_off7 (i : grid0.Coords) (k0_t2 : Fin (k0_t2_loop i).trips) (c0_i32_73 : BitVec 32) : Fin 3 → Nat :=
  let c2_i32_72 : BitVec 32 := 2#32
  let c0_i32_23 : BitVec 32 := 0#32
  let arg2 : BitVec 32 := BitVec.ofNat 32 (i 2).val
  let v88 : BitVec 32 := Scalar.subi arg2 c0_i32_23
  let c1_i32_24 : BitVec 32 := 1#32
  let v90 : BitVec 32 := Scalar.divsi v88 c1_i32_24
  let v91 : BitVec 32 := Scalar.muli v90 c1_i32_24
  let v92 : BitVec 32 := Scalar.addi c0_i32_23 v91
  let c1_i32_26 : BitVec 32 := 1#32
  let arg11 : BitVec 32 := Scf.iv v92 c1_i32_26 k0_t2
  let v239 : BitVec 32 := Scalar.muli c2_i32_72 arg11
  let v240 : BitVec 32 := Scalar.addi v239 c0_i32_73
  let v241 : Index := Scalar.indexCast v240
  let c0_74 : Index := 0#32
  let c0_75 : Index := 0#32
  ![v241.toNat, 0, 0]
def k0_mult5 (i : grid0.Coords) (k0_t2 : Fin (k0_t2_loop i).trips) : BitVec 32 :=
  let c2_i32_80 : BitVec 32 := 2#32
  let c0_i32_23 : BitVec 32 := 0#32
  let arg2 : BitVec 32 := BitVec.ofNat 32 (i 2).val
  let v88 : BitVec 32 := Scalar.subi arg2 c0_i32_23
  let c1_i32_24 : BitVec 32 := 1#32
  let v90 : BitVec 32 := Scalar.divsi v88 c1_i32_24
  let v91 : BitVec 32 := Scalar.muli v90 c1_i32_24
  let v92 : BitVec 32 := Scalar.addi c0_i32_23 v91
  let c1_i32_26 : BitVec 32 := 1#32
  let arg11 : BitVec 32 := Scf.iv v92 c1_i32_26 k0_t2
  let v272 : BitVec 32 := Scalar.muli c2_i32_80 arg11
  let c1_i32_81 : BitVec 32 := 1#32
  let v273 : BitVec 32 := Scalar.addi v272 c1_i32_81
  let c512_i32_82 : BitVec 32 := 512#32
  let v274 : BitVec 32 := Scalar.muli v273 c512_i32_82
  v274
def k0_mult6 (i : grid0.Coords) : BitVec 32 :=
  let c2_i32_22 : BitVec 32 := 2#32
  let arg2 : BitVec 32 := BitVec.ofNat 32 (i 2).val
  let v87 : BitVec 32 := Scalar.muli c2_i32_22 arg2
  let c0_i32_27 : BitVec 32 := 0#32
  let v95 : BitVec 32 := Scalar.addi v87 c0_i32_27
  let c512_i32 : BitVec 32 := 512#32
  let v98 : BitVec 32 := Scalar.muli v95 c512_i32
  v98
def k0_off8 (i : grid0.Coords) (c0_i32_27 : BitVec 32) : Fin 3 → Nat :=
  let c0_28 : Index := 0#32
  let c2_i32_22 : BitVec 32 := 2#32
  let arg2 : BitVec 32 := BitVec.ofNat 32 (i 2).val
  let v87 : BitVec 32 := Scalar.muli c2_i32_22 arg2
  let v95 : BitVec 32 := Scalar.addi v87 c0_i32_27
  let c512_i32 : BitVec 32 := 512#32
  let v98 : BitVec 32 := Scalar.muli v95 c512_i32
  let v99 : BitVec 32 := v98
  let v100 : Index := Scalar.indexCast v99
  let c0_29 : Index := 0#32
  ![0, v100.toNat, 0]
def k0_off9 (i : grid0.Coords) (c0_i32_27 : BitVec 32) : Fin 2 → Nat :=
  let c2_i32_22 : BitVec 32 := 2#32
  let arg2 : BitVec 32 := BitVec.ofNat 32 (i 2).val
  let v87 : BitVec 32 := Scalar.muli c2_i32_22 arg2
  let v95 : BitVec 32 := Scalar.addi v87 c0_i32_27
  let c512_i32 : BitVec 32 := 512#32
  let v98 : BitVec 32 := Scalar.muli v95 c512_i32
  let v99 : BitVec 32 := v98
  let v103 : Index := Scalar.indexCast v99
  let c0_30 : Index := 0#32
  ![v103.toNat, 0]
def k0_off10 (i : grid0.Coords) (c0_i32_27 : BitVec 32) : Fin 3 → Nat :=
  let c2_i32_22 : BitVec 32 := 2#32
  let arg2 : BitVec 32 := BitVec.ofNat 32 (i 2).val
  let v87 : BitVec 32 := Scalar.muli c2_i32_22 arg2
  let v95 : BitVec 32 := Scalar.addi v87 c0_i32_27
  let v109 : Index := Scalar.indexCast v95
  let c0_33 : Index := 0#32
  let c0_34 : Index := 0#32
  ![v109.toNat, 0, 0]
def k0_mult7 (i : grid0.Coords) : BitVec 32 :=
  let c2_i32_22 : BitVec 32 := 2#32
  let arg2 : BitVec 32 := BitVec.ofNat 32 (i 2).val
  let v87 : BitVec 32 := Scalar.muli c2_i32_22 arg2
  let c1_i32_41 : BitVec 32 := 1#32
  let v144 : BitVec 32 := Scalar.addi v87 c1_i32_41
  let c512_i32_42 : BitVec 32 := 512#32
  let v151 : BitVec 32 := Scalar.muli v144 c512_i32_42
  v151
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let v0 : BitVec 32 := Scalar.addi c44_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x6144 : Shape := ⟨3, ![4, 4096, 6144]⟩
abbrev S4x8x4096 : Shape := ⟨3, ![4, 8, 4096]⟩
abbrev S4x4096x2048 : Shape := ⟨3, ![4, 4096, 2048]⟩
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S4096 : Shape := ⟨1, ![4096]⟩
abbrev S4x8x4096x4096 : Shape := ⟨4, ![4, 8, 4096, 4096]⟩
abbrev S_ : Shape := ⟨0, ![]⟩
abbrev S4x8x4096x1 : Shape := ⟨4, ![4, 8, 4096, 1]⟩
abbrev S4x8x1x4096 : Shape := ⟨4, ![4, 8, 1, 4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4x4096x6144, .f32⟩
  | .hbm, ⟨1, _⟩ => ⟨S4x8x4096, .f32⟩
  | .hbm, ⟨2, _⟩ => ⟨S4x4096x2048, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S4x4096x8x64, .f32⟩
  | .hbm, ⟨8, _⟩ => ⟨S4x8x4096x64, .f32⟩
  | .hbm, ⟨9, _⟩ => ⟨S4x4096x8x64, .f32⟩
  | .hbm, ⟨10, _⟩ => ⟨S4x8x4096x64, .f32⟩
  | .hbm, ⟨11, _⟩ => ⟨S4x4096x8x64, .f32⟩
  | .hbm, ⟨12, _⟩ => ⟨S4x8x4096x64, .f32⟩
  | .hbm, ⟨13, _⟩ => ⟨S4096, .i32⟩
  | .hbm, ⟨14, _⟩ => ⟨S4x8x4096x4096, .f32⟩
  | .hbm, ⟨15, _⟩ => ⟨S_, .f32⟩
  | .hbm, ⟨16, _⟩ => ⟨S4x8x4096x4096, .f32⟩
  | .hbm, ⟨17, _⟩ => ⟨S4x8x4096x4096, .f32⟩
  | .hbm, ⟨18, _⟩ => ⟨S4x8x4096x1, .f32⟩
  | .hbm, ⟨19, _⟩ => ⟨S4x8x4096x4096, .f32⟩
  | .hbm, ⟨20, _⟩ => ⟨S4x8x4096x4096, .f32⟩
  | .hbm, ⟨21, _⟩ => ⟨S4x8x1x4096, .f32⟩
  | .hbm, ⟨22, _⟩ => ⟨S4x8x4096x4096, .f32⟩
  | .hbm, ⟨23, _⟩ => ⟨S4x8x4096x4096, .f32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S4x8x4096x4096, .i1⟩
  | .hbm, ⟨32, _⟩ => ⟨S4x8x4096x4096, .f32⟩
  | .hbm, ⟨33, _⟩ => ⟨S4x8x4096x4096, .f32⟩
  | .hbm, ⟨34, _⟩ => ⟨S_, .f32⟩
  | .hbm, ⟨35, _⟩ => ⟨S4x8x4096, .f32⟩
  | .hbm, ⟨36, _⟩ => ⟨S_, .f32⟩
  | .hbm, ⟨37, _⟩ => ⟨S4x8x4096, .f32⟩
  | .hbm, ⟨38, _⟩ => ⟨S4x8x4096, .f32⟩
  | .hbm, ⟨39, _⟩ => ⟨S4x8x4096x1, .f32⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S_, .f32⟩
  | .hbm, ⟨44, _⟩ => ⟨S4x8x4096, .f32⟩
  | .hbm, ⟨45, _⟩ => ⟨S4x8x4096x1, .f32⟩
  | .hbm, ⟨46, _⟩ => ⟨S4x8x4096x4096, .f32⟩
  | .hbm, ⟨47, _⟩ => ⟨S4x8x4096x4096, .f32⟩
  | .hbm, ⟨48, _⟩ => ⟨S4x8x4096x64, .f32⟩
  | .hbm, ⟨49, _⟩ => ⟨S4x4096x8x64, .f32⟩
  | .hbm, ⟨50, _⟩ => ⟨S4x4096x512, .f32⟩
  | .hbm, ⟨51, _⟩ => ⟨S4x4096x512, .f32⟩
  | .hbm, ⟨52, _⟩ => ⟨S4x4096x512, .f32⟩
  | .hbm, ⟨53, _⟩ => ⟨S_, .f32⟩
  | .hbm, ⟨54, _⟩ => ⟨S4x4096x512, .f32⟩
  | .hbm, ⟨55, _⟩ => ⟨S4x4096x512, .f32⟩
  | .hbm, ⟨56, _⟩ => ⟨S_, .f32⟩
  | .hbm, ⟨57, _⟩ => ⟨S4x4096x512, .f32⟩
  | .hbm, ⟨58, _⟩ => ⟨S4x4096x512, .f32⟩
  | .hbm, ⟨59, _⟩ => ⟨S4x4096x512, .f32⟩
  | .hbm, ⟨60, _⟩ => ⟨S4x4096x512, .f32⟩
  | .hbm, ⟨61, _⟩ => ⟨S4x4096x512, .bf16⟩
  | _, _ => ⟨S4x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== InProj.lean ====
abbrev S4x4096x1024 : Shape := ⟨3, ![4, 4096, 1024]⟩
abbrev S2x1024x6152 : Shape := ⟨3, ![2, 1024, 6152]⟩
abbrev S2x1024 : Shape := ⟨2, ![2, 1024]⟩
abbrev S2x6152x1024 : Shape := ⟨3, ![2, 6152, 1024]⟩
abbrev S2x6144x1024 : Shape := ⟨3, ![2, 6144, 1024]⟩
abbrev S2x8x1024 : Shape := ⟨3, ![2, 8, 1024]⟩
abbrev S_ : Shape := ⟨0, ![]⟩
abbrev S2x128x1024 : Shape := ⟨3, ![2, 128, 1024]⟩
abbrev S16384x1024 : Shape := ⟨2, ![16384, 1024]⟩
abbrev S1x1024 : Shape := ⟨2, ![1, 1024]⟩
abbrev S1024 : Shape := ⟨1, ![1024]⟩
abbrev S1x128x1024 : Shape := ⟨3, ![1, 128, 1024]⟩
abbrev S128x1024 : Shape := ⟨2, ![128, 1024]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x128 : Shape := ⟨2, ![4096, 128]⟩
abbrev S16384x6144 : Shape := ⟨2, ![16384, 6144]⟩
abbrev S16384x128 : Shape := ⟨2, ![16384, 128]⟩
abbrev S2048x1024 : Shape := ⟨2, ![2048, 1024]⟩
abbrev S1x1024x1024 : Shape := ⟨3, ![1, 1024, 1024]⟩
abbrev S2048x128 : Shape := ⟨2, ![2048, 128]⟩
abbrev S2048 : Shape := ⟨1, ![2048]⟩
abbrev S2048x1 : Shape := ⟨2, ![2048, 1]⟩
abbrev S1024x1024 : Shape := ⟨2, ![1024, 1024]⟩

abbrev nBuf : Space → Nat
  | .hbm => 54
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S2x1024x6152, .f32⟩
  | .hbm, ⟨2, _⟩ => ⟨S2x1024, .f32⟩
  | .hbm, ⟨3, _⟩ => ⟨S2x6152x1024, .f32⟩
  | .hbm, ⟨4, _⟩ => ⟨S2x6144x1024, .f32⟩
  | .hbm, ⟨5, _⟩ => ⟨S2x6144x1024, .bf16⟩
  | .hbm, ⟨6, _⟩ => ⟨S2x8x1024, .f32⟩
  | .hbm, ⟨7, _⟩ => ⟨S_, .i32⟩
  | .hbm, ⟨8, _⟩ => ⟨S_, .f32⟩
  | .hbm, ⟨9, _⟩ => ⟨S2x128x1024, .f32⟩
  | .hbm, ⟨10, _⟩ => ⟨S2x128x1024, .bf16⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x128x1024, .bf16⟩
  | .hbm, ⟨16, _⟩ => ⟨S128x1024, .bf16⟩
  | .hbm, ⟨17, _⟩ => ⟨S4096, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S4096x1, .f32⟩
  | .hbm, ⟨33, _⟩ => ⟨S1x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S_, .f32⟩
  | .hbm, ⟨40, _⟩ => ⟨S4096x48, .f32⟩
  | .hbm, ⟨41, _⟩ => ⟨S_, .f32⟩
  | .hbm, ⟨42, _⟩ => ⟨S4096x48, .f32⟩
  | .hbm, ⟨43, _⟩ => ⟨S_, .f32⟩
  | .hbm, ⟨44, _⟩ => ⟨S4096x8, .f32⟩
  | .hbm, ⟨45, _⟩ => ⟨S4096x64, .f32⟩
  | .hbm, ⟨46, _⟩ => ⟨S4096x64, .f32⟩
  | .hbm, ⟨47, _⟩ => ⟨S4096x8, .f32⟩
  | .hbm, ⟨48, _⟩ => ⟨S4096x64, .f32⟩
  | .hbm, ⟨49, _⟩ => ⟨S4096x128, .f32⟩
  | .hbm, ⟨50, _⟩ => ⟨S4096x128, .f32⟩
  | .hbm, ⟨51, _⟩ => ⟨S4096x128, .f32⟩
  | .hbm, ⟨52, _⟩ => ⟨S16384x6144, .bf16⟩
  | .hbm, ⟨53, _⟩ => ⟨S16384x128, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S128x1024, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x1024, .bf16⟩
  | .local _ .vmem, ⟨13, _⟩ => ⟨S2048x1024, .bf16⟩
  | .local _ .vmem, ⟨14, _⟩ => ⟨S2048x128, .f32⟩
  | .local _ .vmem, ⟨15, _⟩ => ⟨S2048x128, .f32⟩
  | .local _ .vmem, ⟨16, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== InProjReferenceIdeal.lean ====
abbrev S4x4096x1024 : Shape := ⟨3, ![4, 4096, 1024]⟩
abbrev S2x1024x6152 : Shape := ⟨3, ![2, 1024, 6152]⟩
abbrev S2x1024 : Shape := ⟨2, ![2, 1024]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4x4096 : Shape := ⟨2, ![4, 4096]⟩
abbrev S4x4096x1 : Shape := ⟨3, ![4, 4096, 1]⟩
abbrev S1x1024 : Shape := ⟨2, ![1, 1024]⟩
abbrev S1024 : Shape := ⟨1, ![1024]⟩
abbrev S1x1x1024 : Shape := ⟨3, ![1, 1, 1024]⟩
abbrev S1x1024x6152 : Shape := ⟨3, ![1, 1024, 6152]⟩
abbrev S1024x6152 : Shape := ⟨2, ![1024, 6152]⟩
abbrev S4x4096x6152 : Shape := ⟨3, ![4, 4096, 6152]⟩
abbrev S4x4096x5120 : Shape := ⟨3, ![4, 4096, 5120]⟩
abbrev S4x4096x8 : Shape := ⟨3, ![4, 4096, 8]⟩
abbrev S4x4096x16x64 : Shape := ⟨4, ![4, 4096, 16, 64]⟩
abbrev S4x4096x16x8 : Shape := ⟨4, ![4, 4096, 16, 8]⟩
abbrev S4x4096x16x48 : Shape := ⟨4, ![4, 4096, 16, 48]⟩
abbrev S4096x1x8 : Shape := ⟨3, ![4096, 1, 8]⟩
abbrev S1x4096x1x8 : Shape := ⟨4, ![1, 4096, 1, 8]⟩
abbrev S4x4096x6144 : Shape := ⟨3, ![4, 4096, 6144]⟩
abbrev S4x4096x128 : Shape := ⟨3, ![4, 4096, 128]⟩
abbrev S16384x6144 : Shape := ⟨2, ![16384, 6144]⟩
abbrev S16384x128 : Shape := ⟨2, ![16384, 128]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024x6152, .f32⟩
  | .hbm, ⟨2, _⟩ => ⟨S2x1024, .f32⟩
  | .hbm, ⟨3, _⟩ => ⟨S4096, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4x4096x1024, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S4x4096x1024, .f32⟩
  | .hbm, ⟨37, _⟩ => ⟨S4x4096x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S1x1024x6152, .f32⟩
  | .hbm, ⟨44, _⟩ => ⟨S1024x6152, .f32⟩
  | .hbm, ⟨45, _⟩ => ⟨S4x4096x6152, .f32⟩
  | .hbm, ⟨46, _⟩ => ⟨S4x4096x1024, .f32⟩
  | .hbm, ⟨47, _⟩ => ⟨S4x4096x5120, .f32⟩
  | .hbm, ⟨48, _⟩ => ⟨S4x4096x8, .f32⟩
  | .hbm, ⟨49, _⟩ => ⟨S4x4096x16x64, .f32⟩
  | .hbm, ⟨50, _⟩ => ⟨S4x4096x16x8, .f32⟩
  | .hbm, ⟨51, _⟩ => ⟨S4x4096x16x8, .f32⟩
  | .hbm, ⟨52, _⟩ => ⟨S4x4096x16x48, .f32⟩
  | .hbm, ⟨53, _⟩ => ⟨S4096x1x8, .f32⟩
  | .hbm, ⟨54, _⟩ => ⟨S4096x1x8, .f32⟩
  | .hbm, ⟨55, _⟩ => ⟨S1x4096x1x8, .f32⟩
  | .hbm, ⟨56, _⟩ => ⟨S4x4096x16x8, .f32⟩
  | .hbm, ⟨57, _⟩ => ⟨S4x4096x16x8, .f32⟩
  | .hbm, ⟨58, _⟩ => ⟨S1x4096x1x8, .f32⟩
  | .hbm, ⟨59, _⟩ => ⟨S4x4096x16x8, .f32⟩
  | .hbm, ⟨60, _⟩ => ⟨S4x4096x16x8, .f32⟩
  | .hbm, ⟨61, _⟩ => ⟨S4x4096x16x8, .f32⟩
  | .hbm, ⟨62, _⟩ => ⟨S1x4096x1x8, .f32⟩
  | .hbm, ⟨63, _⟩ => ⟨S4x4096x16x8, .f32⟩
  | .hbm, ⟨64, _⟩ => ⟨S4x4096x16x8, .f32⟩
  | .hbm, ⟨65, _⟩ => ⟨S1x4096x1x8, .f32⟩
  | .hbm, ⟨66, _⟩ => ⟨S4x4096x16x8, .f32⟩
  | .hbm, ⟨67, _⟩ => ⟨S4x4096x16x8, .f32⟩
  | .hbm, ⟨68, _⟩ => ⟨S4x4096x16x8, .f32⟩
  | .hbm, ⟨69, _⟩ => ⟨S4x4096x16x64, .f32⟩
  | .hbm, ⟨70, _⟩ => ⟨S4x4096x1024, .f32⟩
  | .hbm, ⟨71, _⟩ => ⟨S4x4096x6144, .f32⟩
  | .hbm, ⟨72, _⟩ => ⟨S4x4096x6144, .bf16⟩
  | .hbm, ⟨73, _⟩ => ⟨S_, .i32⟩
  | .hbm, ⟨74, _⟩ => ⟨S_, .f32⟩
  | .hbm, ⟨75, _⟩ => ⟨S4x4096x128, .f32⟩
  | .hbm, ⟨76, _⟩ => ⟨S16384x6144, .bf16⟩
  | .hbm, ⟨77, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_c : Ref sig .tc := ⟨.hbm, 73, rfl⟩
abbrev main_call0_v0 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩

abbrev nD : Nat := 1
abbrev τ : Topo := Topo.v7x

variable {F : FTy → Type} [FloatOps F]
-- ==== OutProj.lean ====
abbrev S4x4096x512 : Shape := ⟨3, ![4, 4096, 512]⟩
abbrev S1536x1024 : Shape := ⟨2, ![1536, 1024]⟩
abbrev S4x4096x1024 : Shape := ⟨3, ![4, 4096, 1024]⟩
abbrev S1024 : Shape := ⟨1, ![1024]⟩
abbrev S16384x512 : Shape := ⟨2, ![16384, 512]⟩
abbrev S16384x1024 : Shape := ⟨2, ![16384, 1024]⟩
abbrev S1x1024 : Shape := ⟨2, ![1, 1024]⟩
abbrev S1024x512 : Shape := ⟨2, ![1024, 512]⟩
abbrev S1024x1024 : Shape := ⟨2, ![1024, 1024]⟩
abbrev S512x1024 : Shape := ⟨2, ![512, 1024]⟩
abbrev S1024x1 : Shape := ⟨2, ![1024, 1]⟩

abbrev nBuf : Space → Nat
  | .hbm => 16
  | .vmem => 12
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S1536x1024, .f32⟩
  | .hbm, ⟨4, _⟩ => ⟨S4x4096x1024, .f32⟩
  | .hbm, ⟨5, _⟩ => ⟨S1024, .f32⟩
  | .hbm, ⟨6, _⟩ => ⟨S16384x512, .f32⟩
  | .hbm, ⟨7, _⟩ => ⟨S16384x512, .bf16⟩
  | .hbm, ⟨8, _⟩ => ⟨S16384x512, .f32⟩
  | .hbm, ⟨9, _⟩ => ⟨S16384x512, .bf16⟩
  | .hbm, ⟨10, _⟩ => ⟨S16384x512, .f32⟩
  | .hbm, ⟨11, _⟩ => ⟨S16384x512, .bf16⟩
  | .hbm, ⟨12, _⟩ => ⟨S1536x1024, .bf16⟩
  | .hbm, ⟨13, _⟩ => ⟨S16384x1024, .f32⟩
  | .hbm, ⟨14, _⟩ => ⟨S1x1024, .f32⟩
  | .hbm, ⟨15, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1536x1024, .bf16⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjReferenceIdeal.lean ====
abbrev S4x4096x512 : Shape := ⟨3, ![4, 4096, 512]⟩
abbrev S1536x1024 : Shape := ⟨2, ![1536, 1024]⟩
abbrev S4x4096x1024 : Shape := ⟨3, ![4, 4096, 1024]⟩
abbrev S1024 : Shape := ⟨1, ![1024]⟩
abbrev S4x4096x1536 : Shape := ⟨3, ![4, 4096, 1536]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S1536x1024, .f32⟩
  | .hbm, ⟨4, _⟩ => ⟨S4x4096x1024, .f32⟩
  | .hbm, ⟨5, _⟩ => ⟨S1024, .f32⟩
  | .hbm, ⟨6, _⟩ => ⟨S4x4096x1536, .f32⟩
  | .hbm, ⟨7, _⟩ => ⟨S4x4096x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S16384x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Diff.lean ====
abbrev S4x4096x6144 : Shape := ⟨3, ![4, 4096, 6144]⟩
abbrev S4x64 : Shape := ⟨2, ![4, 64]⟩
abbrev S128 : Shape := ⟨1, ![128]⟩
abbrev S_ : Shape := ⟨0, ![]⟩
abbrev S6144 : Shape := ⟨1, ![6144]⟩
abbrev S1x1x6144 : Shape := ⟨3, ![1, 1, 6144]⟩
abbrev S1x128 : Shape := ⟨2, ![1, 128]⟩
abbrev S4x4096x512 : Shape := ⟨3, ![4, 4096, 512]⟩
abbrev S1x1024x128 : Shape := ⟨3, ![1, 1024, 128]⟩
abbrev S1x4096x128 : Shape := ⟨3, ![1, 4096, 128]⟩
abbrev S8x144x512 : Shape := ⟨3, ![8, 144, 512]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩
abbrev S1024x128 : Shape := ⟨2, ![1024, 128]⟩
abbrev S1x1024 : Shape := ⟨2, ![1, 1024]⟩
abbrev S144x1024 : Shape := ⟨2, ![144, 1024]⟩
abbrev S512x1024 : Shape := ⟨2, ![512, 1024]⟩
abbrev S1x144x512 : Shape := ⟨3, ![1, 144, 512]⟩
abbrev S144x512 : Shape := ⟨2, ![144, 512]⟩
abbrev S1024 : Shape := ⟨1, ![1024]⟩
abbrev S512x512 : Shape := ⟨2, ![512, 512]⟩
abbrev S1x512 : Shape := ⟨2, ![1, 512]⟩
abbrev S512 : Shape := ⟨1, ![512]⟩
abbrev S1x64 : Shape := ⟨2, ![1, 64]⟩
abbrev S1 : Shape := ⟨1, ![1]⟩
abbrev S1x1 : Shape := ⟨2, ![1, 1]⟩
abbrev S128x1024 : Shape := ⟨2, ![128, 1024]⟩
abbrev S1024x1 : Shape := ⟨2, ![1024, 1]⟩

abbrev nBuf : Space → Nat
  | .hbm => 64
  | .vmem => 13
  | .smem => 0
  | _ => 0

abbrev bufTy : (tb : Table) → Fin (tcTables nBuf tb) → BufTy
  | .hbm, ⟨0, _⟩ => ⟨S4x4096x6144, .f32⟩
  | .hbm, ⟨1, _⟩ => ⟨S4x64, .f32⟩
  | .hbm, ⟨2, _⟩ => ⟨S128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S6144, .i32⟩
  | .hbm, ⟨10, _⟩ => ⟨S_, .i32⟩
  | .hbm, ⟨11, _⟩ => ⟨S_, .i32⟩
  | .hbm, ⟨12, _⟩ => ⟨S6144, .i32⟩
  | .hbm, ⟨13, _⟩ => ⟨S6144, .i32⟩
  | .hbm, ⟨14, _⟩ => ⟨S6144, .i32⟩
  | .hbm, ⟨15, _⟩ => ⟨S_, .i32⟩
  | .hbm, ⟨16, _⟩ => ⟨S6144, .i32⟩
  | .hbm, ⟨17, _⟩ => ⟨S6144, .i1⟩
  | .hbm, ⟨18, _⟩ => ⟨S6144, .i32⟩
  | .hbm, ⟨19, _⟩ => ⟨S6144, .i32⟩
  | .hbm, ⟨20, _⟩ => ⟨S_, .i32⟩
  | .hbm, ⟨21, _⟩ => ⟨S6144, .i32⟩
  | .hbm, ⟨22, _⟩ => ⟨S6144, .i1⟩
  | .hbm, ⟨23, _⟩ => ⟨S6144, .i1⟩
  | .hbm, ⟨24, _⟩ => ⟨S_, .i32⟩
  | .hbm, ⟨25, _⟩ => ⟨S6144, .i32⟩
  | .hbm, ⟨26, _⟩ => ⟨S6144, .i32⟩
  | .hbm, ⟨27, _⟩ => ⟨S6144, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S6144, .i32⟩
  | .hbm, ⟨35, _⟩ => ⟨S6144, .i32⟩
  | .hbm, ⟨36, _⟩ => ⟨S_, .i32⟩
  | .hbm, ⟨37, _⟩ => ⟨S6144, .i32⟩
  | .hbm, ⟨38, _⟩ => ⟨S6144, .i1⟩
  | .hbm, ⟨39, _⟩ => ⟨S_, .i32⟩
  | .hbm, ⟨40, _⟩ => ⟨S6144, .i32⟩
  | .hbm, ⟨41, _⟩ => ⟨S6144, .i1⟩
  | .hbm, ⟨42, _⟩ => ⟨S_, .i32⟩
  | .hbm, ⟨43, _⟩ => ⟨S_, .i1⟩
  | .hbm, ⟨44, _⟩ => ⟨S6144, .i1⟩
  | .hbm, ⟨45, _⟩ => ⟨S6144, .i1⟩
  | .hbm, ⟨46, _⟩ => ⟨S6144, .i1⟩
  | .hbm, ⟨47, _⟩ => ⟨S6144, .i32⟩
  | .hbm, ⟨48, _⟩ => ⟨S6144, .i32⟩
  | .hbm, ⟨49, _⟩ => ⟨S6144, .i32⟩
  | .hbm, ⟨50, _⟩ => ⟨S_, .i32⟩
  | .hbm, ⟨51, _⟩ => ⟨S6144, .i32⟩
  | .hbm, ⟨52, _⟩ => ⟨S6144, .i1⟩
  | .hbm, ⟨53, _⟩ => ⟨S_, .f32⟩
  | .hbm, ⟨54, _⟩ => ⟨S_, .f32⟩
  | .hbm, ⟨55, _⟩ => ⟨S6144, .f32⟩
  | .hbm, ⟨56, _⟩ => ⟨S6144, .f32⟩
  | .hbm, ⟨57, _⟩ => ⟨S6144, .f32⟩
  | .hbm, ⟨58, _⟩ => ⟨S1x1x6144, .f32⟩
  | .hbm, ⟨59, _⟩ => ⟨S4x4096x6144, .f32⟩
  | .hbm, ⟨60, _⟩ => ⟨S4x4096x6144, .f32⟩
  | .hbm, ⟨61, _⟩ => ⟨S4x4096x6144, .bf16⟩
  | .hbm, ⟨62, _⟩ => ⟨S1x128, .f32⟩
  | .hbm, ⟨63, _⟩ => ⟨S4x4096x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S4x64, .f32⟩
  | .local _ .vmem, ⟨9, _⟩ => ⟨S1x128, .f32⟩
  | .local _ .vmem, ⟨10, _⟩ => ⟨S1x1024x128, .bf16⟩
  | .local _ .vmem, ⟨11, _⟩ => ⟨S1x1024x128, .bf16⟩
  | .local _ .vmem, ⟨12, _⟩ => ⟨S8x144x512, .bf16⟩
  | _, _ => ⟨S4x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v5 : Ref sig .tc := ⟨.hbm, 49, rfl⟩
abbrev main_c_3 : Ref sig .tc := ⟨.hbm, 50, rfl⟩
abbrev main_v6 : Ref sig .tc := ⟨.hbm, 51, rfl⟩
abbrev main_v7 : Ref sig .tc := ⟨.hbm, 52, rfl⟩
abbrev main_cst_4 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 4], ![false, false, false]⟩

@[reducible] def k0_t1_loop (i : grid0.Coords) : Scf.Loop 32 :=
  let c0_i32_7 : BitVec 32 := 0#32
  let arg2 : BitVec 32 := BitVec.ofNat 32 (i 2).val
  let v20 : BitVec 32 := Scalar.subi arg2 c0_i32_7
  let c1_i32 : BitVec 32 := 1#32
  let v22 : BitVec 32 := Scalar.divsi v20 c1_i32
  let v23 : BitVec 32 := Scalar.muli v22 c1_i32
  let v24 : BitVec 32 := Scalar.addi c0_i32_7 v23
  let c1_i32_8 : BitVec 32 := 1#32
  ⟨c0_i32_7, v24, c1_i32_8⟩
def k0_mult1 (i : grid0.Coords) (k0_t1 : Fin (k0_t1_loop i).trips) : BitVec 32 :=
  let c2_i32_84 : BitVec 32 := 2#32
  let c0_i32_7 : BitVec 32 := 0#32
  let c1_i32_8 : BitVec 32 := 1#32
  let arg11 : BitVec 32 := Scf.iv c0_i32_7 c1_i32_8 k0_t1
  let v279 : BitVec 32 := Scalar.muli c2_i32_84 arg11
  let c0_i32_85 : BitVec 32 := 0#32
  let v280 : BitVec 32 := Scalar.addi v279 c0_i32_85
  let c512_i32_86 : BitVec 32 := 512#32
  let v281 : BitVec 32 := Scalar.muli v280 c512_i32_86
  v281
def k0_off1 (i : grid0.Coords) (k0_t1 : Fin (k0_t1_loop i).trips) (c0_i32_85 : BitVec 32) : Fin 3 → Nat :=
  let c0_87 : Index := 0#32
  let c2_i32_84 : BitVec 32 := 2#32
  let c0_i32_7 : BitVec 32 := 0#32
  let c1_i32_8 : BitVec 32 := 1#32
  let arg11 : BitVec 32 := Scf.iv c0_i32_7 c1_i32_8 k0_t1
  let v279 : BitVec 32 := Scalar.muli c2_i32_84 arg11
  let v280 : BitVec 32 := Scalar.addi v279 c0_i32_85
  let c512_i32_86 : BitVec 32 := 512#32
  let v281 : BitVec 32 := Scalar.muli v280 c512_i32_86
  let v282 : BitVec 32 := v281
  let v283 : Index := Scalar.indexCast v282
  let c0_88 : Index := 0#32
  ![0, v283.toNat, 0]
def k0_off2 (i : grid0.Coords) (k0_t1 : Fin (k0_t1_loop i).trips) (c0_i32_92 : BitVec 32) : Fin 3 → Nat :=
  let c2_i32_91 : BitVec 32 := 2#32
  let c0_i32_7 : BitVec 32 := 0#32
  let c1_i32_8 : BitVec 32 := 1#32
  let arg11 : BitVec 32 := Scf.iv c0_i32_7 c1_i32_8 k0_t1
  let v288 : BitVec 32 := Scalar.muli c2_i32_91 arg11
  let v289 : BitVec 32 := Scalar.addi v288 c0_i32_92
  let v290 : Index := Scalar.indexCast v289
  let c0_93 : Index := 0#32
  let c0_94 : Index := 0#32
  ![v290.toNat, 0, 0]
def k0_mult2 (i : grid0.Coords) (k0_t1 : Fin (k0_t1_loop i).trips) : BitVec 32 :=
  let c2_i32_99 : BitVec 32 := 2#32
  let c0_i32_7 : BitVec 32 := 0#32
  let c1_i32_8 : BitVec 32 := 1#32
  let arg11 : BitVec 32 := Scf.iv c0_i32_7 c1_i32_8 k0_t1
  let v319 : BitVec 32 := Scalar.muli c2_i32_99 arg11
  let c1_i32_100 : BitVec 32 := 1#32
  let v320 : BitVec 32 := Scalar.addi v319 c1_i32_100
  let c512_i32_101 : BitVec 32 := 512#32
  let v321 : BitVec 32 := Scalar.muli v320 c512_i32_101
  v321
@[reducible] def k0_t2_loop (i : grid0.Coords) : Scf.Loop 32 :=
  let c0_i32_7 : BitVec 32 := 0#32
  let arg2 : BitVec 32 := BitVec.ofNat 32 (i 2).val
  let v20 : BitVec 32 := Scalar.subi arg2 c0_i32_7
  let c1_i32 : BitVec 32 := 1#32
  let v22 : BitVec 32 := Scalar.divsi v20 c1_i32
  let v23 : BitVec 32 := Scalar.muli v22 c1_i32
  let v24 : BitVec 32 := Scalar.addi c0_i32_7 v23
  let v21 : BitVec 32 := Scalar.addi c0_i32_7 v20
  let c1_i32_9 : BitVec 32 := 1#32
  ⟨v24, v21, c1_i32_9⟩
def k0_mult3 (i : grid0.Coords) (k0_t2 : Fin (k0_t2_loop i).trips) : BitVec 32 :=
  let c2_i32_84 : BitVec 32 := 2#32
  let c0_i32_7 : BitVec 32 := 0#32
  let arg2 : BitVec 32 := BitVec.ofNat 32 (i 2).val
  let v20 : BitVec 32 := Scalar.subi arg2 c0_i32_7
  let c1_i32 : BitVec 32 := 1#32
  let v22 : BitVec 32 := Scalar.divsi v20 c1_i32
  let v23 : BitVec 32 := Scalar.muli v22 c1_i32
  let v24 : BitVec 32 := Scalar.addi c0_i32_7 v23
  let c1_i32_9 : BitVec 32 := 1#32
  let arg11 : BitVec 32 := Scf.iv v24 c1_i32_9 k0_t2
  let v279 : BitVec 32 := Scalar.muli c2_i32_84 arg11
  let c0_i32_85 : BitVec 32 := 0#32
  let v280 : BitVec 32 := Scalar.addi v279 c0_i32_85
  let c512_i32_86 : BitVec 32 := 512#32
  let v281 : BitVec 32 := Scalar.muli v280 c512_i32_86
  v281
def k0_off3 (i : grid0.Coords) (k0_t2 : Fin (k0_t2_loop i).trips) (c0_i32_85 : BitVec 32) : Fin 3 → Nat :=
  let c0_87 : Index := 0#32
  let c2_i32_84 : BitVec 32 := 2#32
  let c0_i32_7 : BitVec 32 := 0#32
  let arg2 : BitVec 32 := BitVec.ofNat 32 (i 2).val
  let v20 : BitVec 32 := Scalar.subi arg2 c0_i32_7
  let c1_i32 : BitVec 32 := 1#32
  let v22 : BitVec 32 := Scalar.divsi v20 c1_i32
  let v23 : BitVec 32 := Scalar.muli v22 c1_i32
  let v24 : BitVec 32 := Scalar.addi c0_i32_7 v23
  let c1_i32_9 : BitVec 32 := 1#32
  let arg11 : BitVec 32 := Scf.iv v24 c1_i32_9 k0_t2
  let v279 : BitVec 32 := Scalar.muli c2_i32_84 arg11
  let v280 : BitVec 32 := Scalar.addi v279 c0_i32_85
  let c512_i32_86 : BitVec 32 := 512#32
  let v281 : BitVec 32 := Scalar.muli v280 c512_i32_86
  let v282 : BitVec 32 := v281
  let v283 : Index := Scalar.indexCast v282
  let c0_88 : Index := 0#32
  ![0, v283.toNat, 0]
def k0_off4 (i : grid0.Coords) (k0_t2 : Fin (k0_t2_loop i).trips) (c0_i32_92 : BitVec 32) : Fin 3 → Nat :=
  let c2_i32_91 : BitVec 32 := 2#32
  let c0_i32_7 : BitVec 32 := 0#32
  let arg2 : BitVec 32 := BitVec.ofNat 32 (i 2).val
  let v20 : BitVec 32 := Scalar.subi arg2 c0_i32_7
  let c1_i32 : BitVec 32 := 1#32
  let v22 : BitVec 32 := Scalar.divsi v20 c1_i32
  let v23 : BitVec 32 := Scalar.muli v22 c1_i32
  let v24 : BitVec 32 := Scalar.addi c0_i32_7 v23
  let c1_i32_9 : BitVec 32 := 1#32
  let arg11 : BitVec 32 := Scf.iv v24 c1_i32_9 k0_t2
  let v288 : BitVec 32 := Scalar.muli c2_i32_91 arg11
  let v289 : BitVec 32 := Scalar.addi v288 c0_i32_92
  let v290 : Index := Scalar.indexCast v289
  let c0_93 : Index := 0#32
  let c0_94 : Index := 0#32
  ![v290.toNat, 0, 0]
def k0_mult4 (i : grid0.Coords) (k0_t2 : Fin (k0_t2_loop i).trips) : BitVec 32 :=
  let c2_i32_99 : BitVec 32 := 2#32
  let c0_i32_7 : BitVec 32 := 0#32
  let arg2 : BitVec 32 := BitVec.ofNat 32 (i 2).val
  let v20 : BitVec 32 := Scalar.subi arg2 c0_i32_7
  let c1_i32 : BitVec 32 := 1#32
  let v22 : BitVec 32 := Scalar.divsi v20 c1_i32
  let v23 : BitVec 32 := Scalar.muli v22 c1_i32
  let v24 : BitVec 32 := Scalar.addi c0_i32_7 v23
  let c1_i32_9 : BitVec 32 := 1#32
  let arg11 : BitVec 32 := Scf.iv v24 c1_i32_9 k0_t2
  let v319 : BitVec 32 := Scalar.muli c2_i32_99 arg11
  let c1_i32_100 : BitVec 32 := 1#32
  let v320 : BitVec 32 := Scalar.addi v319 c1_i32_100
  let c512_i32_101 : BitVec 32 := 512#32
  let v321 : BitVec 32 := Scalar.muli v320 c512_i32_101
  v321
def k0_mult5 (i : grid0.Coords) : BitVec 32 :=
  let c2_i32 : BitVec 32 := 2#32
  let arg2 : BitVec 32 := BitVec.ofNat 32 (i 2).val
  let v19 : BitVec 32 := Scalar.muli c2_i32 arg2
  let c0_i32_10 : BitVec 32 := 0#32
  let v27 : BitVec 32 := Scalar.addi v19 c0_i32_10
  let c512_i32 : BitVec 32 := 512#32
  let v30 : BitVec 32 := Scalar.muli v27 c512_i32
  v30
def k0_off5 (i : grid0.Coords) (c0_i32_10 : BitVec 32) : Fin 3 → Nat :=
  let c0_11 : Index := 0#32
  let c2_i32 : BitVec 32 := 2#32
  let arg2 : BitVec 32 := BitVec.ofNat 32 (i 2).val
  let v19 : BitVec 32 := Scalar.muli c2_i32 arg2
  let v27 : BitVec 32 := Scalar.addi v19 c0_i32_10
  let c512_i32 : BitVec 32 := 512#32
  let v30 : BitVec 32 := Scalar.muli v27 c512_i32
  let v31 : BitVec 32 := v30
  let v32 : Index := Scalar.indexCast v31
  let c0_12 : Index := 0#32
  ![0, v32.toNat, 0]
def k0_off6 (i : grid0.Coords) (c0_i32_10 : BitVec 32) : Fin 3 → Nat :=
  let c2_i32 : BitVec 32 := 2#32
  let arg2 : BitVec 32 := BitVec.ofNat 32 (i 2).val
  let v19 : BitVec 32 := Scalar.muli c2_i32 arg2
  let v27 : BitVec 32 := Scalar.addi v19 c0_i32_10
  let v86 : Index := Scalar.indexCast v27
  let c0_29 : Index := 0#32
  let c0_30 : Index := 0#32
  ![v86.toNat, 0, 0]
def k0_mult6 (i : grid0.Coords) : BitVec 32 :=
  let c2_i32 : BitVec 32 := 2#32
  let arg2 : BitVec 32 := BitVec.ofNat 32 (i 2).val
  let v19 : BitVec 32 := Scalar.muli c2_i32 arg2
  let c1_i32_37 : BitVec 32 := 1#32
  let v119 : BitVec 32 := Scalar.addi v19 c1_i32_37
  let c512_i32_38 : BitVec 32 := 512#32
  let v126 : BitVec 32 := Scalar.muli v119 c512_i32_38
  v126
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffIdeal.lean ====
variable {F : FTy → Type} [FloatOps F] [Named F]
def κ : String → Option EReal := fun
  | "mask" => some ⊥
  | _ => none
-- ==== DiffReferenceIdeal.lean ====
abbrev S4x4096x6144 : Shape := ⟨3, ![4, 4096, 6144]⟩
abbrev S4x64 : Shape := ⟨2, ![4, 64]⟩
abbrev S128 : Shape := ⟨1, ![128]⟩
abbrev S4x4096x2048 : Shape := ⟨3, ![4, 4096, 2048]⟩
abbrev S4x4096x512 : Shape := ⟨3, ![4, 4096, 512]⟩
abbrev S4x4096x4x2x64 : Shape := ⟨5, ![4, 4096, 4, 2, 64]⟩
abbrev S4x4x2x4096x64 : Shape := ⟨5, ![4, 4, 2, 4096, 64]⟩
abbrev S4x4096x4x128 : Shape := ⟨4, ![4, 4096, 4, 128]⟩
abbrev S4x4x4096x128 : Shape := ⟨4, ![4, 4, 4096, 128]⟩
abbrev S1x64 : Shape := ⟨2, ![1, 64]⟩
abbrev S64 : Shape := ⟨1, ![64]⟩
abbrev S_ : Shape := ⟨0, ![]⟩
abbrev S4096 : Shape := ⟨1, ![4096]⟩
abbrev S4x4x2x4096x4096 : Shape := ⟨5, ![4, 4, 2, 4096, 4096]⟩
abbrev S1x4096 : Shape := ⟨2, ![1, 4096]⟩
abbrev S4096x1 : Shape := ⟨2, ![4096, 1]⟩
abbrev S4096x4096 : Shape := ⟨2, ![4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x4096 : Shape := ⟨3, ![4, 4, 4096]⟩
abbrev S4x4x4096x1 : Shape := ⟨4, ![4, 4, 4096, 1]⟩
abbrev S1x1x1x128 : Shape := ⟨4, ![1, 1, 1, 128]⟩

abbrev nBuf : Space → Nat
  | .hbm => 120
  | .vmem => 0
  | .smem => 0
  | _ => 0

abbrev bufTy : (tb : Table) → Fin (tcTables nBuf tb) → BufTy
  | .hbm, ⟨0, _⟩ => ⟨S4x4096x6144, .f32⟩
  | .hbm, ⟨1, _⟩ => ⟨S4x64, .f32⟩
  | .hbm, ⟨2, _⟩ => ⟨S128, .f32⟩
  | .hbm, ⟨3, _⟩ => ⟨S4x4096x2048, .f32⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S4x4096x512, .f32⟩
  | .hbm, ⟨8, _⟩ => ⟨S4x4096x4x2x64, .f32⟩
  | .hbm, ⟨9, _⟩ => ⟨S4x4x2x4096x64, .f32⟩
  | .hbm, ⟨10, _⟩ => ⟨S4x4096x4x2x64, .f32⟩
  | .hbm, ⟨11, _⟩ => ⟨S4x4x2x4096x64, .f32⟩
  | .hbm, ⟨12, _⟩ => ⟨S4x4096x4x128, .f32⟩
  | .hbm, ⟨13, _⟩ => ⟨S4x4x4096x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4x4x2x4096x4096, .f32⟩
  | .hbm, ⟨53, _⟩ => ⟨S_, .f32⟩
  | .hbm, ⟨54, _⟩ => ⟨S4x4x2x4096x4096, .f32⟩
  | .hbm, ⟨55, _⟩ => ⟨S4x4x2x4096x4096, .f32⟩
  | .hbm, ⟨56, _⟩ => ⟨S1x4096, .i32⟩
  | .hbm, ⟨57, _⟩ => ⟨S4096x1, .i32⟩
  | .hbm, ⟨58, _⟩ => ⟨S4096x4096, .i32⟩
  | .hbm, ⟨59, _⟩ => ⟨S4096x4096, .i32⟩
  | .hbm, ⟨60, _⟩ => ⟨S4096x4096, .i1⟩
  | .hbm, ⟨61, _⟩ => ⟨S_, .f32⟩
  | .hbm, ⟨62, _⟩ => ⟨S_, .f32⟩
  | .hbm, ⟨63, _⟩ => ⟨S4x4x2x4096x4096, .i1⟩
  | .hbm, ⟨64, _⟩ => ⟨S4x4x2x4096x4096, .f32⟩
  | .hbm, ⟨65, _⟩ => ⟨S4x4x2x4096x4096, .f32⟩
  | .hbm, ⟨66, _⟩ => ⟨S_, .f32⟩
  | .hbm, ⟨67, _⟩ => ⟨S4x4x2x4096, .f32⟩
  | .hbm, ⟨68, _⟩ => ⟨S_, .f32⟩
  | .hbm, ⟨69, _⟩ => ⟨S4x4x2x4096, .f32⟩
  | .hbm, ⟨70, _⟩ => ⟨S4x4x2x4096, .f32⟩
  | .hbm, ⟨71, _⟩ => ⟨S4x4x2x4096x1, .f32⟩
  | .hbm, ⟨72, _⟩ => ⟨S4x4x2x4096x4096, .f32⟩
  | .hbm, ⟨73, _⟩ => ⟨S4x4x2x4096x4096, .f32⟩
  | .hbm, ⟨74, _⟩ => ⟨S4x4x2x4096x4096, .f32⟩
  | .hbm, ⟨75, _⟩ => ⟨S_, .f32⟩
  | .hbm, ⟨76, _⟩ => ⟨S4x4x2x4096, .f32⟩
  | .hbm, ⟨77, _⟩ => ⟨S4x4x2x4096x1, .f32⟩
  | .hbm, ⟨78, _⟩ => ⟨S4x4x2x4096x4096, .f32⟩
  | .hbm, ⟨79, _⟩ => ⟨S4x4x2x4096x4096, .f32⟩
  | .hbm, ⟨80, _⟩ => ⟨S4x4x1x4096x4096, .f32⟩
  | .hbm, ⟨81, _⟩ => ⟨S4x4x4096x4096, .f32⟩
  | .hbm, ⟨82, _⟩ => ⟨S4x4x1x4096x4096, .f32⟩
  | .hbm, ⟨83, _⟩ => ⟨S4x4x4096x4096, .f32⟩
  | .hbm, ⟨84, _⟩ => ⟨S4x4x4096x4096, .f32⟩
  | .hbm, ⟨85, _⟩ => ⟨S4x4x4096x4096, .f32⟩
  | .hbm, ⟨86, _⟩ => ⟨S4x4x4096x4096, .f32⟩
  | .hbm, ⟨87, _⟩ => ⟨S4x4x4096x128, .f32⟩
  | .hbm, ⟨88, _⟩ => ⟨S4x4x4096x128, .f32⟩
  | .hbm, ⟨89, _⟩ => ⟨S_, .f32⟩
  | .hbm, ⟨90, _⟩ => ⟨S4x4x4096, .f32⟩
  | .hbm, ⟨91, _⟩ => ⟨S4x4x4096x1, .f32⟩
  | .hbm, ⟨92, _⟩ => ⟨S_, .f32⟩
  | .hbm, ⟨93, _⟩ => ⟨S4x4x4096x1, .f32⟩
  | .hbm, ⟨94, _⟩ => ⟨S4x4x4096x1, .f32⟩
  | .hbm, ⟨95, _⟩ => ⟨S_, .f32⟩
  | .hbm, ⟨96, _⟩ => ⟨S4x4x4096x1, .f32⟩
  | .hbm, ⟨97, _⟩ => ⟨S4x4x4096x1, .f32⟩
  | .hbm, ⟨98, _⟩ => ⟨S4x4x4096x1, .f32⟩
  | .hbm, ⟨99, _⟩ => ⟨S4x4x4096x128, .f32⟩
  | .hbm, ⟨100, _⟩ => ⟨S4x4x4096x128, .f32⟩
  | .hbm, ⟨101, _⟩ => ⟨S1x1x1x128, .f32⟩
  | .hbm, ⟨102, _⟩ => ⟨S4x4x4096x128, .f32⟩
  | .hbm, ⟨103, _⟩ => ⟨S4x4x4096x128, .f32⟩
  | .hbm, ⟨104, _⟩ => ⟨S_, .f32⟩
  | .hbm, ⟨105, _⟩ => ⟨S4x4x4096x128, .f32⟩
  | .hbm, ⟨106, _⟩ => ⟨S4x4x4096x128, .f32⟩
  | .hbm, ⟨107, _⟩ => ⟨S4x4096x4x128, .f32⟩
  | .hbm, ⟨108, _⟩ => ⟨S4x4096x512, .f32⟩
  | .hbm, ⟨109, _⟩ => ⟨S4x4096x512, .f32⟩
  | .hbm, ⟨110, _⟩ => ⟨S4x4096x512, .f32⟩
  | .hbm, ⟨111, _⟩ => ⟨S_, .f32⟩
  | .hbm, ⟨112, _⟩ => ⟨S4x4096x512, .f32⟩
  | .hbm, ⟨113, _⟩ => ⟨S4x4096x512, .f32⟩
  | .hbm, ⟨114, _⟩ => ⟨S_, .f32⟩
  | .hbm, ⟨115, _⟩ => ⟨S4x4096x512, .f32⟩
  | .hbm, ⟨116, _⟩ => ⟨S4x4096x512, .f32⟩
  | .hbm, ⟨117, _⟩ => ⟨S4x4096x512, .f32⟩
  | .hbm, ⟨118, _⟩ => ⟨S4x4096x512, .f32⟩
  | .hbm, ⟨119, _⟩ => ⟨S4x4096x512, .bf16⟩
  | _, _ => ⟨S4x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v37 : Ref sig .tc := ⟨.hbm, 65, rfl⟩
abbrev main_cst_4 : Ref sig .tc := ⟨.hbm, 66, rfl⟩
abbrev main_v38 : Ref sig .tc := ⟨.hbm, 67, rfl⟩
abbrev main_cst_5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_6 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_10 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_call2_v5 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩

abbrev nD : Nat := 1
abbrev τ : Topo := Topo.v7x

variable {F : FTy → Type} [FloatOps F]
-- ==== Proof.FoxPre.lean ====
/- The forgetting attention's precondition read back: every entry of both argument arrays is a real number. -/
module

public import proofs.«01_k».proof.Pre_finite
public import Idealize.ShloMosaic.Lib.ReduceAll
public import Idealize.ShloMosaic.Lib.ValueIdx
public import Idealize.ShloMosaic.Lib.Claim
public import Idealize.ShloMosaic.Lib.Pointwise
public import Idealize.ShloMosaic.PureOps.Ideal.Laws

@[expose] public section

noncomputable section

namespace Cert.Pre_finite.Read

open Idealize.ShloMosaic
open Cert.Pre_finite

instance : Subsingleton S_.Idx := ⟨fun a b => funext fun k => k.elim0⟩

theorem inf_bits : Ideal.ofBits .f32 0x7F800000#32 = ⊤ := by simp [Ideal.ofBits, Ideal.ieee]

/-- An extended real whose absolute value is below +∞ is a real. -/
theorem real_of_abs (x : EReal) (h : max x (-x) < ⊤) : ∃ r : ℝ, x = (r : EReal) := by
  induction x using EReal.rec with
  | bot => simp at h
  | top => simp at h
  | coe r => exact ⟨r, rfl⟩

/-- If the precondition holds, each entry of both arrays is a real. -/
theorem real_of_fn [Facts] (x0 : FVec Ideal S4x4096x6144 .f32) (x1 : FVec Ideal S4x8x4096 .f32) (h : fn (F := Ideal) x0 x1 = fun _ => 1#1) :
    (∀ i, ∃ r : ℝ, x0 i = (r : EReal)) ∧ (∀ i, ∃ r : ℝ, x1 i = (r : EReal)) := by
  have hj := congrFun h (fun k => k.elim0)
  unfold fn at hj
  dsimp only at hj
  obtain ⟨ha, hb⟩ := IntOp.andi_eq_one.1 hj
  refine ⟨fun i => ?_, fun i => ?_⟩
  · have e := Host.reduce_andi_all _ _ _ _ _ ha i
    have e' : Ideal.cmp .olt (max (x0 i) (-(x0 i))) (Ideal.ofBits .f32 0x7F800000#32) = 1#1 := e
    rw [inf_bits] at e'
    refine real_of_abs _ ?_
    by_contra hn
    simp [Ideal.cmp, hn] at e'
  · have e := Host.reduce_andi_all _ _ _ _ _ hb i
    have e' : Ideal.cmp .olt (max (x1 i) (-(x1 i))) (Ideal.ofBits .f32 0x7F800000#32) = 1#1 := e
    rw [inf_bits] at e'
    refine real_of_abs _ ?_
    by_contra hn
    simp [Ideal.cmp, hn] at e'

end Cert.Pre_finite.Read

end
-- ==== Proof.Softmax.lean ====
/- A softmax computed block by block, over the extended reals: the running maximum and the rescaled running sums, and that
   their quotient is the softmax's weighted mean. A masked score is −∞; the running maximum starts at −∞. -/
module

public import Idealize.ShloMosaic.PureOps.Ideal
public import Idealize.ShloMosaic.PureOps.Ideal.Laws

@[expose] public section

noncomputable section

namespace Cert.Softmax

open Idealize.ShloMosaic

/-- A finite sum of reals, in the extended reals. -/
theorem sum_coe {ι : Type*} [Fintype ι] (f : ι → ℝ) : ∑ k, ((f k : ℝ) : EReal) = ((∑ k, f k : ℝ) : EReal) := by
  classical
  refine Finset.induction_on (motive := fun s => ∑ k ∈ s, ((f k : ℝ) : EReal) = ((∑ k ∈ s, f k : ℝ) : EReal)) Finset.univ (by simp) ?_
  intro a s ha ih
  rw [Finset.sum_insert ha, Finset.sum_insert ha, ih, EReal.coe_add]

open Classical in
/-- The weight `2 ^ x` of a score, zero at −∞. -/
def E (x : EReal) : ℝ := if x = ⊥ then 0 else Real.rpow 2 x.toReal

open Classical in
/-- The weight `e ^ x` of a score, zero at −∞. -/
def Ee (x : EReal) : ℝ := if x = ⊥ then 0 else Real.exp x.toReal

theorem E_bot : E ⊥ = 0 := by simp [E]
theorem E_coe (r : ℝ) : E (r : EReal) = Real.rpow 2 r := by simp [E]
theorem Ee_bot : Ee ⊥ = 0 := by simp [Ee]
theorem Ee_coe (r : ℝ) : Ee (r : EReal) = Real.exp r := by simp [Ee]

theorem exp2_sub (b : EReal) (hb : b ≠ ⊤) (μ : ℝ) : Ideal.exp2 (b - (μ : EReal)) = ((E b * Real.rpow 2 (-μ) : ℝ) : EReal) := by
  induction b using EReal.rec with
  | bot => simp [E_bot]
  | coe r =>
    rw [← EReal.coe_sub, Ideal.exp2_coe, E_coe]
    refine congrArg _ ?_
    show (2 : ℝ) ^ (r - μ) = (2 : ℝ) ^ r * (2 : ℝ) ^ (-μ)
    rw [← Real.rpow_add (by norm_num), sub_eq_add_neg]
  | top => exact absurd rfl hb

theorem exp_sub (b : EReal) (hb : b ≠ ⊤) (μ : ℝ) : Ideal.exp (b - (μ : EReal)) = ((Ee b * Real.exp (-μ) : ℝ) : EReal) := by
  induction b using EReal.rec with
  | bot => simp [Ee_bot]
  | coe r =>
    rw [← EReal.coe_sub, Ideal.exp_coe, Ee_coe]
    refine congrArg _ ?_
    rw [← Real.exp_add, sub_eq_add_neg]
  | top => exact absurd rfl hb

/-- What the running maximum and one rescaled running sum say of the weighted sum `z` of the keys seen so far: either no key
    has been seen that is not masked, or the sum is `z` scaled by the maximum's weight. -/
def Inv (z : ℝ) (m acc : EReal) : Prop :=
  (m = ⊥ ∧ z = 0 ∧ acc = 0) ∨ ∃ μ : ℝ, m = (μ : EReal) ∧ acc = ((z * Real.rpow 2 (-μ) : ℝ) : EReal)

theorem Inv.init : Inv 0 ⊥ 0 := .inl ⟨rfl, rfl, rfl⟩

/-- The maximum of a block. -/
abbrev top {ι : Type*} [Fintype ι] (b : ι → EReal) : EReal := (Finset.univ : Finset ι).fold max ⊥ b

theorem le_top' {ι : Type*} [Fintype ι] (b : ι → EReal) (k : ι) : b k ≤ top b :=
  (Finset.le_fold_max _).2 (.inr ⟨k, Finset.mem_univ _, le_rfl⟩)

theorem top_ne {ι : Type*} [Fintype ι] (b : ι → EReal) (hb : ∀ k, b k ≠ ⊤) : top b ≠ ⊤ :=
  ne_of_lt ((Finset.fold_max_lt _).2 ⟨bot_lt_top, fun k _ => lt_of_le_of_ne _root_.le_top (hb k)⟩)

/-- One block: the maximum is raised, the sum rescaled, the block's weighted values added. -/
theorem Inv.step {ι : Type*} [Fintype ι] (v : ι → ℝ) (V b : ι → EReal) (hV : ∀ k, V k = (v k : EReal)) (hb : ∀ k, b k ≠ ⊤)
    {z : ℝ} {m acc : EReal} (h : Inv z m acc) :
    Inv (z + ∑ k, v k * E (b k)) (max m (top b))
      (Ideal.exp2 (m - max m (top b)) * acc + ∑ k, V k * Ideal.exp2 (b k - max m (top b))) := by
  have hm : m ≠ ⊤ := by rcases h with ⟨h, -, -⟩ | ⟨μ, h, -⟩ <;> simp [h]
  have hn : max m (top b) ≠ ⊤ := by
    rcases max_choice m (top b) with e | e <;> rw [e]
    · exact hm
    · exact top_ne b hb
  generalize hM : max m (top b) = M at hn ⊢
  have hle : ∀ k, b k ≤ M := fun k => hM ▸ le_trans (le_top' b k) (le_max_right _ _)
  have hmle : m ≤ M := hM ▸ le_max_left _ _
  induction M using EReal.rec with
  | bot =>
    have hm0 : m = ⊥ := le_bot_iff.1 hmle
    have hb0 : ∀ k, b k = ⊥ := fun k => le_bot_iff.1 (hle k)
    rcases h with ⟨-, hz, hacc⟩ | ⟨μ, h, -⟩
    · refine .inl ⟨rfl, ?_, ?_⟩
      · simp [hz, hb0, E_bot]
      · simp [hacc, hb0]
    · exact absurd (hm0.symm.trans h) (by simp)
  | top => exact absurd rfl hn
  | coe μ' =>
    refine .inr ⟨μ', rfl, ?_⟩
    have hs : ∑ k, V k * Ideal.exp2 (b k - (μ' : EReal)) = (((∑ k, v k * E (b k)) * Real.rpow 2 (-μ') : ℝ) : EReal) := by
      rw [Finset.sum_mul, ← sum_coe]
      refine Finset.sum_congr rfl fun k _ => ?_
      rw [hV, exp2_sub _ (hb k), ← EReal.coe_mul, mul_assoc]
    rw [hs]
    rcases h with ⟨h, hz, hacc⟩ | ⟨μ, h, hacc⟩
    · rw [hacc, hz, mul_zero, zero_add, zero_add]
    · rw [hacc, h, exp2_sub _ (by simp), E_coe, ← EReal.coe_mul, ← EReal.coe_add, add_mul]
      refine congrArg (fun x : ℝ => ((x + _ : ℝ) : EReal)) ?_
      have e : (2 : ℝ) ^ μ * (2 : ℝ) ^ (-μ) = 1 := by rw [← Real.rpow_add (by norm_num), add_neg_cancel, Real.rpow_zero]
      show (2 : ℝ) ^ μ * (2 : ℝ) ^ (-μ') * (z * (2 : ℝ) ^ (-μ)) = z * (2 : ℝ) ^ (-μ')
      calc _ = z * (2 : ℝ) ^ (-μ') * ((2 : ℝ) ^ μ * (2 : ℝ) ^ (-μ)) := by ring
        _ = _ := by rw [e, mul_one]

/-- The quotient of two running sums under one maximum. -/
theorem Inv.div {zn zd : ℝ} {m a d : EReal} (hd : 0 < zd) (hn : Inv zn m a) (hdd : Inv zd m d) : Ideal.div a d = ((zn / zd : ℝ) : EReal) := by
  rcases hdd with ⟨-, h, -⟩ | ⟨μ, h, hd'⟩
  · exact absurd h hd.ne'
  rcases hn with ⟨h', -, -⟩ | ⟨μ', h', ha⟩
  · exact absurd (h'.symm.trans h) (by simp)
  have e : μ' = μ := EReal.coe_injective (h'.symm.trans h)
  subst e
  have hp : (0 : ℝ) < Real.rpow 2 (-μ') := Real.rpow_pos_of_pos (by norm_num) _
  rw [ha, hd', Ideal.div_coe (mul_pos hd hp).ne', ← EReal.coe_mul]
  refine congrArg _ ?_
  have := hd.ne'
  have := hp.ne'
  field_simp

theorem Ee_nonneg (x : EReal) : 0 ≤ Ee x := by
  unfold Ee; split_ifs
  · exact le_rfl
  · exact (Real.exp_pos _).le
theorem Ee_pos (x : EReal) (hx : x ≠ ⊥) : 0 < Ee x := by
  unfold Ee; rw [if_neg hx]; exact Real.exp_pos _

/-- The softmax's weighted mean, as written over the whole row. -/
theorem whole {ι : Type*} [Fintype ι] (x V : ι → EReal) (v : ι → ℝ) (hV : ∀ k, V k = (v k : EReal)) (hx : ∀ k, x k ≠ ⊤) (k₀ : ι) (h₀ : x k₀ ≠ ⊥) :
    ∑ k, Ideal.div (Ideal.exp (x k - top x)) (∑ j, Ideal.exp (x j - top x)) * V k = (((∑ k, v k * Ee (x k)) / ∑ k, Ee (x k) : ℝ) : EReal) := by
  have h1 : top x ≠ ⊤ := top_ne x hx
  have h2 : top x ≠ ⊥ := fun h => h₀ (le_bot_iff.1 (h ▸ le_top' x k₀))
  generalize top x = M at h1 h2 ⊢
  induction M using EReal.rec with
  | bot => exact absurd rfl h2
  | top => exact absurd rfl h1
  | coe μ =>
    have hp : 0 < ∑ k, Ee (x k) := Finset.sum_pos' (fun k _ => Ee_nonneg _) ⟨k₀, Finset.mem_univ _, Ee_pos _ h₀⟩
    have he : (0 : ℝ) < Real.exp (-μ) := Real.exp_pos _
    have hs : ∑ j, Ideal.exp (x j - (μ : EReal)) = (((∑ k, Ee (x k)) * Real.exp (-μ) : ℝ) : EReal) := by
      rw [Finset.sum_mul, ← sum_coe]
      exact Finset.sum_congr rfl fun k _ => exp_sub _ (hx k) μ
    rw [hs, Finset.sum_div, ← sum_coe]
    refine Finset.sum_congr rfl fun k _ => ?_
    rw [exp_sub _ (hx k), hV, Ideal.div_coe (mul_pos hp he).ne', ← EReal.coe_mul, ← EReal.coe_mul]
    refine congrArg _ ?_
    have := hp.ne'
    have := he.ne'
    field_simp

/-- A score in units of `log 2`: its weights to the base two and to the base `e`. -/
theorem E_scaled (r : ℝ) : E ((r * (1 / Real.log 2) : ℝ) : EReal) = Ee ((r : ℝ) : EReal) := by
  rw [E_coe, Ee_coe]
  show (2 : ℝ) ^ (r * (1 / Real.log 2)) = _
  rw [Real.rpow_def_of_pos (by norm_num)]
  have : Real.log 2 ≠ 0 := (Real.log_pos (by norm_num)).ne'
  refine congrArg _ ?_
  field_simp

theorem ofBits_neg_inf : Ideal.ofBits .f32 0xFF800000#32 = ⊥ := by simp [Ideal.ofBits, Ideal.ieee]

end Cert.Softmax

end
-- ==== Proof.SoftmaxStep.lean ====
/- One block's update of the running maximum and of the rescaled running sums, as a kernel writes it on vectors, and what it
   does to one query's entries. -/
module

public import proofs.«01_k».proof.Proof.Softmax
public import Idealize.ShloMosaic.Lib.ValueIdx
public import Idealize.ShloMosaic.Lib.MatmulPlain
public import Idealize.ShloMosaic.Lib.Pipeline.Value
public import Idealize.ShloMosaic.Lib.Pointwise
public import Idealize.ShloMosaic.PureOps.Ideal.Laws

@[expose] public section

noncomputable section

namespace Cert.Softmax

open Idealize.ShloMosaic hiding ix1 ix2 ix3 ix4 constant_apply
open Idealize.ShloMosaic.ValueIdx

variable {K Q D : ℕ}

/-- The running maximum after a block of scores. -/
def mNew (m : FVec Ideal ⟨2, ![1, Q]⟩ .f32) (s : FVec Ideal ⟨2, ![K, Q]⟩ .f32)
    (hr : Shape.Reduces ⟨2, ![K, Q]⟩ [0] ⟨1, ![Q]⟩) (hc : Shape.ShapeCasts ⟨1, ![Q]⟩ ⟨2, ![1, Q]⟩) : FVec Ideal ⟨2, ![1, Q]⟩ .f32 :=
  maximumf m (shapeCast ⟨2, ![1, Q]⟩ (multiReduction .maximumf [0] ⟨1, ![Q]⟩ s 0xFF800000#32 hr (.inl rfl) rfl) hc)

/-- The rescaled running sums after a block of scores and its rows of values. -/
def accNew (m m' : FVec Ideal ⟨2, ![1, Q]⟩ .f32) (acc : FVec Ideal ⟨2, ![D, Q]⟩ .f32) (V : FVec Ideal ⟨2, ![D, K]⟩ .bf16)
    (s : FVec Ideal ⟨2, ![K, Q]⟩ .f32) (hb : Shape.Broadcasts ⟨2, ![1, Q]⟩ ⟨2, ![K, Q]⟩) (hd : Shape.Broadcasts ⟨2, ![1, Q]⟩ ⟨2, ![D, Q]⟩)
    (hl : FTy.bits .bf16 < FTy.bits .f32) : FVec Ideal ⟨2, ![D, Q]⟩ .f32 :=
  addf (mulf (broadcastTo ⟨2, ![D, Q]⟩ (exp2 (subf m m')) hd) acc)
    (matmul (DotDims.plain D K Q) none V (truncf .bf16 (exp2 (subf s (broadcastTo ⟨2, ![K, Q]⟩ m' hb))) hl) (constant ⟨2, ![D, Q]⟩ .f32 0x00000000#32))

theorem mNew_apply (m : FVec Ideal ⟨2, ![1, Q]⟩ .f32) (s : FVec Ideal ⟨2, ![K, Q]⟩ .f32) (hr) (hc) (q : Fin Q) :
    mNew m s hr hc (ix2 (0 : Fin 1) q) = max (m (ix2 (0 : Fin 1) q)) (top fun κ : Fin K => s (ix2 κ q)) := by
  unfold mNew
  rw [maximumf_apply]
  refine congrArg (max _) ?_
  rw [shapeCast_apply _ hc (ix2 (0 : Fin 1) q) (ix1 q) (by
    rw [Shape.rowMajor_val_two, Shape.rowMajor_val_one]
    show (q : ℕ) = 0 * Q + q
    omega)]
  refine (Ideal.multiReduction_maximumf_single s 0xFF800000#32 hr (.inl rfl) rfl (ix1 q)).trans ?_
  unfold top
  have e : s ∘ hr.lift (ix1 q) = fun κ : Fin K => s (ix2 κ q) := by
    funext κ
    refine congrArg s ?_
    funext a; apply Fin.ext
    match a with | ⟨0, _⟩ => rfl | ⟨1, _⟩ => rfl
  rw [e]
  show Finset.fold max (Ideal.ofBits .f32 0xFF800000#32) _ _ = _
  rw [ofBits_neg_inf]
  rfl

theorem accNew_apply (m m' : FVec Ideal ⟨2, ![1, Q]⟩ .f32) (acc : FVec Ideal ⟨2, ![D, Q]⟩ .f32) (V : FVec Ideal ⟨2, ![D, K]⟩ .bf16)
    (s : FVec Ideal ⟨2, ![K, Q]⟩ .f32) (hb) (hd) (hl) (r : Fin D) (q : Fin Q) :
    accNew m m' acc V s hb hd hl (ix2 r q) = Ideal.exp2 (m (ix2 (0 : Fin 1) q) - m' (ix2 (0 : Fin 1) q)) * acc (ix2 r q)
      + ∑ κ : Fin K, V (ix2 r κ) * Ideal.exp2 (s (ix2 κ q) - m' (ix2 (0 : Fin 1) q)) := by
  unfold accNew
  rw [addf_apply, mulf_apply]
  rw [broadcastTo_apply _ hd (ix2 r q) (ix2 (0 : Fin 1) q) (by
    intro a
    match a with
    | ⟨0, _⟩ => rfl
    | ⟨1, _⟩ =>
      show (q : ℕ) = if Q = 1 then 0 else (q : ℕ)
      split_ifs with h
      · have := q.isLt; omega
      · rfl)]
  refine congrArg₂ (· + ·) rfl ?_
  have h := Ideal.matmul_plain_apply (M := D) (K := K) (N := Q) none V (truncf .bf16 (exp2 (subf s (broadcastTo ⟨2, ![K, Q]⟩ m' hb))) hl)
    (constant (F := Ideal) ⟨2, ![D, Q]⟩ .f32 0x00000000#32) r q
  rw [constant_apply, Ideal.ofBits_zero_f32, zero_add] at h
  refine h.trans (Finset.sum_congr rfl fun κ _ => congrArg (V (ix2 r κ) * ·) ?_)
  show Ideal.exp2 (s (ix2 κ q) - broadcastTo ⟨2, ![K, Q]⟩ m' hb (ix2 κ q)) = _
  rw [broadcastTo_apply _ hb (ix2 κ q) (ix2 (0 : Fin 1) q) (by
    intro a
    match a with
    | ⟨0, _⟩ => rfl
    | ⟨1, _⟩ =>
      show (q : ℕ) = if Q = 1 then 0 else (q : ℕ)
      split_ifs with h
      · have := q.isLt; omega
      · rfl)]

/-- One block's update keeps the state of every row of sums of every query. -/
theorem state_step (m : FVec Ideal ⟨2, ![1, Q]⟩ .f32) (acc : FVec Ideal ⟨2, ![D, Q]⟩ .f32) (V : FVec Ideal ⟨2, ![D, K]⟩ .bf16)
    (s : FVec Ideal ⟨2, ![K, Q]⟩ .f32) (hr) (hc) (hb) (hd) (hl) (r : Fin D) (q : Fin Q) (z : ℝ) (v : Fin K → ℝ)
    (h : Inv z (m (ix2 (0 : Fin 1) q)) (acc (ix2 r q))) (hV : ∀ κ, V (ix2 r κ) = (v κ : EReal)) (hs : ∀ κ, s (ix2 κ q) ≠ ⊤) :
    Inv (z + ∑ κ, v κ * E (s (ix2 κ q))) (mNew m s hr hc (ix2 (0 : Fin 1) q)) (accNew m (mNew m s hr hc) acc V s hb hd hl (ix2 r q)) := by
  rw [accNew_apply, mNew_apply]
  exact Inv.step v (fun κ => V (ix2 r κ)) (fun κ => s (ix2 κ q)) hV hs h

end Cert.Softmax

end
-- ==== Proof.FoxLoop.lean ====
/- The fox attention's loop: what one trip, and then the whole loop, does to the running maxima and sums. -/
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import proofs.«01_k».proof.Proof.SoftmaxStep
public import Idealize.ShloMosaic.Lib.Pipeline.ValueKit.Tiles

@[expose] public section

noncomputable section

namespace Cert.KernelIdeal.Fox

open Idealize.ShloMosaic hiding ix1 ix2 ix3 ix4 constant_apply
open Cert.KernelIdeal Cert.KernelIdeal.Gen Idealize.ShloMosaic.TcCoe Idealize.SL.Sem
open Idealize.ShloMosaic.Pipeline (Dat)
open Idealize.ShloMosaic.ValueIdx
open Cert.Softmax

set_option maxRecDepth 100000

/-- The state a loop carries: both heads' running maximum and running sums. -/
abbrev State : Type := FVec Ideal S1x1024 .f32 × FVec Ideal S80x1024 .f32 × FVec Ideal S1x1024 .f32 × FVec Ideal S80x1024 .f32

/-- A block's keys beside their extra columns. -/
def catK (kb : Vec Ideal S1x512x128 .bf16) (ka : Vec Ideal S512x128 .bf16) : FVec Ideal S512x256 .bf16 :=
  concatenate S512x256 1 [⟨S512x128, shapeCast S512x128 kb shapeCasts_S1x512x128_S512x128⟩, ⟨S512x128, ka⟩] concatenates_S512x128_S512x128_S512x256_d1

/-- A block's scores against all the queries. -/
def scoreM (A : FVec Ideal S1024x256 .bf16) (kb : Vec Ideal S1x512x128 .bf16) (ka : Vec Ideal S512x128 .bf16) : FVec Ideal S512x1024 .f32 :=
  matmul dot_S512x256_S1024x256_S512x1024_1_1_0_0_n_n none (catK kb ka) A (constant S512x1024 .f32 0x00000000#32)

/-- The first head's rows of a block's transposed values. -/
def vrow0 (vb : Vec Ideal S1x160x512 .bf16) : FVec Ideal S80x512 .bf16 :=
  extractStridedSlice S80x512 ![0, 0] (shapeCast S160x512 vb shapeCasts_S1x160x512_S160x512) slices_S160x512_o0_0_S80x512
/-- The second head's rows of a block's transposed values. -/
def vrow1 (vb : Vec Ideal S1x160x512 .bf16) : FVec Ideal S80x512 .bf16 :=
  extractStridedSlice S80x512 ![80, 0] (shapeCast S160x512 vb shapeCasts_S1x160x512_S160x512) slices_S160x512_o80_0_S80x512

/-- The running maximum after a block of 512 keys. -/
def mN (m : FVec Ideal S1x1024 .f32) (s : FVec Ideal S512x1024 .f32) : FVec Ideal S1x1024 .f32 :=
  mNew (K := 512) (Q := 1024) m s reduces_S512x1024_S1024 shapeCasts_S1024_S1x1024
/-- The running sums after a block of 512 keys. -/
def aN (m : FVec Ideal S1x1024 .f32) (acc : FVec Ideal S80x1024 .f32) (V : FVec Ideal S80x512 .bf16) (s : FVec Ideal S512x1024 .f32) : FVec Ideal S80x1024 .f32 :=
  accNew (K := 512) (Q := 1024) (D := 80) m (mN m s) acc V s broadcasts_S1x1024_S512x1024 broadcasts_S1x1024_S80x1024 bitsLt_bf16_f32

/-- Both heads' state after a block of 512 keys with the scores `s0`, `s1` and the transposed values `vb`. -/
def step (st : State) (s0 s1 : FVec Ideal S512x1024 .f32) (vb : Vec Ideal S1x160x512 .bf16) : State :=
  (mN st.1 s0, aN st.1 st.2.1 (vrow0 vb) s0, mN st.2.2.1 s1, aN st.2.2.1 st.2.2.2 (vrow1 vb) s1)

theorem ld_off {S : Shape} {e : EltTy} (x : S.Idx → Elt Ideal e) {off off' : Fin S.rank → ℕ} (size : Fin S.rank → ℕ) (E' : off = off')
    (h : ∀ a, off a + size a ≤ S.size a) (h' : ∀ a, off' a + size a ≤ S.size a) :
    View.ld (Val := Elt Ideal) x (Rect.unit off size h) = View.ld (Val := Elt Ideal) x (Rect.unit off' size h') := by
  subst E'; rfl

/-- Block `b` of the keys. -/
def kld (x : Vec Ideal S1x4096x128 .bf16) (b : Fin 8) : Vec Ideal S1x512x128 .bf16 :=
  View.ld (Val := Elt Ideal) x (Rect.unit (s := S1x4096x128) ![0, 512 * b.val, 0] S1x512x128.size (by
    intro a; have := b.isLt
    match a with
    | ⟨0, _⟩ => show 0 + 1 ≤ 1; omega
    | ⟨1, _⟩ => show 512 * b.val + 512 ≤ 4096; omega
    | ⟨2, _⟩ => show 0 + 128 ≤ 128; omega))
/-- Block `b` of the keys' extra columns. -/
def ald (x : Vec Ideal S4096x128 .bf16) (b : Fin 8) : Vec Ideal S512x128 .bf16 :=
  View.ld (Val := Elt Ideal) x (Rect.unit (s := S4096x128) ![512 * b.val, 0] S512x128.size (by
    intro a; have := b.isLt
    match a with
    | ⟨0, _⟩ => show 512 * b.val + 512 ≤ 4096; omega
    | ⟨1, _⟩ => show 0 + 128 ≤ 128; omega))
/-- Block `b` of the transposed values. -/
def vld (x : Vec Ideal S8x160x512 .bf16) (b : Fin 8) : Vec Ideal S1x160x512 .bf16 :=
  View.ld (Val := Elt Ideal) x (Rect.unit (s := S8x160x512) ![b.val, 0, 0] S1x160x512.size (by
    intro a; have := b.isLt
    match a with
    | ⟨0, _⟩ => show b.val + 1 ≤ 8; omega
    | ⟨1, _⟩ => show 0 + 160 ≤ 160; omega
    | ⟨2, _⟩ => show 0 + 512 ≤ 512; omega))

/-- The state after block `b`, nothing masked. -/
def bstep (x1 : Vec Ideal S1x4096x128 .bf16) (xs0 : Vec Ideal S8x160x512 .bf16) (xs1 : Vec Ideal S4096x128 .bf16)
    (A0 A1 : FVec Ideal S1024x256 .bf16) (b : Fin 8) (st : State) : State :=
  step st (scoreM A0 (kld x1 b) (ald xs1 b)) (scoreM A1 (kld x1 b) (ald xs1 b)) (vld xs0 b)

theorem trips_eq : ∀ i : grid0.Coords, (k0_t1_loop i).trips = (i 2).val := by decide +kernel
theorem coord_lt (i : grid0.Coords) : (i 2).val < 4 := (i 2).isLt

/-- One trip is two blocks. -/
theorem trip_eq (𝒱 : Variants) (c : Dev nD) (bd : Option 𝒱.V) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole) (arg2 : BitVec 32)
    (v81 v82 : FVec Ideal S1024x256 .bf16) (v83 : FVec Ideal S1x1024 .f32) (v84 : FVec Ideal S80x1024 .f32) (v85 : FVec Ideal S1x1024 .f32)
    (x1 : Vec Ideal S1x4096x128 .bf16) (xs0 : Vec Ideal S8x160x512 .bf16) (xs1 : Vec Ideal S4096x128 .bf16) (k : Fin (k0_t1_loop i).trips) (st : State)
    (b b' : Fin 8) (hb : b.val = 2 * k.val) (hb' : b'.val = 2 * k.val + 1) :
    tripR_k0_t1 (F := Ideal) 𝒱 c bd i arg3 harg3 arg4 harg4 arg5 harg5 arg6 harg6 arg7 harg7 arg8 harg8 arg9 harg9 arg10 harg10 arg2 v81 v82 v83 v84 v85 (harg4.unread x1) (harg9.unread xs0) (harg10.unread xs1) k st
      = bstep x1 xs0 xs1 v81 v82 b' (bstep x1 xs0 xs1 v81 v82 b st) := by
  unfold tripR_k0_t1
  unfold trip_k0_t1
  dsimp only
  have e1 : ∀ (r : Fin 2) (β : Fin 8) (hβ : β.val = 2 * k.val + r.val),
      View.ld (View.read (Elt Ideal) arg4.view (harg4.unread x1)) (Rect.unit (s := S1x4096x128) (k0_off2 i k (BitVec.ofNat 32 r.val)) S1x512x128.size (k0_off2_inb i k r)) = kld x1 β := by
    intro r β hβ
    rw [harg4.read_unread]
    exact ld_off x1 _ (by rw [k0_off2_eq i k r, show 1024 * k.val + 512 * r.val = 512 * β.val by omega]) _ _
  have e2 : ∀ (r : Fin 2) (β : Fin 8) (hβ : β.val = 2 * k.val + r.val),
      View.ld (View.read (Elt Ideal) arg10.view (harg10.unread xs1)) (Rect.unit (s := S4096x128) (k0_off3 i k (BitVec.ofNat 32 r.val)) S512x128.size (k0_off3_inb i k r)) = ald xs1 β := by
    intro r β hβ
    rw [harg10.read_unread]
    exact ld_off xs1 _ (by rw [k0_off3_eq i k r, show 1024 * k.val + 512 * r.val = 512 * β.val by omega]) _ _
  have e3 : ∀ (r : Fin 2) (β : Fin 8) (hβ : β.val = 2 * k.val + r.val),
      View.ld (View.read (Elt Ideal) arg9.view (harg9.unread xs0)) (Rect.unit (s := S8x160x512) (k0_off4 i k (BitVec.ofNat 32 r.val)) S1x160x512.size (k0_off4_inb i k r)) = vld xs0 β := by
    intro r β hβ
    rw [harg9.read_unread]
    exact ld_off xs0 _ (by rw [k0_off4_eq i k r, show 2 * k.val + r.val = β.val by omega]) _ _
  unfold bstep
  rw [← e1 0 b hb, ← e1 1 b' hb', ← e2 0 b hb, ← e2 1 b' hb', ← e3 0 b hb, ← e3 1 b' hb']
  rfl

/-! ## Entries -/

/-- A key's row beside its extra columns. -/
def Kc (x : Vec Ideal S1x4096x128 .bf16) (a : Vec Ideal S4096x128 .bf16) (key : Fin 4096) (j : Fin 256) : EReal :=
  if h : j.val < 128 then x (ix3 (0 : Fin 1) key (⟨j.val, h⟩ : Fin 128)) else a (ix2 key (⟨j.val - 128, by omega⟩ : Fin 128))

/-- Key `κ` of block `b`. -/
def keyOf (b : Fin 8) (κ : Fin 512) : Fin 4096 := ⟨512 * b.val + κ.val, by have := b.isLt; have := κ.isLt; omega⟩

theorem kld_apply (x : Vec Ideal S1x4096x128 .bf16) (b : Fin 8) (κ : Fin 512) (d : Fin 128) :
    kld x b (ix3 (0 : Fin 1) κ d) = x (ix3 (0 : Fin 1) (keyOf b κ) d) := by
  unfold kld
  refine View.ld_unit_apply_of x _ _ _ _ _ ?_
  intro a
  match a with
  | ⟨0, _⟩ => rfl
  | ⟨1, _⟩ => rfl
  | ⟨2, _⟩ => show d.val = 0 + d.val; omega
theorem ald_apply (x : Vec Ideal S4096x128 .bf16) (b : Fin 8) (κ : Fin 512) (d : Fin 128) :
    ald x b (ix2 κ d) = x (ix2 (keyOf b κ) d) := by
  unfold ald
  refine View.ld_unit_apply_of x _ _ _ _ _ ?_
  intro a
  match a with
  | ⟨0, _⟩ => rfl
  | ⟨1, _⟩ => show d.val = 0 + d.val; omega
theorem vld_apply (x : Vec Ideal S8x160x512 .bf16) (b : Fin 8) (r : Fin 160) (κ : Fin 512) :
    vld x b (ix3 (0 : Fin 1) r κ) = x (ix3 b r κ) := by
  unfold vld
  refine View.ld_unit_apply_of x _ _ _ _ _ ?_
  intro a
  match a with
  | ⟨0, _⟩ => rfl
  | ⟨1, _⟩ => show r.val = 0 + r.val; omega
  | ⟨2, _⟩ => show κ.val = 0 + κ.val; omega

theorem catK_apply (x : Vec Ideal S1x4096x128 .bf16) (a : Vec Ideal S4096x128 .bf16) (b : Fin 8) (κ : Fin 512) (j : Fin 256) :
    catK (kld x b) (ald a b) (ix2 κ j) = Kc x a (keyOf b κ) j := by
  unfold catK Kc
  by_cases h : j.val < 128
  · rw [dif_pos h]
    refine (concatenate_pair_apply_left (t := S512x256) (s₁ := S512x128) (s₂ := S512x128) 1 _ _ _ (ix2 κ j) rfl (ix2 κ (⟨j.val, h⟩ : Fin 128)) (by
      intro b; match b with | ⟨0, _⟩ => rfl | ⟨1, _⟩ => rfl)).trans ?_
    rw [shapeCast_apply _ shapeCasts_S1x512x128_S512x128 (ix2 κ (⟨j.val, h⟩ : Fin 128)) (ix3 (0 : Fin 1) κ (⟨j.val, h⟩ : Fin 128)) (by
      rw [Shape.rowMajor_val_two, Shape.rowMajor_val_three]
      show (0 * 512 + κ.val) * 128 + j.val = κ.val * 128 + j.val
      omega)]
    exact kld_apply x b κ _
  · rw [dif_neg h]
    refine (concatenate_pair_apply_right (t := S512x256) (s₁ := S512x128) (s₂ := S512x128) 1 _ _ _ (ix2 κ j) rfl rfl (ix2 κ (⟨j.val - 128, by omega⟩ : Fin 128)) (by
      intro b; match b with | ⟨0, _⟩ => intro _; rfl | ⟨1, _⟩ => intro h; exact absurd rfl h) (by show j.val - 128 + 128 = j.val; omega)).trans ?_
    exact ald_apply a b κ _

theorem scoreM_apply (A : FVec Ideal S1024x256 .bf16) (kb ka) (κ : Fin 512) (q : Fin 1024) :
    scoreM A kb ka (ix2 κ q) = ∑ j : Fin 256, catK kb ka (ix2 κ j) * A (ix2 q j) := by
  unfold scoreM
  have h := Ideal.matmul_transposedRhs_apply (M := 512) (K := 256) (N := 1024) none (catK kb ka) A (constant (F := Ideal) S512x1024 .f32 0x00000000#32) κ q
  rw [constant_apply, Ideal.ofBits_zero_f32, zero_add] at h
  exact h

theorem vrow0_apply (vb : Vec Ideal S1x160x512 .bf16) (r : Fin 80) (κ : Fin 512) :
    vrow0 vb (ix2 r κ) = vb (ix3 (0 : Fin 1) (⟨r.val, by omega⟩ : Fin 160) κ) := by
  unfold vrow0
  rw [extractStridedSlice_apply ![0, 0] _ slices_S160x512_o0_0_S80x512 (ix2 r κ) (ix2 (⟨r.val, by omega⟩ : Fin 160) κ) (by
    intro a; match a with | ⟨0, _⟩ => show r.val = 0 + r.val; omega | ⟨1, _⟩ => show κ.val = 0 + κ.val; omega)]
  rw [shapeCast_apply _ shapeCasts_S1x160x512_S160x512 (ix2 (⟨r.val, by omega⟩ : Fin 160) κ) (ix3 (0 : Fin 1) (⟨r.val, by omega⟩ : Fin 160) κ) (by
      rw [Shape.rowMajor_val_two, Shape.rowMajor_val_three]
      show (0 * 160 + r.val) * 512 + κ.val = r.val * 512 + κ.val
      omega)]
theorem vrow1_apply (vb : Vec Ideal S1x160x512 .bf16) (r : Fin 80) (κ : Fin 512) :
    vrow1 vb (ix2 r κ) = vb (ix3 (0 : Fin 1) (⟨80 + r.val, by omega⟩ : Fin 160) κ) := by
  unfold vrow1
  rw [extractStridedSlice_apply ![80, 0] _ slices_S160x512_o80_0_S80x512 (ix2 r κ) (ix2 (⟨80 + r.val, by omega⟩ : Fin 160) κ) (by
    intro a; match a with | ⟨0, _⟩ => rfl | ⟨1, _⟩ => show κ.val = 0 + κ.val; omega)]
  rw [shapeCast_apply _ shapeCasts_S1x160x512_S160x512 (ix2 (⟨80 + r.val, by omega⟩ : Fin 160) κ) (ix3 (0 : Fin 1) (⟨80 + r.val, by omega⟩ : Fin 160) κ) (by
      rw [Shape.rowMajor_val_two, Shape.rowMajor_val_three]
      show (0 * 160 + (80 + r.val)) * 512 + κ.val = (80 + r.val) * 512 + κ.val
      omega)]

/-! ## The state over the keys so far -/

/-- A query's score at a key: masked past the query itself. -/
def vis (s : Fin 1024 → Fin 4096 → ℝ) (q0 : ℕ) (q : Fin 1024) (key : Fin 4096) : EReal :=
  if key.val ≤ q0 + q.val then ((s q key : ℝ) : EReal) else ⊥

theorem vis_ne (s : Fin 1024 → Fin 4096 → ℝ) (q0 : ℕ) (q : Fin 1024) (key : Fin 4096) : vis s q0 q key ≠ ⊤ := by
  unfold vis; split_ifs
  · exact EReal.coe_ne_top _
  · exact bot_ne_top

/-- A key's weighted value; nothing past the last key. -/
def term (s : Fin 1024 → Fin 4096 → ℝ) (w : Fin 80 → Fin 4096 → ℝ) (q0 : ℕ) (r : Fin 80) (q : Fin 1024) (key : ℕ) : ℝ :=
  if h : key < 4096 then w r ⟨key, h⟩ * E (vis s q0 q ⟨key, h⟩) else 0

/-- The sum of the weighted values of the first `n` keys. -/
def Z (s : Fin 1024 → Fin 4096 → ℝ) (w : Fin 80 → Fin 4096 → ℝ) (q0 : ℕ) (r : Fin 80) (q : Fin 1024) (n : ℕ) : ℝ :=
  ∑ key ∈ Finset.range n, term s w q0 r q key

theorem Z_block (s : Fin 1024 → Fin 4096 → ℝ) (w : Fin 80 → Fin 4096 → ℝ) (q0 : ℕ) (r : Fin 80) (q : Fin 1024) (b : Fin 8) :
    Z s w q0 r q (512 * b.val) + ∑ κ : Fin 512, w r (keyOf b κ) * E (vis s q0 q (keyOf b κ)) = Z s w q0 r q (512 * (b.val + 1)) := by
  unfold Z
  rw [show 512 * (b.val + 1) = 512 * b.val + 512 by ring, Finset.sum_range_add, Finset.sum_range (n := 512)]
  refine congrArg (_ + ·) (Finset.sum_congr rfl fun κ _ => ?_)
  unfold term
  rw [dif_pos (by have := b.isLt; have := κ.isLt; omega)]
  rfl

/-- One head's state over the first `n` keys. -/
def Good (s : Fin 1024 → Fin 4096 → ℝ) (w : Fin 80 → Fin 4096 → ℝ) (q0 n : ℕ) (m : FVec Ideal S1x1024 .f32) (acc : FVec Ideal S80x1024 .f32) : Prop :=
  ∀ (r : Fin 80) (q : Fin 1024), Inv (Z s w q0 r q n) (m (ix2 (0 : Fin 1) q)) (acc (ix2 r q))

theorem Good.block {s : Fin 1024 → Fin 4096 → ℝ} {w : Fin 80 → Fin 4096 → ℝ} {q0 : ℕ} {m : FVec Ideal S1x1024 .f32} {acc : FVec Ideal S80x1024 .f32}
    (b : Fin 8) (V : FVec Ideal S80x512 .bf16) (S : FVec Ideal S512x1024 .f32) (h : Good s w q0 (512 * b.val) m acc)
    (hV : ∀ r κ, V (ix2 r κ) = ((w r (keyOf b κ) : ℝ) : EReal)) (hS : ∀ κ q, S (ix2 κ q) = vis s q0 q (keyOf b κ)) :
    Good s w q0 (512 * (b.val + 1)) (mN m S) (aN m acc V S) := by
  intro r q
  rw [← Z_block]
  have e : ∑ κ : Fin 512, w r (keyOf b κ) * E (vis s q0 q (keyOf b κ)) = ∑ κ : Fin 512, w r (keyOf b κ) * E (S (ix2 κ q)) :=
    Finset.sum_congr rfl fun κ _ => by rw [hS]
  rw [e]
  exact state_step (K := 512) (Q := 1024) (D := 80) m acc V S _ _ _ _ _ r q _ (fun κ => w r (keyOf b κ)) (h r q) (fun κ => hV r κ)
    (fun κ => by rw [hS]; exact vis_ne s q0 q _)

/-- What the kernel's operands hold: real scores of both heads and real transposed values. -/
structure Real' (x1 : Vec Ideal S1x4096x128 .bf16) (xs0 : Vec Ideal S8x160x512 .bf16) (xs1 : Vec Ideal S4096x128 .bf16)
    (A0 A1 : FVec Ideal S1024x256 .bf16) (s0 s1 : Fin 1024 → Fin 4096 → ℝ) (w0 w1 : Fin 80 → Fin 4096 → ℝ) : Prop where
  hs0 : ∀ q key, ∑ j : Fin 256, Kc x1 xs1 key j * A0 (ix2 q j) = ((s0 q key : ℝ) : EReal)
  hs1 : ∀ q key, ∑ j : Fin 256, Kc x1 xs1 key j * A1 (ix2 q j) = ((s1 q key : ℝ) : EReal)
  hw0 : ∀ (r : Fin 80) (b : Fin 8) (κ : Fin 512), xs0 (ix3 b (⟨r.val, by omega⟩ : Fin 160) κ) = ((w0 r (keyOf b κ) : ℝ) : EReal)
  hw1 : ∀ (r : Fin 80) (b : Fin 8) (κ : Fin 512), xs0 (ix3 b (⟨80 + r.val, by omega⟩ : Fin 160) κ) = ((w1 r (keyOf b κ) : ℝ) : EReal)

section
variable {x1 : Vec Ideal S1x4096x128 .bf16} {xs0 : Vec Ideal S8x160x512 .bf16} {xs1 : Vec Ideal S4096x128 .bf16}
  {A0 A1 : FVec Ideal S1024x256 .bf16} {s0 s1 : Fin 1024 → Fin 4096 → ℝ} {w0 w1 : Fin 80 → Fin 4096 → ℝ}

theorem Real'.score0 (R : Real' x1 xs0 xs1 A0 A1 s0 s1 w0 w1) (b : Fin 8) (κ : Fin 512) (q : Fin 1024) :
    scoreM A0 (kld x1 b) (ald xs1 b) (ix2 κ q) = ((s0 q (keyOf b κ) : ℝ) : EReal) := by
  rw [scoreM_apply, ← R.hs0]
  exact Finset.sum_congr rfl fun j _ => by rw [catK_apply]
theorem Real'.score1 (R : Real' x1 xs0 xs1 A0 A1 s0 s1 w0 w1) (b : Fin 8) (κ : Fin 512) (q : Fin 1024) :
    scoreM A1 (kld x1 b) (ald xs1 b) (ix2 κ q) = ((s1 q (keyOf b κ) : ℝ) : EReal) := by
  rw [scoreM_apply, ← R.hs1]
  exact Finset.sum_congr rfl fun j _ => by rw [catK_apply]
theorem Real'.val0 (R : Real' x1 xs0 xs1 A0 A1 s0 s1 w0 w1) (b : Fin 8) (r : Fin 80) (κ : Fin 512) :
    vrow0 (vld xs0 b) (ix2 r κ) = ((w0 r (keyOf b κ) : ℝ) : EReal) := by rw [vrow0_apply, vld_apply, R.hw0]
theorem Real'.val1 (R : Real' x1 xs0 xs1 A0 A1 s0 s1 w0 w1) (b : Fin 8) (r : Fin 80) (κ : Fin 512) :
    vrow1 (vld xs0 b) (ix2 r κ) = ((w1 r (keyOf b κ) : ℝ) : EReal) := by rw [vrow1_apply, vld_apply, R.hw1]

/-- Both heads' state over the first `n` keys. -/
def GoodS (s0 s1 : Fin 1024 → Fin 4096 → ℝ) (w0 w1 : Fin 80 → Fin 4096 → ℝ) (q0 n : ℕ) (st : State) : Prop :=
  Good s0 w0 q0 n st.1 st.2.1 ∧ Good s1 w1 q0 n st.2.2.1 st.2.2.2

theorem bstep_good (R : Real' x1 xs0 xs1 A0 A1 s0 s1 w0 w1) (b : Fin 8) (q0 : ℕ) (hq : 512 * (b.val + 1) ≤ q0) {st : State}
    (h : GoodS s0 s1 w0 w1 q0 (512 * b.val) st) : GoodS s0 s1 w0 w1 q0 (512 * (b.val + 1)) (bstep x1 xs0 xs1 A0 A1 b st) := by
  have hv : ∀ (s : Fin 1024 → Fin 4096 → ℝ) (κ : Fin 512) (q : Fin 1024), ((s q (keyOf b κ) : ℝ) : EReal) = vis s q0 q (keyOf b κ) := by
    intro s κ q
    unfold vis
    rw [if_pos (by show 512 * b.val + κ.val ≤ q0 + q.val; have := κ.isLt; omega)]
  exact ⟨h.1.block b _ _ (R.val0 b) fun κ q => (R.score0 b κ q).trans (hv s0 κ q), h.2.block b _ _ (R.val1 b) fun κ q => (R.score1 b κ q).trans (hv s1 κ q)⟩
end

/-- The loop leaves the state over the keys before the queries' block. -/
theorem loop_good (𝒱 : Variants) (c : Dev nD) (bd : Option 𝒱.V) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole) (arg2 : BitVec 32)
    (v81 v82 : FVec Ideal S1024x256 .bf16) (v83 : FVec Ideal S1x1024 .f32) (v84 : FVec Ideal S80x1024 .f32) (v85 : FVec Ideal S1x1024 .f32)
    (x1 : Vec Ideal S1x4096x128 .bf16) (xs0 : Vec Ideal S8x160x512 .bf16) (xs1 : Vec Ideal S4096x128 .bf16)
    (s0 s1 : Fin 1024 → Fin 4096 → ℝ) (w0 w1 : Fin 80 → Fin 4096 → ℝ) (R : Real' x1 xs0 xs1 v81 v82 s0 s1 w0 w1)
    (init : State) (hinit : GoodS s0 s1 w0 w1 (1024 * (i 2).val) 0 init) : ∀ n : ℕ, n ≤ (i 2).val →
    GoodS s0 s1 w0 w1 (1024 * (i 2).val) (1024 * n)
      (st_k0_t1 (F := Ideal) 𝒱 c bd i arg3 harg3 arg4 harg4 arg5 harg5 arg6 harg6 arg7 harg7 arg8 harg8 arg9 harg9 arg10 harg10 arg2 v81 v82 v83 v84 v85 (harg4.unread x1) (harg9.unread xs0) (harg10.unread xs1) init n) := by
  intro n
  induction n with
  | zero => intro _; rw [st_k0_t1_zero]; exact hinit
  | succ n ih =>
    intro hn
    have hi := coord_lt i
    have hk : n < (k0_t1_loop i).trips := by rw [trips_eq]; omega
    have hs := st_k0_t1_succ (F := Ideal) 𝒱 c bd i arg3 harg3 arg4 harg4 arg5 harg5 arg6 harg6 arg7 harg7 arg8 harg8 arg9 harg9 arg10 harg10 arg2 v81 v82 v83 v84 v85 (harg4.unread x1) (harg9.unread xs0) (harg10.unread xs1) init ⟨n, hk⟩
    dsimp only at hs
    rw [hs, trip_eq 𝒱 c bd i arg3 harg3 arg4 harg4 arg5 harg5 arg6 harg6 arg7 harg7 arg8 harg8 arg9 harg9 arg10 harg10 arg2 v81 v82 v83 v84 v85 x1 xs0 xs1 ⟨n, hk⟩ _ (⟨2 * n, by omega⟩ : Fin 8) (⟨2 * n + 1, by omega⟩ : Fin 8) rfl rfl]
    have h0 := ih (by omega)
    rw [show 1024 * n = 512 * (⟨2 * n, by omega⟩ : Fin 8).val by show 1024 * n = 512 * (2 * n); omega] at h0
    have h1 := bstep_good R (⟨2 * n, by omega⟩ : Fin 8) (1024 * (i 2).val) (by show 512 * (2 * n + 1) ≤ _; omega) h0
    rw [show 512 * ((⟨2 * n, by omega⟩ : Fin 8).val + 1) = 512 * (⟨2 * n + 1, by omega⟩ : Fin 8).val from rfl] at h1
    have h2 := bstep_good R (⟨2 * n + 1, by omega⟩ : Fin 8) (1024 * (i 2).val) (by show 512 * (2 * n + 1 + 1) ≤ _; omega) h1
    rw [show 1024 * (n + 1) = 512 * ((⟨2 * n + 1, by omega⟩ : Fin 8).val + 1) by show 1024 * (n + 1) = 512 * (2 * n + 1 + 1); omega]
    exact h2

end Cert.KernelIdeal.Fox

end
-- ==== Proof.FoxOut.lean ====
/- The fox attention's output block, as one function of the blocks it reads and of the rows the kernel carries. -/
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import proofs.«01_k».proof.Proof.FoxLoop
public import Idealize.ShloMosaic.Lib.Pipeline.ValueKit.Tiles

@[expose] public section

noncomputable section

namespace Cert.KernelIdeal.Fox

open Idealize.ShloMosaic hiding ix1 ix2 ix3 ix4 constant_apply
open Cert.KernelIdeal Cert.KernelIdeal.Gen Idealize.ShloMosaic.TcCoe Idealize.SL.Sem
open Idealize.ShloMosaic.Pipeline (Dat)
open Idealize.ShloMosaic.ValueIdx
open Cert.Softmax

set_option maxRecDepth 100000

/-- The first head's queries beside their extra columns. -/
def qA0 (q : Vec Ideal S1x1024x128 .bf16) (cq : Vec Ideal S1x1024x128 .f32) : FVec Ideal S1024x256 .bf16 :=
  k0_pay141 k0_pay126 (k0_pay129 cq) (k0_pay131 cq) (k0_pay132 cq) k0_pay133 k0_pay134 q
/-- The second head's queries beside their extra columns. -/
def qA1 (q : Vec Ideal S1x1024x128 .bf16) (cq : Vec Ideal S1x1024x128 .f32) : FVec Ideal S1024x256 .bf16 :=
  k0_pay142 k0_pay126 (k0_pay129 cq) (k0_pay131 cq) (k0_pay132 cq) k0_pay133 k0_pay134 q

/-- The scores of the diagonal's first block, masked. -/
def scoreD0 (A : FVec Ideal S1024x256 .bf16) (kb : Vec Ideal S1x512x128 .bf16) (ka : Vec Ideal S512x128 .bf16) : FVec Ideal S512x1024 .f32 :=
  select k0_pay150 (scoreM A kb ka) (broadcast S512x1024 (Named.named κ "mask" 0xF149F2CA#32 : Ideal .f32))
/-- The scores of the diagonal's second block against the later half of the queries, masked. -/
def scoreD1 (A : FVec Ideal S1024x256 .bf16) (kb : Vec Ideal S1x512x128 .bf16) (ka : Vec Ideal S512x128 .bf16) : FVec Ideal S512x512 .f32 :=
  select k0_pay166 (matmul dot_S512x256_S512x256_S512x512_1_1_0_0_n_n none (catK kb ka)
    (extractStridedSlice S512x256 ![512, 0] A slices_S1024x256_o512_0_S512x256) (constant S512x512 .f32 0x00000000#32))
    (broadcast S512x512 (Named.named κ "mask" 0xF149F2CA#32 : Ideal .f32))

/-- The sums after the diagonal's second block: the earlier half of the queries keeps what it has. -/
def half (m : FVec Ideal S1x1024 .f32) (acc : FVec Ideal S80x1024 .f32) (V : FVec Ideal S80x512 .bf16) (s : FVec Ideal S512x512 .f32) : FVec Ideal S80x1024 .f32 :=
  concatenate S80x1024 1 [⟨S80x512, extractStridedSlice S80x512 ![0, 0] acc slices_S80x1024_o0_0_S80x512⟩,
    ⟨S80x512, accNew (K := 512) (Q := 512) (D := 80) (extractStridedSlice S1x512 ![0, 512] m slices_S1x1024_o0_512_S1x512)
      (mNew (K := 512) (Q := 512) (extractStridedSlice S1x512 ![0, 512] m slices_S1x1024_o0_512_S1x512) s reduces_S512x512_S512 shapeCasts_S512_S1x512)
      (extractStridedSlice S80x512 ![0, 512] acc slices_S80x1024_o0_512_S80x512) V s broadcasts_S1x512_S512x512 broadcasts_S1x512_S80x512 bitsLt_bf16_f32⟩]
    concatenates_S80x512_S80x512_S80x1024_d1

/-- The weighted sums over the sum of the weights. -/
def quot (a : FVec Ideal S80x1024 .f32) : FVec Ideal S64x1024 .f32 :=
  divf (extractStridedSlice S64x1024 ![0, 0] a slices_S80x1024_o0_0_S64x1024)
    (broadcastTo S64x1024 (extractStridedSlice S1x1024 ![64, 0] a slices_S80x1024_o64_0_S1x1024) broadcasts_S1x1024_S64x1024)

/-- The gate's rows through x·σ(x). -/
def gate (g : Vec Ideal S1x1024x128 .bf16) : FVec Ideal S1024x128 .f32 :=
  divf (extf .f32 (shapeCast S1024x128 g shapeCasts_S1x1024x128_S1024x128 : FVec Ideal S1024x128 .bf16) bitsLt_bf16_f32)
    (addf (broadcast S1024x128 (Scalar.ofBits .f32 0x3F800000#32 : Ideal .f32))
      (exp (subf (broadcast S1024x128 (Scalar.ofBits .f32 0x00000000#32 : Ideal .f32))
        (extf .f32 (shapeCast S1024x128 g shapeCasts_S1x1024x128_S1024x128 : FVec Ideal S1024x128 .bf16) bitsLt_bf16_f32))))

/-- The output block from both heads' sums and the gate. -/
def blockOut (a0 a1 : FVec Ideal S80x1024 .f32) (g : Vec Ideal S1x1024x128 .bf16) : Vec Ideal S1x1024x128 .bf16 :=
  k0_pay1 (truncf .bf16 (mulf (transpose S1024x128 [1, 0] (concatenate S128x1024 0 [⟨S64x1024, quot a0⟩, ⟨S64x1024, quot a1⟩] concatenates_S64x1024_S64x1024_S128x1024_d0)
    transposes_S128x1024_p1_0_S1024x128) (gate g)) bitsLt_bf16_f32)

/-- The diagonal's two blocks and the end. -/
def fin (A0 A1 : FVec Ideal S1024x256 .bf16) (st : State) (kb kb' : Vec Ideal S1x512x128 .bf16) (ka ka' : Vec Ideal S512x128 .bf16)
    (vb vb' : Vec Ideal S1x160x512 .bf16) (g : Vec Ideal S1x1024x128 .bf16) : Vec Ideal S1x1024x128 .bf16 :=
  blockOut
    (half (step st (scoreD0 A0 kb ka) (scoreD0 A1 kb ka) vb).1 (step st (scoreD0 A0 kb ka) (scoreD0 A1 kb ka) vb).2.1 (vrow0 vb') (scoreD1 A0 kb' ka'))
    (half (step st (scoreD0 A0 kb ka) (scoreD0 A1 kb ka) vb).2.2.1 (step st (scoreD0 A0 kb ka) (scoreD0 A1 kb ka) vb).2.2.2 (vrow1 vb') (scoreD1 A1 kb' ka'))
    g

/-- The block of the running sums' decay the queries sit at. -/
def cld (i : grid0.Coords) (x4 : Vec Ideal S1x4096x128 .f32) : Vec Ideal S1x1024x128 .f32 :=
  View.ld (Val := Elt Ideal) x4 (Rect.unit (s := S1x4096x128) (k0_off1 i) S1x1024x128.size (k0_off1_inb i))

theorem hz3 : (![0, 0, 0] : Fin 3 → ℕ) = fun _ => 0 := by
  funext a; match a with | ⟨0, _⟩ => rfl | ⟨1, _⟩ => rfl | ⟨2, _⟩ => rfl

/-- No trip of the second loop runs. -/
theorem trips2_eq : ∀ i : grid0.Coords, (k0_t2_loop i).trips = 0 := by decide +kernel

theorem t2_done (𝒱 : Variants) (c : Dev nD) (bd : Option 𝒱.V) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole) (arg2 : BitVec 32)
    (v81 v82 : FVec Ideal S1024x256 .bf16) (v83 : FVec Ideal S1x1024 .f32) (v84 : FVec Ideal S80x1024 .f32) (v85 : FVec Ideal S1x1024 .f32) (v92 : BitVec 32)
    (X4 : BufTy.Contents (Elt Ideal) arg4.view.ty) (X9 : BufTy.Contents (Elt Ideal) arg9.view.ty) (X10 : BufTy.Contents (Elt Ideal) arg10.view.ty) (init : State) (n : ℕ) (h : n = 0) :
    st_k0_t2 (F := Ideal) 𝒱 c bd i arg3 harg3 arg4 harg4 arg5 harg5 arg6 harg6 arg7 harg7 arg8 harg8 arg9 harg9 arg10 harg10 arg2 v81 v82 v83 v84 v85 v92 X4 X9 X10 init n = init := by
  rw [h]
  exact st_k0_t2_zero (F := Ideal) 𝒱 c bd i arg3 harg3 arg4 harg4 arg5 harg5 arg6 harg6 arg7 harg7 arg8 harg8 arg9 harg9 arg10 harg10 arg2 v81 v82 v83 v84 v85 v92 X4 X9 X10 init

/-- The kernel's last payloads are the diagonal's two blocks and the end. -/
theorem pay_fin (A0 A1 : FVec Ideal S1024x256 .bf16) (st : State) (kb kb' : Vec Ideal S1x512x128 .bf16) (ka ka' : Vec Ideal S512x128 .bf16)
    (vb vb' : Vec Ideal S1x160x512 .bf16) (g : Vec Ideal S1x1024x128 .bf16) :
    k0_pay1 (k0_pay172
      (k0_pay158 (k0_pay154 vb) (k0_pay156 A0 st.1 st.2.1 kb ka) (k0_pay157 A0 st.1 kb ka))
      (k0_pay160 st.2.2.1 st.2.2.2 (k0_pay151 vb) (k0_pay153 A1 kb ka))
      (k0_pay161 (k0_pay155 A0 st.1 kb ka))
      (k0_pay162 (k0_pay154 vb) (k0_pay156 A0 st.1 st.2.1 kb ka) (k0_pay157 A0 st.1 kb ka))
      (k0_pay163 st.2.2.1 (k0_pay153 A1 kb ka))
      (k0_pay164 st.2.2.1 st.2.2.2 (k0_pay151 vb) (k0_pay153 A1 kb ka))
      (k0_pay167 vb') (k0_pay168 A0 kb' ka') (k0_pay169 A1 kb' ka') (k0_pay170 vb') (k0_pay171 A0 kb' ka') g)
      = fin A0 A1 st kb kb' ka ka' vb vb' g := rfl

/-- The output block as a function of the rows the kernel carries. -/
def outK (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole)
    (x0 : Vec Ideal S1x1024x128 .bf16) (x1 : Vec Ideal S1x4096x128 .bf16) (x3 : Vec Ideal S1x1024x128 .bf16) (x4 : Vec Ideal S1x4096x128 .f32)
    (X9 : BufTy.Contents (Elt Ideal) arg9.view.ty) (X10 : BufTy.Contents (Elt Ideal) arg10.view.ty) : Vec Ideal S1x1024x128 .bf16 :=
  fin (qA0 x0 (cld i x4)) (qA1 x0 (cld i x4))
    (st_k0_t1 (F := Ideal) Variants.none c none i arg3 harg3 arg4 harg4 arg5 harg5 arg6 harg6 arg7 harg7 arg8 harg8 arg9 harg9 arg10 harg10 (BitVec.ofNat 32 (i 2).val) (qA0 x0 (cld i x4)) (qA1 x0 (cld i x4))
      (k0_pay143 (F := Ideal)) (k0_pay144 (F := Ideal)) (k0_pay145 (F := Ideal)) (harg4.unread x1) X9 X10
      (k0_pay143 (F := Ideal), k0_pay144 (F := Ideal), k0_pay145 (F := Ideal), k0_pay146 (F := Ideal)) (k0_t1_loop i).trips)
    (View.ld (Val := Elt Ideal) x1 (Rect.unit (s := S1x4096x128) (k0_off8 i (BitVec.ofNat 32 (0 : Fin 2).val)) S1x512x128.size (k0_off8_inb i 0)))
    (View.ld (Val := Elt Ideal) x1 (Rect.unit (s := S1x4096x128) (k0_off8 i (BitVec.ofNat 32 (1 : Fin 2).val)) S1x512x128.size (k0_off8_inb i 1)))
    (View.ld (View.read (Elt Ideal) arg10.view X10) (Rect.unit (s := S4096x128) (k0_off9 i (BitVec.ofNat 32 (0 : Fin 2).val)) S512x128.size (k0_off9_inb i 0)))
    (View.ld (View.read (Elt Ideal) arg10.view X10) (Rect.unit (s := S4096x128) (k0_off9 i (BitVec.ofNat 32 (1 : Fin 2).val)) S512x128.size (k0_off9_inb i 1)))
    (View.ld (View.read (Elt Ideal) arg9.view X9) (Rect.unit (s := S8x160x512) (k0_off10 i (BitVec.ofNat 32 (0 : Fin 2).val)) S1x160x512.size (k0_off10_inb i 0)))
    (View.ld (View.read (Elt Ideal) arg9.view X9) (Rect.unit (s := S8x160x512) (k0_off10 i (BitVec.ofNat 32 (1 : Fin 2).val)) S1x160x512.size (k0_off10_inb i 1)))
    x3

theorem out_B (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole) (hc0 : ¬cond0_0 i) (hc1 : ¬cond0_1 i)
    (x0 : Vec Ideal S1x1024x128 .bf16) (x1 : Vec Ideal S1x4096x128 .bf16) (x2 : Vec Ideal S1x4096x128 .bf16) (x3 : Vec Ideal S1x1024x128 .bf16) (x4 : Vec Ideal S1x4096x128 .f32)
    (xs0 : Vec Ideal S8x160x512 .bf16) (xs1 : Vec Ideal S4096x128 .bf16) :
    out0_B_5 (F := Ideal) c i arg3 harg3 arg4 harg4 arg5 harg5 arg6 harg6 arg7 harg7 arg8 harg8 arg9 harg9 arg10 harg10 hc0 hc1 x0 x1 x2 x3 x4 xs0 xs1
      = outK c i arg3 harg3 arg4 harg4 arg5 harg5 arg6 harg6 arg7 harg7 arg8 harg8 arg9 harg9 arg10 harg10 x0 x1 x3 x4 (harg9.unread xs0) (harg10.unread xs1) := by
  unfold out0_B_5
  unfold kernelRun0_B
  dsimp only
  refine (View.read_writes_junk_eq_canon _ _).trans ?_
  rw [View.canon_unit_zero (S := S1x1024x128) hz3]
  have e3 : View.ld (View.read (Elt Ideal) arg3.view (harg3.unread x0)) (Rect.unit (s := S1x1024x128) ![0, 0, 0] S1x1024x128.size inb_S1x1024x128_S1x1024x128_0_0_0) = x0 := by
    rw [harg3.read_unread]; exact View.ld_unit_zero (S := S1x1024x128) hz3 _ _
  have e6 : View.ld (View.read (Elt Ideal) arg6.view (harg6.unread x3)) (Rect.unit (s := S1x1024x128) ![0, 0, 0] S1x1024x128.size inb_S1x1024x128_S1x1024x128_0_0_0) = x3 := by
    rw [harg6.read_unread]; exact View.ld_unit_zero (S := S1x1024x128) hz3 _ _
  have e4 := harg4.read_unread (Val := Elt Ideal) x1
  have e7 := harg7.read_unread (Val := Elt Ideal) x4
  unfold kernelRun0_B.sl.r_24 kernelRun0_B.sl.r_23 kernelRun0_B.sl.r_22 kernelRun0_B.sl.r_21 kernelRun0_B.sl.r_20 kernelRun0_B.sl.r_19 kernelRun0_B.sl.r_18 kernelRun0_B.sl.r_17 kernelRun0_B.sl.r_16 kernelRun0_B.sl.r_15 kernelRun0_B.sl.r_14 kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
  simp only [View.readAt_eq_ld, e3, e6, e4, e7]
  unfold outK cld
  rw [pay_fin, t2_done (h := trips2_eq i)]
  rfl

theorem out_A (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole) (hc0 : cond0_0 i) (hc1 : cond0_1 i)
    (x0 : Vec Ideal S1x1024x128 .bf16) (x1 : Vec Ideal S1x4096x128 .bf16) (x2 : Vec Ideal S1x4096x128 .bf16) (x3 : Vec Ideal S1x1024x128 .bf16) (x4 : Vec Ideal S1x4096x128 .f32)
 :
    out0_A_5 (F := Ideal) c i arg3 harg3 arg4 harg4 arg5 harg5 arg6 harg6 arg7 harg7 arg8 harg8 arg9 harg9 arg10 harg10 hc0 hc1 x0 x1 x2 x3 x4
      = outK c i arg3 harg3 arg4 harg4 arg5 harg5 arg6 harg6 arg7 harg7 arg8 harg8 arg9 harg9 arg10 harg10 x0 x1 x3 x4 (arg9.view.writes (Elt Ideal) arg9.view.junk (kernelRun0_A.sl.HS0_32 c arg5 harg5 x2)) (arg10.view.writes (Elt Ideal) arg10.view.junk (kernelRun0_A.sl.HS1_8 c arg7 harg7 x4)) := by
  unfold out0_A_5
  unfold kernelRun0_A
  dsimp only
  refine (View.read_writes_junk_eq_canon _ _).trans ?_
  rw [View.canon_unit_zero (S := S1x1024x128) hz3]
  have e3 : View.ld (View.read (Elt Ideal) arg3.view (harg3.unread x0)) (Rect.unit (s := S1x1024x128) ![0, 0, 0] S1x1024x128.size inb_S1x1024x128_S1x1024x128_0_0_0) = x0 := by
    rw [harg3.read_unread]; exact View.ld_unit_zero (S := S1x1024x128) hz3 _ _
  have e6 : View.ld (View.read (Elt Ideal) arg6.view (harg6.unread x3)) (Rect.unit (s := S1x1024x128) ![0, 0, 0] S1x1024x128.size inb_S1x1024x128_S1x1024x128_0_0_0) = x3 := by
    rw [harg6.read_unread]; exact View.ld_unit_zero (S := S1x1024x128) hz3 _ _
  have e4 := harg4.read_unread (Val := Elt Ideal) x1
  have e7 := harg7.read_unread (Val := Elt Ideal) x4
  unfold kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [View.readAt_eq_ld, e3, e6, e4, e7]
  unfold outK cld
  rw [pay_fin, t2_done (h := trips2_eq i)]
  rfl

end Cert.KernelIdeal.Fox

end
-- ==== Proof.FoxCols.lean ====
/- The fox attention's extra columns: with them a row of the kernel's matrix product is one head's score. -/
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import proofs.«01_k».proof.Proof.FoxOut
public import Idealize.ShloMosaic.Lib.Pipeline.ValueKit.Tiles

@[expose] public section

noncomputable section

namespace Cert.KernelIdeal.Fox

open Idealize.ShloMosaic hiding ix1 ix2 ix3 ix4 constant_apply
open Cert.KernelIdeal Cert.KernelIdeal.Gen Idealize.ShloMosaic.TcCoe Idealize.SL.Sem
open Idealize.ShloMosaic.Pipeline (Dat)
open Idealize.ShloMosaic.ValueIdx
open Cert.Softmax

set_option maxRecDepth 100000

/-! ## The extra columns' lane masks -/

theorem pay126_lane : ∀ l : Fin 128, k0_pay126 (ix2 (0 : Fin 1) l) = BitVec.ofNat 32 (l.val % 64) := by decide +kernel
theorem lane_eq (k : ℕ) (hk : k < 64) (l : Fin 128) : cmpi .eq k0_pay126 (broadcast S1x128 (BitVec.ofNat 32 k)) (ix2 (0 : Fin 1) l) = BitVec.ofBool (decide (l.val % 64 = k)) := by
  show IntOp.cmpi .eq (k0_pay126 (ix2 (0 : Fin 1) l)) (BitVec.ofNat 32 k) = _
  rw [pay126_lane]
  revert l
  interval_cases k <;> decide +kernel
theorem lane_lt (k : ℕ) (hk : k < 7) (l : Fin 128) : cmpi .slt k0_pay126 (broadcast S1x128 (BitVec.ofNat 32 k)) (ix2 (0 : Fin 1) l) = BitVec.ofBool (decide (l.val % 64 < k)) := by
  show IntOp.cmpi .slt (k0_pay126 (ix2 (0 : Fin 1) l)) (BitVec.ofNat 32 k) = _
  rw [pay126_lane]
  revert l
  interval_cases k <;> decide +kernel
theorem half_lane : ∀ l : Fin 128, k0_pay136 (ix2 (0 : Fin 1) l) = BitVec.ofBool (decide (l.val < 64)) := by decide +kernel
theorem half_lane' : ∀ l : Fin 128, k0_pay139 (ix2 (0 : Fin 1) l) = BitVec.ofBool (decide (l.val < 64)) := by decide +kernel

theorem sel_row_k {e : FTy} (m : IVec S1x128 1) (P : Fin 128 → Bool) (hm : ∀ l : Fin 128, m (ix2 (0 : Fin 1) l) = BitVec.ofBool (P l)) (a b : FVec Ideal S512x128 e) (r : Fin 512) (l : Fin 128) :
    select (broadcastTo S512x128 (shapeCast S1x128 m shapeCasts_S1x128_S1x128) broadcasts_S1x128_S512x128) a b (ix2 r l) = if P l then a (ix2 r l) else b (ix2 r l) := by
  rw [select_apply, shapeCast_self, broadcastTo_apply _ broadcasts_S1x128_S512x128 (ix2 r l) (ix2 (0 : Fin 1) l) (by intro a; match a with | ⟨0, _⟩ => rfl | ⟨1, _⟩ => rfl), hm]
  cases P l <;> rfl
theorem sel_row_q {e : FTy} (m : IVec S1x128 1) (P : Fin 128 → Bool) (hm : ∀ l : Fin 128, m (ix2 (0 : Fin 1) l) = BitVec.ofBool (P l)) (a b : FVec Ideal S1024x128 e) (r : Fin 1024) (l : Fin 128) :
    select (broadcastTo S1024x128 (shapeCast S1x128 m shapeCasts_S1x128_S1x128) broadcasts_S1x128_S1024x128) a b (ix2 r l) = if P l then a (ix2 r l) else b (ix2 r l) := by
  rw [select_apply, shapeCast_self, broadcastTo_apply _ broadcasts_S1x128_S1024x128 (ix2 r l) (ix2 (0 : Fin 1) l) (by intro a; match a with | ⟨0, _⟩ => rfl | ⟨1, _⟩ => rfl), hm]
  cases P l <;> rfl

/-! ## The keys' extra columns -/

/-- The keys' extra columns out of a block of repeated sums. -/
def kcore (u : FVec Ideal S512x128 .f32) : FVec Ideal S512x128 .bf16 :=
  k0_pay127 (extf .f32 (truncf .bf16 u bitsLt_bf16_f32) bitsLt_bf16_f32)
    (extf .f32 (truncf .bf16 (subf u (extf .f32 (truncf .bf16 u bitsLt_bf16_f32) bitsLt_bf16_f32)) bitsLt_bf16_f32) bitsLt_bf16_f32)
    (extf .f32 (truncf .bf16 (subf (subf u (extf .f32 (truncf .bf16 u bitsLt_bf16_f32) bitsLt_bf16_f32))
      (extf .f32 (truncf .bf16 (subf u (extf .f32 (truncf .bf16 u bitsLt_bf16_f32) bitsLt_bf16_f32)) bitsLt_bf16_f32) bitsLt_bf16_f32)) bitsLt_bf16_f32) bitsLt_bf16_f32)
    (cmpi .slt k0_pay126 (broadcast S1x128 3#32)) (cmpi .eq k0_pay126 (broadcast S1x128 3#32)) (broadcast S512x128 (Scalar.ofBits .f32 0x00000000#32))

/-- An extra column of a key whose repeated sum is `v`. -/
def kaAt (l : ℕ) (v : EReal) : EReal :=
  if l % 64 < 3 then 1 else if l % 64 = 3 then 0 - v else if l % 64 = 4 then 0 - (v - v) else if l % 64 = 5 then 0 - ((v - v) - (v - v)) else 0

theorem kcore_apply (u : FVec Ideal S512x128 .f32) (r : Fin 512) (l : Fin 128) : kcore u (ix2 r l) = kaAt l.val (u (ix2 r l)) := by
  unfold kcore k0_pay127
  rw [shapeCast_self, truncf_apply]
  rw [sel_row_k _ _ (lane_lt 3 (by omega)), sel_row_k _ _ (lane_eq 3 (by omega)), sel_row_k _ _ (lane_eq 4 (by omega)), sel_row_k _ _ (lane_eq 5 (by omega))]
  simp only [decide_eq_true_eq]
  unfold kaAt
  have z : (Scalar.ofBits (F := Ideal) .f32 0x00000000#32) = 0 := Ideal.ofBits_zero_f32
  have o : (Scalar.ofBits (F := Ideal) .f32 0x3F800000#32) = 1 := Ideal.ofBits_one_f32
  rw [z, o]
  rfl

theorem kaAt_real (l : ℕ) (c : ℝ) : kaAt l (c : EReal) = ((if l % 64 < 3 then 1 else if l % 64 = 3 then -c else 0 : ℝ) : EReal) := by
  unfold kaAt
  have e1 : ((c : EReal) - (c : EReal)) = 0 := by rw [← EReal.coe_sub, sub_self, EReal.coe_zero]
  rw [e1]
  split_ifs <;> simp

/-! ## The queries' extra columns -/

/-- An extra column of a query whose repeated sum is `v`. -/
def qaAt (l : ℕ) (v : EReal) : EReal :=
  if l % 64 = 0 then v else if l % 64 = 1 then v - v else if l % 64 = 2 then (v - v) - (v - v) else if l % 64 < 6 then 1 else 0

theorem pay138_apply (cq : Vec Ideal S1x1024x128 .f32) (q : Fin 1024) (l : Fin 128) :
    k0_pay138 k0_pay126 (k0_pay129 cq) (k0_pay131 cq) (k0_pay132 cq) k0_pay133 k0_pay134 (ix2 q l) = qaAt l.val (cq (ix3 (0 : Fin 1) q l)) := by
  have e : k0_pay128 cq (ix2 q l) = cq (ix3 (0 : Fin 1) q l) :=
    shapeCast_apply _ shapeCasts_S1x1024x128_S1024x128 (ix2 q l) (ix3 (0 : Fin 1) q l) (by
      rw [Shape.rowMajor_val_two, Shape.rowMajor_val_three]
      show (0 * 1024 + q.val) * 128 + l.val = q.val * 128 + l.val
      omega)
  have h0 : ∀ l : Fin 128, k0_pay133 (ix2 (0 : Fin 1) l) = BitVec.ofBool (decide (l.val % 64 = 0)) := lane_eq 0 (by omega)
  have h1 : ∀ l : Fin 128, k0_pay134 (ix2 (0 : Fin 1) l) = BitVec.ofBool (decide (l.val % 64 = 1)) := lane_eq 1 (by omega)
  unfold k0_pay138
  rw [truncf_apply, sel_row_q _ _ h0, sel_row_q _ _ h1, sel_row_q _ _ (lane_eq 2 (by omega))]
  rw [broadcastTo_apply _ broadcasts_S1x128_S1024x128 (ix2 q l) (ix2 (0 : Fin 1) l) (by intro a; match a with | ⟨0, _⟩ => rfl | ⟨1, _⟩ => rfl)]
  rw [shapeCast_self, select_apply, lane_lt 6 (by omega)]
  have z : (Scalar.ofBits (F := Ideal) .f32 0x00000000#32) = 0 := Ideal.ofBits_zero_f32
  have o : (Scalar.ofBits (F := Ideal) .f32 0x3F800000#32) = 1 := Ideal.ofBits_one_f32
  simp only [decide_eq_true_eq]
  unfold qaAt
  rw [← e]
  refine if_congr Iff.rfl rfl (if_congr Iff.rfl rfl (if_congr Iff.rfl rfl ?_))
  rw [broadcast_apply, broadcast_apply, z, o]
  split_ifs with h
  · rw [decide_eq_true h]; rfl
  · rw [decide_eq_false h]; rfl

theorem qaAt_real (l : ℕ) (c : ℝ) : qaAt l (c : EReal) = ((if l % 64 = 0 then c else if l % 64 < 3 then 0 else if l % 64 < 6 then 1 else 0 : ℝ) : EReal) := by
  unfold qaAt
  have e1 : ((c : EReal) - (c : EReal)) = 0 := by rw [← EReal.coe_sub, sub_self, EReal.coe_zero]
  rw [e1]
  by_cases h0 : l % 64 = 0
  · rw [if_pos h0, if_pos h0]
  rw [if_neg h0, if_neg h0]
  by_cases h3 : l % 64 < 3
  · rw [if_pos h3]
    split_ifs <;> simp <;> omega
  rw [if_neg h3, if_neg (by omega), if_neg (by omega)]
  split_ifs <;> simp

theorem qA0_apply (x0 : Vec Ideal S1x1024x128 .bf16) (cq : Vec Ideal S1x1024x128 .f32) (q : Fin 1024) (j : Fin 256) :
    qA0 x0 cq (ix2 q j) = if h : j.val < 128 then (if j.val < 64 then x0 (ix3 (0 : Fin 1) q (⟨j.val, h⟩ : Fin 128)) else 0)
      else (if j.val - 128 < 64 then qaAt (j.val - 128) (cq (ix3 (0 : Fin 1) q (⟨j.val - 128, by omega⟩ : Fin 128))) else 0) := by
  have z : (Scalar.ofBits (F := Ideal) .bf16 0x0000#16) = 0 := Ideal.ofBits_zero_bf16
  unfold qA0 k0_pay141
  by_cases h : j.val < 128
  · rw [dif_pos h]
    refine (concatenate_pair_apply_left (t := S1024x256) (s₁ := S1024x128) (s₂ := S1024x128) 1 _ _ _ (ix2 q j) rfl (ix2 q (⟨j.val, h⟩ : Fin 128)) (by
      intro b; match b with | ⟨0, _⟩ => rfl | ⟨1, _⟩ => rfl)).trans ?_
    rw [sel_row_q _ _ half_lane]
    simp only [decide_eq_true_eq]
    refine if_congr Iff.rfl ?_ z
    exact shapeCast_apply _ shapeCasts_S1x1024x128_S1024x128 (ix2 q (⟨j.val, h⟩ : Fin 128)) (ix3 (0 : Fin 1) q (⟨j.val, h⟩ : Fin 128)) (by
      rw [Shape.rowMajor_val_two, Shape.rowMajor_val_three]
      show (0 * 1024 + q.val) * 128 + j.val = q.val * 128 + j.val
      omega)
  · rw [dif_neg h]
    refine (concatenate_pair_apply_right (t := S1024x256) (s₁ := S1024x128) (s₂ := S1024x128) 1 _ _ _ (ix2 q j) rfl rfl (ix2 q (⟨j.val - 128, by omega⟩ : Fin 128)) (by
      intro b; match b with | ⟨0, _⟩ => intro _; rfl | ⟨1, _⟩ => intro h; exact absurd rfl h) (by show j.val - 128 + 128 = j.val; omega)).trans ?_
    rw [sel_row_q _ _ half_lane']
    simp only [decide_eq_true_eq]
    exact if_congr Iff.rfl (pay138_apply cq q _) z

theorem qA1_apply (x0 : Vec Ideal S1x1024x128 .bf16) (cq : Vec Ideal S1x1024x128 .f32) (q : Fin 1024) (j : Fin 256) :
    qA1 x0 cq (ix2 q j) = if h : j.val < 128 then (if j.val < 64 then 0 else x0 (ix3 (0 : Fin 1) q (⟨j.val, h⟩ : Fin 128)))
      else (if j.val - 128 < 64 then 0 else qaAt (j.val - 128) (cq (ix3 (0 : Fin 1) q (⟨j.val - 128, by omega⟩ : Fin 128)))) := by
  have z : (Scalar.ofBits (F := Ideal) .bf16 0x0000#16) = 0 := Ideal.ofBits_zero_bf16
  unfold qA1 k0_pay142
  by_cases h : j.val < 128
  · rw [dif_pos h]
    refine (concatenate_pair_apply_left (t := S1024x256) (s₁ := S1024x128) (s₂ := S1024x128) 1 _ _ _ (ix2 q j) rfl (ix2 q (⟨j.val, h⟩ : Fin 128)) (by
      intro b; match b with | ⟨0, _⟩ => rfl | ⟨1, _⟩ => rfl)).trans ?_
    rw [sel_row_q _ _ half_lane]
    simp only [decide_eq_true_eq]
    refine if_congr Iff.rfl z ?_
    exact shapeCast_apply _ shapeCasts_S1x1024x128_S1024x128 (ix2 q (⟨j.val, h⟩ : Fin 128)) (ix3 (0 : Fin 1) q (⟨j.val, h⟩ : Fin 128)) (by
      rw [Shape.rowMajor_val_two, Shape.rowMajor_val_three]
      show (0 * 1024 + q.val) * 128 + j.val = q.val * 128 + j.val
      omega)
  · rw [dif_neg h]
    refine (concatenate_pair_apply_right (t := S1024x256) (s₁ := S1024x128) (s₂ := S1024x128) 1 _ _ _ (ix2 q j) rfl rfl (ix2 q (⟨j.val - 128, by omega⟩ : Fin 128)) (by
      intro b; match b with | ⟨0, _⟩ => intro _; rfl | ⟨1, _⟩ => intro h; exact absurd rfl h) (by show j.val - 128 + 128 = j.val; omega)).trans ?_
    rw [sel_row_q _ _ half_lane']
    simp only [decide_eq_true_eq]
    exact if_congr Iff.rfl z (pay138_apply cq q _)

/-! ## The scores -/

/-- A key's real row: its lanes, then its extra columns. -/
def kR (k : ℕ → ℝ) (c : ℕ → ℝ) (j : ℕ) : ℝ := if j < 128 then k j else if (j - 128) % 64 < 3 then 1 else if (j - 128) % 64 = 3 then -c ((j - 128) / 64) else 0
/-- A query's extra column. -/
def qX (c : ℝ) (l : ℕ) : ℝ := if l % 64 = 0 then c else if l % 64 < 3 then 0 else if l % 64 < 6 then 1 else 0
/-- A query's real row for the first head. -/
def qR0 (q : ℕ → ℝ) (c : ℕ → ℝ) (j : ℕ) : ℝ := if j < 128 then (if j < 64 then q j else 0) else (if j - 128 < 64 then qX (c ((j - 128) / 64)) (j - 128) else 0)
/-- A query's real row for the second head. -/
def qR1 (q : ℕ → ℝ) (c : ℕ → ℝ) (j : ℕ) : ℝ := if j < 128 then (if j < 64 then 0 else q j) else (if j - 128 < 64 then 0 else qX (c ((j - 128) / 64)) (j - 128))

theorem split256 (f : ℕ → ℝ) : ∑ j : Fin 256, f j.val = (∑ d ∈ Finset.range 64, f d) + (∑ d ∈ Finset.range 64, f (64 + d)) + (∑ d ∈ Finset.range 64, f (128 + d)) + ∑ d ∈ Finset.range 64, f (192 + d) := by
  rw [Fin.sum_univ_eq_sum_range f 256, show 256 = 64 + 64 + 64 + 64 by rfl, Finset.sum_range_add, Finset.sum_range_add, Finset.sum_range_add]

theorem slots (a b : ℝ) : ∑ d ∈ Finset.range 64, (if d % 64 < 3 then 1 else if d % 64 = 3 then -a else 0 : ℝ) * qX b d = b - a := by
  rw [show 64 = 6 + 58 by rfl, Finset.sum_range_add]
  rw [Finset.sum_eq_zero (s := Finset.range 58) (fun d hd => ?_)]
  · simp [Finset.sum_range_succ, qX]
    ring
  · have := Finset.mem_range.1 hd
    rw [if_neg (by omega), if_neg (by omega), zero_mul]

theorem score_sum0 (k c q c' : ℕ → ℝ) : ∑ j : Fin 256, kR k c j.val * qR0 q c' j.val = (∑ d ∈ Finset.range 64, k d * q d) + (c' 0 - c 0) := by
  rw [split256 (fun j => kR k c j * qR0 q c' j)]
  have e0 : ∑ d ∈ Finset.range 64, kR k c d * qR0 q c' d = ∑ d ∈ Finset.range 64, k d * q d := Finset.sum_congr rfl fun d hd => by
    have h := Finset.mem_range.1 hd
    unfold kR qR0
    rw [if_pos (by omega), if_pos (by omega), if_pos h]
  have e1 : ∑ d ∈ Finset.range 64, kR k c (64 + d) * qR0 q c' (64 + d) = 0 := Finset.sum_eq_zero fun d hd => by
    have h := Finset.mem_range.1 hd
    unfold kR qR0
    rw [if_pos (by omega), if_pos (by omega), if_neg (by omega), mul_zero]
  have e2 : ∑ d ∈ Finset.range 64, kR k c (128 + d) * qR0 q c' (128 + d) = c' 0 - c 0 := by
    rw [← slots]
    refine Finset.sum_congr rfl fun d hd => ?_
    have h := Finset.mem_range.1 hd
    unfold kR qR0
    rw [if_neg (by omega : ¬ 128 + d < 128), if_neg (by omega : ¬ 128 + d < 128), if_pos (by omega : 128 + d - 128 < 64), show 128 + d - 128 = d by omega, show d / 64 = 0 by omega]
  have e3 : ∑ d ∈ Finset.range 64, kR k c (192 + d) * qR0 q c' (192 + d) = 0 := Finset.sum_eq_zero fun d hd => by
    have h := Finset.mem_range.1 hd
    unfold kR qR0
    rw [if_neg (by omega : ¬ 192 + d < 128), if_neg (by omega : ¬ 192 + d < 128), if_neg (by omega : ¬ 192 + d - 128 < 64), mul_zero]
  rw [e0, e1, e2, e3, add_zero, add_zero]

theorem score_sum1 (k c q c' : ℕ → ℝ) : ∑ j : Fin 256, kR k c j.val * qR1 q c' j.val = (∑ d ∈ Finset.range 64, k (64 + d) * q (64 + d)) + (c' 1 - c 1) := by
  rw [split256 (fun j => kR k c j * qR1 q c' j)]
  have e0 : ∑ d ∈ Finset.range 64, kR k c d * qR1 q c' d = 0 := Finset.sum_eq_zero fun d hd => by
    have h := Finset.mem_range.1 hd
    unfold kR qR1
    rw [if_pos (by omega), if_pos (by omega), if_pos (by omega), mul_zero]
  have e1 : ∑ d ∈ Finset.range 64, kR k c (64 + d) * qR1 q c' (64 + d) = ∑ d ∈ Finset.range 64, k (64 + d) * q (64 + d) := Finset.sum_congr rfl fun d hd => by
    have h := Finset.mem_range.1 hd
    unfold kR qR1
    rw [if_pos (by omega), if_pos (by omega), if_neg (by omega)]
  have e2 : ∑ d ∈ Finset.range 64, kR k c (128 + d) * qR1 q c' (128 + d) = 0 := Finset.sum_eq_zero fun d hd => by
    have h := Finset.mem_range.1 hd
    unfold kR qR1
    rw [if_neg (by omega : ¬ 128 + d < 128), if_neg (by omega : ¬ 128 + d < 128), if_pos (by omega : 128 + d - 128 < 64), mul_zero]
  have e3 : ∑ d ∈ Finset.range 64, kR k c (192 + d) * qR1 q c' (192 + d) = c' 1 - c 1 := by
    rw [← slots]
    refine Finset.sum_congr rfl fun d hd => ?_
    have h := Finset.mem_range.1 hd
    unfold kR qR1
    rw [if_neg (by omega : ¬ 192 + d < 128), if_neg (by omega : ¬ 192 + d < 128), if_neg (by omega : ¬ 192 + d - 128 < 64), show 192 + d - 128 = 64 + d by omega, show (64 + d) / 64 = 1 by omega]
    unfold qX
    rw [show (64 + d) % 64 = d % 64 by omega]
  rw [e0, e1, e2, e3, add_zero, zero_add]

/-! ## The carried rows -/

/-- A transposed value, or a one. -/
def vtAt (x2 : Vec Ideal S1x4096x128 .bf16) (b : Fin 8) (r : Fin 160) (κ : Fin 512) : EReal :=
  if h : r.val % 80 < 64 then x2 (ix3 (0 : Fin 1) (keyOf b κ) (⟨r.val / 80 * 64 + r.val % 80, by have := r.isLt; omega⟩ : Fin 128)) else 1
/-- The transposed values of both heads, each over sixteen rows of ones. -/
def VT (x2 : Vec Ideal S1x4096x128 .bf16) : Vec Ideal S8x160x512 .bf16 := fun y => vtAt x2 (y 0) (y 1) (y 2)
/-- The keys' extra columns. -/
def KA (x4 : Vec Ideal S1x4096x128 .f32) : Vec Ideal S4096x128 .bf16 := fun y => kaAt (y 1).val (x4 (ix3 (0 : Fin 1) (y 0 : Fin 4096) (y 1 : Fin 128)))

/-- The first head's scores, in base two. -/
def sc0 (qr : Fin 1024 → ℕ → ℝ) (kr : Fin 4096 → ℕ → ℝ) (cq : Fin 1024 → ℕ → ℝ) (cr : Fin 4096 → ℕ → ℝ) (q : Fin 1024) (key : Fin 4096) : ℝ :=
  (∑ d ∈ Finset.range 64, kr key d * qr q d) + (cq q 0 - cr key 0)
/-- The second head's scores, in base two. -/
def sc1 (qr : Fin 1024 → ℕ → ℝ) (kr : Fin 4096 → ℕ → ℝ) (cq : Fin 1024 → ℕ → ℝ) (cr : Fin 4096 → ℕ → ℝ) (q : Fin 1024) (key : Fin 4096) : ℝ :=
  (∑ d ∈ Finset.range 64, kr key (64 + d) * qr q (64 + d)) + (cq q 1 - cr key 1)
/-- The first head's weights: its values, then ones. -/
def wt0 (vr : Fin 4096 → ℕ → ℝ) (r : Fin 80) (key : Fin 4096) : ℝ := if r.val < 64 then vr key r.val else 1
/-- The second head's weights: its values, then ones. -/
def wt1 (vr : Fin 4096 → ℕ → ℝ) (r : Fin 80) (key : Fin 4096) : ℝ := if r.val < 64 then vr key (64 + r.val) else 1

theorem Kc_real (x1 : Vec Ideal S1x4096x128 .bf16) (x4 : Vec Ideal S1x4096x128 .f32) (kr cr : Fin 4096 → ℕ → ℝ)
    (hk : ∀ key (l : Fin 128), x1 (ix3 (0 : Fin 1) key l) = ((kr key l.val : ℝ) : EReal))
    (hc : ∀ key (l : Fin 128), x4 (ix3 (0 : Fin 1) key l) = ((cr key (l.val / 64) : ℝ) : EReal)) (key : Fin 4096) (j : Fin 256) :
    Kc x1 (KA x4) key j = ((kR (kr key) (cr key) j.val : ℝ) : EReal) := by
  unfold Kc kR
  split_ifs with h h1 h2
  · exact hk key _
  all_goals
    show kaAt (j.val - 128) (x4 (ix3 (0 : Fin 1) key (⟨j.val - 128, by omega⟩ : Fin 128))) = _
    rw [hc, kaAt_real]
  · rw [if_pos h1]
  · rw [if_neg h1, if_pos h2]
  · rw [if_neg h1, if_neg h2]

theorem real_block (x0 : Vec Ideal S1x1024x128 .bf16) (x1 x2 : Vec Ideal S1x4096x128 .bf16) (x4 : Vec Ideal S1x4096x128 .f32) (cl : Vec Ideal S1x1024x128 .f32)
    (qr cq : Fin 1024 → ℕ → ℝ) (kr vr cr : Fin 4096 → ℕ → ℝ)
    (hq : ∀ q (l : Fin 128), x0 (ix3 (0 : Fin 1) q l) = ((qr q l.val : ℝ) : EReal))
    (hk : ∀ key (l : Fin 128), x1 (ix3 (0 : Fin 1) key l) = ((kr key l.val : ℝ) : EReal))
    (hv : ∀ key (l : Fin 128), x2 (ix3 (0 : Fin 1) key l) = ((vr key l.val : ℝ) : EReal))
    (hc : ∀ key (l : Fin 128), x4 (ix3 (0 : Fin 1) key l) = ((cr key (l.val / 64) : ℝ) : EReal))
    (hcl : ∀ q (l : Fin 128), cl (ix3 (0 : Fin 1) q l) = ((cq q (l.val / 64) : ℝ) : EReal)) :
    Real' x1 (VT x2) (KA x4) (qA0 x0 cl) (qA1 x0 cl) (sc0 qr kr cq cr) (sc1 qr kr cq cr) (wt0 vr) (wt1 vr) where
  hs0 q key := by
    unfold sc0
    rw [← score_sum0 (kr key) (cr key) (qr q) (cq q), ← sum_coe]
    refine Finset.sum_congr rfl fun j _ => ?_
    rw [EReal.coe_mul, Kc_real x1 x4 kr cr hk hc, qA0_apply]
    refine congrArg (_ * ·) ?_
    unfold qR0
    split_ifs with h h1 h2
    · exact hq q _
    · rfl
    · rw [hcl, qaAt_real]; rfl
    · rfl
  hs1 q key := by
    unfold sc1
    rw [← score_sum1 (kr key) (cr key) (qr q) (cq q), ← sum_coe]
    refine Finset.sum_congr rfl fun j _ => ?_
    rw [EReal.coe_mul, Kc_real x1 x4 kr cr hk hc, qA1_apply]
    refine congrArg (_ * ·) ?_
    unfold qR1
    split_ifs with h h1 h2
    · rfl
    · exact hq q _
    · rfl
    · rw [hcl, qaAt_real]; rfl
  hw0 r b κ := by
    show vtAt x2 b (⟨r.val, by omega⟩ : Fin 160) κ = _
    unfold vtAt wt0
    have hr := r.isLt
    by_cases h : r.val < 64
    · rw [if_pos h, dif_pos (by show r.val % 80 < 64; omega), hv]
      refine congrArg (fun n => ((vr (keyOf b κ) n : ℝ) : EReal)) ?_
      show r.val / 80 * 64 + r.val % 80 = r.val
      omega
    · rw [if_neg h, dif_neg (by show ¬ r.val % 80 < 64; omega), EReal.coe_one]
  hw1 r b κ := by
    show vtAt x2 b (⟨80 + r.val, by omega⟩ : Fin 160) κ = _
    unfold vtAt wt1
    have hr := r.isLt
    by_cases h : r.val < 64
    · rw [if_pos h, dif_pos (by show (80 + r.val) % 80 < 64; omega), hv]
      refine congrArg (fun n => ((vr (keyOf b κ) n : ℝ) : EReal)) ?_
      show (80 + r.val) / 80 * 64 + (80 + r.val) % 80 = 64 + r.val
      omega
    · rw [if_neg h, dif_neg (by show ¬ (80 + r.val) % 80 < 64; omega), EReal.coe_one]

end Cert.KernelIdeal.Fox

end
-- ==== Proof.FoxFill.lean ====
/- What the fox attention's kernel leaves in the rows it carries. -/
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import proofs.«01_k».proof.Proof.FoxCols
public import Idealize.ShloMosaic.Lib.Pipeline.ValueKit.Tiles

@[expose] public section

noncomputable section

namespace Cert.KernelIdeal.Fox

open Idealize.ShloMosaic hiding ix1 ix2 ix3 ix4 constant_apply
open Cert.KernelIdeal Cert.KernelIdeal.Gen Idealize.ShloMosaic.TcCoe Idealize.SL.Sem
open Idealize.ShloMosaic.Pipeline (Dat)
open Idealize.ShloMosaic.ValueIdx
open Cert.Softmax

set_option maxRecDepth 100000

/-- A block of transposed values, the first 64 lanes. -/
def vLo (L : Vec Ideal S1x512x128 .bf16) : FVec Ideal S1x64x512 .bf16 := k0_pay122 (extf .f32 (shapeCast S512x128 L shapeCasts_S1x512x128_S512x128 : FVec Ideal S512x128 .bf16) bitsLt_bf16_f32)
/-- A block of transposed values, the last 64 lanes. -/
def vHi (L : Vec Ideal S1x512x128 .bf16) : FVec Ideal S1x64x512 .bf16 := k0_pay124 (extf .f32 (shapeCast S512x128 L shapeCasts_S1x512x128_S512x128 : FVec Ideal S512x128 .bf16) bitsLt_bf16_f32)
/-- A block of extra columns. -/
def kPc (L : Vec Ideal S1x512x128 .f32) : FVec Ideal S512x128 .bf16 := kcore (shapeCast S512x128 L shapeCasts_S1x512x128_S512x128 : FVec Ideal S512x128 .f32)

theorem cast_apply {e : EltTy} (L : Vec Ideal S1x512x128 e) (κ : Fin 512) (d : Fin 128) :
    (shapeCast S512x128 L shapeCasts_S1x512x128_S512x128 : Vec Ideal S512x128 e) (ix2 κ d) = L (ix3 (0 : Fin 1) κ d) :=
  shapeCast_apply _ shapeCasts_S1x512x128_S512x128 (ix2 κ d) (ix3 (0 : Fin 1) κ d) (by
      rw [Shape.rowMajor_val_two, Shape.rowMajor_val_three]
      show (0 * 512 + κ.val) * 128 + d.val = κ.val * 128 + d.val
      omega)

theorem vLo_apply (L : Vec Ideal S1x512x128 .bf16) (d : Fin 64) (κ : Fin 512) : vLo L (ix3 (0 : Fin 1) d κ) = L (ix3 (0 : Fin 1) κ (⟨d.val, by omega⟩ : Fin 128)) := by
  unfold vLo k0_pay122 k0_pay121
  rw [shapeCast_apply _ shapeCasts_S64x512_S1x64x512 (ix3 (0 : Fin 1) d κ) (ix2 d κ) (by
      rw [Shape.rowMajor_val_two, Shape.rowMajor_val_three]
      show d.val * 512 + κ.val = (0 * 64 + d.val) * 512 + κ.val
      omega)]
  rw [extractStridedSlice_apply ![0, 0] _ slices_S128x512_o0_0_S64x512 (ix2 d κ) (ix2 (⟨d.val, by omega⟩ : Fin 128) κ) (by
    intro a; match a with | ⟨0, _⟩ => show d.val = 0 + d.val; omega | ⟨1, _⟩ => show κ.val = 0 + κ.val; omega)]
  rw [truncf_apply, transpose_apply _ _ transposes_S512x128_p1_0_S128x512 (ix2 (⟨d.val, by omega⟩ : Fin 128) κ) (ix2 κ (⟨d.val, by omega⟩ : Fin 128)) (by
    intro a; match a with | ⟨0, _⟩ => rfl | ⟨1, _⟩ => rfl)]
  rw [extf_apply]
  exact cast_apply L κ _
theorem vHi_apply (L : Vec Ideal S1x512x128 .bf16) (d : Fin 64) (κ : Fin 512) : vHi L (ix3 (0 : Fin 1) d κ) = L (ix3 (0 : Fin 1) κ (⟨64 + d.val, by omega⟩ : Fin 128)) := by
  unfold vHi k0_pay124 k0_pay121
  rw [shapeCast_apply _ shapeCasts_S64x512_S1x64x512 (ix3 (0 : Fin 1) d κ) (ix2 d κ) (by
      rw [Shape.rowMajor_val_two, Shape.rowMajor_val_three]
      show d.val * 512 + κ.val = (0 * 64 + d.val) * 512 + κ.val
      omega)]
  rw [extractStridedSlice_apply ![64, 0] _ slices_S128x512_o64_0_S64x512 (ix2 d κ) (ix2 (⟨64 + d.val, by omega⟩ : Fin 128) κ) (by
    intro a; match a with | ⟨0, _⟩ => rfl | ⟨1, _⟩ => show κ.val = 0 + κ.val; omega)]
  rw [truncf_apply, transpose_apply _ _ transposes_S512x128_p1_0_S128x512 (ix2 (⟨64 + d.val, by omega⟩ : Fin 128) κ) (ix2 κ (⟨64 + d.val, by omega⟩ : Fin 128)) (by
    intro a; match a with | ⟨0, _⟩ => rfl | ⟨1, _⟩ => rfl)]
  rw [extf_apply]
  exact cast_apply L κ _

/-- A piece of the scratch of values, as its rows' numbers say. -/
theorem put_lo (x2 : Vec Ideal S1x4096x128 .bf16) (o : ℕ) (h : ∀ a, (![0, o, 0] : Fin 3 → ℕ) a + S1x512x128.size a ≤ S1x4096x128.size a) (n : ℕ) (ho : o = 512 * n) (d : Fin 64) (κ : Fin 512)
    (b : Fin 8) (r : Fin 160) (κ' : Fin 512) (hb : b.val = n) (hr : r.val = d.val) (hκ : κ'.val = κ.val) :
    vLo (View.ld (Val := Elt Ideal) x2 (Rect.unit (s := S1x4096x128) ![0, o, 0] S1x512x128.size h)) (ix3 (0 : Fin 1) d κ) = vtAt x2 b r κ' := by
  rw [vLo_apply]
  unfold vtAt
  have hd := d.isLt
  rw [dif_pos (by omega)]
  refine View.ld_unit_apply_of x2 _ _ _ _ _ ?_
  intro a
  match a with
  | ⟨0, _⟩ => rfl
  | ⟨1, _⟩ => show 512 * b.val + κ'.val = o + κ.val; omega
  | ⟨2, _⟩ => show r.val / 80 * 64 + r.val % 80 = 0 + d.val; omega
theorem put_hi (x2 : Vec Ideal S1x4096x128 .bf16) (o : ℕ) (h : ∀ a, (![0, o, 0] : Fin 3 → ℕ) a + S1x512x128.size a ≤ S1x4096x128.size a) (n : ℕ) (ho : o = 512 * n) (d : Fin 64) (κ : Fin 512)
    (b : Fin 8) (r : Fin 160) (κ' : Fin 512) (hb : b.val = n) (hr : r.val = 80 + d.val) (hκ : κ'.val = κ.val) :
    vHi (View.ld (Val := Elt Ideal) x2 (Rect.unit (s := S1x4096x128) ![0, o, 0] S1x512x128.size h)) (ix3 (0 : Fin 1) d κ) = vtAt x2 b r κ' := by
  rw [vHi_apply]
  unfold vtAt
  have hd := d.isLt
  rw [dif_pos (by omega)]
  refine View.ld_unit_apply_of x2 _ _ _ _ _ ?_
  intro a
  match a with
  | ⟨0, _⟩ => rfl
  | ⟨1, _⟩ => show 512 * b.val + κ'.val = o + κ.val; omega
  | ⟨2, _⟩ => show r.val / 80 * 64 + r.val % 80 = 0 + (64 + d.val); omega
theorem put_one (x2 : Vec Ideal S1x4096x128 .bf16) (d : Fin 16) (κ : Fin 512) (b : Fin 8) (r : Fin 160) (κ' : Fin 512) (hr : r.val = 64 + d.val ∨ r.val = 144 + d.val) :
    k0_pay125 (F := Ideal) (ix3 (0 : Fin 1) d κ) = vtAt x2 b r κ' := by
  unfold vtAt
  have hd := d.isLt
  rw [dif_neg (by omega)]
  exact Ideal.ofBits_one_bf16
theorem put_k (x4 : Vec Ideal S1x4096x128 .f32) (o : ℕ) (h : ∀ a, (![0, o, 0] : Fin 3 → ℕ) a + S1x512x128.size a ≤ S1x4096x128.size a) (κ : Fin 512) (l : Fin 128)
    (key : Fin 4096) (l' : Fin 128) (hk : key.val = o + κ.val) (hl : l'.val = l.val) :
    kPc (View.ld (Val := Elt Ideal) x4 (Rect.unit (s := S1x4096x128) ![0, o, 0] S1x512x128.size h)) (ix2 κ l) = kaAt l'.val (x4 (ix3 (0 : Fin 1) key l')) := by
  unfold kPc
  rw [kcore_apply, hl, cast_apply]
  refine congrArg (kaAt _) ?_
  refine View.ld_unit_apply_of x4 _ _ _ _ _ ?_
  intro a
  match a with
  | ⟨0, _⟩ => rfl
  | ⟨1, _⟩ => show key.val = o + κ.val; omega
  | ⟨2, _⟩ => show l'.val = 0 + l.val; omega

/-- An index whose leading axis has one entry. -/
theorem ix_one {a b : ℕ} (x : (⟨3, ![1, a, b]⟩ : Shape).Idx) : ∃ (d : Fin a) (k : Fin b), x = ix3 (0 : Fin 1) d k :=
  ⟨x 1, x 2, funext fun i => by
    match i with
    | ⟨0, _⟩ => exact Subsingleton.elim (α := Fin 1) _ _
    | ⟨1, _⟩ => rfl
    | ⟨2, _⟩ => rfl⟩

/-- What the first point of a pass leaves in the scratch of values, read through any whole view. -/
theorem fill_vt {sg : RefSig} {kd : Kind} {sp : Space} (W : View sg kd sp S8x160x512 .bf16) (f : W.ty.Contents (Elt Ideal)) (c : Dev nD) (arg5 : Memref sig .tc .vmem S1x4096x128 .bf16) (harg5 : arg5.IsWhole) (x2 : Vec Ideal S1x4096x128 .bf16)
    (cover : ∀ y : S8x160x512.Idx, ∃ pc ∈ kernelRun0_A.sl.HS0_32 (F := Ideal) c arg5 harg5 x2, y ∈ pc.1.set) :
    W.read (Elt Ideal) (W.writes (Elt Ideal) f (kernelRun0_A.sl.HS0_32 c arg5 harg5 x2)) = VT x2 := by
  funext y
  refine View.read_writes_apply_of_pieces (Val := Elt Ideal) W f (VT x2) _ ?_ y (cover y)
  have eL : ∀ (o : ℕ) (h : ∀ a, (![0, o, 0] : Fin 3 → ℕ) a + S1x512x128.size a ≤ S1x4096x128.size a),
      View.readAt (Elt Ideal) arg5.view (Rect.unit (s := S1x4096x128) ![0, o, 0] S1x512x128.size h).toLoadRect (harg5.unread x2) = View.ld (Val := Elt Ideal) x2 (Rect.unit (s := S1x4096x128) ![0, o, 0] S1x512x128.size h) := by
    intro o h
    rw [View.readAt_eq_ld, harg5.read_unread]
  unfold kernelRun0_A.sl.HS0_32
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro x
    obtain ⟨d, κ, rfl⟩ := ix_one (a := 16) (b := 512) x
    exact put_one x2 d κ _ _ _ (.inr (by simp [ix3]))
  · intro x
    obtain ⟨d, κ, rfl⟩ := ix_one (a := 64) (b := 512) x
    refine Eq.trans (b := vHi (View.readAt (Elt Ideal) arg5.view (Rect.unit (s := S1x4096x128) ![0, 3584, 0] S1x512x128.size (by decide)).toLoadRect (harg5.unread x2)) (ix3 (0 : Fin 1) d κ)) rfl ?_
    rw [eL]
    exact put_hi x2 3584 _ 7 rfl d κ _ _ _ (by simp [ix3]) (by simp [ix3]) (by simp [ix3])
  · intro x
    obtain ⟨d, κ, rfl⟩ := ix_one (a := 16) (b := 512) x
    exact put_one x2 d κ _ _ _ (.inl (by simp [ix3]))
  · intro x
    obtain ⟨d, κ, rfl⟩ := ix_one (a := 64) (b := 512) x
    refine Eq.trans (b := vLo (View.readAt (Elt Ideal) arg5.view (Rect.unit (s := S1x4096x128) ![0, 3584, 0] S1x512x128.size (by decide)).toLoadRect (harg5.unread x2)) (ix3 (0 : Fin 1) d κ)) rfl ?_
    rw [eL]
    exact put_lo x2 3584 _ 7 rfl d κ _ _ _ (by simp [ix3]) (by simp [ix3]) (by simp [ix3])
  · intro x
    obtain ⟨d, κ, rfl⟩ := ix_one (a := 16) (b := 512) x
    exact put_one x2 d κ _ _ _ (.inr (by simp [ix3]))
  · intro x
    obtain ⟨d, κ, rfl⟩ := ix_one (a := 64) (b := 512) x
    refine Eq.trans (b := vHi (View.readAt (Elt Ideal) arg5.view (Rect.unit (s := S1x4096x128) ![0, 3072, 0] S1x512x128.size (by decide)).toLoadRect (harg5.unread x2)) (ix3 (0 : Fin 1) d κ)) rfl ?_
    rw [eL]
    exact put_hi x2 3072 _ 6 rfl d κ _ _ _ (by simp [ix3]) (by simp [ix3]) (by simp [ix3])
  · intro x
    obtain ⟨d, κ, rfl⟩ := ix_one (a := 16) (b := 512) x
    exact put_one x2 d κ _ _ _ (.inl (by simp [ix3]))
  · intro x
    obtain ⟨d, κ, rfl⟩ := ix_one (a := 64) (b := 512) x
    refine Eq.trans (b := vLo (View.readAt (Elt Ideal) arg5.view (Rect.unit (s := S1x4096x128) ![0, 3072, 0] S1x512x128.size (by decide)).toLoadRect (harg5.unread x2)) (ix3 (0 : Fin 1) d κ)) rfl ?_
    rw [eL]
    exact put_lo x2 3072 _ 6 rfl d κ _ _ _ (by simp [ix3]) (by simp [ix3]) (by simp [ix3])
  · intro x
    obtain ⟨d, κ, rfl⟩ := ix_one (a := 16) (b := 512) x
    exact put_one x2 d κ _ _ _ (.inr (by simp [ix3]))
  · intro x
    obtain ⟨d, κ, rfl⟩ := ix_one (a := 64) (b := 512) x
    refine Eq.trans (b := vHi (View.readAt (Elt Ideal) arg5.view (Rect.unit (s := S1x4096x128) ![0, 2560, 0] S1x512x128.size (by decide)).toLoadRect (harg5.unread x2)) (ix3 (0 : Fin 1) d κ)) rfl ?_
    rw [eL]
    exact put_hi x2 2560 _ 5 rfl d κ _ _ _ (by simp [ix3]) (by simp [ix3]) (by simp [ix3])
  · intro x
    obtain ⟨d, κ, rfl⟩ := ix_one (a := 16) (b := 512) x
    exact put_one x2 d κ _ _ _ (.inl (by simp [ix3]))
  · intro x
    obtain ⟨d, κ, rfl⟩ := ix_one (a := 64) (b := 512) x
    refine Eq.trans (b := vLo (View.readAt (Elt Ideal) arg5.view (Rect.unit (s := S1x4096x128) ![0, 2560, 0] S1x512x128.size (by decide)).toLoadRect (harg5.unread x2)) (ix3 (0 : Fin 1) d κ)) rfl ?_
    rw [eL]
    exact put_lo x2 2560 _ 5 rfl d κ _ _ _ (by simp [ix3]) (by simp [ix3]) (by simp [ix3])
  · intro x
    obtain ⟨d, κ, rfl⟩ := ix_one (a := 16) (b := 512) x
    exact put_one x2 d κ _ _ _ (.inr (by simp [ix3]))
  · intro x
    obtain ⟨d, κ, rfl⟩ := ix_one (a := 64) (b := 512) x
    refine Eq.trans (b := vHi (View.readAt (Elt Ideal) arg5.view (Rect.unit (s := S1x4096x128) ![0, 2048, 0] S1x512x128.size (by decide)).toLoadRect (harg5.unread x2)) (ix3 (0 : Fin 1) d κ)) rfl ?_
    rw [eL]
    exact put_hi x2 2048 _ 4 rfl d κ _ _ _ (by simp [ix3]) (by simp [ix3]) (by simp [ix3])
  · intro x
    obtain ⟨d, κ, rfl⟩ := ix_one (a := 16) (b := 512) x
    exact put_one x2 d κ _ _ _ (.inl (by simp [ix3]))
  · intro x
    obtain ⟨d, κ, rfl⟩ := ix_one (a := 64) (b := 512) x
    refine Eq.trans (b := vLo (View.readAt (Elt Ideal) arg5.view (Rect.unit (s := S1x4096x128) ![0, 2048, 0] S1x512x128.size (by decide)).toLoadRect (harg5.unread x2)) (ix3 (0 : Fin 1) d κ)) rfl ?_
    rw [eL]
    exact put_lo x2 2048 _ 4 rfl d κ _ _ _ (by simp [ix3]) (by simp [ix3]) (by simp [ix3])
  · intro x
    obtain ⟨d, κ, rfl⟩ := ix_one (a := 16) (b := 512) x
    exact put_one x2 d κ _ _ _ (.inr (by simp [ix3]))
  · intro x
    obtain ⟨d, κ, rfl⟩ := ix_one (a := 64) (b := 512) x
    refine Eq.trans (b := vHi (View.readAt (Elt Ideal) arg5.view (Rect.unit (s := S1x4096x128) ![0, 1536, 0] S1x512x128.size (by decide)).toLoadRect (harg5.unread x2)) (ix3 (0 : Fin 1) d κ)) rfl ?_
    rw [eL]
    exact put_hi x2 1536 _ 3 rfl d κ _ _ _ (by simp [ix3]) (by simp [ix3]) (by simp [ix3])
  · intro x
    obtain ⟨d, κ, rfl⟩ := ix_one (a := 16) (b := 512) x
    exact put_one x2 d κ _ _ _ (.inl (by simp [ix3]))
  · intro x
    obtain ⟨d, κ, rfl⟩ := ix_one (a := 64) (b := 512) x
    refine Eq.trans (b := vLo (View.readAt (Elt Ideal) arg5.view (Rect.unit (s := S1x4096x128) ![0, 1536, 0] S1x512x128.size (by decide)).toLoadRect (harg5.unread x2)) (ix3 (0 : Fin 1) d κ)) rfl ?_
    rw [eL]
    exact put_lo x2 1536 _ 3 rfl d κ _ _ _ (by simp [ix3]) (by simp [ix3]) (by simp [ix3])
  · intro x
    obtain ⟨d, κ, rfl⟩ := ix_one (a := 16) (b := 512) x
    exact put_one x2 d κ _ _ _ (.inr (by simp [ix3]))
  · intro x
    obtain ⟨d, κ, rfl⟩ := ix_one (a := 64) (b := 512) x
    refine Eq.trans (b := vHi (View.readAt (Elt Ideal) arg5.view (Rect.unit (s := S1x4096x128) ![0, 1024, 0] S1x512x128.size (by decide)).toLoadRect (harg5.unread x2)) (ix3 (0 : Fin 1) d κ)) rfl ?_
    rw [eL]
    exact put_hi x2 1024 _ 2 rfl d κ _ _ _ (by simp [ix3]) (by simp [ix3]) (by simp [ix3])
  · intro x
    obtain ⟨d, κ, rfl⟩ := ix_one (a := 16) (b := 512) x
    exact put_one x2 d κ _ _ _ (.inl (by simp [ix3]))
  · intro x
    obtain ⟨d, κ, rfl⟩ := ix_one (a := 64) (b := 512) x
    refine Eq.trans (b := vLo (View.readAt (Elt Ideal) arg5.view (Rect.unit (s := S1x4096x128) ![0, 1024, 0] S1x512x128.size (by decide)).toLoadRect (harg5.unread x2)) (ix3 (0 : Fin 1) d κ)) rfl ?_
    rw [eL]
    exact put_lo x2 1024 _ 2 rfl d κ _ _ _ (by simp [ix3]) (by simp [ix3]) (by simp [ix3])
  · intro x
    obtain ⟨d, κ, rfl⟩ := ix_one (a := 16) (b := 512) x
    exact put_one x2 d κ _ _ _ (.inr (by simp [ix3]))
  · intro x
    obtain ⟨d, κ, rfl⟩ := ix_one (a := 64) (b := 512) x
    refine Eq.trans (b := vHi (View.readAt (Elt Ideal) arg5.view (Rect.unit (s := S1x4096x128) ![0, 512, 0] S1x512x128.size (by decide)).toLoadRect (harg5.unread x2)) (ix3 (0 : Fin 1) d κ)) rfl ?_
    rw [eL]
    exact put_hi x2 512 _ 1 rfl d κ _ _ _ (by simp [ix3]) (by simp [ix3]) (by simp [ix3])
  · intro x
    obtain ⟨d, κ, rfl⟩ := ix_one (a := 16) (b := 512) x
    exact put_one x2 d κ _ _ _ (.inl (by simp [ix3]))
  · intro x
    obtain ⟨d, κ, rfl⟩ := ix_one (a := 64) (b := 512) x
    refine Eq.trans (b := vLo (View.readAt (Elt Ideal) arg5.view (Rect.unit (s := S1x4096x128) ![0, 512, 0] S1x512x128.size (by decide)).toLoadRect (harg5.unread x2)) (ix3 (0 : Fin 1) d κ)) rfl ?_
    rw [eL]
    exact put_lo x2 512 _ 1 rfl d κ _ _ _ (by simp [ix3]) (by simp [ix3]) (by simp [ix3])
  · intro x
    obtain ⟨d, κ, rfl⟩ := ix_one (a := 16) (b := 512) x
    exact put_one x2 d κ _ _ _ (.inr (by simp [ix3]))
  · intro x
    obtain ⟨d, κ, rfl⟩ := ix_one (a := 64) (b := 512) x
    refine Eq.trans (b := vHi (View.readAt (Elt Ideal) arg5.view (Rect.unit (s := S1x4096x128) ![0, 0, 0] S1x512x128.size (by decide)).toLoadRect (harg5.unread x2)) (ix3 (0 : Fin 1) d κ)) rfl ?_
    rw [eL]
    exact put_hi x2 0 _ 0 rfl d κ _ _ _ (by simp [ix3]) (by simp [ix3]) (by simp [ix3])
  · intro x
    obtain ⟨d, κ, rfl⟩ := ix_one (a := 16) (b := 512) x
    exact put_one x2 d κ _ _ _ (.inl (by simp [ix3]))
  · intro x
    obtain ⟨d, κ, rfl⟩ := ix_one (a := 64) (b := 512) x
    refine Eq.trans (b := vLo (View.readAt (Elt Ideal) arg5.view (Rect.unit (s := S1x4096x128) ![0, 0, 0] S1x512x128.size (by decide)).toLoadRect (harg5.unread x2)) (ix3 (0 : Fin 1) d κ)) rfl ?_
    rw [eL]
    exact put_lo x2 0 _ 0 rfl d κ _ _ _ (by simp [ix3]) (by simp [ix3]) (by simp [ix3])

/-- What the first point of a pass leaves in the scratch of extra columns, read through any whole view. -/
theorem fill_ka {sg : RefSig} {kd : Kind} {sp : Space} (W : View sg kd sp S4096x128 .bf16) (f : W.ty.Contents (Elt Ideal)) (c : Dev nD) (arg7 : Memref sig .tc .vmem S1x4096x128 .f32) (harg7 : arg7.IsWhole) (x4 : Vec Ideal S1x4096x128 .f32)
    (cover : ∀ y : S4096x128.Idx, ∃ pc ∈ kernelRun0_A.sl.HS1_8 (F := Ideal) c arg7 harg7 x4, y ∈ pc.1.set) :
    W.read (Elt Ideal) (W.writes (Elt Ideal) f (kernelRun0_A.sl.HS1_8 c arg7 harg7 x4)) = KA x4 := by
  funext y
  refine View.read_writes_apply_of_pieces (Val := Elt Ideal) W f (KA x4) _ ?_ y (cover y)
  have eL : ∀ (o : ℕ) (h : ∀ a, (![0, o, 0] : Fin 3 → ℕ) a + S1x512x128.size a ≤ S1x4096x128.size a),
      View.readAt (Elt Ideal) arg7.view (Rect.unit (s := S1x4096x128) ![0, o, 0] S1x512x128.size h).toLoadRect (harg7.unread x4) = View.ld (Val := Elt Ideal) x4 (Rect.unit (s := S1x4096x128) ![0, o, 0] S1x512x128.size h) := by
    intro o h
    rw [View.readAt_eq_ld, harg7.read_unread]
  unfold kernelRun0_A.sl.HS1_8
  intro p hp
  simp only [List.mem_cons, List.not_mem_nil, or_false] at hp
  rcases hp with rfl | rfl | rfl | rfl | rfl | rfl | rfl | rfl
  · intro x
    obtain ⟨κ, l, rfl⟩ : ∃ (κ : Fin 512) (l : Fin 128), x = ix2 κ l := ⟨x 0, x 1, ValueIdx.eq_ix2 x⟩
    refine Eq.trans (b := kPc (View.readAt (Elt Ideal) arg7.view (Rect.unit (s := S1x4096x128) ![0, 3584, 0] S1x512x128.size (by decide)).toLoadRect (harg7.unread x4)) (ix2 κ l)) rfl ?_
    rw [eL]
    exact put_k x4 3584 _ κ l _ _ (by simp [ix2]) (by simp [ix2])
  · intro x
    obtain ⟨κ, l, rfl⟩ : ∃ (κ : Fin 512) (l : Fin 128), x = ix2 κ l := ⟨x 0, x 1, ValueIdx.eq_ix2 x⟩
    refine Eq.trans (b := kPc (View.readAt (Elt Ideal) arg7.view (Rect.unit (s := S1x4096x128) ![0, 3072, 0] S1x512x128.size (by decide)).toLoadRect (harg7.unread x4)) (ix2 κ l)) rfl ?_
    rw [eL]
    exact put_k x4 3072 _ κ l _ _ (by simp [ix2]) (by simp [ix2])
  · intro x
    obtain ⟨κ, l, rfl⟩ : ∃ (κ : Fin 512) (l : Fin 128), x = ix2 κ l := ⟨x 0, x 1, ValueIdx.eq_ix2 x⟩
    refine Eq.trans (b := kPc (View.readAt (Elt Ideal) arg7.view (Rect.unit (s := S1x4096x128) ![0, 2560, 0] S1x512x128.size (by decide)).toLoadRect (harg7.unread x4)) (ix2 κ l)) rfl ?_
    rw [eL]
    exact put_k x4 2560 _ κ l _ _ (by simp [ix2]) (by simp [ix2])
  · intro x
    obtain ⟨κ, l, rfl⟩ : ∃ (κ : Fin 512) (l : Fin 128), x = ix2 κ l := ⟨x 0, x 1, ValueIdx.eq_ix2 x⟩
    refine Eq.trans (b := kPc (View.readAt (Elt Ideal) arg7.view (Rect.unit (s := S1x4096x128) ![0, 2048, 0] S1x512x128.size (by decide)).toLoadRect (harg7.unread x4)) (ix2 κ l)) rfl ?_
    rw [eL]
    exact put_k x4 2048 _ κ l _ _ (by simp [ix2]) (by simp [ix2])
  · intro x
    obtain ⟨κ, l, rfl⟩ : ∃ (κ : Fin 512) (l : Fin 128), x = ix2 κ l := ⟨x 0, x 1, ValueIdx.eq_ix2 x⟩
    refine Eq.trans (b := kPc (View.readAt (Elt Ideal) arg7.view (Rect.unit (s := S1x4096x128) ![0, 1536, 0] S1x512x128.size (by decide)).toLoadRect (harg7.unread x4)) (ix2 κ l)) rfl ?_
    rw [eL]
    exact put_k x4 1536 _ κ l _ _ (by simp [ix2]) (by simp [ix2])
  · intro x
    obtain ⟨κ, l, rfl⟩ : ∃ (κ : Fin 512) (l : Fin 128), x = ix2 κ l := ⟨x 0, x 1, ValueIdx.eq_ix2 x⟩
    refine Eq.trans (b := kPc (View.readAt (Elt Ideal) arg7.view (Rect.unit (s := S1x4096x128) ![0, 1024, 0] S1x512x128.size (by decide)).toLoadRect (harg7.unread x4)) (ix2 κ l)) rfl ?_
    rw [eL]
    exact put_k x4 1024 _ κ l _ _ (by simp [ix2]) (by simp [ix2])
  · intro x
    obtain ⟨κ, l, rfl⟩ : ∃ (κ : Fin 512) (l : Fin 128), x = ix2 κ l := ⟨x 0, x 1, ValueIdx.eq_ix2 x⟩
    refine Eq.trans (b := kPc (View.readAt (Elt Ideal) arg7.view (Rect.unit (s := S1x4096x128) ![0, 512, 0] S1x512x128.size (by decide)).toLoadRect (harg7.unread x4)) (ix2 κ l)) rfl ?_
    rw [eL]
    exact put_k x4 512 _ κ l _ _ (by simp [ix2]) (by simp [ix2])
  · intro x
    obtain ⟨κ, l, rfl⟩ : ∃ (κ : Fin 512) (l : Fin 128), x = ix2 κ l := ⟨x 0, x 1, ValueIdx.eq_ix2 x⟩
    refine Eq.trans (b := kPc (View.readAt (Elt Ideal) arg7.view (Rect.unit (s := S1x4096x128) ![0, 0, 0] S1x512x128.size (by decide)).toLoadRect (harg7.unread x4)) (ix2 κ l)) rfl ?_
    rw [eL]
    exact put_k x4 0 _ κ l _ _ (by simp [ix2]) (by simp [ix2])

end Cert.KernelIdeal.Fox

end
-- ==== Proof.FoxFin.lean ====
/- The fox attention's diagonal blocks and its output block, entry by entry. -/
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import proofs.«01_k».proof.Proof.FoxOut
public import Idealize.ShloMosaic.Lib.Pipeline.ValueKit.Tiles

@[expose] public section

noncomputable section

namespace Cert.KernelIdeal.Fox

open Idealize.ShloMosaic hiding ix1 ix2 ix3 ix4 constant_apply
open Cert.KernelIdeal Cert.KernelIdeal.Gen Idealize.ShloMosaic.TcCoe Idealize.SL.Sem
open Idealize.ShloMosaic.Pipeline (Dat)
open Idealize.ShloMosaic.ValueIdx
open Cert.Softmax

set_option maxRecDepth 100000

theorem toInt_small (a : ℕ) (ha : a < 2 ^ 31) : (BitVec.ofNat 32 a).toInt = (a : ℤ) := by
  rw [BitVec.toInt_ofNat', Int.bmod_eq_of_le (by omega) (by omega)]

theorem sle_small (a b : ℕ) (ha : a < 2 ^ 31) (hb : b < 2 ^ 31) : (BitVec.ofNat 32 a).sle (BitVec.ofNat 32 b) = decide (a ≤ b) := by
  rw [BitVec.sle_eq_decide, toInt_small a ha, toInt_small b hb]
  simp

theorem mask_eq : (Named.named κ "mask" 0xF149F2CA#32 : Ideal .f32) = ⊥ := IdealRules.named_const.ideal_named_scalar _ _ _ _ rfl

theorem scoreD0_apply (A : FVec Ideal S1024x256 .bf16) (kb ka) (κ : Fin 512) (q : Fin 1024) :
    scoreD0 A kb ka (ix2 κ q) = if κ.val ≤ q.val then scoreM A kb ka (ix2 κ q) else ⊥ := by
  unfold scoreD0
  rw [select_apply]
  have h : k0_pay150 (ix2 κ q) = BitVec.ofBool (decide (κ.val ≤ q.val)) := by
    rw [← sle_small κ.val q.val (by omega) (by omega)]
    show BitVec.ofBool (BitVec.sle (BitVec.ofNat 32 (0 * 512 + κ.val)) (BitVec.ofNat 32 (0 * 1024 + q.val))) = _
    simp only [Nat.zero_mul, Nat.zero_add]
  rw [h]
  split_ifs with hc
  · rw [decide_eq_true hc]; rfl
  · rw [decide_eq_false hc]; exact mask_eq

theorem scoreD1_apply (A : FVec Ideal S1024x256 .bf16) (kb ka) (κ : Fin 512) (q : Fin 512) :
    scoreD1 A kb ka (ix2 κ q) = if κ.val ≤ q.val then scoreM A kb ka (ix2 κ (⟨512 + q.val, by omega⟩ : Fin 1024)) else ⊥ := by
  unfold scoreD1
  rw [select_apply]
  have h : k0_pay166 (ix2 κ q) = BitVec.ofBool (decide (κ.val ≤ q.val)) := by
    rw [← sle_small κ.val q.val (by omega) (by omega)]
    show BitVec.ofBool (BitVec.sle (BitVec.ofNat 32 (0 * 512 + κ.val)) (BitVec.ofNat 32 (0 * 512 + q.val))) = _
    simp only [Nat.zero_mul, Nat.zero_add]
  rw [h]
  split_ifs with hc
  · rw [decide_eq_true hc]
    have h := Ideal.matmul_transposedRhs_apply (M := 512) (K := 256) (N := 512) none (catK kb ka)
      (extractStridedSlice S512x256 ![512, 0] A slices_S1024x256_o512_0_S512x256) (constant (F := Ideal) S512x512 .f32 0x00000000#32) κ q
    rw [constant_apply, Ideal.ofBits_zero_f32, zero_add] at h
    refine h.trans ?_
    rw [scoreM_apply]
    refine Finset.sum_congr rfl fun j _ => congrArg (catK kb ka (ix2 κ j) * ·) ?_
    exact extractStridedSlice_apply ![512, 0] _ slices_S1024x256_o512_0_S512x256 (ix2 q j) (ix2 (⟨512 + q.val, by omega⟩ : Fin 1024) j) (by
      intro a; match a with | ⟨0, _⟩ => rfl | ⟨1, _⟩ => show j.val = 0 + j.val; omega)
  · rw [decide_eq_false hc]; exact mask_eq

/-- The earlier half of the queries keeps its sums. -/
theorem half_left (m : FVec Ideal S1x1024 .f32) (acc : FVec Ideal S80x1024 .f32) (V : FVec Ideal S80x512 .bf16) (s : FVec Ideal S512x512 .f32)
    (r : Fin 80) (q : Fin 1024) (hq : q.val < 512) : half m acc V s (ix2 r q) = acc (ix2 r q) := by
  unfold half
  refine (concatenate_pair_apply_left (t := S80x1024) (s₁ := S80x512) (s₂ := S80x512) 1 _ _ _ (ix2 r q) rfl (ix2 r (⟨q.val, hq⟩ : Fin 512)) (by
    intro b; match b with | ⟨0, _⟩ => rfl | ⟨1, _⟩ => rfl)).trans ?_
  exact extractStridedSlice_apply ![0, 0] _ slices_S80x1024_o0_0_S80x512 (ix2 r (⟨q.val, hq⟩ : Fin 512)) (ix2 r q) (by
      intro a; match a with | ⟨0, _⟩ => show r.val = 0 + r.val; omega | ⟨1, _⟩ => show q.val = 0 + q.val; omega)

/-- The later half of the maxima. -/
def mlate (m : FVec Ideal S1x1024 .f32) : FVec Ideal S1x512 .f32 := extractStridedSlice S1x512 ![0, 512] m slices_S1x1024_o0_512_S1x512
/-- The later half of the sums. -/
def alate (a : FVec Ideal S80x1024 .f32) : FVec Ideal S80x512 .f32 := extractStridedSlice S80x512 ![0, 512] a slices_S80x1024_o0_512_S80x512
theorem mlate_apply (m : FVec Ideal S1x1024 .f32) (q : Fin 512) : mlate m (ix2 (0 : Fin 1) q) = m (ix2 (0 : Fin 1) (⟨512 + q.val, by omega⟩ : Fin 1024)) := by
  unfold mlate
  exact extractStridedSlice_apply ![0, 512] _ slices_S1x1024_o0_512_S1x512 (ix2 (0 : Fin 1) q) (ix2 (0 : Fin 1) (⟨512 + q.val, by omega⟩ : Fin 1024)) (by
      intro a; match a with | ⟨0, _⟩ => rfl | ⟨1, _⟩ => rfl)
theorem alate_apply (a : FVec Ideal S80x1024 .f32) (r : Fin 80) (q : Fin 512) : alate a (ix2 r q) = a (ix2 r (⟨512 + q.val, by omega⟩ : Fin 1024)) := by
  unfold alate
  exact extractStridedSlice_apply ![0, 512] _ slices_S80x1024_o0_512_S80x512 (ix2 r q) (ix2 r (⟨512 + q.val, by omega⟩ : Fin 1024)) (by
      intro a; match a with | ⟨0, _⟩ => show r.val = 0 + r.val; omega | ⟨1, _⟩ => rfl)

theorem half_right (m : FVec Ideal S1x1024 .f32) (acc : FVec Ideal S80x1024 .f32) (V : FVec Ideal S80x512 .bf16) (s : FVec Ideal S512x512 .f32)
    (r : Fin 80) (q : Fin 512) : half m acc V s (ix2 r (⟨512 + q.val, by omega⟩ : Fin 1024))
      = accNew (K := 512) (Q := 512) (D := 80) (mlate m) (mNew (K := 512) (Q := 512) (mlate m) s reduces_S512x512_S512 shapeCasts_S512_S1x512)
          (alate acc) V s broadcasts_S1x512_S512x512 broadcasts_S1x512_S80x512 bitsLt_bf16_f32 (ix2 r q) := by
  unfold half
  exact (concatenate_pair_apply_right (t := S80x1024) (s₁ := S80x512) (s₂ := S80x512) 1 _ _ _ (ix2 r (⟨512 + q.val, by omega⟩ : Fin 1024)) rfl rfl (ix2 r q) (by
    intro b; match b with | ⟨0, _⟩ => intro _; rfl | ⟨1, _⟩ => intro h; exact absurd rfl h) (by show q.val + 512 = 512 + q.val; omega))

theorem term_masked (s : Fin 1024 → Fin 4096 → ℝ) (w : Fin 80 → Fin 4096 → ℝ) (q0 : ℕ) (r : Fin 80) (q : Fin 1024) (key : ℕ) (h : q0 + q.val < key) :
    term s w q0 r q key = 0 := by
  unfold term
  split_ifs with hk
  · unfold vis
    rw [if_neg (by show ¬ key ≤ _; omega), E_bot, mul_zero]
  · rfl

/-- Keys past the query add nothing. -/
theorem Z_masked (s : Fin 1024 → Fin 4096 → ℝ) (w : Fin 80 → Fin 4096 → ℝ) (q0 : ℕ) (r : Fin 80) (q : Fin 1024) (n k : ℕ) (h : q0 + q.val < n) :
    Z s w q0 r q (n + k) = Z s w q0 r q n := by
  unfold Z
  rw [Finset.sum_range_add]
  rw [Finset.sum_eq_zero (s := Finset.range k) fun x _ => term_masked s w q0 r q (n + x) (by omega), add_zero]

/-- A head's sums at the end: every query's row over one maximum. -/
def Final (s : Fin 1024 → Fin 4096 → ℝ) (w : Fin 80 → Fin 4096 → ℝ) (q0 : ℕ) (a : FVec Ideal S80x1024 .f32) : Prop :=
  ∀ q : Fin 1024, ∃ μ : EReal, ∀ r : Fin 80, Inv (Z s w q0 r q (q0 + 1024)) μ (a (ix2 r q))

theorem Good.final {s : Fin 1024 → Fin 4096 → ℝ} {w : Fin 80 → Fin 4096 → ℝ} {q0 : ℕ} {m : FVec Ideal S1x1024 .f32} {acc : FVec Ideal S80x1024 .f32}
    (b b' : Fin 8) (hb : q0 = 512 * b.val) (hb' : b'.val = b.val + 1) (V V' : FVec Ideal S80x512 .bf16) (S : FVec Ideal S512x1024 .f32) (S' : FVec Ideal S512x512 .f32)
    (h : Good s w q0 q0 m acc)
    (hV : ∀ r κ, V (ix2 r κ) = ((w r (keyOf b κ) : ℝ) : EReal)) (hV' : ∀ r κ, V' (ix2 r κ) = ((w r (keyOf b' κ) : ℝ) : EReal))
    (hS : ∀ κ q, S (ix2 κ q) = vis s q0 q (keyOf b κ)) (hS' : ∀ κ (q : Fin 512), S' (ix2 κ q) = vis s q0 (⟨512 + q.val, by omega⟩ : Fin 1024) (keyOf b' κ)) :
    Final s w q0 (half (mN m S) (aN m acc V S) V' S') := by
  subst hb
  have h1 := h.block b V S hV hS
  intro q
  have e : 512 * b.val + 1024 = 512 * (b'.val + 1) := by omega
  by_cases hq : q.val < 512
  · refine ⟨mN m S (ix2 (0 : Fin 1) q), fun r => ?_⟩
    rw [half_left _ _ _ _ r q hq]
    have h2 := h1 r q
    rw [show 512 * b.val + 1024 = 512 * (b.val + 1) + 512 by ring, Z_masked s w _ r q _ _ (by omega)]
    exact h2
  · have hq' : q = (⟨512 + (⟨q.val - 512, by omega⟩ : Fin 512).val, by show 512 + (q.val - 512) < 1024; omega⟩ : Fin 1024) :=
      Fin.ext (by show q.val = 512 + (q.val - 512); omega)
    suffices key : ∀ p : Fin 512, ∃ μ : EReal, ∀ r : Fin 80, Inv (Z s w (512 * b.val) r (⟨512 + p.val, by omega⟩ : Fin 1024) (512 * b.val + 1024)) μ
        (half (mN m S) (aN m acc V S) V' S' (ix2 r (⟨512 + p.val, by omega⟩ : Fin 1024))) by
      rw [hq']
      exact key _
    intro p
    refine ⟨mNew (K := 512) (Q := 512) (mlate (mN m S)) S' reduces_S512x512_S512 shapeCasts_S512_S1x512 (ix2 (0 : Fin 1) p), fun r => ?_⟩
    rw [half_right]
    rw [e, ← Z_block, hb']
    have h2 := h1 r (⟨512 + p.val, by omega⟩ : Fin 1024)
    rw [← mlate_apply (mN m S) p, ← alate_apply (aN m acc V S) r p] at h2
    have e2 : ∑ κ : Fin 512, w r (keyOf b' κ) * E (vis s (512 * b.val) (⟨512 + p.val, by omega⟩ : Fin 1024) (keyOf b' κ)) = ∑ κ : Fin 512, w r (keyOf b' κ) * E (S' (ix2 κ p)) :=
      Finset.sum_congr rfl fun κ _ => by rw [hS']
    rw [e2]
    exact state_step (K := 512) (Q := 512) (D := 80) (mlate (mN m S)) (alate (aN m acc V S)) V' S' _ _ _ _ _ r p _ (fun κ => w r (keyOf b' κ)) h2 (fun κ => hV' r κ)
      (fun κ => by rw [hS']; exact vis_ne s _ _ _)

/-- A row of weighted values over the row of weights. -/
theorem quot_apply {s : Fin 1024 → Fin 4096 → ℝ} {w : Fin 80 → Fin 4096 → ℝ} {q0 : ℕ} {a : FVec Ideal S80x1024 .f32} (h : Final s w q0 a)
    (d : Fin 64) (q : Fin 1024) (hd : 0 < Z s w q0 (64 : Fin 80) q (q0 + 1024)) :
    quot a (ix2 d q) = ((Z s w q0 (⟨d.val, by omega⟩ : Fin 80) q (q0 + 1024) / Z s w q0 (64 : Fin 80) q (q0 + 1024) : ℝ) : EReal) := by
  obtain ⟨μ, hμ⟩ := h q
  unfold quot
  rw [divf_apply]
  rw [extractStridedSlice_apply ![0, 0] _ slices_S80x1024_o0_0_S64x1024 (ix2 d q) (ix2 (⟨d.val, by omega⟩ : Fin 80) q) (by
      intro a; match a with | ⟨0, _⟩ => show d.val = 0 + d.val; omega | ⟨1, _⟩ => show q.val = 0 + q.val; omega)]
  rw [broadcastTo_apply _ broadcasts_S1x1024_S64x1024 (ix2 d q) (ix2 (0 : Fin 1) q) (by intro a; match a with | ⟨0, _⟩ => rfl | ⟨1, _⟩ => rfl)]
  rw [extractStridedSlice_apply ![64, 0] _ slices_S80x1024_o64_0_S1x1024 (ix2 (0 : Fin 1) q) (ix2 (64 : Fin 80) q) (by
      intro a; match a with | ⟨0, _⟩ => rfl | ⟨1, _⟩ => show q.val = 0 + q.val; omega)]
  exact Inv.div hd (hμ _) (hμ _)

/-- A gate's entry. -/
def sil (g : EReal) : EReal := Ideal.div g (1 + Ideal.exp (0 - g))

theorem gate_apply (g : Vec Ideal S1x1024x128 .bf16) (q : Fin 1024) (l : Fin 128) : gate g (ix2 q l) = sil (g (ix3 (0 : Fin 1) q l)) := by
  have e : (extf .f32 (shapeCast S1024x128 g shapeCasts_S1x1024x128_S1024x128 : FVec Ideal S1024x128 .bf16) bitsLt_bf16_f32 : FVec Ideal S1024x128 .f32) (ix2 q l)
      = g (ix3 (0 : Fin 1) q l) := by
    rw [extf_apply]
    exact shapeCast_apply _ shapeCasts_S1x1024x128_S1024x128 (ix2 q l) (ix3 (0 : Fin 1) q l) (by
      rw [Shape.rowMajor_val_two, Shape.rowMajor_val_three]
      show (0 * 1024 + q.val) * 128 + l.val = q.val * 128 + l.val
      omega)
  unfold gate sil
  rw [divf_apply, e]
  refine congrArg (Ideal.div _) ?_
  rw [addf_apply]
  refine congrArg₂ (· + ·) ?_ ?_
  · show Ideal.ofBits .f32 0x3F800000#32 = 1
    exact Ideal.ofBits_one_f32
  · show Ideal.exp (_ - _) = _
    rw [e]
    refine congrArg (fun z => Ideal.exp (z - _)) ?_
    exact Ideal.ofBits_zero_f32

theorem blockOut_lo (a0 a1 : FVec Ideal S80x1024 .f32) (g : Vec Ideal S1x1024x128 .bf16) (q : Fin 1024) (d : Fin 64) :
    blockOut a0 a1 g (ix3 (0 : Fin 1) q (⟨d.val, by omega⟩ : Fin 128)) = quot a0 (ix2 d q) * sil (g (ix3 (0 : Fin 1) q (⟨d.val, by omega⟩ : Fin 128))) := by
  unfold blockOut k0_pay1
  rw [shapeCast_apply _ _ (ix3 (0 : Fin 1) q (⟨d.val, by omega⟩ : Fin 128)) (ix2 q (⟨d.val, by omega⟩ : Fin 128)) (by
      rw [Shape.rowMajor_val_two, Shape.rowMajor_val_three]
      show q.val * 128 + d.val = (0 * 1024 + q.val) * 128 + d.val
      omega)]
  rw [truncf_apply, mulf_apply, gate_apply]
  refine congrArg (· * _) ?_
  rw [transpose_apply _ _ transposes_S128x1024_p1_0_S1024x128 (ix2 q (⟨d.val, by omega⟩ : Fin 128)) (ix2 (⟨d.val, by omega⟩ : Fin 128) q) (by
    intro a; match a with | ⟨0, _⟩ => rfl | ⟨1, _⟩ => rfl)]
  exact concatenate_pair_apply_left (t := S128x1024) (s₁ := S64x1024) (s₂ := S64x1024) 0 _ _ _ (ix2 (⟨d.val, by omega⟩ : Fin 128) q) rfl (ix2 d q) (by
    intro b; match b with | ⟨0, _⟩ => rfl | ⟨1, _⟩ => rfl)

theorem blockOut_hi (a0 a1 : FVec Ideal S80x1024 .f32) (g : Vec Ideal S1x1024x128 .bf16) (q : Fin 1024) (d : Fin 64) :
    blockOut a0 a1 g (ix3 (0 : Fin 1) q (⟨64 + d.val, by omega⟩ : Fin 128)) = quot a1 (ix2 d q) * sil (g (ix3 (0 : Fin 1) q (⟨64 + d.val, by omega⟩ : Fin 128))) := by
  unfold blockOut k0_pay1
  rw [shapeCast_apply _ _ (ix3 (0 : Fin 1) q (⟨64 + d.val, by omega⟩ : Fin 128)) (ix2 q (⟨64 + d.val, by omega⟩ : Fin 128)) (by
      rw [Shape.rowMajor_val_two, Shape.rowMajor_val_three]
      show q.val * 128 + (64 + d.val) = (0 * 1024 + q.val) * 128 + (64 + d.val)
      omega)]
  rw [truncf_apply, mulf_apply, gate_apply]
  refine congrArg (· * _) ?_
  rw [transpose_apply _ _ transposes_S128x1024_p1_0_S1024x128 (ix2 q (⟨64 + d.val, by omega⟩ : Fin 128)) (ix2 (⟨64 + d.val, by omega⟩ : Fin 128) q) (by
    intro a; match a with | ⟨0, _⟩ => rfl | ⟨1, _⟩ => rfl)]
  exact concatenate_pair_apply_right (t := S128x1024) (s₁ := S64x1024) (s₂ := S64x1024) 0 _ _ _ (ix2 (⟨64 + d.val, by omega⟩ : Fin 128) q) rfl rfl (ix2 d q) (by
    intro b; match b with | ⟨0, _⟩ => intro h; exact absurd rfl h | ⟨1, _⟩ => intro _; rfl) (by show d.val + 64 = 64 + d.val; omega)

/-- The state before any key. -/
theorem init_good (s0 s1 : Fin 1024 → Fin 4096 → ℝ) (w0 w1 : Fin 80 → Fin 4096 → ℝ) (q0 : ℕ) :
    GoodS s0 s1 w0 w1 q0 0 (k0_pay143 (F := Ideal), k0_pay144 (F := Ideal), k0_pay145 (F := Ideal), k0_pay146 (F := Ideal)) := by
  have hm : ∀ q : Fin 1024, k0_pay143 (F := Ideal) (ix2 (0 : Fin 1) q) = ⊥ := fun q => mask_eq
  have hm' : ∀ q : Fin 1024, k0_pay145 (F := Ideal) (ix2 (0 : Fin 1) q) = ⊥ := fun q => mask_eq
  have ha : ∀ (r : Fin 80) (q : Fin 1024), k0_pay144 (F := Ideal) (ix2 r q) = 0 := fun r q => Ideal.ofBits_zero_f32
  have ha' : ∀ (r : Fin 80) (q : Fin 1024), k0_pay146 (F := Ideal) (ix2 r q) = 0 := fun r q => Ideal.ofBits_zero_f32
  constructor
  · intro r q
    show Inv (Z s0 w0 q0 r q 0) (k0_pay143 (F := Ideal) (ix2 (0 : Fin 1) q)) (k0_pay144 (F := Ideal) (ix2 r q))
    rw [hm, ha, show Z s0 w0 q0 r q 0 = 0 from Finset.sum_range_zero _]
    exact Inv.init
  · intro r q
    show Inv (Z s1 w1 q0 r q 0) (k0_pay145 (F := Ideal) (ix2 (0 : Fin 1) q)) (k0_pay146 (F := Ideal) (ix2 r q))
    rw [hm', ha', show Z s1 w1 q0 r q 0 = 0 from Finset.sum_range_zero _]
    exact Inv.init

/-- Both heads' sums at the end. -/
theorem fin_final {x1 : Vec Ideal S1x4096x128 .bf16} {xs0 : Vec Ideal S8x160x512 .bf16} {xs1 : Vec Ideal S4096x128 .bf16}
    {A0 A1 : FVec Ideal S1024x256 .bf16} {s0 s1 : Fin 1024 → Fin 4096 → ℝ} {w0 w1 : Fin 80 → Fin 4096 → ℝ}
    (R : Real' x1 xs0 xs1 A0 A1 s0 s1 w0 w1) (q0 : ℕ) (b b' : Fin 8) (hb : q0 = 512 * b.val) (hb' : b'.val = b.val + 1) (st : State)
    (h : GoodS s0 s1 w0 w1 q0 q0 st) (g : Vec Ideal S1x1024x128 .bf16) :
    ∃ a0 a1 : FVec Ideal S80x1024 .f32, Final s0 w0 q0 a0 ∧ Final s1 w1 q0 a1
      ∧ fin A0 A1 st (kld x1 b) (kld x1 b') (ald xs1 b) (ald xs1 b') (vld xs0 b) (vld xs0 b') g = blockOut a0 a1 g := by
  have hD0 : ∀ (s : Fin 1024 → Fin 4096 → ℝ) (κ : Fin 512) (q : Fin 1024), (if κ.val ≤ q.val then ((s q (keyOf b κ) : ℝ) : EReal) else ⊥) = vis s q0 q (keyOf b κ) := by
    intro s κ q
    unfold vis
    refine if_congr ?_ rfl rfl
    show κ.val ≤ q.val ↔ 512 * b.val + κ.val ≤ q0 + q.val
    omega
  have hD1 : ∀ (s : Fin 1024 → Fin 4096 → ℝ) (κ : Fin 512) (q : Fin 512),
      (if κ.val ≤ q.val then ((s (⟨512 + q.val, by omega⟩ : Fin 1024) (keyOf b' κ) : ℝ) : EReal) else ⊥) = vis s q0 (⟨512 + q.val, by omega⟩ : Fin 1024) (keyOf b' κ) := by
    intro s κ q
    unfold vis
    refine if_congr ?_ rfl rfl
    show κ.val ≤ q.val ↔ 512 * b'.val + κ.val ≤ q0 + (512 + q.val)
    omega
  refine ⟨_, _, ?_, ?_, rfl⟩
  · exact h.1.final b b' hb hb' _ _ _ _ (R.val0 b) (R.val0 b') (fun κ q => by rw [scoreD0_apply, R.score0]; exact hD0 s0 κ q)
      (fun κ q => by rw [scoreD1_apply, R.score0]; exact hD1 s0 κ q)
  · exact h.2.final b b' hb hb' _ _ _ _ (R.val1 b) (R.val1 b') (fun κ q => by rw [scoreD0_apply, R.score1]; exact hD0 s1 κ q)
      (fun κ q => by rw [scoreD1_apply, R.score1]; exact hD1 s1 κ q)

end Cert.KernelIdeal.Fox

end
-- ==== Proof.FoxBlock.lean ====
/- One entry of the fox attention's output block, as a weighted mean over all the keys. -/
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import proofs.«01_k».proof.Proof.FoxFin
public import proofs.«01_k».proof.Proof.FoxCols
public import Idealize.ShloMosaic.Lib.Pipeline.ValueKit.Tiles

@[expose] public section

noncomputable section

namespace Cert.KernelIdeal.Fox

open Idealize.ShloMosaic hiding ix1 ix2 ix3 ix4 constant_apply
open Cert.KernelIdeal Cert.KernelIdeal.Gen Idealize.ShloMosaic.TcCoe Idealize.SL.Sem
open Idealize.ShloMosaic.Pipeline (Dat)
open Idealize.ShloMosaic.ValueIdx
open Cert.Softmax

set_option maxRecDepth 100000

/-- The sum over the keys up to the diagonal block's end is the sum over all of them. -/
theorem Z_all (s : Fin 1024 → Fin 4096 → ℝ) (w : Fin 80 → Fin 4096 → ℝ) (q0 : ℕ) (hq0 : q0 + 1024 ≤ 4096) (r : Fin 80) (q : Fin 1024) :
    Z s w q0 r q (q0 + 1024) = ∑ key : Fin 4096, w r key * E (vis s q0 q key) := by
  rw [← Z_masked s w q0 r q (q0 + 1024) (4096 - (q0 + 1024)) (by have := q.isLt; omega), show q0 + 1024 + (4096 - (q0 + 1024)) = 4096 by omega]
  unfold Z
  rw [Finset.sum_range]
  refine Finset.sum_congr rfl fun key _ => ?_
  unfold term
  rw [dif_pos key.isLt]

theorem E_nonneg (x : EReal) : 0 ≤ E x := by
  unfold E; split_ifs
  · exact le_rfl
  · exact (Real.rpow_pos_of_pos (by norm_num) _).le
theorem E_pos (x : EReal) (hx : x ≠ ⊥) : 0 < E x := by
  unfold E; rw [if_neg hx]; exact Real.rpow_pos_of_pos (by norm_num) _

/-- The weights of a row add up to more than nothing: the first key is always visible. -/
theorem sum_pos (s : Fin 1024 → Fin 4096 → ℝ) (q0 : ℕ) (q : Fin 1024) : 0 < ∑ key : Fin 4096, E (vis s q0 q key) := by
  refine Finset.sum_pos' (fun key _ => E_nonneg _) ⟨(0 : Fin 4096), Finset.mem_univ _, E_pos _ ?_⟩
  unfold vis
  rw [if_pos (show (0 : Fin 4096).val ≤ q0 + q.val from Nat.zero_le _)]
  exact EReal.coe_ne_bot _

/-- A key's score against a query, of the head the lanes `64 u …` hold, in base two. -/
def sc (u : ℕ) (qr : Fin 1024 → ℕ → ℝ) (kr : Fin 4096 → ℕ → ℝ) (cq : Fin 1024 → ℕ → ℝ) (cr : Fin 4096 → ℕ → ℝ) (q : Fin 1024) (key : Fin 4096) : ℝ :=
  (∑ d ∈ Finset.range 64, kr key (64 * u + d) * qr q (64 * u + d)) + (cq q u - cr key u)

theorem sc_zero (qr cq : Fin 1024 → ℕ → ℝ) (kr cr : Fin 4096 → ℕ → ℝ) : sc 0 qr kr cq cr = sc0 qr kr cq cr := by
  funext q key
  unfold sc sc0
  simp only [Nat.mul_zero, Nat.zero_add]
theorem sc_one (qr cq : Fin 1024 → ℕ → ℝ) (kr cr : Fin 4096 → ℕ → ℝ) : sc 1 qr kr cq cr = sc1 qr kr cq cr := rfl

theorem cld_apply (i : grid0.Coords) (x4 : Vec Ideal S1x4096x128 .f32) (q : Fin 1024) (l : Fin 128) :
    cld i x4 (ix3 (0 : Fin 1) q l) = x4 (ix3 (0 : Fin 1) (⟨1024 * (i 2).val + q.val, by have := coord_lt i; have := q.isLt; omega⟩ : Fin 4096) l) := by
  unfold cld
  refine View.ld_unit_apply_of x4 _ _ _ _ _ ?_
  intro a
  refine Eq.trans ?_ (congrArg (· + (ix3 (0 : Fin 1) q l a).val) (congrFun (k0_off1_eq i) a).symm)
  match a with
  | ⟨0, _⟩ => rfl
  | ⟨1, _⟩ => rfl
  | ⟨2, _⟩ => show l.val = 0 + l.val; omega

/-- One entry of the output block: the softmax's weighted mean of the values times the gate. -/
theorem out_entry (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole)
    (x0 : Vec Ideal S1x1024x128 .bf16) (x1 x2 : Vec Ideal S1x4096x128 .bf16) (x3 : Vec Ideal S1x1024x128 .bf16) (x4 : Vec Ideal S1x4096x128 .f32)
    (qr : Fin 1024 → ℕ → ℝ) (kr vr cr : Fin 4096 → ℕ → ℝ)
    (hq : ∀ q (l : Fin 128), x0 (ix3 (0 : Fin 1) q l) = ((qr q l.val : ℝ) : EReal))
    (hk : ∀ key (l : Fin 128), x1 (ix3 (0 : Fin 1) key l) = ((kr key l.val : ℝ) : EReal))
    (hv : ∀ key (l : Fin 128), x2 (ix3 (0 : Fin 1) key l) = ((vr key l.val : ℝ) : EReal))
    (hc : ∀ key (l : Fin 128), x4 (ix3 (0 : Fin 1) key l) = ((cr key (l.val / 64) : ℝ) : EReal)) (q : Fin 1024) (l : Fin 128) :
    outK c i arg3 harg3 arg4 harg4 arg5 harg5 arg6 harg6 arg7 harg7 arg8 harg8 arg9 harg9 arg10 harg10 x0 x1 x3 x4 (harg9.unread (VT x2)) (harg10.unread (KA x4)) (ix3 (0 : Fin 1) q l)
      = (((∑ key : Fin 4096, vr key l.val * E (vis (sc (l.val / 64) qr kr (fun q => cr (⟨1024 * (i 2).val + q.val, by have := coord_lt i; have := q.isLt; omega⟩ : Fin 4096)) cr) (1024 * (i 2).val) q key))
          / ∑ key : Fin 4096, E (vis (sc (l.val / 64) qr kr (fun q => cr (⟨1024 * (i 2).val + q.val, by have := coord_lt i; have := q.isLt; omega⟩ : Fin 4096)) cr) (1024 * (i 2).val) q key) : ℝ) : EReal)
        * sil (x3 (ix3 (0 : Fin 1) q l)) := by
  have hi := coord_lt i
  have hcl : ∀ q (l : Fin 128), cld i x4 (ix3 (0 : Fin 1) q l) = (((fun q : Fin 1024 => cr (⟨1024 * (i 2).val + q.val, by have := q.isLt; omega⟩ : Fin 4096)) q (l.val / 64) : ℝ) : EReal) := by
    intro q l
    rw [cld_apply, hc]
  have R := real_block x0 x1 x2 x4 (cld i x4) qr (fun q => cr (⟨1024 * (i 2).val + q.val, by have := q.isLt; omega⟩ : Fin 4096)) kr vr cr hq hk hv hc hcl
  have G := loop_good Variants.none c none i arg3 harg3 arg4 harg4 arg5 harg5 arg6 harg6 arg7 harg7 arg8 harg8 arg9 harg9 arg10 harg10 (BitVec.ofNat 32 (i 2).val) (qA0 x0 (cld i x4)) (qA1 x0 (cld i x4))
      (k0_pay143 (F := Ideal)) (k0_pay144 (F := Ideal)) (k0_pay145 (F := Ideal)) x1 (VT x2) (KA x4) _ _ _ _ R _ (init_good _ _ _ _ _) (i 2).val le_rfl
  obtain ⟨a0, a1, f0, f1, e⟩ := fin_final R (1024 * (i 2).val) (⟨2 * (i 2).val, by omega⟩ : Fin 8) (⟨2 * (i 2).val + 1, by omega⟩ : Fin 8) (by show _ = 512 * (2 * (i 2).val); omega) rfl _ (G) x3
  have e8 : ∀ r : Fin 2, View.ld (Val := Elt Ideal) x1 (Rect.unit (s := S1x4096x128) (k0_off8 i (BitVec.ofNat 32 r.val)) S1x512x128.size (k0_off8_inb i r)) = kld x1 (⟨2 * (i 2).val + r.val, by omega⟩ : Fin 8) := fun r =>
    ld_off x1 _ (by rw [k0_off8_eq]; congr 2; show _ = 512 * (2 * (i 2).val + r.val); omega) _ _
  have e9 : ∀ r : Fin 2, View.ld (Val := Elt Ideal) (KA x4) (Rect.unit (s := S4096x128) (k0_off9 i (BitVec.ofNat 32 r.val)) S512x128.size (k0_off9_inb i r)) = ald (KA x4) (⟨2 * (i 2).val + r.val, by omega⟩ : Fin 8) := fun r =>
    ld_off (KA x4) _ (by rw [k0_off9_eq]; congr 1; show _ = 512 * (2 * (i 2).val + r.val); omega) _ _
  have e10 : ∀ r : Fin 2, View.ld (Val := Elt Ideal) (VT x2) (Rect.unit (s := S8x160x512) (k0_off10 i (BitVec.ofNat 32 r.val)) S1x160x512.size (k0_off10_inb i r)) = vld (VT x2) (⟨2 * (i 2).val + r.val, by omega⟩ : Fin 8) := fun r =>
    ld_off (VT x2) _ (by rw [k0_off10_eq]) _ _
  unfold outK
  rw [harg9.read_unread, harg10.read_unread, e8 0, e8 1, e9 0, e9 1, e10 0, e10 1]
  rw [trips_eq i]
  refine (congrFun e _).trans ?_
  have hl := l.isLt
  have hone0 : ∀ key, wt0 vr (64 : Fin 80) key = 1 := fun key => if_neg (by decide)
  have hone1 : ∀ key, wt1 vr (64 : Fin 80) key = 1 := fun key => if_neg (by decide)
  by_cases h : l.val < 64
  · have hl0 : l.val / 64 = 0 := Nat.div_eq_of_lt h
    obtain ⟨d, rfl⟩ : ∃ d : Fin 64, l = ⟨d.val, Nat.lt_trans d.isLt (by decide)⟩ := ⟨⟨l.val, h⟩, rfl⟩
    have hd := d.isLt
    have hw : ∀ key, wt0 vr (⟨d.val, by omega⟩ : Fin 80) key = vr key d.val := fun key => if_pos hd
    rw [blockOut_lo, quot_apply f0 d q (by rw [Z_all _ _ _ (by omega)]; simp only [hone0, one_mul]; exact sum_pos _ _ _)]
    rw [Z_all _ _ _ (by omega), Z_all _ _ _ (by omega)]
    simp only [hone0, one_mul, hw, hl0, sc_zero]
  · have hl0 : l.val / 64 = 1 := by omega
    obtain ⟨d, rfl⟩ : ∃ d : Fin 64, l = ⟨64 + d.val, Nat.add_lt_add_left d.isLt 64⟩ := ⟨⟨l.val - 64, by omega⟩, Fin.ext (by show l.val = 64 + (l.val - 64); omega)⟩
    have hd := d.isLt
    have hw : ∀ key, wt1 vr (⟨d.val, by omega⟩ : Fin 80) key = vr key (64 + d.val) := fun key => if_pos hd
    rw [blockOut_hi, quot_apply f1 d q (by rw [Z_all _ _ _ (by omega)]; simp only [hone1, one_mul]; exact sum_pos _ _ _)]
    rw [Z_all _ _ _ (by omega), Z_all _ _ _ (by omega)]
    simp only [hone1, one_mul, hw, hl0, sc_one]

end Cert.KernelIdeal.Fox

end
-- ==== Proof.FoxHost.lean ====
/- What the fox attention's host code prepares. -/
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import proofs.«01_k».proof.Proof.FoxCols
public import Idealize.ShloMosaic.Lib.Pipeline.ValueKit.Tiles

@[expose] public section

noncomputable section

namespace Cert.KernelIdeal.Fox

open Idealize.ShloMosaic hiding ix1 ix2 ix3 ix4 constant_apply
open Cert.KernelIdeal Cert.KernelIdeal.Gen Idealize.ShloMosaic.TcCoe Idealize.SL.Sem
open Idealize.ShloMosaic.Pipeline (Dat)
open Idealize.ShloMosaic.ValueIdx
open Cert.Softmax

set_option maxRecDepth 100000

variable (m : (ℓ : Loc nD τ sig) → Buf (Elt Ideal) ℓ)

/-- The host's floor division by 512. -/
def fdv (x : BitVec 32) : BitVec 32 :=
  Scalar.select
    (IntOp.andi
      (IntOp.cmpi CmpIPredicate.ne (if x = 0 then 0 else if x.msb = true then -1 else 1 : BitVec 32)
        (if (512#32 : BitVec 32) = 0 then 0 else if (512#32 : BitVec 32).msb = true then -1 else 1 : BitVec 32))
      (IntOp.cmpi CmpIPredicate.ne (IntOp.remsi ArithUnit.host x 512#32) 0#32))
    (IntOp.subi (IntOp.divsi ArithUnit.host x 512#32) 1#32) (IntOp.divsi ArithUnit.host x 512#32)
/-- The divisor of the host's remainder by four. -/
def four : BitVec 32 := Scalar.select (IntOp.cmpi CmpIPredicate.eq 4#32 0#32) (1#32) 4#32
/-- The host's remainder by four. -/
def frm (x : BitVec 32) : BitVec 32 :=
  Scalar.select
    (IntOp.andi (IntOp.cmpi CmpIPredicate.ne (IntOp.cmpi CmpIPredicate.slt (IntOp.remsi ArithUnit.host x four) 0#32) (IntOp.cmpi CmpIPredicate.slt four 0#32))
      (IntOp.cmpi CmpIPredicate.ne (IntOp.remsi ArithUnit.host x four) 0#32))
    (IntOp.addi (IntOp.remsi ArithUnit.host x four) four) (IntOp.remsi ArithUnit.host x four)

/-- The number of a column's group, its remainder by four compared with zero. -/
theorem group_eq : ∀ n : Fin 6144, IntOp.cmpi CmpIPredicate.eq (frm (fdv (BitVec.ofNat 32 n.val))) 0#32 = BitVec.ofBool (decide (n.val / 512 % 4 = 0)) := by
  decide +kernel

/-- An entry of the projected rows. -/
def P (c : Dev nD) (b : Fin 4) (s : Fin 4096) (l : Fin 6144) : EReal := m ((c : Thread nD τ).loc main_arg0) (ix3 b s l)
/-- A head's running sum of the logarithms of its gate at a position. -/
def Cum (c : Dev nD) (b : Fin 4) (h : Fin 8) (s : Fin 4096) : EReal := m ((c : Thread nD τ).loc main_arg1) (ix3 b h s)

theorem bits_two : Ideal.ofBits .f32 0x40000000#32 = ((2 : ℝ) : EReal) := by
  simp [Ideal.ofBits, Ideal.ieee]
  rw [← EReal.coe_mul]
  norm_num
theorem bits_eighth : Ideal.ofBits .f32 0x3E000000#32 = ((1 / 8 : ℝ) : EReal) := by
  simp [Ideal.ofBits, Ideal.ieee]
  rw [← EReal.coe_mul]
  norm_num

/-- The host's factor of base two. -/
theorem log2e : Ideal.div 1 (Ideal.log (Ideal.ofBits FTy.f32 1073741824#32)) = ((1 / Real.log 2 : ℝ) : EReal) := by
  rw [bits_two, Ideal.log_coe, if_neg (by norm_num)]
  rw [Ideal.div_coe (Real.log_pos (by norm_num)).ne', one_mul]

/-- A column's factor: the queries' columns carry the softmax's scale and the factor of base two. -/
def colScale (n : ℕ) : ℝ := if n / 512 % 4 = 0 then 1 / Real.log 2 * (1 / 8) else 1

theorem V12 (c : Dev nD) (b : Fin 4) (s : Fin 4096) (l : Fin 6144) : V m c main_v12 (ix3 b s l) = P m c b s l * ((colScale l.val : ℝ) : EReal) := by
  unfold V
  after_reads_at
  refine Eq.trans (b := P m c b s l * Scalar.select (IntOp.cmpi CmpIPredicate.eq (frm (fdv (BitVec.ofNat 32 l.val))) 0#32)
    (Ideal.div 1 (Ideal.log (Ideal.ofBits FTy.f32 1073741824#32)) * Ideal.ofBits FTy.f32 1040187392#32) (Ideal.ofBits FTy.f32 1065353216#32)) rfl ?_
  rw [group_eq l]
  refine congrArg (P m c b s l * ·) ?_
  unfold Scalar.select colScale
  by_cases h : l.val / 512 % 4 = 0
  · rw [decide_eq_true h, if_pos h, log2e, bits_eighth, ← EReal.coe_mul]
    rfl
  · rw [decide_eq_false h, if_neg h]
    exact Ideal.ofBits_one_f32

theorem V19 (c : Dev nD) (b : Fin 4) (s : Fin 4096) (l : Fin 512) : V m c main_v19 (ix3 b s l) = Cum m c b (⟨l.val / 64, by omega⟩ : Fin 8) s * ((1 / Real.log 2 : ℝ) : EReal) := by
  unfold V
  after_reads_at
  rw [log2e]
  rfl

end Cert.KernelIdeal.Fox

end
-- ==== Proof.FoxPoint.lean ====
/- What the forgetting attention carries from point to point, and the blocks a point reads. -/
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import proofs.«01_k».proof.Proof.FoxFill
public import proofs.«01_k».proof.Proof.FoxBlock
public import proofs.«01_k».proof.Proof.FoxHost
public import Idealize.ShloMosaic.Lib.Pipeline.ValueKit.Tiles

@[expose] public section

noncomputable section

namespace Cert.KernelIdeal.Fox

open Idealize.ShloMosaic hiding ix1 ix2 ix3 ix4 constant_apply
open Cert.KernelIdeal Cert.KernelIdeal.Gen Idealize.ShloMosaic.TcCoe Idealize.SL.Sem
open Idealize.ShloMosaic.Pipeline (Dat)
open Idealize.ShloMosaic.ValueIdx
open Cert.Softmax

set_option maxRecDepth 100000

variable (m : (ℓ : Loc nD τ sig) → Buf (Elt Ideal) ℓ)

theorem pt_lt (t : Fin cfg0.N) : t.val < 64 := lt_of_lt_of_eq t.isLt N_0

/-- The batch, the row and the pair of heads of a point. -/
def pb (t : Fin cfg0.N) : Fin 4 := ⟨t.val / 16, by have := pt_lt t; omega⟩
def prow (t : Fin cfg0.N) (q : Fin 1024) : Fin 4096 := ⟨1024 * (t.val % 4) + q.val, by have := q.isLt; omega⟩
def pcol (t : Fin cfg0.N) (o : ℕ) (l : Fin 128) : ℕ := o + (128 * (t.val / 4 % 4) + l.val)

theorem pcol_lt (t : Fin cfg0.N) (o : ℕ) (ho : o + 512 ≤ 6144) (l : Fin 128) : pcol t o l < 6144 := by
  have := l.isLt; unfold pcol; omega

theorem blk0 (c : Dev nD) (t : Fin cfg0.N) (q : Fin 1024) (l : Fin 128) :
    iblk m c 0 t (ix3 (0 : Fin 1) q l) = V m c main_v12 (ix3 (pb t) (prow t q) (⟨pcol t 4096 l, pcol_lt t 4096 (by decide) l⟩ : Fin 6144)) := by
  unfold iblk
  show V m c main_v12 ((win0_0.rect t).emb (ix3 (0 : Fin 1) q l)) = _
  refine congrArg (V m c main_v12) (funext fun a => Fin.ext ?_)
  rw [Pipeline.Window.rect_emb_val _ _ _ _ rfl]
  match a with
  | ⟨0, _⟩ => rw [show win0_0.index t ⟨0, _⟩ = t.val / 16 from (by decide +kernel : ∀ t : Fin grid0.N, win0_0.index t 0 = t.val / 16) t]; show t.val / 16 * 1 + 0 = t.val / 16; omega
  | ⟨1, _⟩ => rw [show win0_0.index t ⟨1, _⟩ = t.val % 4 from (by decide +kernel : ∀ t : Fin grid0.N, win0_0.index t 1 = t.val % 4) t]; show t.val % 4 * 1024 + q.val = 1024 * (t.val % 4) + q.val; omega
  | ⟨2, _⟩ => rw [show win0_0.index t ⟨2, _⟩ = 32 + t.val / 4 % 4 from (by decide +kernel : ∀ t : Fin grid0.N, win0_0.index t 2 = 32 + t.val / 4 % 4) t]; show (32 + t.val / 4 % 4) * 128 + l.val = 4096 + (128 * (t.val / 4 % 4) + l.val); omega

theorem blk1 (c : Dev nD) (t : Fin cfg0.N) (q : Fin 4096) (l : Fin 128) :
    iblk m c 1 t (ix3 (0 : Fin 1) q l) = V m c main_v12 (ix3 (pb t) q (⟨pcol t 4608 l, pcol_lt t 4608 (by decide) l⟩ : Fin 6144)) := by
  unfold iblk
  show V m c main_v12 ((win0_1.rect t).emb (ix3 (0 : Fin 1) q l)) = _
  refine congrArg (V m c main_v12) (funext fun a => Fin.ext ?_)
  rw [Pipeline.Window.rect_emb_val _ _ _ _ rfl]
  match a with
  | ⟨0, _⟩ => rw [show win0_1.index t ⟨0, _⟩ = t.val / 16 from (by decide +kernel : ∀ t : Fin grid0.N, win0_1.index t 0 = t.val / 16) t]; show t.val / 16 * 1 + 0 = t.val / 16; omega
  | ⟨1, _⟩ => rw [show win0_1.index t ⟨1, _⟩ = 0 from (by decide +kernel : ∀ t : Fin grid0.N, win0_1.index t 1 = 0) t]; show 0 * 4096 + q.val = q.val; omega
  | ⟨2, _⟩ => rw [show win0_1.index t ⟨2, _⟩ = 36 + t.val / 4 % 4 from (by decide +kernel : ∀ t : Fin grid0.N, win0_1.index t 2 = 36 + t.val / 4 % 4) t]; show (36 + t.val / 4 % 4) * 128 + l.val = 4608 + (128 * (t.val / 4 % 4) + l.val); omega

theorem blk2 (c : Dev nD) (t : Fin cfg0.N) (q : Fin 4096) (l : Fin 128) :
    iblk m c 2 t (ix3 (0 : Fin 1) q l) = V m c main_v12 (ix3 (pb t) q (⟨pcol t 5120 l, pcol_lt t 5120 (by decide) l⟩ : Fin 6144)) := by
  unfold iblk
  show V m c main_v12 ((win0_2.rect t).emb (ix3 (0 : Fin 1) q l)) = _
  refine congrArg (V m c main_v12) (funext fun a => Fin.ext ?_)
  rw [Pipeline.Window.rect_emb_val _ _ _ _ rfl]
  match a with
  | ⟨0, _⟩ => rw [show win0_2.index t ⟨0, _⟩ = t.val / 16 from (by decide +kernel : ∀ t : Fin grid0.N, win0_2.index t 0 = t.val / 16) t]; show t.val / 16 * 1 + 0 = t.val / 16; omega
  | ⟨1, _⟩ => rw [show win0_2.index t ⟨1, _⟩ = 0 from (by decide +kernel : ∀ t : Fin grid0.N, win0_2.index t 1 = 0) t]; show 0 * 4096 + q.val = q.val; omega
  | ⟨2, _⟩ => rw [show win0_2.index t ⟨2, _⟩ = 40 + t.val / 4 % 4 from (by decide +kernel : ∀ t : Fin grid0.N, win0_2.index t 2 = 40 + t.val / 4 % 4) t]; show (40 + t.val / 4 % 4) * 128 + l.val = 5120 + (128 * (t.val / 4 % 4) + l.val); omega

theorem blk3 (c : Dev nD) (t : Fin cfg0.N) (q : Fin 1024) (l : Fin 128) :
    iblk m c 3 t (ix3 (0 : Fin 1) q l) = V m c main_v12 (ix3 (pb t) (prow t q) (⟨pcol t 5632 l, pcol_lt t 5632 (by decide) l⟩ : Fin 6144)) := by
  unfold iblk
  show V m c main_v12 ((win0_3.rect t).emb (ix3 (0 : Fin 1) q l)) = _
  refine congrArg (V m c main_v12) (funext fun a => Fin.ext ?_)
  rw [Pipeline.Window.rect_emb_val _ _ _ _ rfl]
  match a with
  | ⟨0, _⟩ => rw [show win0_3.index t ⟨0, _⟩ = t.val / 16 from (by decide +kernel : ∀ t : Fin grid0.N, win0_3.index t 0 = t.val / 16) t]; show t.val / 16 * 1 + 0 = t.val / 16; omega
  | ⟨1, _⟩ => rw [show win0_3.index t ⟨1, _⟩ = t.val % 4 from (by decide +kernel : ∀ t : Fin grid0.N, win0_3.index t 1 = t.val % 4) t]; show t.val % 4 * 1024 + q.val = 1024 * (t.val % 4) + q.val; omega
  | ⟨2, _⟩ => rw [show win0_3.index t ⟨2, _⟩ = 44 + t.val / 4 % 4 from (by decide +kernel : ∀ t : Fin grid0.N, win0_3.index t 2 = 44 + t.val / 4 % 4) t]; show (44 + t.val / 4 % 4) * 128 + l.val = 5632 + (128 * (t.val / 4 % 4) + l.val); omega

theorem blk4 (c : Dev nD) (t : Fin cfg0.N) (q : Fin 4096) (l : Fin 128) :
    iblk m c 4 t (ix3 (0 : Fin 1) q l) = V m c main_v19 (ix3 (pb t) q (⟨pcol t 0 l, by have := l.isLt; unfold pcol; omega⟩ : Fin 512)) := by
  unfold iblk
  show V m c main_v19 ((win0_4.rect t).emb (ix3 (0 : Fin 1) q l)) = _
  refine congrArg (V m c main_v19) (funext fun a => Fin.ext ?_)
  rw [Pipeline.Window.rect_emb_val _ _ _ _ rfl]
  match a with
  | ⟨0, _⟩ => rw [show win0_4.index t ⟨0, _⟩ = t.val / 16 from (by decide +kernel : ∀ t : Fin grid0.N, win0_4.index t 0 = t.val / 16) t]; show t.val / 16 * 1 + 0 = t.val / 16; omega
  | ⟨1, _⟩ => rw [show win0_4.index t ⟨1, _⟩ = 0 from (by decide +kernel : ∀ t : Fin grid0.N, win0_4.index t 1 = 0) t]; show 0 * 4096 + q.val = q.val; omega
  | ⟨2, _⟩ => rw [show win0_4.index t ⟨2, _⟩ = t.val / 4 % 4 from (by decide +kernel : ∀ t : Fin grid0.N, win0_4.index t 2 = t.val / 4 % 4) t]; show (t.val / 4 % 4) * 128 + l.val = 0 + (128 * (t.val / 4 % 4) + l.val); omega

theorem same2 (c : Dev nD) (t t' : Fin cfg0.N) (h : t.val / 4 = t'.val / 4) : iblk m c 2 t = iblk m c 2 t' := by
  have hb : pb t = pb t' := Fin.ext (by show t.val / 16 = t'.val / 16; omega)
  have hc : ∀ o l, pcol t o l = pcol t' o l := fun o l => by unfold pcol; rw [h]
  funext y
  obtain ⟨q, l, rfl⟩ := ix_one (a := 4096) (b := 128) y
  rw [blk2, blk2, hb]
  exact congrArg _ (congrArg _ (Fin.ext (hc _ l)))

theorem same4 (c : Dev nD) (t t' : Fin cfg0.N) (h : t.val / 4 = t'.val / 4) : iblk m c 4 t = iblk m c 4 t' := by
  have hb : pb t = pb t' := Fin.ext (by show t.val / 16 = t'.val / 16; omega)
  have hc : ∀ o l, pcol t o l = pcol t' o l := fun o l => by unfold pcol; rw [h]
  funext y
  obtain ⟨q, l, rfl⟩ := ix_one (a := 4096) (b := 128) y
  rw [blk4, blk4, hb]
  exact congrArg _ (congrArg _ (Fin.ext (hc _ l)))

theorem scr_A_0 (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole) (hc0 : cond0_0 i) (hc1 : cond0_1 i)
    (x0 : Vec Ideal S1x1024x128 .bf16) (x1 : Vec Ideal S1x4096x128 .bf16) (x2 : Vec Ideal S1x4096x128 .bf16) (x3 : Vec Ideal S1x1024x128 .bf16) (x4 : Vec Ideal S1x4096x128 .f32) :
    sout0_A_0 (F := Ideal) c i arg3 harg3 arg4 harg4 arg5 harg5 arg6 harg6 arg7 harg7 arg8 harg8 arg9 harg9 arg10 harg10 hc0 hc1 x0 x1 x2 x3 x4 = VT x2 := by
  have cover := scover0_A_0 (F := Ideal) c i arg3 harg3 arg4 harg4 arg5 harg5 arg6 harg6 arg7 harg7 arg8 harg8 arg9 harg9 arg10 harg10 hc0 hc1 x0 x1 x2 x3 x4
  unfold sout0_A_0
  unfold kernelRun0_A at cover ⊢
  dsimp only at cover ⊢
  exact fill_vt _ _ c arg5 harg5 _ cover

theorem cover_A_0 (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole) (hc0 : cond0_0 i) (hc1 : cond0_1 i)
    (x0 : Vec Ideal S1x1024x128 .bf16) (x1 : Vec Ideal S1x4096x128 .bf16) (x2 : Vec Ideal S1x4096x128 .bf16) (x3 : Vec Ideal S1x1024x128 .bf16) (x4 : Vec Ideal S1x4096x128 .f32) :
    ∀ y, ∃ pc ∈ kernelRun0_A.sl.HS0_32 (F := Ideal) c arg5 harg5 x2, y ∈ pc.1.set := by
  have cover := scover0_A_0 (F := Ideal) c i arg3 harg3 arg4 harg4 arg5 harg5 arg6 harg6 arg7 harg7 arg8 harg8 arg9 harg9 arg10 harg10 hc0 hc1 x0 x1 x2 x3 x4
  unfold kernelRun0_A at cover
  dsimp only at cover
  exact cover

theorem scr_A_1 (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole) (hc0 : cond0_0 i) (hc1 : cond0_1 i)
    (x0 : Vec Ideal S1x1024x128 .bf16) (x1 : Vec Ideal S1x4096x128 .bf16) (x2 : Vec Ideal S1x4096x128 .bf16) (x3 : Vec Ideal S1x1024x128 .bf16) (x4 : Vec Ideal S1x4096x128 .f32) :
    sout0_A_1 (F := Ideal) c i arg3 harg3 arg4 harg4 arg5 harg5 arg6 harg6 arg7 harg7 arg8 harg8 arg9 harg9 arg10 harg10 hc0 hc1 x0 x1 x2 x3 x4 = KA x4 := by
  have cover := scover0_A_1 (F := Ideal) c i arg3 harg3 arg4 harg4 arg5 harg5 arg6 harg6 arg7 harg7 arg8 harg8 arg9 harg9 arg10 harg10 hc0 hc1 x0 x1 x2 x3 x4
  unfold sout0_A_1
  unfold kernelRun0_A at cover ⊢
  dsimp only at cover ⊢
  exact fill_ka _ _ c arg7 harg7 _ cover

theorem cover_A_1 (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole) (hc0 : cond0_0 i) (hc1 : cond0_1 i)
    (x0 : Vec Ideal S1x1024x128 .bf16) (x1 : Vec Ideal S1x4096x128 .bf16) (x2 : Vec Ideal S1x4096x128 .bf16) (x3 : Vec Ideal S1x1024x128 .bf16) (x4 : Vec Ideal S1x4096x128 .f32) :
    ∀ y, ∃ pc ∈ kernelRun0_A.sl.HS1_8 (F := Ideal) c arg7 harg7 x4, y ∈ pc.1.set := by
  have cover := scover0_A_1 (F := Ideal) c i arg3 harg3 arg4 harg4 arg5 harg5 arg6 harg6 arg7 harg7 arg8 harg8 arg9 harg9 arg10 harg10 hc0 hc1 x0 x1 x2 x3 x4
  unfold kernelRun0_A at cover
  dsimp only at cover
  exact cover

theorem out_A_fill (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S1x4096x128 .f32) (harg7 : arg7.IsWhole) (arg8 : Memref sig .tc .vmem S1x1024x128 .bf16) (harg8 : arg8.IsWhole) (arg9 : Memref sig .tc .vmem S8x160x512 .bf16) (harg9 : arg9.IsWhole) (arg10 : Memref sig .tc .vmem S4096x128 .bf16) (harg10 : arg10.IsWhole) (hc0 : cond0_0 i) (hc1 : cond0_1 i)
    (x0 : Vec Ideal S1x1024x128 .bf16) (x1 : Vec Ideal S1x4096x128 .bf16) (x2 : Vec Ideal S1x4096x128 .bf16) (x3 : Vec Ideal S1x1024x128 .bf16) (x4 : Vec Ideal S1x4096x128 .f32) :
    out0_A_5 (F := Ideal) c i arg3 harg3 arg4 harg4 arg5 harg5 arg6 harg6 arg7 harg7 arg8 harg8 arg9 harg9 arg10 harg10 hc0 hc1 x0 x1 x2 x3 x4
      = outK c i arg3 harg3 arg4 harg4 arg5 harg5 arg6 harg6 arg7 harg7 arg8 harg8 arg9 harg9 arg10 harg10 x0 x1 x3 x4 (harg9.unread (VT x2)) (harg10.unread (KA x4)) := by
  have e9 := harg9.eq_unread (fill_vt arg9.view arg9.view.junk c arg5 harg5 x2 (cover_A_0 c i arg3 harg3 arg4 harg4 arg5 harg5 arg6 harg6 arg7 harg7 arg8 harg8 arg9 harg9 arg10 harg10 hc0 hc1 x0 x1 x2 x3 x4))
  have e10 := harg10.eq_unread (fill_ka arg10.view arg10.view.junk c arg7 harg7 x4 (cover_A_1 c i arg3 harg3 arg4 harg4 arg5 harg5 arg6 harg6 arg7 harg7 arg8 harg8 arg9 harg9 arg10 harg10 hc0 hc1 x0 x1 x2 x3 x4))
  refine (out_A c i arg3 harg3 arg4 harg4 arg5 harg5 arg6 harg6 arg7 harg7 arg8 harg8 arg9 harg9 arg10 harg10 hc0 hc1 x0 x1 x2 x3 x4).trans ?_
  rw [e9, e10]

/-- The carried arrays are whole buffers. -/
theorem hw0 : (scM0_0).IsWhole := Memref.isWhole_whole _
theorem hw1 : (scM0_1).IsWhole := Memref.isWhole_whole _

theorem scr_A (c : Dev nD) (t : Fin cfg0.N) (h : t.val % 4 = 0) : (outsAt0 m c t.val t.isLt).2 = (VT (iblk m c 2 t), KA (iblk m c 4 t)) :=
  (congrArg Prod.snd (outsAt0_A m c t h h)).trans (congrArg₂ Prod.mk
    (scr_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hw0 scM0_1 hw1 ((hcond0_0 t).mpr h) ((hcond0_1 t).mpr h) (iblk m c 0 t) (iblk m c 1 t) (iblk m c 2 t) (iblk m c 3 t) (iblk m c 4 t))
    (scr_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hw0 scM0_1 hw1 ((hcond0_0 t).mpr h) ((hcond0_1 t).mpr h) (iblk m c 0 t) (iblk m c 1 t) (iblk m c 2 t) (iblk m c 3 t) (iblk m c 4 t)))

theorem scr_B (c : Dev nD) (t : Fin cfg0.N) (h : ¬ t.val % 4 = 0) :
    (outsAt0 m c t.val t.isLt).2 = (outsAt0 m c (t.val - 1) (Nat.lt_of_le_of_lt (Nat.sub_le _ _) t.isLt)).2 :=
  (congrArg Prod.snd (outsAt0_B m c t h h)).trans rfl

/-- What the carried arrays hold after every point: the values and the keys' extra columns of the point's own batch and heads. -/
theorem scr (c : Dev nD) : ∀ (n : ℕ) (hn : n < cfg0.N), (outsAt0 m c n hn).2 = (VT (iblk m c 2 ⟨n, hn⟩), KA (iblk m c 4 ⟨n, hn⟩)) := by
  intro n
  induction n with
  | zero =>
    intro hn
    exact scr_A m c ⟨0, hn⟩ (Nat.zero_mod _)
  | succ n ih =>
    intro hn
    by_cases h : (n + 1) % 4 = 0
    · exact scr_A m c ⟨n + 1, hn⟩ h
    · have hq : (⟨n, Nat.lt_of_succ_lt hn⟩ : Fin cfg0.N).val / 4 = (⟨n + 1, hn⟩ : Fin cfg0.N).val / 4 := by show n / 4 = (n + 1) / 4; omega
      have e2 := same2 m c _ _ hq
      have e4 := same4 m c _ _ hq
      have hi := ih (Nat.lt_of_succ_lt hn)
      rw [e2, e4] at hi
      exact (scr_B m c ⟨n + 1, hn⟩ h).trans hi

theorem fst_of {α β : Type} {p : α × β} {a : α} {b : β} (h : p = (a, b)) : p.1 = a := by rw [h]
theorem snd_of {α β : Type} {p : α × β} {a : α} {b : β} (h : p = (a, b)) : p.2 = b := by rw [h]

theorem out_pt_B (c : Dev nD) (t : Fin cfg0.N) (h : ¬ t.val % 4 = 0) (X : Vec Ideal S8x160x512 .bf16) (X' : Vec Ideal S4096x128 .bf16)
    (hX : (outsAt0 m c (t.val - 1) (Nat.lt_of_le_of_lt (Nat.sub_le _ _) t.isLt)).2.1 = X) (hX' : (outsAt0 m c (t.val - 1) (Nat.lt_of_le_of_lt (Nat.sub_le _ _) t.isLt)).2.2 = X') :
    (outsAt0 m c t.val t.isLt).1 = outK c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hw0 scM0_1 hw1 (iblk m c 0 t) (iblk m c 1 t) (iblk m c 3 t) (iblk m c 4 t)
      (hw0.unread X) (hw1.unread X') := by
  subst hX
  subst hX'
  have e1 : (outsAt0 m c t.val t.isLt).1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hw0 scM0_1 hw1 (fun e => h ((hcond0_0 t).mp e)) (fun e => h ((hcond0_1 t).mp e)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 := fst_of (outsAt0_B m c t h h)
  rw [e1]
  have e2 := out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hw0 scM0_1 hw1 (fun e => h ((hcond0_0 t).mp e)) (fun e => h ((hcond0_1 t).mp e)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  rw [e2]

/-- The output block of a point. -/
theorem out_pt (c : Dev nD) (t : Fin cfg0.N) :
    (outsAt0 m c t.val t.isLt).1 = outK c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hw0 scM0_1 hw1 (iblk m c 0 t) (iblk m c 1 t) (iblk m c 3 t) (iblk m c 4 t)
      (hw0.unread (VT (iblk m c 2 t))) (hw1.unread (KA (iblk m c 4 t))) := by
  by_cases h : t.val % 4 = 0
  · have e1 : (outsAt0 m c t.val t.isLt).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hw0 scM0_1 hw1 ((hcond0_0 t).mpr h) ((hcond0_1 t).mpr h) (iblk m c 0 t) (iblk m c 1 t) (iblk m c 2 t) (iblk m c 3 t) (iblk m c 4 t) := fst_of (outsAt0_A m c t h h)
    rw [e1]
    have e2 := out_A_fill c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hw0 scM0_1 hw1 ((hcond0_0 t).mpr h) ((hcond0_1 t).mpr h) (iblk m c 0 t) (iblk m c 1 t) (iblk m c 2 t) (iblk m c 3 t) (iblk m c 4 t)
    rw [e2]
  · have hs := scr m c (t.val - 1) (Nat.lt_of_le_of_lt (Nat.sub_le _ _) t.isLt)
    have hq : (⟨t.val - 1, Nat.lt_of_le_of_lt (Nat.sub_le _ _) t.isLt⟩ : Fin cfg0.N).val / 4 = t.val / 4 := by show (t.val - 1) / 4 = t.val / 4; omega
    rw [same2 m c _ t hq, same4 m c _ t hq] at hs
    exact out_pt_B m c t h _ _ (fst_of hs) (snd_of hs)

end Cert.KernelIdeal.Fox

end
-- ==== Proof.FoxRef.lean ====
/- The forgetting attention's reference, an entry at a time: a softmax over the keys up to the row's own, times a gate. -/
module

public import proofs.«01_k».proof.Proof.Gen.ReferenceIdeal.Read
public import Idealize.ShloMosaic.Lib.Claim
public import Idealize.ShloMosaic.Lib.ValueIdx
public import Idealize.ShloMosaic.Lib.Pointwise
public import Idealize.ShloMosaic.Lib.KernelVsHost
public import Idealize.ShloMosaic.Lib.Affine
public import Idealize.ShloMosaic.PureOps.Ideal.Laws
public import proofs.«01_k».proof.Proof.FoxFin

@[expose] public section

noncomputable section

namespace Cert.ReferenceIdeal.FoxRef

open Idealize.ShloMosaic hiding ix1 ix2 ix3 ix4 constant_apply
open Cert.ReferenceIdeal Cert.ReferenceIdeal.Gen Cert.ReferenceIdeal.Read Idealize.ShloMosaic.TcCoe Idealize.SL.Sem
open Idealize.ShloMosaic.ValueIdx
open Cert.Softmax

set_option maxRecDepth 100000

variable (x0 : (⟨S4x4096x6144, .f32⟩ : BufTy).Contents (Elt Ideal)) (x1 : (⟨S4x8x4096, .f32⟩ : BufTy).Contents (Elt Ideal))
  (pr : Fin 4 → Fin 4096 → ℕ → ℝ) (cr : Fin 4 → Fin 8 → Fin 4096 → ℝ)

/-- A head's score of a row and a key. -/
def lg (b : Fin 4) (h : Fin 8) (s key : Fin 4096) : ℝ :=
  (∑ d : Fin 64, pr b s (4096 + (64 * h.val + d.val)) * pr b key (4608 + (64 * h.val + d.val))) * (1 / 8) + cr b h s - cr b h key

/-- The score, −∞ at a key after the row. -/
def xs (b : Fin 4) (h : Fin 8) (s key : Fin 4096) : EReal := if key.val ≤ s.val then ((lg pr cr b h s key : ℝ) : EReal) else ⊥

theorem q_apply (h0 : ∀ b s (l : Fin 6144), x0 (ix3 b s l) = ((pr b s l.val : ℝ) : EReal)) (b : Fin 4) (h : Fin 8) (s : Fin 4096) (d : Fin 64) :
    val_main_v6 (F := Ideal) x0 (ix4 b h s d) = ((pr b s (4096 + (64 * h.val + d.val)) : ℝ) : EReal) := by
  have hb := b.isLt; have hh := h.isLt; have hs := s.isLt; have hd := d.isLt
  rw [val_main_v6_apply, val_main_v5_apply, val_main_v1_apply, val_main_v0_apply]
  refine Eq.trans (congrArg x0 (a₂ := ix3 b s (⟨4096 + (64 * h.val + d.val), by omega⟩ : Fin 6144)) (funext fun a => Fin.ext ?_)) (h0 b s _)
  match a with
  | ⟨0, _⟩ => show (((b.val * 4096 + s.val) * 8 + h.val) * 64 + d.val) / 2097152 = b.val; omega
  | ⟨1, _⟩ => show (((b.val * 4096 + s.val) * 8 + h.val) * 64 + d.val) / 512 % 4096 = s.val; omega
  | ⟨2, _⟩ => show 4096 + (((b.val * 4096 + s.val) * 8 + h.val) * 64 + d.val) % 512 = 4096 + (64 * h.val + d.val); omega

theorem k_apply (h0 : ∀ b s (l : Fin 6144), x0 (ix3 b s l) = ((pr b s l.val : ℝ) : EReal)) (b : Fin 4) (h : Fin 8) (s : Fin 4096) (d : Fin 64) :
    val_main_v8 (F := Ideal) x0 (ix4 b h s d) = ((pr b s (4608 + (64 * h.val + d.val)) : ℝ) : EReal) := by
  have hb := b.isLt; have hh := h.isLt; have hs := s.isLt; have hd := d.isLt
  rw [val_main_v8_apply, val_main_v7_apply, val_main_v2_apply, val_main_v0_apply]
  refine Eq.trans (congrArg x0 (a₂ := ix3 b s (⟨4608 + (64 * h.val + d.val), by omega⟩ : Fin 6144)) (funext fun a => Fin.ext ?_)) (h0 b s _)
  match a with
  | ⟨0, _⟩ => show (((b.val * 4096 + s.val) * 8 + h.val) * 64 + d.val) / 2097152 = b.val; omega
  | ⟨1, _⟩ => show (((b.val * 4096 + s.val) * 8 + h.val) * 64 + d.val) / 512 % 4096 = s.val; omega
  | ⟨2, _⟩ => show 4096 + (512 + (((b.val * 4096 + s.val) * 8 + h.val) * 64 + d.val) % 512) = 4608 + (64 * h.val + d.val); omega

theorem v_apply (h0 : ∀ b s (l : Fin 6144), x0 (ix3 b s l) = ((pr b s l.val : ℝ) : EReal)) (b : Fin 4) (h : Fin 8) (s : Fin 4096) (d : Fin 64) :
    val_main_v10 (F := Ideal) x0 (ix4 b h s d) = ((pr b s (5120 + (64 * h.val + d.val)) : ℝ) : EReal) := by
  have hb := b.isLt; have hh := h.isLt; have hs := s.isLt; have hd := d.isLt
  rw [val_main_v10_apply, val_main_v9_apply, val_main_v3_apply, val_main_v0_apply]
  refine Eq.trans (congrArg x0 (a₂ := ix3 b s (⟨5120 + (64 * h.val + d.val), by omega⟩ : Fin 6144)) (funext fun a => Fin.ext ?_)) (h0 b s _)
  match a with
  | ⟨0, _⟩ => show (((b.val * 4096 + s.val) * 8 + h.val) * 64 + d.val) / 2097152 = b.val; omega
  | ⟨1, _⟩ => show (((b.val * 4096 + s.val) * 8 + h.val) * 64 + d.val) / 512 % 4096 = s.val; omega
  | ⟨2, _⟩ => show 4096 + (1024 + (((b.val * 4096 + s.val) * 8 + h.val) * 64 + d.val) % 512) = 5120 + (64 * h.val + d.val); omega

theorem g_apply (h0 : ∀ b s (l : Fin 6144), x0 (ix3 b s l) = ((pr b s l.val : ℝ) : EReal)) (b : Fin 4) (s : Fin 4096) (l : Fin 512) :
    val_main_v4 (F := Ideal) x0 (ix3 b s l) = ((pr b s (5632 + l.val) : ℝ) : EReal) := by
  have hl := l.isLt
  rw [val_main_v4_apply, val_main_v0_apply]
  refine Eq.trans (congrArg x0 (a₂ := ix3 b s (⟨5632 + l.val, by omega⟩ : Fin 6144)) (funext fun a => Fin.ext ?_)) (h0 b s _)
  match a with
  | ⟨0, _⟩ => rfl
  | ⟨1, _⟩ => rfl
  | ⟨2, _⟩ => show 4096 + (1536 + l.val) = 5632 + l.val; omega

theorem eighth : Ideal.ofBits .f32 0x3E000000#32 = ((1 / 8 : ℝ) : EReal) := by
  simp [Ideal.ofBits, Ideal.ieee]
  rw [← EReal.coe_mul]; norm_num

theorem dot_apply (h0 : ∀ b s (l : Fin 6144), x0 (ix3 b s l) = ((pr b s l.val : ℝ) : EReal)) (b : Fin 4) (h : Fin 8) (s key : Fin 4096) :
    val_main_v12 (F := Ideal) x0 (ix4 b h s key) = ((∑ d : Fin 64, pr b s (4096 + (64 * h.val + d.val)) * pr b key (4608 + (64 * h.val + d.val)) : ℝ) : EReal) := by
  rw [val_main_v12_apply]
  have el : ∀ k, lidx_main_v12 (ix4 b h s key) k = ix4 b h s k := fun k => funext fun a => by match a with | ⟨0, _⟩ => rfl | ⟨1, _⟩ => rfl | ⟨2, _⟩ => rfl | ⟨3, _⟩ => rfl
  have er : ∀ k, ridx_main_v12 (ix4 b h s key) k = ix4 b h key k := fun k => funext fun a => by match a with | ⟨0, _⟩ => rfl | ⟨1, _⟩ => rfl | ⟨2, _⟩ => rfl | ⟨3, _⟩ => rfl
  simp only [el, er, q_apply x0 pr h0, k_apply x0 pr h0, ← EReal.coe_mul]
  exact sum_coe _

theorem score_apply (h0 : ∀ b s (l : Fin 6144), x0 (ix3 b s l) = ((pr b s l.val : ℝ) : EReal)) (h1 : ∀ b h s, x1 (ix3 b h s) = ((cr b h s : ℝ) : EReal))
    (b : Fin 4) (h : Fin 8) (s key : Fin 4096) :
    val_main_v20 (F := Ideal) x0 x1 (ix4 b h s key) = ((lg pr cr b h s key : ℝ) : EReal) := by
  rw [val_main_v20_apply, val_main_v17_apply, val_main_v14_apply, dot_apply x0 pr h0, val_main_v13_apply, val_main_cst_apply, val_main_v16_apply, val_main_v15_apply, val_main_v19_apply, val_main_v18_apply]
  have e1 : idx_main_v15 (idx_main_v16 (ix4 b h s key)) = ix3 b h s := funext fun a => by match a with | ⟨0, _⟩ => rfl | ⟨1, _⟩ => rfl | ⟨2, _⟩ => rfl
  have e2 : idx_main_v18 (idx_main_v19 (ix4 b h s key)) = ix3 b h key := funext fun a => by match a with | ⟨0, _⟩ => rfl | ⟨1, _⟩ => rfl | ⟨2, _⟩ => rfl
  rw [e1, e2, h1, h1]
  show (_ * Ideal.ofBits .f32 0x3E000000#32 + _) - _ = _
  rw [eighth, ← EReal.coe_mul, ← EReal.coe_add, ← EReal.coe_sub]
  rfl

theorem masked_apply (h0 : ∀ b s (l : Fin 6144), x0 (ix3 b s l) = ((pr b s l.val : ℝ) : EReal)) (h1 : ∀ b h s, x1 (ix3 b h s) = ((cr b h s : ℝ) : EReal))
    (b : Fin 4) (h : Fin 8) (s key : Fin 4096) :
    val_main_v26 (F := Ideal) x0 x1 (ix4 b h s key) = xs pr cr b h s key := by
  rw [val_main_v26_apply, score_apply x0 x1 pr cr h0 h1, val_main_call0_v1_apply, val_main_v25_apply, val_main_v23_apply, val_main_v24_apply, val_main_v21_apply, val_main_v22_apply,
    val_main_v11_apply, val_main_v11_apply, val_main_call0_v2_apply, val_main_call0_v0_apply, val_main_cst_0_apply]
  have hm : IntOp.cmpi CmpIPredicate.sle (BitVec.ofNat 32 key.val) (BitVec.ofNat 32 s.val) = BitVec.ofBool (decide (key.val ≤ s.val)) := congrArg BitVec.ofBool (Cert.KernelIdeal.Fox.sle_small key.val s.val (by have := key.isLt; omega) (by have := s.isLt; omega))
  show Scalar.select (IntOp.cmpi CmpIPredicate.sle (BitVec.ofNat 32 key.val) (BitVec.ofNat 32 s.val)) _ (Ideal.ofBits .f32 0xFF800000#32) = _
  rw [hm, ofBits_neg_inf]
  unfold xs
  by_cases hk : key.val ≤ s.val
  · rw [if_pos hk, decide_eq_true hk]; rfl
  · rw [if_neg hk, decide_eq_false hk]; rfl

theorem max_apply (h0 : ∀ b s (l : Fin 6144), x0 (ix3 b s l) = ((pr b s l.val : ℝ) : EReal)) (h1 : ∀ b h s, x1 (ix3 b h s) = ((cr b h s : ℝ) : EReal))
    (b : Fin 4) (h : Fin 8) (s : Fin 4096) :
    val_main_v27 (F := Ideal) x0 x1 (ix3 b h s) = top (xs pr cr b h s) := by
  have e : ∀ k, val_main_v26 (F := Ideal) x0 x1 (ix4 b h s k) = xs pr cr b h s k := masked_apply x0 x1 pr cr h0 h1 b h s
  unfold val_main_v27
  generalize val_main_v26 (F := Ideal) x0 x1 = y at e
  simp only [pointwise]
  refine (congrArg₂ (fun z f => (Finset.univ : Finset (Fin 4096)).fold max z f) (y' := fun k => xs pr cr b h s k) (?_ : _ = (⊥ : EReal)) (funext fun k => ?_))
  · exact ofBits_neg_inf
  · exact e k

theorem rowmax_apply (h0 : ∀ b s (l : Fin 6144), x0 (ix3 b s l) = ((pr b s l.val : ℝ) : EReal)) (h1 : ∀ b h s, x1 (ix3 b h s) = ((cr b h s : ℝ) : EReal))
    (b : Fin 4) (h : Fin 8) (s : Fin 4096) :
    val_main_v29 (F := Ideal) x0 x1 (ix3 b h s) = top (xs pr cr b h s) := by
  rw [val_main_v29_apply, val_main_v28_apply, val_main_cst_2_apply, max_apply x0 x1 pr cr h0 h1]
  show max (Ideal.ofBits .f32 0xFF800000#32) _ = _
  rw [ofBits_neg_inf]
  exact max_eq_right bot_le

theorem exp_apply (h0 : ∀ b s (l : Fin 6144), x0 (ix3 b s l) = ((pr b s l.val : ℝ) : EReal)) (h1 : ∀ b h s, x1 (ix3 b h s) = ((cr b h s : ℝ) : EReal))
    (b : Fin 4) (h : Fin 8) (s key : Fin 4096) :
    val_main_v33 (F := Ideal) x0 x1 (ix4 b h s key) = Ideal.exp (xs pr cr b h s key - top (xs pr cr b h s)) := by
  rw [val_main_v33_apply, val_main_v32_apply, masked_apply x0 x1 pr cr h0 h1, val_main_v31_apply, val_main_v30_apply]
  have e : idx_main_v30 (idx_main_v31 (ix4 b h s key)) = ix3 b h s := funext fun a => by match a with | ⟨0, _⟩ => rfl | ⟨1, _⟩ => rfl | ⟨2, _⟩ => rfl
  rw [e, rowmax_apply x0 x1 pr cr h0 h1]
  rfl

theorem prob_apply (h0 : ∀ b s (l : Fin 6144), x0 (ix3 b s l) = ((pr b s l.val : ℝ) : EReal)) (h1 : ∀ b h s, x1 (ix3 b h s) = ((cr b h s : ℝ) : EReal))
    (b : Fin 4) (h : Fin 8) (s key : Fin 4096) :
    val_main_v37 (F := Ideal) x0 x1 (ix4 b h s key)
      = Ideal.div (Ideal.exp (xs pr cr b h s key - top (xs pr cr b h s))) (∑ j, Ideal.exp (xs pr cr b h s j - top (xs pr cr b h s))) := by
  rw [val_main_v37_apply, exp_apply x0 x1 pr cr h0 h1, val_main_v36_apply, val_main_v35_apply, val_main_v34_apply, val_main_cst_3_apply]
  have e : ∀ k, idx_main_v34 (idx_main_v35 (idx_main_v36 (ix4 b h s key))) k = ix4 b h s k := fun k => funext fun a => by match a with | ⟨0, _⟩ => rfl | ⟨1, _⟩ => rfl | ⟨2, _⟩ => rfl | ⟨3, _⟩ => rfl
  simp only [e, exp_apply x0 x1 pr cr h0 h1]
  show Ideal.div _ (Ideal.ofBits .f32 0x00000000#32 + _) = _
  rw [Ideal.ofBits_zero_f32, zero_add]

/-- A head's weighted mean of the values. -/
theorem mean_apply (h0 : ∀ b s (l : Fin 6144), x0 (ix3 b s l) = ((pr b s l.val : ℝ) : EReal)) (h1 : ∀ b h s, x1 (ix3 b h s) = ((cr b h s : ℝ) : EReal))
    (b : Fin 4) (h : Fin 8) (s : Fin 4096) (d : Fin 64) :
    val_main_v38 (F := Ideal) x0 x1 (ix4 b h s d)
      = (((∑ key : Fin 4096, pr b key (5120 + (64 * h.val + d.val)) * Ee (xs pr cr b h s key)) / ∑ key : Fin 4096, Ee (xs pr cr b h s key) : ℝ) : EReal) := by
  rw [val_main_v38_apply]
  have el : ∀ k, lidx_main_v38 (ix4 b h s d) k = ix4 b h s k := fun k => funext fun a => by match a with | ⟨0, _⟩ => rfl | ⟨1, _⟩ => rfl | ⟨2, _⟩ => rfl | ⟨3, _⟩ => rfl
  have er : ∀ k, ridx_main_v38 (ix4 b h s d) k = ix4 b h k d := fun k => funext fun a => by match a with | ⟨0, _⟩ => rfl | ⟨1, _⟩ => rfl | ⟨2, _⟩ => rfl | ⟨3, _⟩ => rfl
  simp only [el, er, prob_apply x0 x1 pr cr h0 h1]
  refine whole (xs pr cr b h s) _ (fun key => pr b key (5120 + (64 * h.val + d.val))) (fun k => v_apply x0 pr h0 b h k d) (fun k => ?_) s ?_
  · unfold xs; split_ifs
    · exact EReal.coe_ne_top _
    · exact bot_ne_top
  · unfold xs; rw [if_pos le_rfl]; exact EReal.coe_ne_bot _

/-- The gate of a real, either way of writing it. -/
theorem gate_two (g : ℝ) : (g : EReal) * Ideal.div 1 (1 + Ideal.exp (-(g : EReal))) = Cert.KernelIdeal.Fox.sil (g : EReal) := by
  unfold Cert.KernelIdeal.Fox.sil
  have e : (1 : EReal) + Ideal.exp (-(g : EReal)) = ((1 + Real.exp (-g) : ℝ) : EReal) := by
    rw [← EReal.coe_neg, Ideal.exp_coe, ← EReal.coe_one, ← EReal.coe_add]
  have hne : (1 + Real.exp (-g) : ℝ) ≠ 0 := by have := Real.exp_pos (-g); positivity
  rw [zero_sub, e, Ideal.div_coe hne, Ideal.div_coe hne, one_mul]

/-- The reference's result at an entry. -/
theorem ref_apply (h0 : ∀ b s (l : Fin 6144), x0 (ix3 b s l) = ((pr b s l.val : ℝ) : EReal)) (h1 : ∀ b h s, x1 (ix3 b h s) = ((cr b h s : ℝ) : EReal))
    (b : Fin 4) (s : Fin 4096) (l : Fin 512) (h : Fin 8) (hh : h.val = l.val / 64) :
    val_main_v43 (F := Ideal) x0 x1 (ix3 b s l)
      = (((∑ key : Fin 4096, pr b key (5120 + l.val) * Ee (xs pr cr b h s key)) / ∑ key : Fin 4096, Ee (xs pr cr b h s key) : ℝ) : EReal)
        * Cert.KernelIdeal.Fox.sil ((pr b s (5632 + l.val) : ℝ) : EReal) := by
  have hb := b.isLt; have hs := s.isLt; have hl := l.isLt
  rw [val_main_v43_apply, val_main_v42_apply, val_main_v40_apply, val_main_v39_apply, val_main_v41_apply, val_main_call1_v5_apply, val_main_call1_v4_apply, val_main_call1_cst_0_apply,
    val_main_call1_v3_apply, val_main_call1_v2_apply, val_main_call1_cst_apply, val_main_call1_v1_apply, val_main_call1_v0_apply, g_apply x0 pr h0]
  have e : idx_main_v39 (idx_main_v40 (ix3 b s l)) = ix4 b h s (⟨l.val % 64, Nat.mod_lt _ (by decide)⟩ : Fin 64) := funext fun a => Fin.ext (by
    match a with
    | ⟨0, _⟩ => show ((b.val * 4096 + s.val) * 512 + l.val) / 2097152 = b.val; omega
    | ⟨1, _⟩ => show ((b.val * 4096 + s.val) * 512 + l.val) / 64 % 8 = h.val; omega
    | ⟨2, _⟩ => show ((b.val * 4096 + s.val) * 512 + l.val) / 512 % 4096 = s.val; omega
    | ⟨3, _⟩ => show ((b.val * 4096 + s.val) * 512 + l.val) % 64 = l.val % 64; omega)
  rw [e, mean_apply x0 x1 pr cr h0 h1, ← gate_two]
  have ec : 64 * h.val + l.val % 64 = l.val := by omega
  show _ * (((pr b s (5632 + l.val) : ℝ) : EReal) * Ideal.div (Ideal.ofBits .f32 0x3F800000#32) (Ideal.ofBits .f32 0x3F800000#32 + Ideal.exp (-((pr b s (5632 + l.val) : ℝ) : EReal)))) = _
  rw [Ideal.ofBits_one_f32]
  simp only [ec]

end Cert.ReferenceIdeal.FoxRef

end
-- ==== Proof.FoxValue.lean ====
/- The forgetting attention: what the kernel leaves in its result array is what the reference computes, index by index, over the extended reals, for real arguments. -/
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import proofs.«01_k».proof.Proof.FoxPoint
public import proofs.«01_k».proof.Proof.FoxRef
public import Idealize.ShloMosaic.Lib.Pipeline.ValueKit.Tiles

@[expose] public section

noncomputable section

namespace Cert.KernelIdeal.Fox

open Idealize.ShloMosaic hiding ix1 ix2 ix3 ix4 constant_apply
open Cert.KernelIdeal Cert.KernelIdeal.Gen Idealize.ShloMosaic.TcCoe Idealize.SL.Sem
open Idealize.ShloMosaic.Pipeline (Dat)
open Idealize.ShloMosaic.ValueIdx
open Cert.Softmax

set_option maxRecDepth 100000

variable (m : (ℓ : Loc nD τ sig) → Buf (Elt Ideal) ℓ)

/-- A row, a batch and a column's head. -/
theorem Ee_of (b : ℝ) : E ((1 / Real.log 2 * b : ℝ) : EReal) = Ee ((b : ℝ) : EReal) := by
  rw [mul_comm]; exact E_scaled b

section Point

variable (pr : Fin 4 → Fin 4096 → ℕ → ℝ) (cr : Fin 4 → Fin 8 → Fin 4096 → ℝ)

/-- The head of a column of a point's block. -/
def hd (t : Fin cfg0.N) (n : ℕ) : Fin 8 := ⟨(2 * (t.val / 4 % 4) + n) % 8, Nat.mod_lt _ (by decide)⟩

/-- The query, key, value and bias numbers a point reads. -/
def qr (t : Fin cfg0.N) (q : Fin 1024) (n : ℕ) : ℝ := pr (pb t) (prow t q) (4096 + (128 * (t.val / 4 % 4) + n)) * (1 / Real.log 2 * (1 / 8))
def kr (t : Fin cfg0.N) (key : Fin 4096) (n : ℕ) : ℝ := pr (pb t) key (4608 + (128 * (t.val / 4 % 4) + n))
def vr (t : Fin cfg0.N) (key : Fin 4096) (n : ℕ) : ℝ := pr (pb t) key (5120 + (128 * (t.val / 4 % 4) + n))
def bias (t : Fin cfg0.N) (key : Fin 4096) (n : ℕ) : ℝ := cr (pb t) (hd t n) key * (1 / Real.log 2)

theorem coord2 (t : Fin cfg0.N) : (grid0.coords t 2).val = t.val % 4 := (by decide +kernel : ∀ t : Fin grid0.N, (grid0.coords t 2).val = t.val % 4) t

theorem sum64 (f : ℕ → ℝ) : ∑ d ∈ Finset.range 64, f d = ∑ d : Fin 64, f d.val := Finset.sum_range f

/-- The kernel's score is the reference's, over the logarithm of two. -/
theorem score_eq (t : Fin cfg0.N) (l : Fin 128) (q : Fin 1024) (key : Fin 4096) :
    sc (l.val / 64) (qr pr t) (kr pr t) (fun q => bias cr t (prow t q)) (bias cr t) q key
      = 1 / Real.log 2 * Cert.ReferenceIdeal.FoxRef.lg pr cr (pb t) (hd t (l.val / 64)) (prow t q) key := by
  have hh : (hd t (l.val / 64)).val = 2 * (t.val / 4 % 4) + l.val / 64 := Nat.mod_eq_of_lt (by have := l.isLt; omega)
  unfold sc Cert.ReferenceIdeal.FoxRef.lg
  rw [sum64]
  have e : ∀ d : Fin 64, kr pr t key (64 * (l.val / 64) + d.val) * qr pr t q (64 * (l.val / 64) + d.val)
      = (pr (pb t) (prow t q) (4096 + (64 * (hd t (l.val / 64)).val + d.val)) * pr (pb t) key (4608 + (64 * (hd t (l.val / 64)).val + d.val))) * (1 / Real.log 2 * (1 / 8)) := by
    intro d
    have e1 : 128 * (t.val / 4 % 4) + (64 * (l.val / 64) + d.val) = 64 * (hd t (l.val / 64)).val + d.val := by rw [hh]; omega
    unfold kr qr
    rw [e1]; ring
  rw [Finset.sum_congr rfl fun d _ => e d, ← Finset.sum_mul]
  unfold bias
  ring

theorem weight_eq (t : Fin cfg0.N) (l : Fin 128) (q : Fin 1024) (key : Fin 4096) :
    E (vis (sc (l.val / 64) (qr pr t) (kr pr t) (fun q => bias cr t (prow t q)) (bias cr t)) (1024 * (t.val % 4)) q key)
      = Ee (Cert.ReferenceIdeal.FoxRef.xs pr cr (pb t) (hd t (l.val / 64)) (prow t q) key) := by
  unfold vis Cert.ReferenceIdeal.FoxRef.xs
  by_cases h : key.val ≤ 1024 * (t.val % 4) + q.val
  · rw [if_pos h, if_pos (show key.val ≤ (prow t q).val from h), score_eq]
    exact Ee_of _
  · rw [if_neg h, if_neg (show ¬ key.val ≤ (prow t q).val from h), E_bot, Ee_bot]

variable (c : Dev nD) (hP : ∀ b s (l : Fin 6144), m ((c : Thread nD τ).loc main_arg0) (ix3 b s l) = ((pr b s l.val : ℝ) : EReal))
  (hC : ∀ b h s, m ((c : Thread nD τ).loc main_arg1) (ix3 b h s) = ((cr b h s : ℝ) : EReal))

include hP in
theorem V12_real (b : Fin 4) (s : Fin 4096) (l : Fin 6144) : V m c main_v12 (ix3 b s l) = ((pr b s l.val * colScale l.val : ℝ) : EReal) := by
  rw [V12, EReal.coe_mul]
  exact congrArg (· * _) (hP b s l)

include hP in
theorem in0 (t : Fin cfg0.N) (q : Fin 1024) (l : Fin 128) : iblk m c 0 t (ix3 (0 : Fin 1) q l) = ((qr pr t q l.val : ℝ) : EReal) := by
  rw [blk0, V12_real m pr c hP]
  have hl := l.isLt
  have e : colScale (pcol t 4096 l) = 1 / Real.log 2 * (1 / 8) := if_pos (by unfold pcol; omega)
  show ((pr _ _ (pcol t 4096 l) * colScale (pcol t 4096 l) : ℝ) : EReal) = _
  rw [e]; rfl
include hP in
theorem in1 (t : Fin cfg0.N) (q : Fin 4096) (l : Fin 128) : iblk m c 1 t (ix3 (0 : Fin 1) q l) = ((kr pr t q l.val : ℝ) : EReal) := by
  rw [blk1, V12_real m pr c hP]
  have hl := l.isLt
  have e : colScale (pcol t 4608 l) = 1 := if_neg (by unfold pcol; omega)
  show ((pr _ _ (pcol t 4608 l) * colScale (pcol t 4608 l) : ℝ) : EReal) = _
  rw [e, mul_one]; rfl
include hP in
theorem in2 (t : Fin cfg0.N) (q : Fin 4096) (l : Fin 128) : iblk m c 2 t (ix3 (0 : Fin 1) q l) = ((vr pr t q l.val : ℝ) : EReal) := by
  rw [blk2, V12_real m pr c hP]
  have hl := l.isLt
  have e : colScale (pcol t 5120 l) = 1 := if_neg (by unfold pcol; omega)
  show ((pr _ _ (pcol t 5120 l) * colScale (pcol t 5120 l) : ℝ) : EReal) = _
  rw [e, mul_one]; rfl
include hP in
theorem in3 (t : Fin cfg0.N) (q : Fin 1024) (l : Fin 128) : iblk m c 3 t (ix3 (0 : Fin 1) q l) = ((pr (pb t) (prow t q) (pcol t 5632 l) : ℝ) : EReal) := by
  rw [blk3, V12_real m pr c hP]
  have hl := l.isLt
  have e : colScale (pcol t 5632 l) = 1 := if_neg (by unfold pcol; omega)
  show ((pr _ _ (pcol t 5632 l) * colScale (pcol t 5632 l) : ℝ) : EReal) = _
  rw [e, mul_one]
include hC in
theorem in4 (t : Fin cfg0.N) (q : Fin 4096) (l : Fin 128) : iblk m c 4 t (ix3 (0 : Fin 1) q l) = ((bias cr t q (l.val / 64) : ℝ) : EReal) := by
  rw [blk4, V19]
  have hl := l.isLt
  unfold bias
  rw [EReal.coe_mul]
  refine congrArg (· * _) ((hC _ _ _).trans ?_)
  refine congrArg (fun h => ((cr (pb t) h q : ℝ) : EReal)) (Fin.ext ?_)
  show pcol t 0 l / 64 = (2 * (t.val / 4 % 4) + l.val / 64) % 8
  unfold pcol; omega

/-- A column of the result. -/
def ocol (t : Fin cfg0.N) (l : Fin 128) : Fin 512 := ⟨128 * (t.val / 4 % 4) + l.val, by have := l.isLt; omega⟩

/-- The reference's result of the kernel's arguments. -/
def G (c : Dev nD) : Buf (Elt Ideal) ((c : Thread nD τ).loc main_v20) :=
  Cert.ReferenceIdeal.Read.val_main_v43 (F := Ideal) (m ((c : Thread nD τ).loc main_arg0)) (m ((c : Thread nD τ).loc main_arg1))

include hP hC in
/-- One entry of a point's block is the reference's. -/
theorem stored_apply (t : Fin cfg0.N) (q : Fin 1024) (l : Fin 128) :
    (outsAt0 m c t.val t.isLt).1 (ix3 (0 : Fin 1) q l) = G m c (ix3 (pb t) (prow t q) (ocol t l)) := by
  have hl := l.isLt
  rw [out_pt]
  refine (out_entry c (grid0.coords t) _ _ _ _ _ _ _ _ _ _ _ _ _ _ _ _ _ _ _ _ _ (qr pr t) (kr pr t) (vr pr t) (bias cr t)
    (in0 m pr c hP t) (in1 m pr c hP t) (in2 m pr c hP t) (in4 m cr c hC t) q l).trans ?_
  unfold G
  rw [Cert.ReferenceIdeal.FoxRef.ref_apply _ _ pr cr hP hC (pb t) (prow t q) (ocol t l) (hd t (l.val / 64)) (by
    show (2 * (t.val / 4 % 4) + l.val / 64) % 8 = (128 * (t.val / 4 % 4) + l.val) / 64; omega)]
  have er : ∀ q : Fin 1024, (⟨1024 * (grid0.coords t 2).val + q.val, by have := coord_lt (grid0.coords t); have := q.isLt; omega⟩ : Fin 4096) = prow t q :=
    fun q => Fin.ext (congrArg (fun z => 1024 * z + q.val) (coord2 t))
  have eg : iblk m c 3 t (ix3 (0 : Fin 1) q l) = ((pr (pb t) (prow t q) (5632 + (ocol t l).val) : ℝ) : EReal) := in3 m pr c hP t q l
  simp only [er]
  simp only [coord2, weight_eq]
  rw [eg]
  have ev : ∀ key, vr pr t key l.val = pr (pb t) key (5120 + (ocol t l).val) := fun _ => rfl
  simp only [ev]

theorem emb_eq (t : Fin cfg0.N) (q : Fin 1024) (l : Fin 128) : (win0_5.rect t).emb (ix3 (0 : Fin 1) q l) = ix3 (pb t) (prow t q) (ocol t l) := funext fun a => Fin.ext (by
  rw [Pipeline.Window.rect_emb_val _ _ _ _ rfl]
  match a with
  | ⟨0, _⟩ => rw [show win0_5.index t ⟨0, _⟩ = t.val / 16 from (by decide +kernel : ∀ t : Fin grid0.N, win0_5.index t 0 = t.val / 16) t]; show t.val / 16 * 1 + 0 = t.val / 16; omega
  | ⟨1, _⟩ => rw [show win0_5.index t ⟨1, _⟩ = t.val % 4 from (by decide +kernel : ∀ t : Fin grid0.N, win0_5.index t 1 = t.val % 4) t]; show t.val % 4 * 1024 + q.val = 1024 * (t.val % 4) + q.val; omega
  | ⟨2, _⟩ => rw [show win0_5.index t ⟨2, _⟩ = t.val / 4 % 4 from (by decide +kernel : ∀ t : Fin grid0.N, win0_5.index t 2 = t.val / 4 % 4) t]; show t.val / 4 % 4 * 128 + l.val = 128 * (t.val / 4 % 4) + l.val; omega)

include hP hC in
theorem flushed_eq (t : Fin cfg0.N) :
    (dats m 0 c).flushed 5 t = (win0_5.blk t).view.read (Elt Ideal) (G m c) := by
  rw [Value.flushed5]
  funext y
  obtain ⟨q, l, rfl⟩ := ix_one (a := 1024) (b := 128) y
  show (outsAt0 m c t.val t.isLt).1 (ix3 (0 : Fin 1) q l) = G m c ((win0_5.rect t).emb (ix3 (0 : Fin 1) q l))
  rw [emb_eq]
  exact stored_apply m pr cr c hP hC t q l

/-- The blocks tile the result. -/
theorem cover (i : S4x4096x512.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 512 := (i 2).isLt
  have hN : cfg0.N = 64 := N_0
  refine ⟨⟨16 * (i 0).val + 4 * ((i 2).val / 128) + (i 1).val / 1024, by omega⟩, flush0_5 _, ?_⟩
  refine (show ∀ t : Fin cfg0.N, t.val = 16 * (i 0).val + 4 * ((i 2).val / 128) + (i 1).val / 1024 → i ∈ ((cfg0.win 5).blk t).view.set from fun t ht => ?_) _ rfl
  show i ∈ ((View.whole main_v20).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [(by decide +kernel : ∀ t : Fin grid0.N, win0_5.index t 0 = t.val / 16) t]
    omega
  | ⟨1, _⟩ =>
    show win0_5.index t 1 * 1024 ≤ (i 1).val ∧ (i 1).val < win0_5.index t 1 * 1024 + 1024
    rw [(by decide +kernel : ∀ t : Fin grid0.N, win0_5.index t 1 = t.val % 4) t]
    omega
  | ⟨2, _⟩ =>
    show win0_5.index t 2 * 128 ≤ (i 2).val ∧ (i 2).val < win0_5.index t 2 * 128 + 128
    rw [(by decide +kernel : ∀ t : Fin grid0.N, win0_5.index t 2 = t.val / 4 % 4) t]
    omega

include hP hC in
/-- The result array after the run. -/
theorem final_real : (dats m 0 c).arrAt 5 cfg0.N = G m c :=
  (dats m 0 c).arrAt_eq_of_cover 5 (G m c) (fun t _ => flushed_eq m pr cr c hP hC t) cover

end Point

/-- The result array after the run, when every argument entry is a real. -/
theorem final (c : Dev nD) (h0 : ∀ i, ∃ r : ℝ, m ((c : Thread nD τ).loc main_arg0) i = (r : EReal)) (h1 : ∀ i, ∃ r : ℝ, m ((c : Thread nD τ).loc main_arg1) i = (r : EReal)) :
    (dats m 0 c).arrAt 5 cfg0.N = G m c := by
  choose f hf using h0
  choose g hg using h1
  refine final_real m (fun b s n => if h : n < 6144 then f (ix3 b s (⟨n, h⟩ : Fin 6144)) else 0) (fun b h s => g (ix3 b h s)) c (fun b s l => ?_) (fun b h s => hg _)
  rw [dif_pos l.isLt]
  exact hf _

end Cert.KernelIdeal.Fox

end
-- ==== Proof.FoxClaim.lean ====
/- The forgetting attention's claims, from its runs. -/
module

public import proofs.«01_k».proof.Defs
public import proofs.«01_k».proof.Proof.Gen.KernelIdeal.Frame
public import proofs.«01_k».proof.Proof.Gen.ReferenceIdeal.Run
public import proofs.«01_k».proof.Proof.Gen.Kernel.Frame
public import proofs.«01_k».proof.Proof.Gen.Pre_finite
public import proofs.«01_k».proof.Proof.FoxPre
public import proofs.«01_k».proof.Proof.FoxValue
public import Idealize.ShloMosaic.Lib.Claim
public import Idealize.ShloMosaic.Lib.Quiescent

@[expose] public section

noncomputable section

open Idealize.ShloMosaic Idealize.ShloMosaic.TcCoe Idealize.SL.Sem

namespace Cert.Proof.FoxClaims

theorem frame_p : Cert.quiescent_Kernel := fun m ρ _ => Cert.Kernel.Gen.frame m ρ
theorem frame_i : Cert.quiescent_KernelIdeal := fun m ρ _ => Cert.KernelIdeal.Gen.frame m ρ
theorem frame_i_pre : Cert.quiescent_KernelIdeal_pre_finite := fun m ρ _ => Cert.KernelIdeal.Gen.frame m ρ
/-- The reference declares no semaphore and writes no argument. -/
theorem frame_r : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_r_pre : Cert.quiescent_ReferenceIdeal_pre_finite := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The one constant the two programs differ in, the mask, reads −∞ under its name. -/
theorem preserves : Cert.preserves_Kernel_KernelIdeal :=
  IdealRules.named_const.statement Cert.KernelIdeal.κ "mask" .f32 0xF149F2CA#32 ⊥ rfl

/-- Over the extended reals kernel and reference end holding the same result, when every argument entry is a real. -/
theorem algebraic : Cert.algebraic_KernelIdeal_ReferenceIdeal_pre_finite := by
  intro m ρ m' ρ' hpre hagree
  have hreal := fun c => Cert.Pre_finite.Read.real_of_fn _ _ (hpre c)
  refine ⟨fun c => Cert.KernelIdeal.Fox.G m c, ?_, ?_⟩
  · exact (θ_run Cert.KernelIdeal.defs _ _).mono
      (fun _ h c => ⟨(h c).1.trans (Cert.KernelIdeal.Fox.final m c (hreal c).1 (hreal c).2), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1⟩ := hagree c
    unfold Cert.KernelIdeal.Fox.G
    rw [Cert.ReferenceIdeal.Read.val_main_v43_eq, h0, h1]

end Cert.Proof.FoxClaims

end
-- ==== Proof.InProjBody.lean ====
/- The input projection's kernel, block by block: what one grid point leaves in its two output blocks and in the rows it carries,
   entry by entry, over the extended reals. -/
module

public import proofs.«01_k».proof.Proof.Gen.InProjIdeal.Value
public import proofs.«01_k».proof.Proof.Gen.InProjReferenceIdeal.Run
public import proofs.«01_k».proof.Proof.Gen.InProjReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws

@[expose] public section

noncomputable section

namespace Cert.InProjIdeal.RefValue

open Idealize.ShloMosaic hiding ix1 ix2 ix3 ix4 constant_apply
open Cert.InProjIdeal Cert.InProjIdeal.Gen Idealize.ShloMosaic.TcCoe Idealize.SL.Sem
open Idealize.ShloMosaic.Pipeline (Dat)
open Idealize.ShloMosaic.ValueIdx

/-- A normalised row's entry: the entry over the root mean square of its row, times the weight of its column. -/
def hn (x : FVec Ideal S2048x1024 .f32) (g : FVec Ideal S1x1024 .f32) (r : Fin 2048) (k : Fin 1024) : EReal :=
  x (ix2 r k) * Ideal.rsqrt (Ideal.div (∑ k : Fin 1024, x (ix2 r k) * x (ix2 r k)) (Ideal.ofBits .f32 0x44800000#32) + Ideal.ofBits .f32 0x358637BD#32)
    * g (ix2 (0 : Fin 1) k)

/-- The sum of a row of squares. -/
theorem rowsum (Z : FVec Ideal S2048x1024 .f32) (r : Fin 2048) :
    multiReduction .add [1] S2048 (mulf Z Z) 0x00000000#32 reduces_S2048x1024_S2048 (.inl rfl) rfl (ix1 r) = ∑ k : Fin 1024, Z (ix2 r k) * Z (ix2 r k) := by
  refine (Ideal.multiReduction_add_single (mulf Z Z) 0x00000000#32 reduces_S2048x1024_S2048 (.inl rfl) rfl (ix1 r)).trans ?_
  have e : ∀ k, Shape.Reduces.lift reduces_S2048x1024_S2048 (ix1 r) k = ix2 r k := by
    intro k
    funext a; apply Fin.ext
    match a with | ⟨0, _⟩ => rfl | ⟨1, _⟩ => rfl
  simp only [e, mulf_apply]
  rfl

/-- The normalised rows, before their entries are read. -/
def form (Z : FVec Ideal S2048x1024 .f32) (g : FVec Ideal S1x1024 .f32) : FVec Ideal S2048x1024 .bf16 :=
  truncf .bf16 (mulf (mulf Z (broadcastTo S2048x1024 (rsqrt (addf (divf (shapeCast S2048x1 (multiReduction .add [1] S2048 (mulf Z Z) 0x00000000#32 reduces_S2048x1024_S2048 (.inl rfl) rfl) shapeCasts_S2048_S2048x1)
    (broadcast S2048x1 (Scalar.ofBits .f32 0x44800000#32))) (broadcast S2048x1 (Scalar.ofBits .f32 0x358637BD#32)))) broadcasts_S2048x1_S2048x1024))
    (broadcastTo S2048x1024 g broadcasts_S1x1024_S2048x1024)) bitsLt_bf16_f32

theorem form_apply (Z : FVec Ideal S2048x1024 .f32) (g : FVec Ideal S1x1024 .f32) (r : Fin 2048) (c : Fin 1024) :
    form Z g (ix2 r c) = hn Z g r c := by
  unfold form
  rw [truncf_apply, mulf_apply, mulf_apply]
  rw [broadcastTo_apply _ broadcasts_S2048x1_S2048x1024 (ix2 r c) (ix2 r (0 : Fin 1)) (by intro a; match a with | ⟨0, _⟩ => rfl | ⟨1, _⟩ => rfl)]
  rw [broadcastTo_apply _ broadcasts_S1x1024_S2048x1024 (ix2 r c) (ix2 (0 : Fin 1) c) (by intro a; match a with | ⟨0, _⟩ => rfl | ⟨1, _⟩ => rfl)]
  have hs : ∀ v : FVec Ideal S2048 .f32, shapeCast S2048x1 v shapeCasts_S2048_S2048x1 (ix2 r (0 : Fin 1)) = v (ix1 r) := by
    intro v
    exact shapeCast_apply v shapeCasts_S2048_S2048x1 (ix2 r (0 : Fin 1)) (ix1 r) (by rw [Shape.rowMajor_val_one, Shape.rowMajor_val_two]; simp [ix1, ix2])
  show _ * Ideal.rsqrt (Ideal.div (shapeCast S2048x1 _ shapeCasts_S2048_S2048x1 (ix2 r (0 : Fin 1))) _ + _) * _ = _
  rw [hs]
  exact congrArg (fun s => Z (ix2 r c) * Ideal.rsqrt (Ideal.div s (Ideal.ofBits .f32 0x44800000#32) + Ideal.ofBits .f32 0x358637BD#32) * g (ix2 (0 : Fin 1) c)) (rowsum Z r)

theorem pay3_eq (x : Vec Ideal S2048x1024 .f32) (g : Vec Ideal S1x1024 .f32) : k0_pay3 x g = form x g := by
  unfold k0_pay3
  dsimp only
  simp only [shapeCast_self]
  rfl

theorem pay4_eq (x : Vec Ideal S2048x1024 .f32) (g : Vec Ideal S1x1024 .f32) : k0_pay4 x g = form x g := by
  unfold k0_pay4
  dsimp only
  rw [shapeCast_self, pay3_eq]

/-- A product of rows with rows, at an entry. -/
theorem mm_apply (lhs : FVec Ideal S2048x1024 .bf16) (rhs : FVec Ideal S1024x1024 .bf16) (r : Fin 2048) (c : Fin 1024) :
    matmul dot_S2048x1024_S1024x1024_S2048x1024_1_1_0_0_n_n none lhs rhs (constant (F := Ideal) S2048x1024 .f32 0x00000000#32) (ix2 r c)
      = ∑ k : Fin 1024, lhs (ix2 r k) * rhs (ix2 c k) := by
  have h := Ideal.matmul_transposedRhs_apply (M := 2048) (K := 1024) (N := 1024) none lhs rhs (constant (F := Ideal) S2048x1024 .f32 0x00000000#32) r c
  rw [constant_apply, Ideal.ofBits_zero_f32, zero_add] at h
  exact h
theorem mmf_apply (lhs : FVec Ideal S2048x1024 .bf16) (rhs : FVec Ideal S128x1024 .bf16) (r : Fin 2048) (c : Fin 128) :
    matmul dot_S2048x1024_S128x1024_S2048x128_1_1_0_0_n_n none lhs rhs (constant (F := Ideal) S2048x128 .f32 0x00000000#32) (ix2 r c)
      = ∑ k : Fin 1024, lhs (ix2 r k) * rhs (ix2 c k) := by
  have h := Ideal.matmul_transposedRhs_apply (M := 2048) (K := 1024) (N := 128) none lhs rhs (constant (F := Ideal) S2048x128 .f32 0x00000000#32) r c
  rw [constant_apply, Ideal.ofBits_zero_f32, zero_add] at h
  exact h

theorem cast3_apply (w : FVec Ideal S1x1024x1024 .bf16) (q k : Fin 1024) :
    shapeCast S1024x1024 w shapeCasts_S1x1024x1024_S1024x1024 (ix2 q k) = w (ix3 (0 : Fin 1) q k) :=
  shapeCast_apply w shapeCasts_S1x1024x1024_S1024x1024 (ix2 q k) (ix3 (0 : Fin 1) q k) (by rw [Shape.rowMajor_val_two, Shape.rowMajor_val_three]; simp [ix3, ix2])

theorem pay1_apply (h : Vec Ideal S2048x1024 .bf16) (w : Vec Ideal S1x1024x1024 .bf16) (r : Fin 2048) (q : Fin 1024) :
    k0_pay1 h w (ix2 r q) = ∑ k : Fin 1024, h (ix2 r k) * w (ix3 (0 : Fin 1) q k) := by
  unfold k0_pay1
  try dsimp only
  rw [truncf_apply, mm_apply]
  simp only [cast3_apply]
theorem pay9_apply (x : Vec Ideal S2048x1024 .f32) (g : Vec Ideal S1x1024 .f32) (w : Vec Ideal S1x1024x1024 .bf16) (r : Fin 2048) (q : Fin 1024) :
    k0_pay9 x g w (ix2 r q) = ∑ k : Fin 1024, hn x g r k * w (ix3 (0 : Fin 1) q k) := by
  unfold k0_pay9
  try dsimp only
  rw [mm_apply]
  simp only [cast3_apply, pay3_eq, form_apply]
theorem pay5_apply (x : Vec Ideal S2048x1024 .f32) (g : Vec Ideal S1x1024 .f32) (w : Vec Ideal S128x1024 .bf16) (r : Fin 2048) (q : Fin 128) :
    k0_pay5 x g w (ix2 r q) = ∑ k : Fin 1024, hn x g r k * w (ix2 q k) := by
  unfold k0_pay5
  try dsimp only
  rw [mmf_apply]
  simp only [shapeCast_self, pay3_eq, form_apply]

/-- The rotation of one 128-column slab. -/
def slab (v31 v33 v35 a : FVec Ideal S2048x128 .f32) : FVec Ideal S2048x128 .bf16 :=
  truncf .bf16 (addf (addf (mulf a v31) (mulf (dynamicRotate 1 8#32 none a rotates_S2048x128_d1) v33)) (mulf (dynamicRotate 1 120#32 none a rotates_S2048x128_d1) v35)) bitsLt_bf16_f32

/-- The rotated entry in column `q`: its own column, the one 8 before it and the one 8 after it, around the slab's ends. -/
def ropeAt (t0 t1 t2 : FVec Ideal S2048x128 .f32) (Z : FVec Ideal S2048x1024 .f32) (r : Fin 2048) (q : Fin 1024) : EReal :=
  Z (ix2 r q) * t0 (ix2 r ⟨q.val % 128, by omega⟩)
    + Z (ix2 r ⟨q.val / 128 * 128 + (q.val % 128 + 120) % 128, by omega⟩) * t1 (ix2 r ⟨q.val % 128, by omega⟩)
    + Z (ix2 r ⟨q.val / 128 * 128 + (q.val % 128 + 8) % 128, by omega⟩) * t2 (ix2 r ⟨q.val % 128, by omega⟩)

theorem slab_apply (t0 t1 t2 : FVec Ideal S2048x128 .f32) (Z : FVec Ideal S2048x1024 .f32) (n : Nat) (hn : n < 8) (o : Nat) (ho : o = 128 * n)
    (h : S2048x1024.Slices ![0, o] S2048x128) (r : Fin 2048) (l : Fin 128) :
    slab t0 t1 t2 (extractStridedSlice S2048x128 ![0, o] Z h) (ix2 r l) = ropeAt t0 t1 t2 Z r ⟨o + l.val, by omega⟩ := by
  have hl := l.isLt
  have hsl : ∀ l' : Fin 128, extractStridedSlice S2048x128 ![0, o] Z h (ix2 r l') = Z (ix2 r ⟨o + l'.val, by omega⟩) := fun l' =>
    extractStridedSlice_apply ![0, o] _ h (ix2 r l') (ix2 r ⟨o + l'.val, by omega⟩) (by
      intro a; match a with | ⟨0, _⟩ => simp [ix2] | ⟨1, _⟩ => simp [ix2])
  unfold slab
  rw [truncf_apply, addf_apply, addf_apply, mulf_apply, mulf_apply, mulf_apply]
  rw [dynamicRotate_apply (1 : Fin 2) 8#32 _ rotates_S2048x128_d1 (ix2 r l) (ix2 r ⟨(l.val + 120) % 128, by omega⟩) (by
      intro b; match b with | ⟨0, _⟩ => rfl | ⟨1, _⟩ => show (l.val + 120) % 128 = (l.val + 128 - 8 % 128) % 128; omega)]
  rw [dynamicRotate_apply (1 : Fin 2) 120#32 _ rotates_S2048x128_d1 (ix2 r l) (ix2 r ⟨(l.val + 8) % 128, by omega⟩) (by
      intro b; match b with | ⟨0, _⟩ => rfl | ⟨1, _⟩ => show (l.val + 8) % 128 = (l.val + 128 - 120 % 128) % 128; omega)]
  rw [hsl, hsl, hsl]
  unfold ropeAt
  have e1 : (⟨(o + l.val) % 128, by omega⟩ : Fin 128) = l := Fin.ext (by show (o + l.val) % 128 = l.val; omega)
  have e2 : (⟨(o + l.val) / 128 * 128 + ((o + l.val) % 128 + 120) % 128, by omega⟩ : Fin 1024) = ⟨o + (l.val + 120) % 128, by omega⟩ :=
    Fin.ext (by show (o + l.val) / 128 * 128 + ((o + l.val) % 128 + 120) % 128 = o + (l.val + 120) % 128; omega)
  have e3 : (⟨(o + l.val) / 128 * 128 + ((o + l.val) % 128 + 8) % 128, by omega⟩ : Fin 1024) = ⟨o + (l.val + 8) % 128, by omega⟩ :=
    Fin.ext (by show (o + l.val) / 128 * 128 + ((o + l.val) % 128 + 8) % 128 = o + (l.val + 8) % 128; omega)
  rw [e1, e2, e3]

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The first point of a row block: the rotated columns. -/
theorem outA_7 (c : Dev nD) (t : Fin cfg0.N) (h0 : t.val % 6 = 0) (h1 : ¬1 ≤ t.val % 6) (r : Fin 2048) (q : Fin 1024) :
    (outsAt0 m c t.val t.isLt).1 (ix2 r q)
      = ropeAt (iblk m c 4 t) (iblk m c 5 t) (iblk m c 6 t) (k0_pay9 (iblk m c 0 t) (iblk m c 1 t) (iblk m c 2 t)) r q := by
  rw [outsAt0_A m c t h0 h1]
  dsimp only
  unfold out0_A_7
  refine View.read_writes_apply_of_pieces (Val := Elt Ideal) VO0_7 VO0_7.junk ((fun y => ropeAt (iblk m c 4 t) (iblk m c 5 t) (iblk m c 6 t) (k0_pay9 (iblk m c 0 t) (iblk m c 1 t) (iblk m c 2 t)) (y 0) (y 1)) : Vec Ideal S2048x1024 .bf16) _ ?_ _ (cover0_A_7 _ _ _ _ _ _ _ _ _ _ _ _ _ _ _ _ _ _ _ _ _ _ _ _ _ _ _ _ _ _ _ _)
  unfold kernelRun0_A
  dsimp only
  sl_unfold_words
  simp only [View.readAt_eq_ld, (hs0_0 t).read_unread, (hs0_1 t).read_unread, (hs0_2 t).read_unread, (hs0_4 t).read_unread, (hs0_5 t).read_unread, (hs0_6 t).read_unread,
    View.ld_unit_zero (S := S2048x1024) hz, View.ld_unit_zero (S := S1x1024) hz, View.ld_unit_zero (S := S2048x128) hz, View.ld_unit_zero (S := S1x1024x1024) hz3]
  intro p hp
  simp only [List.mem_cons, List.not_mem_nil, or_false] at hp
  have e6 : ∀ v : Vec Ideal S2048x128 .f32, k0_pay6 v = v := fun v => shapeCast_self _ _
  have e7 : ∀ v : Vec Ideal S2048x128 .f32, k0_pay7 v = v := fun v => shapeCast_self _ _
  have e8 : ∀ v : Vec Ideal S2048x128 .f32, k0_pay8 v = v := fun v => shapeCast_self _ _
  rcases hp with rfl | rfl | rfl | rfl | rfl | rfl | rfl | rfl
  all_goals
    intro x
    obtain ⟨r, l, rfl⟩ : ∃ (r : Fin 2048) (l : Fin 128), x = ix2 r l := ⟨x 0, x 1, ValueIdx.eq_ix2 x⟩
    dsimp only
    rw [e6, e7, e8]
  · refine (slab_apply _ _ _ _ 7 (by omega) 896 rfl (by decide) r l).trans ?_
    exact congrArg₂ _ (Fin.ext (by simp [ix2])) (Fin.ext (by simp [ix2]))
  · refine (slab_apply _ _ _ _ 6 (by omega) 768 rfl (by decide) r l).trans ?_
    exact congrArg₂ _ (Fin.ext (by simp [ix2])) (Fin.ext (by simp [ix2]))
  · refine (slab_apply _ _ _ _ 5 (by omega) 640 rfl (by decide) r l).trans ?_
    exact congrArg₂ _ (Fin.ext (by simp [ix2])) (Fin.ext (by simp [ix2]))
  · refine (slab_apply _ _ _ _ 4 (by omega) 512 rfl (by decide) r l).trans ?_
    exact congrArg₂ _ (Fin.ext (by simp [ix2])) (Fin.ext (by simp [ix2]))
  · refine (slab_apply _ _ _ _ 3 (by omega) 384 rfl (by decide) r l).trans ?_
    exact congrArg₂ _ (Fin.ext (by simp [ix2])) (Fin.ext (by simp [ix2]))
  · refine (slab_apply _ _ _ _ 2 (by omega) 256 rfl (by decide) r l).trans ?_
    exact congrArg₂ _ (Fin.ext (by simp [ix2])) (Fin.ext (by simp [ix2]))
  · refine (slab_apply _ _ _ _ 1 (by omega) 128 rfl (by decide) r l).trans ?_
    exact congrArg₂ _ (Fin.ext (by simp [ix2])) (Fin.ext (by simp [ix2]))
  · refine (slab_apply _ _ _ _ 0 (by omega) 0 rfl (by decide) r l).trans ?_
    exact congrArg₂ _ (Fin.ext (by simp [ix2])) (Fin.ext (by simp [ix2]))

theorem outA_8 (c : Dev nD) (t : Fin cfg0.N) (h0 : t.val % 6 = 0) (h1 : ¬1 ≤ t.val % 6) :
    (outsAt0 m c t.val t.isLt).2.1 = k0_pay5 (iblk m c 0 t) (iblk m c 1 t) (iblk m c 3 t) := by
  rw [outsAt0_A m c t h0 h1]
  dsimp only
  unfold out0_A_8
  rw [View.read_writes_eq_canon _ _ _ (cover0_A_8 _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_3 t).read_unread,
    View.ld_unit_zero (S := S2048x1024) hz, View.ld_unit_zero (S := S1x1024) hz, View.ld_unit_zero (S := S128x1024) hz]
  exact View.canon_unit_zero hz _ _

theorem outA_s (c : Dev nD) (t : Fin cfg0.N) (h0 : t.val % 6 = 0) (h1 : ¬1 ≤ t.val % 6) :
    (outsAt0 m c t.val t.isLt).2.2 = k0_pay4 (iblk m c 0 t) (iblk m c 1 t) := by
  rw [outsAt0_A m c t h0 h1]
  dsimp only
  unfold sout0_A_0
  rw [View.read_writes_eq_canon _ _ _ (scover0_A_0 _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread,
    View.ld_unit_zero (S := S2048x1024) hz, View.ld_unit_zero (S := S1x1024) hz]
  exact View.canon_unit_zero hz _ _

/-- The later points of a row block: the product with the carried rows. -/
theorem outB_7 (c : Dev nD) (t : Fin cfg0.N) (h0 : ¬t.val % 6 = 0) (h1 : 1 ≤ t.val % 6) :
    (outsAt0 m c t.val t.isLt).1 = k0_pay1 (outsAt0 m c (t.val - 1) (Nat.lt_of_le_of_lt (Nat.sub_le _ _) t.isLt)).2.2 (iblk m c 2 t) := by
  rw [outsAt0_B m c t h0 h1]
  dsimp only
  unfold out0_B_7
  rw [View.read_writes_eq_canon _ _ _ (cover0_B_7 _ _ _ _ _ _ _ _ _ _ _ _ _ _ _ _ _ _ _ _ _ _ _ _ _ _ _ _ _ _ _ _ _)]
  unfold kernelRun0_B
  dsimp only
  sl_unfold_words
  simp only [View.readAt_eq_ld, (hs0_2 t).read_unread, (Memref.isWhole_whole _).read_unread, read_unread_whole,
    View.ld_unit_zero (S := S2048x1024) hz, View.ld_unit_zero (S := S1x1024x1024) hz3]
  exact View.canon_unit_zero hz _ _

theorem outB_8 (c : Dev nD) (t : Fin cfg0.N) (h0 : ¬t.val % 6 = 0) (h1 : 1 ≤ t.val % 6) :
    (outsAt0 m c t.val t.isLt).2.1 = (outsAt0 m c (t.val - 1) (Nat.lt_of_le_of_lt (Nat.sub_le _ _) t.isLt)).2.1 := by
  rw [outsAt0_B m c t h0 h1]
  dsimp only
  unfold out0_B_8
  rw [View.read_writes_eq_canon _ _ _ (cover0_B_8 _ _ _ _ _ _ _ _ _ _ _ _ _ _ _ _ _ _ _ _ _ _ _ _ _ _ _ _ _ _ _ _ _)]
  unfold kernelRun0_B
  dsimp only
  sl_unfold_words
  simp only [View.readAt_eq_ld, (hs0_8 t).read_unread, View.ld_unit_zero (S := S2048x128) hz]
  refine (View.canon_unit_zero hz _ _).trans ?_
  exact shapeCast_self _ _

theorem outB_s (c : Dev nD) (t : Fin cfg0.N) (h0 : ¬t.val % 6 = 0) (h1 : 1 ≤ t.val % 6) :
    (outsAt0 m c t.val t.isLt).2.2 = (outsAt0 m c (t.val - 1) (Nat.lt_of_le_of_lt (Nat.sub_le _ _) t.isLt)).2.2 := by
  rw [outsAt0_B m c t h0 h1]
  rfl

end Cert.InProjIdeal.RefValue

end
-- ==== Proof.InProjHost.lean ====
/- What the input projection's host code prepares: the rotation tables over the 128 lanes of a slab, and the arrays its blocks are cut from. -/
module

public import proofs.«01_k».proof.Proof.Gen.InProjIdeal.Value
public import proofs.«01_k».proof.Proof.Gen.InProjReferenceIdeal.Run
public import proofs.«01_k».proof.Proof.Gen.InProjReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.PureOps.Ideal.Laws

@[expose] public section

noncomputable section

namespace Cert.InProjIdeal.RefValue

open Idealize.ShloMosaic hiding ix1 ix2 ix3 ix4 constant_apply
open Cert.InProjIdeal Cert.InProjIdeal.Gen Idealize.ShloMosaic.TcCoe Idealize.SL.Sem
open Idealize.ShloMosaic.Pipeline (Dat)
open Idealize.ShloMosaic.ValueIdx
variable (m : (ℓ : Loc nD τ sig) → Buf (Elt Ideal) ℓ)

section Ref
open Cert.InProjReferenceIdeal.Read
/-- The angle of position `s` and frequency `j`. -/
theorem ang_eq (i : S4096x8.Idx) : val_main_v15 (F := Ideal) i
   = ((FloatOps.sitofp FTy.f32 (BitVec.ofNat 32 (i 0).val) : Ideal .f32) *
      Ideal.pow (Ideal.ofBits FTy.f32 1223959552#32)
        (Ideal.div (-(Ideal.ofBits FTy.f32 1073741824#32 * (FloatOps.sitofp FTy.f32 (BitVec.ofNat 32 (i 1).val) : Ideal .f32)))
          (Ideal.ofBits FTy.f32 1098907648#32)) : Ideal .f32) := by
  rw [val_main_v15_apply, val_main_v13_apply, val_main_v14_apply, val_main_v11_apply, val_main_v12_apply, val_main_v10_apply, val_main_v9_apply, val_main_v8_apply,
    val_main_v7_apply, val_main_v6_apply, val_main_v5_apply, val_main_v4_apply, val_main_v3_apply, val_main_v2_apply]
  show _ * Ideal.pow _ (Ideal.div (- (Ideal.ofBits .f32 0x00000000#32 + _)) _) = _
  rw [Ideal.ofBits_zero_f32, zero_add]
  rfl
end Ref

theorem Vcos (c : Dev nD) (i : S4096x8.Idx) : V m c main_v28 i = Cert.InProjReferenceIdeal.Read.val_main_v16 (F := Ideal) i := by
  unfold V
  after_reads_at
  rw [Cert.InProjReferenceIdeal.Read.val_main_v16_apply, ang_eq]
  rfl
theorem Vsin (c : Dev nD) (i : S4096x8.Idx) : V m c main_v29 i = Cert.InProjReferenceIdeal.Read.val_main_v17 (F := Ideal) i := by
  unfold V
  after_reads_at
  rw [Cert.InProjReferenceIdeal.Read.val_main_v17_apply, ang_eq]
  rfl

/-- A row of 64 lanes, laid side by side twice. -/
def dup (R : Vec Ideal S4096x64 .f32) : Vec Ideal S4096x128 .f32 :=
  concatenate S4096x128 1 [⟨S4096x64, R⟩, ⟨S4096x64, R⟩] concatenates_S4096x64_S4096x64_S4096x128_d1
/-- The three pieces of a head's 64 lanes. -/
def row64 (A B : Vec Ideal S4096x8 .f32) (T : Vec Ideal S4096x48 .f32) : Vec Ideal S4096x64 .f32 :=
  concatenate S4096x64 1 [⟨S4096x8, A⟩, ⟨S4096x8, B⟩, ⟨S4096x48, T⟩] concatenates_S4096x8_S4096x8_S4096x48_S4096x64_d1

theorem dup_apply (R : Vec Ideal S4096x64 .f32) (s : Fin 4096) (l : Fin 128) :
    dup R (ix2 s l) = R (ix2 s ⟨l.val % 64, Nat.mod_lt _ (by decide)⟩) := by
  unfold dup
  simp only [pointwise]
  by_cases h64 : l.val < 64
  · refine (dif_pos h64).trans (congrArg R (congrArg (ix2 s) (Fin.ext (Nat.mod_eq_of_lt h64).symm)))
  · refine (dif_neg h64).trans (congrArg R (funext fun a => Fin.ext ?_))
    have hl := l.isLt
    match a with
    | ⟨0, _⟩ => rfl
    | ⟨1, _⟩ =>
      show l.val - 64 = l.val % 64
      omega
theorem row64_apply (A B : Vec Ideal S4096x8 .f32) (T : Vec Ideal S4096x48 .f32) (x : Elt Ideal .f32) (hT : ∀ j, T j = x) (s : Fin 4096) (l : Fin 64) :
    row64 A B T (ix2 s l) = if h : l.val < 8 then A (ix2 s ⟨l.val, h⟩)
      else if h : l.val - 8 < 8 then B (ix2 s ⟨l.val - 8, h⟩)
      else x := by
  unfold row64
  simp only [pointwise]
  simp only [hT]
  rfl

theorem V37a (c : Dev nD) : V m c main_v37 = dup (V m c main_v33) := by
  generalize hR : V m c main_v33 = R
  unfold V at hR ⊢
  after_reads_simp
  subst hR
  show dup _ = dup _
  refine congrArg dup ?_
  after_reads_simp
theorem V38a (c : Dev nD) : V m c main_v38 = dup (V m c main_v34) := by
  generalize hR : V m c main_v34 = R
  unfold V at hR ⊢
  after_reads_simp
  subst hR
  show dup _ = dup _
  refine congrArg dup ?_
  after_reads_simp
theorem V39a (c : Dev nD) : V m c main_v39 = dup (V m c main_v36) := by
  generalize hR : V m c main_v36 = R
  unfold V at hR ⊢
  after_reads_simp
  subst hR
  show dup _ = dup _
  refine congrArg dup ?_
  after_reads_simp
theorem V33 (c : Dev nD) : V m c main_v33 = row64 (V m c main_v28) (V m c main_v28) (V m c main_v30) := by
  generalize hA : V m c main_v28 = A
  generalize hT : V m c main_v30 = T
  unfold V at hA hT ⊢
  after_reads_simp
  subst hA hT
  show row64 _ _ _ = row64 _ _ _
  congr 1 <;> after_reads_simp
theorem V34 (c : Dev nD) : V m c main_v34 = row64 (V m c main_v32) (V m c main_v29) (V m c main_v31) := by
  generalize hA : V m c main_v32 = A
  generalize hB : V m c main_v29 = B
  generalize hT : V m c main_v31 = T
  unfold V at hA hB hT ⊢
  after_reads_simp
  subst hA hB hT
  show row64 _ _ _ = row64 _ _ _
  congr 1 <;> after_reads_simp
theorem V36 (c : Dev nD) : V m c main_v36 = row64 (V m c main_v35) (V m c main_v32) (V m c main_v31) := by
  generalize hA : V m c main_v35 = A
  generalize hB : V m c main_v32 = B
  generalize hT : V m c main_v31 = T
  unfold V at hA hB hT ⊢
  after_reads_simp
  subst hA hB hT
  show row64 _ _ _ = row64 _ _ _
  congr 1 <;> after_reads_simp
theorem V30 (c : Dev nD) (i : S4096x48.Idx) : V m c main_v30 i = (1 : EReal) := by
  unfold V
  after_reads_at
theorem V31 (c : Dev nD) (i : S4096x48.Idx) : V m c main_v31 i = (0 : EReal) := by
  unfold V
  after_reads_at
theorem V32 (c : Dev nD) (i : S4096x8.Idx) : V m c main_v32 i = (0 : EReal) := by
  unfold V
  after_reads_at
theorem V35 (c : Dev nD) (i : S4096x8.Idx) : V m c main_v35 i = (-(Cert.InProjReferenceIdeal.Read.val_main_v17 (F := Ideal) i) : EReal) := by
  rw [← Vsin m c]
  unfold V
  after_reads_at

/-! The tables the blocks hold, lane by lane. -/

theorem cosTable (c : Dev nD) (s : Fin 4096) (l : Fin 128) : V m c main_v37 (ix2 s l)
    = if h : l.val % 64 < 8 then Cert.InProjReferenceIdeal.Read.val_main_v16 (F := Ideal) (ix2 s ⟨l.val % 64, h⟩)
      else if h : l.val % 64 - 8 < 8 then Cert.InProjReferenceIdeal.Read.val_main_v16 (F := Ideal) (ix2 s ⟨l.val % 64 - 8, h⟩)
      else (1 : EReal) := by
  rw [V37a, dup_apply, V33, row64_apply _ _ _ (1 : EReal) (V30 m c)]
  split_ifs
  · exact Vcos m c _
  · exact Vcos m c _
  · rfl
theorem sinHi (c : Dev nD) (s : Fin 4096) (l : Fin 128) : V m c main_v38 (ix2 s l)
    = if h : l.val % 64 < 8 then (0 : EReal)
      else if h : l.val % 64 - 8 < 8 then Cert.InProjReferenceIdeal.Read.val_main_v17 (F := Ideal) (ix2 s ⟨l.val % 64 - 8, h⟩)
      else (0 : EReal) := by
  rw [V38a, dup_apply, V34, row64_apply _ _ _ (0 : EReal) (V31 m c)]
  split_ifs
  · exact V32 m c _
  · exact Vsin m c _
  · rfl
theorem sinLo (c : Dev nD) (s : Fin 4096) (l : Fin 128) : V m c main_v39 (ix2 s l)
    = if h : l.val % 64 < 8 then (-(Cert.InProjReferenceIdeal.Read.val_main_v17 (F := Ideal) (ix2 s ⟨l.val % 64, h⟩)) : EReal)
      else (0 : EReal) := by
  rw [V39a, dup_apply, V36, row64_apply _ _ _ (0 : EReal) (V31 m c)]
  split_ifs
  · exact V35 m c _
  · exact V32 m c _
  · rfl

/-! The other arrays: the rows, their weights, the projection's columns and the gate's. -/

theorem V2 (c : Dev nD) (l : Fin 2) (q : Fin 6144) (k : Fin 1024) : V m c main_v2 (ix3 l q k) = m ((c : Thread nD τ).loc main_arg1) (ix3 l k ⟨q.val, by omega⟩) := by
  unfold V
  after_reads_at
  try rfl
theorem V6 (c : Dev nD) (i : S16384x1024.Idx) : V m c main_v6 i = m ((c : Thread nD τ).loc main_arg0) (ix3 ⟨(i 0).val / 4096, by have h := (i 0).isLt; change _ < 16384 at h; omega⟩ ⟨(i 0).val % 4096, by omega⟩ (i 1)) := by
  unfold V
  after_reads_at
  try rfl
theorem V9 (c : Dev nD) (i : S1x1024.Idx) : V m c main_v9 i = m ((c : Thread nD τ).loc main_arg2) (ix2 (0 : Fin 2) (i 1)) := by
  unfold V
  after_reads_at
  try rfl
theorem V11 (c : Dev nD) (q : Fin 128) (k : Fin 1024) : V m c main_v11 (ix2 q k)
    = if h : q.val < 8 then m ((c : Thread nD τ).loc main_arg1) (ix3 (0 : Fin 2) k ⟨6144 + q.val, by omega⟩) else (0 : EReal) := by
  unfold V
  after_reads_at
  by_cases h : q.val < 8
  · rw [dif_pos h]
    refine Eq.trans ?_ (dif_pos h).symm
    rfl
  · rw [dif_neg h]
    refine Eq.trans ?_ (dif_neg h).symm
    show ((((0#32 : BitVec 32)).toInt : ℝ) : EReal) = 0
    simp

end Cert.InProjIdeal.RefValue

end
-- ==== Proof.InProjRef.lean ====
/- The input projection's plain reference at an entry, over the extended reals. -/
module

public import proofs.«01_k».proof.Proof.Gen.InProjReferenceIdeal.Read
public import Idealize.ShloMosaic.Lib.ValueIdx
public import Idealize.ShloMosaic.Lib.Pipeline.Value
public import Idealize.ShloMosaic.Lib.Pointwise
public import Idealize.ShloMosaic.Lib.KernelVsHost
public import Idealize.ShloMosaic.PureOps.Ideal.Laws

@[expose] public section

noncomputable section

namespace Cert.InProjReferenceIdeal.RefValue

open Idealize.ShloMosaic hiding ix1 ix2 ix3 ix4 constant_apply
open Cert.InProjReferenceIdeal Cert.InProjReferenceIdeal.Read Idealize.ShloMosaic.TcCoe
open Idealize.ShloMosaic.ValueIdx

variable (x0 : (⟨S4x4096x1024, .f32⟩ : BufTy).Contents (Elt Ideal)) (x1 : (⟨S2x1024x6152, .f32⟩ : BufTy).Contents (Elt Ideal)) (x2 : (⟨S2x1024, .f32⟩ : BufTy).Contents (Elt Ideal))

/-- A normalised row's entry. -/
def nrm (b : Fin 4) (s : Fin 4096) (k : Fin 1024) : EReal :=
  x0 (ix3 b s k) * Ideal.rsqrt (Ideal.div (∑ k : Fin 1024, x0 (ix3 b s k) * x0 (ix3 b s k)) (Ideal.ofBits .f32 0x44800000#32) + Ideal.ofBits .f32 0x358637BD#32)
    * x2 (ix2 (0 : Fin 2) k)

/-- The projection of a normalised row onto a column. -/
def proj (b : Fin 4) (s : Fin 4096) (c : Fin 6152) : EReal := ∑ k : Fin 1024, nrm x0 x2 b s k * x1 (ix3 (0 : Fin 2) k c)

theorem v32_apply (b : Fin 4) (s : Fin 4096) (k : Fin 1024) : val_main_v32 (F := Ideal) x0 x2 (ix3 b s k) = nrm x0 x2 b s k := by
  rw [val_main_v32_apply, val_main_v27_apply, val_main_v26_apply, val_main_v25_apply, val_main_v24_apply, val_main_v23_apply, val_main_cst_5_apply, val_main_v22_apply,
    val_main_v21_apply, val_main_cst_4_apply, val_main_v20_apply, val_main_v19_apply, val_main_v31_apply, val_main_v30_apply, val_main_v29_apply, val_main_v28_apply, val_main_cst_3_apply]
  have e3 : ∀ k', idx_main_v19 (idx_main_v20 (idx_main_v26 (ix3 b s k))) k' = ix3 b s k' := fun k' => funext fun a => by match a with | ⟨0, _⟩ => rfl | ⟨1, _⟩ => rfl | ⟨2, _⟩ => rfl
  have e5 : idx_main_v28 (idx_main_v29 (idx_main_v30 (idx_main_v31 (ix3 b s k)))) = ix2 (0 : Fin 2) k := funext fun a => Fin.ext (by
    have hk := k.isLt
    match a with | ⟨0, _⟩ => rfl | ⟨1, _⟩ => show k.val % 1024 = k.val; omega)
  simp only [e3, e5, val_main_v18_apply]
  show _ * Ideal.rsqrt (Ideal.div (Ideal.ofBits .f32 0x00000000#32 + _) _ + _) * _ = _
  rw [Ideal.ofBits_zero_f32, zero_add]
  rfl

theorem v35_apply (b : Fin 4) (s : Fin 4096) (c : Fin 6152) : val_main_v35 (F := Ideal) x0 x1 x2 (ix3 b s c) = proj x0 x1 x2 b s c := by
  rw [val_main_v35_apply]
  have el : ∀ k, lidx_main_v35 (ix3 b s c) k = ix3 b s k := fun k => funext fun a => by match a with | ⟨0, _⟩ => rfl | ⟨1, _⟩ => rfl | ⟨2, _⟩ => rfl
  have er : ∀ k, ridx_main_v35 (ix3 b s c) k = ix2 k c := fun k => funext fun a => by match a with | ⟨0, _⟩ => rfl | ⟨1, _⟩ => rfl
  have ew : ∀ k : Fin 1024, idx_main_v33 (idx_main_v34 (ix2 k c)) = ix3 (0 : Fin 2) k c := fun k => funext fun a => Fin.ext (by
    have hk := k.isLt
    have hc := c.isLt
    match a with
    | ⟨0, _⟩ => rfl
    | ⟨1, _⟩ => show (k.val * 6152 + c.val) / 6152 % 1024 = k.val; omega
    | ⟨2, _⟩ => show (k.val * 6152 + c.val) % 6152 = c.val; omega)
  simp only [el, er, v32_apply, val_main_v34_apply, val_main_v33_apply, ew]
  rfl

/-- Cosine and sine of a position's angles. -/
def cosT (s : Fin 4096) (j : Fin 8) : EReal := val_main_v16 (F := Ideal) (ix2 s j)
def sinT (s : Fin 4096) (j : Fin 8) : EReal := val_main_v17 (F := Ideal) (ix2 s j)

/-- A rotated query entry: the first eight columns of a head against the next eight, the rest as they are. -/
def rot (b : Fin 4) (s : Fin 4096) (q : Fin 1024) : EReal :=
  if h : q.val % 64 < 8 then
    proj x0 x1 x2 b s ⟨q.val, by omega⟩ * cosT s ⟨q.val % 64, h⟩ - proj x0 x1 x2 b s ⟨q.val + 8, by omega⟩ * sinT s ⟨q.val % 64, h⟩
  else if h : q.val % 64 - 8 < 8 then
    proj x0 x1 x2 b s ⟨q.val, by omega⟩ * cosT s ⟨q.val % 64 - 8, h⟩ + proj x0 x1 x2 b s ⟨q.val - 8, by omega⟩ * sinT s ⟨q.val % 64 - 8, h⟩
  else proj x0 x1 x2 b s ⟨q.val, by omega⟩

theorem v39_apply (b : Fin 4) (s : Fin 4096) (h : Fin 16) (j : Fin 64) :
    val_main_v39 (F := Ideal) x0 x1 x2 (ix4 b s h j) = proj x0 x1 x2 b s ⟨h.val * 64 + j.val, by omega⟩ := by
  rw [val_main_v39_apply, val_main_v36_apply, ← v35_apply]
  refine congrArg (val_main_v35 (F := Ideal) x0 x1 x2) (funext fun a => Fin.ext ?_)
  have hb := b.isLt
  have hs := s.isLt
  have hh := h.isLt
  have hj := j.isLt
  match a with
  | ⟨0, _⟩ => show (((b.val * 4096 + s.val) * 16 + h.val) * 64 + j.val) / 4194304 = b.val; omega
  | ⟨1, _⟩ => show (((b.val * 4096 + s.val) * 16 + h.val) * 64 + j.val) / 1024 % 4096 = s.val; omega
  | ⟨2, _⟩ => show (((b.val * 4096 + s.val) * 16 + h.val) * 64 + j.val) % 1024 = h.val * 64 + j.val; omega

theorem v51_apply (b : Fin 4) (s : Fin 4096) (h : Fin 16) (j : Fin 8) :
    val_main_v51 (F := Ideal) x0 x1 x2 (ix4 b s h j)
      = proj x0 x1 x2 b s ⟨h.val * 64 + j.val, by omega⟩ * cosT s j - proj x0 x1 x2 b s ⟨h.val * 64 + (8 + j.val), by omega⟩ * sinT s j := by
  rw [val_main_v51_apply, val_main_v47_apply, val_main_v50_apply, val_main_v46_apply, val_main_v45_apply, val_main_v43_apply, val_main_v49_apply, val_main_v48_apply, val_main_v44_apply,
    val_main_v40_apply, val_main_v41_apply]
  have e0 : idx_main_v40 (ix4 b s h j) = ix4 b s h ⟨j.val, by omega⟩ := funext fun a => by match a with | ⟨0, _⟩ => rfl | ⟨1, _⟩ => rfl | ⟨2, _⟩ => rfl | ⟨3, _⟩ => rfl
  have e1 : idx_main_v41 (ix4 b s h j) = ix4 b s h ⟨8 + j.val, by omega⟩ := funext fun a => Fin.ext (by match a with | ⟨0, _⟩ => rfl | ⟨1, _⟩ => rfl | ⟨2, _⟩ => rfl | ⟨3, _⟩ => rfl)
  have e2 : idx_main_v43 (idx_main_v45 (idx_main_v46 (ix4 b s h j))) = ix2 s j := funext fun a => by match a with | ⟨0, _⟩ => rfl | ⟨1, _⟩ => rfl
  have e3 : idx_main_v44 (idx_main_v48 (idx_main_v49 (ix4 b s h j))) = ix2 s j := funext fun a => by match a with | ⟨0, _⟩ => rfl | ⟨1, _⟩ => rfl
  rw [e0, e1, e2, e3, v39_apply, v39_apply]
  rfl

theorem v58_apply (b : Fin 4) (s : Fin 4096) (h : Fin 16) (j : Fin 8) :
    val_main_v58 (F := Ideal) x0 x1 x2 (ix4 b s h j)
      = proj x0 x1 x2 b s ⟨h.val * 64 + (8 + j.val), by omega⟩ * cosT s j + proj x0 x1 x2 b s ⟨h.val * 64 + j.val, by omega⟩ * sinT s j := by
  rw [val_main_v58_apply, val_main_v54_apply, val_main_v57_apply, val_main_v53_apply, val_main_v52_apply, val_main_v43_apply, val_main_v56_apply, val_main_v55_apply, val_main_v44_apply,
    val_main_v40_apply, val_main_v41_apply]
  have e0 : idx_main_v40 (ix4 b s h j) = ix4 b s h ⟨j.val, by omega⟩ := funext fun a => by match a with | ⟨0, _⟩ => rfl | ⟨1, _⟩ => rfl | ⟨2, _⟩ => rfl | ⟨3, _⟩ => rfl
  have e1 : idx_main_v41 (ix4 b s h j) = ix4 b s h ⟨8 + j.val, by omega⟩ := funext fun a => Fin.ext (by match a with | ⟨0, _⟩ => rfl | ⟨1, _⟩ => rfl | ⟨2, _⟩ => rfl | ⟨3, _⟩ => rfl)
  have e2 : idx_main_v43 (idx_main_v52 (idx_main_v53 (ix4 b s h j))) = ix2 s j := funext fun a => by match a with | ⟨0, _⟩ => rfl | ⟨1, _⟩ => rfl
  have e3 : idx_main_v44 (idx_main_v55 (idx_main_v56 (ix4 b s h j))) = ix2 s j := funext fun a => by match a with | ⟨0, _⟩ => rfl | ⟨1, _⟩ => rfl
  rw [e0, e1, e2, e3, v39_apply, v39_apply]
  rfl

theorem v59_apply (b : Fin 4) (s : Fin 4096) (h : Fin 16) (j : Fin 64) :
    val_main_v59 (F := Ideal) x0 x1 x2 (ix4 b s h j)
      = if hj : j.val < 8 then val_main_v51 (F := Ideal) x0 x1 x2 (ix4 b s h ⟨j.val, hj⟩)
        else if hj : j.val - 8 < 8 then val_main_v58 (F := Ideal) x0 x1 x2 (ix4 b s h ⟨j.val - 8, hj⟩)
        else val_main_v42 (F := Ideal) x0 x1 x2 (ix4 b s h ⟨j.val - 8 - 8, by omega⟩) := by
  unfold val_main_v59
  generalize val_main_v51 (F := Ideal) x0 x1 x2 = A
  generalize val_main_v58 (F := Ideal) x0 x1 x2 = B
  generalize val_main_v42 (F := Ideal) x0 x1 x2 = C
  simp only [pointwise]
  by_cases h1 : j.val < 8
  · rw [dif_pos h1]
    refine (dif_pos h1).trans (congrArg A (funext fun a => Fin.ext ?_))
    match a with | ⟨0, _⟩ => rfl | ⟨1, _⟩ => rfl | ⟨2, _⟩ => rfl | ⟨3, _⟩ => rfl
  · rw [dif_neg h1]
    refine (dif_neg h1).trans ?_
    by_cases h2 : j.val - 8 < 8
    · rw [dif_pos h2]
      refine (dif_pos h2).trans (congrArg B (funext fun a => Fin.ext ?_))
      match a with | ⟨0, _⟩ => rfl | ⟨1, _⟩ => rfl | ⟨2, _⟩ => rfl | ⟨3, _⟩ => rfl
    · rw [dif_neg h2]
      refine (dif_neg h2).trans (congrArg C (funext fun a => Fin.ext ?_))
      match a with | ⟨0, _⟩ => rfl | ⟨1, _⟩ => rfl | ⟨2, _⟩ => rfl | ⟨3, _⟩ => rfl

theorem v60_apply (b : Fin 4) (s : Fin 4096) (q : Fin 1024) :
    val_main_v60 (F := Ideal) x0 x1 x2 (ix3 b s q) = rot x0 x1 x2 b s q := by
  have hb := b.isLt
  have hs := s.isLt
  have hq := q.isLt
  rw [val_main_v60_apply]
  have e : idx_main_v60 (ix3 b s q) = ix4 b s ⟨q.val / 64, by omega⟩ ⟨q.val % 64, by omega⟩ := funext fun a => Fin.ext (by
    match a with
    | ⟨0, _⟩ => show ((b.val * 4096 + s.val) * 1024 + q.val) / 4194304 = b.val; omega
    | ⟨1, _⟩ => show ((b.val * 4096 + s.val) * 1024 + q.val) / 1024 % 4096 = s.val; omega
    | ⟨2, _⟩ => show ((b.val * 4096 + s.val) * 1024 + q.val) / 64 % 16 = q.val / 64; omega
    | ⟨3, _⟩ => show ((b.val * 4096 + s.val) * 1024 + q.val) % 64 = q.val % 64; omega)
  rw [e, v59_apply]
  unfold rot
  split_ifs with h1 h2
  · replace h1 : q.val % 64 < 8 := h1
    rw [v51_apply]
    have e1 : q.val / 64 * 64 + q.val % 64 = q.val := by omega
    have e2 : q.val / 64 * 64 + (8 + q.val % 64) = q.val + 8 := by omega
    simp only [e1, e2]
  · replace h1 : ¬ q.val % 64 < 8 := h1
    replace h2 : q.val % 64 - 8 < 8 := h2
    rw [v58_apply]
    have e1 : q.val / 64 * 64 + (8 + (q.val % 64 - 8)) = q.val := by omega
    have e2 : q.val / 64 * 64 + (q.val % 64 - 8) = q.val - 8 := by omega
    simp only [e1, e2]
  · replace h1 : ¬ q.val % 64 < 8 := h1
    replace h2 : ¬ q.val % 64 - 8 < 8 := h2
    rw [val_main_v42_apply]
    have e0 : idx_main_v42 (ix4 b s ⟨q.val / 64, by omega⟩ ⟨q.val % 64 - 8 - 8, by omega⟩) = ix4 b s ⟨q.val / 64, by omega⟩ ⟨q.val % 64, by omega⟩ := funext fun a => Fin.ext (by
      match a with
      | ⟨0, _⟩ => rfl
      | ⟨1, _⟩ => rfl
      | ⟨2, _⟩ => rfl
      | ⟨3, _⟩ => change 16 + (q.val % 64 - 8 - 8) = q.val % 64; omega)
    rw [e0, v39_apply]
    have e1 : q.val / 64 * 64 + q.val % 64 = q.val := by omega
    simp only [e1]

/-- The first result, in the rotated columns. -/
theorem v64_lo (R : Fin 16384) (q : Fin 1024) (b : Fin 4) (s : Fin 4096) (hb : b.val = R.val / 4096) (hs : s.val = R.val % 4096) :
    val_main_v64 (F := Ideal) x0 x1 x2 (ix2 R ⟨q.val, by omega⟩) = rot x0 x1 x2 b s q := by
  have hR := R.isLt
  have hq := q.isLt
  have e : idx_main_v64 (ix2 R ⟨q.val, by omega⟩) = ix3 b s ⟨q.val, by omega⟩ := funext fun a => Fin.ext (by
    match a with
    | ⟨0, _⟩ => show (R.val * 6144 + q.val) / 25165824 = b.val; omega
    | ⟨1, _⟩ => show (R.val * 6144 + q.val) / 6144 % 4096 = s.val; omega
    | ⟨2, _⟩ => show (R.val * 6144 + q.val) % 6144 = q.val; omega)
  rw [val_main_v64_apply, e, val_main_v62_apply, ← v60_apply]
  show val_main_v61 (F := Ideal) x0 x1 x2 (ix3 b s ⟨q.val, by omega⟩) = _
  unfold val_main_v61
  generalize val_main_v60 (F := Ideal) x0 x1 x2 = A
  generalize val_main_v37 (F := Ideal) x0 x1 x2 = B
  simp only [pointwise]
  rw [dif_pos trivial]
  refine congrArg A (funext fun a => Fin.ext ?_)
  match a with | ⟨0, _⟩ => rfl | ⟨1, _⟩ => rfl | ⟨2, _⟩ => rfl

/-- The first result, in the other columns. -/
theorem v64_hi (R : Fin 16384) (q : Fin 6144) (hq : 1024 ≤ q.val) (b : Fin 4) (s : Fin 4096) (hb : b.val = R.val / 4096) (hs : s.val = R.val % 4096) :
    val_main_v64 (F := Ideal) x0 x1 x2 (ix2 R q) = proj x0 x1 x2 b s ⟨q.val, by omega⟩ := by
  have hR := R.isLt
  have hq' := q.isLt
  have e : idx_main_v64 (ix2 R q) = ix3 b s q := funext fun a => Fin.ext (by
    match a with
    | ⟨0, _⟩ => show (R.val * 6144 + q.val) / 25165824 = b.val; omega
    | ⟨1, _⟩ => show (R.val * 6144 + q.val) / 6144 % 4096 = s.val; omega
    | ⟨2, _⟩ => show (R.val * 6144 + q.val) % 6144 = q.val; omega)
  rw [val_main_v64_apply, e, val_main_v62_apply]
  show val_main_v61 (F := Ideal) x0 x1 x2 (ix3 b s q) = _
  have hB : val_main_v37 (F := Ideal) x0 x1 x2 (ix3 b s ⟨q.val - 1024, by omega⟩) = proj x0 x1 x2 b s ⟨q.val, by omega⟩ := by
    rw [val_main_v37_apply, ← v35_apply]
    refine congrArg (val_main_v35 (F := Ideal) x0 x1 x2) (funext fun a => Fin.ext ?_)
    match a with
    | ⟨0, _⟩ => rfl
    | ⟨1, _⟩ => rfl
    | ⟨2, _⟩ => show 1024 + (q.val - 1024) = q.val; omega
  rw [← hB]
  unfold val_main_v61
  generalize val_main_v60 (F := Ideal) x0 x1 x2 = A
  generalize val_main_v37 (F := Ideal) x0 x1 x2 = B
  simp only [pointwise]
  refine (dif_neg (by change ¬ (q.val < 1024); omega)).trans (congrArg B (funext fun a => Fin.ext ?_))
  match a with | ⟨0, _⟩ => rfl | ⟨1, _⟩ => rfl | ⟨2, _⟩ => rfl

/-- The second result: the gate's eight columns, then zeros. -/
theorem v65_apply (R : Fin 16384) (q : Fin 128) (b : Fin 4) (s : Fin 4096) (hb : b.val = R.val / 4096) (hs : s.val = R.val % 4096) :
    val_main_v65 (F := Ideal) x0 x1 x2 (ix2 R q) = if h : q.val < 8 then proj x0 x1 x2 b s ⟨6144 + q.val, by omega⟩ else 0 := by
  have hR := R.isLt
  have hq := q.isLt
  have e : idx_main_v65 (ix2 R q) = ix3 b s q := funext fun a => Fin.ext (by
    match a with
    | ⟨0, _⟩ => show (R.val * 128 + q.val) / 524288 = b.val; omega
    | ⟨1, _⟩ => show (R.val * 128 + q.val) / 128 % 4096 = s.val; omega
    | ⟨2, _⟩ => show (R.val * 128 + q.val) % 128 = q.val; omega)
  rw [val_main_v65_apply, e]
  unfold val_main_v63
  split_ifs with h
  · rw [pad_apply_of_inside _ _ _ _ _ _ _ _ (ix3 b s (⟨q.val, h⟩ : Fin 8)) (by
      intro a; match a with | ⟨0, _⟩ => simp [ix3] | ⟨1, _⟩ => simp [ix3] | ⟨2, _⟩ => simp [ix3])]
    rw [val_main_v38_apply, ← v35_apply]
    refine congrArg (val_main_v35 (F := Ideal) x0 x1 x2) (funext fun a => Fin.ext ?_)
    match a with
    | ⟨0, _⟩ => rfl
    | ⟨1, _⟩ => rfl
    | ⟨2, _⟩ => rfl
  · rw [pad_apply_of_not_inside _ _ _ _ _ _ _ _ 2 (by simp [ix3]; omega)]
    rw [val_main_call0_v0_apply]
    show ((((0#32 : BitVec 32)).toInt : ℝ) : EReal) = 0
    simp

end Cert.InProjReferenceIdeal.RefValue

end
-- ==== Proof.InProjValue.lean ====
/- The input projection over the extended reals: what the kernel leaves in its two results is the reference's. -/
module

public import proofs.«01_k».proof.Proof.InProjBody
public import proofs.«01_k».proof.Proof.InProjHost
public import proofs.«01_k».proof.Proof.InProjRef
public import proofs.«01_k».proof.Proof.Gen.InProjIdeal.Value
public import proofs.«01_k».proof.Proof.Gen.InProjReferenceIdeal.Run
public import proofs.«01_k».proof.Proof.Gen.InProjReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.PureOps.Ideal.Laws

@[expose] public section

noncomputable section

namespace Cert.InProjIdeal.RefValue

open Idealize.ShloMosaic hiding ix1 ix2 ix3 ix4 constant_apply
open Cert.InProjIdeal Cert.InProjIdeal.Gen Idealize.ShloMosaic.TcCoe Idealize.SL.Sem
open Idealize.ShloMosaic.Pipeline (Dat)
open Idealize.ShloMosaic.ValueIdx

open Cert.InProjReferenceIdeal.RefValue (nrm proj rot cosT sinT v64_lo v64_hi v65_apply)

variable (m : (ℓ : Loc nD τ sig) → Buf (Elt Ideal) ℓ)

/-- Row `r` of point `t`'s row block, in the whole array. -/
def row (t : Fin cfg0.N) (r : Fin 2048) : Fin 16384 := ⟨t.val / 6 * 2048 + r.val, by have h := t.isLt; have hN : cfg0.N = 48 := N_0; have := r.isLt; omega⟩
/-- Column `q` of point `t`'s column block. -/
def col (t : Fin cfg0.N) (q : Fin 1024) : Fin 6144 := ⟨t.val % 6 * 1024 + q.val, by have := q.isLt; omega⟩
/-- The sequence and the position of a row. -/
def seqOf (R : Fin 16384) : Fin 4 := ⟨R.val / 4096, by omega⟩
def posOf (R : Fin 16384) : Fin 4096 := ⟨R.val % 4096, by omega⟩

/-! The blocks of a point. -/

theorem blk0 (c : Dev nD) (t : Fin cfg0.N) (r : Fin 2048) (k : Fin 1024) :
    iblk m c 0 t (ix2 r k) = m ((c : Thread nD τ).loc main_arg0) (ix3 (seqOf (row t r)) (posOf (row t r)) k) := by
  refine Eq.trans ?_ (V6 m c (ix2 (row t r) k))
  unfold iblk
  show V m c main_v6 ((win0_0.rect t).emb (ix2 r k)) = _
  refine congrArg (V m c main_v6) (funext fun a => Fin.ext ?_)
  rw [Pipeline.Window.rect_emb_val _ _ _ _ rfl]
  match a with
  | ⟨0, _⟩ => rw [show win0_0.index t ⟨0, _⟩ = t.val / 6 from (by decide +kernel : ∀ t : Fin grid0.N, win0_0.index t 0 = t.val / 6) t]; rfl
  | ⟨1, _⟩ => rw [show win0_0.index t ⟨1, _⟩ = 0 from (by decide +kernel : ∀ t : Fin grid0.N, win0_0.index t 1 = 0) t]; simp [ix2]
theorem blk1 (c : Dev nD) (t : Fin cfg0.N) (k : Fin 1024) :
    iblk m c 1 t (ix2 (0 : Fin 1) k) = m ((c : Thread nD τ).loc main_arg2) (ix2 (0 : Fin 2) k) := by
  refine Eq.trans ?_ (V9 m c (ix2 (0 : Fin 1) k))
  unfold iblk
  show V m c main_v9 ((win0_1.rect t).emb (ix2 (0 : Fin 1) k)) = _
  refine congrArg (V m c main_v9) (funext fun a => Fin.ext ?_)
  rw [Pipeline.Window.rect_emb_val _ _ _ _ rfl]
  match a with
  | ⟨0, _⟩ => rw [show win0_1.index t ⟨0, _⟩ = 0 from (by decide +kernel : ∀ t : Fin grid0.N, win0_1.index t 0 = 0) t]; rfl
  | ⟨1, _⟩ => rw [show win0_1.index t ⟨1, _⟩ = 0 from (by decide +kernel : ∀ t : Fin grid0.N, win0_1.index t 1 = 0) t]; simp [ix2]
theorem blk2 (c : Dev nD) (t : Fin cfg0.N) (q k : Fin 1024) :
    iblk m c 2 t (ix3 (0 : Fin 1) q k) = m ((c : Thread nD τ).loc main_arg1) (ix3 (0 : Fin 2) k ⟨(col t q).val, by omega⟩) := by
  refine Eq.trans ?_ (V2 m c (0 : Fin 2) (col t q) k)
  unfold iblk
  show V m c main_v2 ((win0_2.rect t).emb (ix3 (0 : Fin 1) q k)) = _
  refine congrArg (V m c main_v2) (funext fun a => Fin.ext ?_)
  rw [Pipeline.Window.rect_emb_val _ _ _ _ rfl]
  match a with
  | ⟨0, _⟩ => rw [show win0_2.index t ⟨0, _⟩ = 0 from (by decide +kernel : ∀ t : Fin grid0.N, win0_2.index t 0 = 0) t]; rfl
  | ⟨1, _⟩ => rw [show win0_2.index t ⟨1, _⟩ = t.val % 6 from (by decide +kernel : ∀ t : Fin grid0.N, win0_2.index t 1 = t.val % 6) t]; rfl
  | ⟨2, _⟩ => rw [show win0_2.index t ⟨2, _⟩ = 0 from (by decide +kernel : ∀ t : Fin grid0.N, win0_2.index t 2 = 0) t]; simp [ix3]
theorem blk3 (c : Dev nD) (t : Fin cfg0.N) (q : Fin 128) (k : Fin 1024) :
    iblk m c 3 t (ix2 q k) = if h : q.val < 8 then m ((c : Thread nD τ).loc main_arg1) (ix3 (0 : Fin 2) k ⟨6144 + q.val, by omega⟩) else (0 : EReal) := by
  refine Eq.trans ?_ (V11 m c q k)
  unfold iblk
  show V m c main_v11 ((win0_3.rect t).emb (ix2 q k)) = _
  refine congrArg (V m c main_v11) (funext fun a => Fin.ext ?_)
  rw [Pipeline.Window.rect_emb_val _ _ _ _ rfl]
  match a with
  | ⟨0, _⟩ => rw [show win0_3.index t ⟨0, _⟩ = 0 from (by decide +kernel : ∀ t : Fin grid0.N, win0_3.index t 0 = 0) t]; simp [ix2]
  | ⟨1, _⟩ => rw [show win0_3.index t ⟨1, _⟩ = 0 from (by decide +kernel : ∀ t : Fin grid0.N, win0_3.index t 1 = 0) t]; simp [ix2]
theorem blk4 (c : Dev nD) (t : Fin cfg0.N) (r : Fin 2048) (l : Fin 128) :
    iblk m c 4 t (ix2 r l) = V m c main_v37 (ix2 (posOf (row t r)) l) := by
  unfold iblk
  show V m c main_v37 ((win0_4.rect t).emb (ix2 r l)) = _
  refine congrArg (V m c main_v37) (funext fun a => Fin.ext ?_)
  rw [Pipeline.Window.rect_emb_val _ _ _ _ rfl]
  match a with
  | ⟨0, _⟩ =>
    rw [show win0_4.index t ⟨0, _⟩ = t.val / 6 % 2 from (by decide +kernel : ∀ t : Fin grid0.N, win0_4.index t 0 = t.val / 6 % 2) t]
    have hr := r.isLt
    show t.val / 6 % 2 * 2048 + r.val = (t.val / 6 * 2048 + r.val) % 4096
    omega
  | ⟨1, _⟩ => rw [show win0_4.index t ⟨1, _⟩ = 0 from (by decide +kernel : ∀ t : Fin grid0.N, win0_4.index t 1 = 0) t]; simp [ix2]
theorem blk5 (c : Dev nD) (t : Fin cfg0.N) (r : Fin 2048) (l : Fin 128) :
    iblk m c 5 t (ix2 r l) = V m c main_v38 (ix2 (posOf (row t r)) l) := by
  unfold iblk
  show V m c main_v38 ((win0_5.rect t).emb (ix2 r l)) = _
  refine congrArg (V m c main_v38) (funext fun a => Fin.ext ?_)
  rw [Pipeline.Window.rect_emb_val _ _ _ _ rfl]
  match a with
  | ⟨0, _⟩ =>
    rw [show win0_5.index t ⟨0, _⟩ = t.val / 6 % 2 from (by decide +kernel : ∀ t : Fin grid0.N, win0_5.index t 0 = t.val / 6 % 2) t]
    have hr := r.isLt
    show t.val / 6 % 2 * 2048 + r.val = (t.val / 6 * 2048 + r.val) % 4096
    omega
  | ⟨1, _⟩ => rw [show win0_5.index t ⟨1, _⟩ = 0 from (by decide +kernel : ∀ t : Fin grid0.N, win0_5.index t 1 = 0) t]; simp [ix2]
theorem blk6 (c : Dev nD) (t : Fin cfg0.N) (r : Fin 2048) (l : Fin 128) :
    iblk m c 6 t (ix2 r l) = V m c main_v39 (ix2 (posOf (row t r)) l) := by
  unfold iblk
  show V m c main_v39 ((win0_6.rect t).emb (ix2 r l)) = _
  refine congrArg (V m c main_v39) (funext fun a => Fin.ext ?_)
  rw [Pipeline.Window.rect_emb_val _ _ _ _ rfl]
  match a with
  | ⟨0, _⟩ =>
    rw [show win0_6.index t ⟨0, _⟩ = t.val / 6 % 2 from (by decide +kernel : ∀ t : Fin grid0.N, win0_6.index t 0 = t.val / 6 % 2) t]
    have hr := r.isLt
    show t.val / 6 % 2 * 2048 + r.val = (t.val / 6 * 2048 + r.val) % 4096
    omega
  | ⟨1, _⟩ => rw [show win0_6.index t ⟨1, _⟩ = 0 from (by decide +kernel : ∀ t : Fin grid0.N, win0_6.index t 1 = 0) t]; simp [ix2]

/-- The arguments. -/
abbrev a0 (c : Dev nD) := m ((c : Thread nD τ).loc main_arg0)
abbrev a1 (c : Dev nD) := m ((c : Thread nD τ).loc main_arg1)
abbrev a2 (c : Dev nD) := m ((c : Thread nD τ).loc main_arg2)

theorem hn_eq (c : Dev nD) (t : Fin cfg0.N) (r : Fin 2048) (k : Fin 1024) :
    hn (iblk m c 0 t) (iblk m c 1 t) r k = nrm (a0 m c) (a2 m c) (seqOf (row t r)) (posOf (row t r)) k := by
  unfold hn nrm
  simp only [blk0, blk1]

/-- A product with the normalised rows is the reference's projection. -/
theorem pay9_eq (c : Dev nD) (t : Fin cfg0.N) (r : Fin 2048) (q : Fin 1024) :
    k0_pay9 (iblk m c 0 t) (iblk m c 1 t) (iblk m c 2 t) (ix2 r q) = proj (a0 m c) (a1 m c) (a2 m c) (seqOf (row t r)) (posOf (row t r)) ⟨(col t q).val, by omega⟩ := by
  rw [pay9_apply]
  unfold proj
  simp only [hn_eq, blk2]

/-- The rotated block. -/
theorem rope_eq (c : Dev nD) (t : Fin cfg0.N) (h0 : t.val % 6 = 0) (r : Fin 2048) (q : Fin 1024) :
    ropeAt (iblk m c 4 t) (iblk m c 5 t) (iblk m c 6 t) (k0_pay9 (iblk m c 0 t) (iblk m c 1 t) (iblk m c 2 t)) r q
      = rot (a0 m c) (a1 m c) (a2 m c) (seqOf (row t r)) (posOf (row t r)) q := by
  have hq := q.isLt
  have hc : ∀ q : Fin 1024, (col t q).val = q.val := fun q => by show t.val % 6 * 1024 + q.val = q.val; omega
  unfold ropeAt
  rw [blk4, blk5, blk6, cosTable, sinHi, sinLo, pay9_eq, pay9_eq, pay9_eq]
  simp only [hc]
  unfold rot
  by_cases h1 : q.val % 64 < 8
  · have e : q.val % 128 % 64 = q.val % 64 := by omega
    have h1' : q.val % 128 % 64 < 8 := by omega
    rw [dif_pos h1, dif_pos h1', dif_pos h1', dif_pos h1']
    have e8 : q.val / 128 * 128 + (q.val % 128 + 8) % 128 = q.val + 8 := by omega
    simp only [e8, e]
    rw [mul_zero, add_zero, mul_neg, ← sub_eq_add_neg]
    rfl
  · have e : q.val % 128 % 64 = q.val % 64 := by omega
    have h1' : ¬ q.val % 128 % 64 < 8 := by omega
    rw [dif_neg h1, dif_neg h1', dif_neg h1', dif_neg h1']
    by_cases h2 : q.val % 64 - 8 < 8
    · have h2' : q.val % 128 % 64 - 8 < 8 := by omega
      rw [dif_pos h2, dif_pos h2', dif_pos h2']
      have e8 : q.val / 128 * 128 + (q.val % 128 + 120) % 128 = q.val - 8 := by omega
      simp only [e8, e]
      rw [mul_zero, add_zero]
      rfl
    · have h2' : ¬ q.val % 128 % 64 - 8 < 8 := by omega
      rw [dif_neg h2, dif_neg h2', dif_neg h2', mul_zero, mul_zero, add_zero, add_zero, mul_one]

/-- The reference's two results of the kernel's arguments. -/
def G1 (c : Dev nD) : Buf (Elt Ideal) ((c : Thread nD τ).loc main_v40_0) := Cert.InProjReferenceIdeal.Read.val_main_v64 (F := Ideal) (a0 m c) (a1 m c) (a2 m c)
def G2 (c : Dev nD) : Buf (Elt Ideal) ((c : Thread nD τ).loc main_v40_1) := Cert.InProjReferenceIdeal.Read.val_main_v65 (F := Ideal) (a0 m c) (a1 m c) (a2 m c)

theorem row_pred (t : Fin cfg0.N) (h : ¬ t.val % 6 = 0) (ht : t.val - 1 < cfg0.N) (r : Fin 2048) : row ⟨t.val - 1, ht⟩ r = row t r := Fin.ext (by
  show (t.val - 1) / 6 * 2048 + r.val = t.val / 6 * 2048 + r.val
  omega)

/-- The carried rows are the normalised rows of the row block. -/
theorem carried (c : Dev nD) : ∀ (n : Nat) (hlt : n < cfg0.N) (r : Fin 2048) (k : Fin 1024),
    (outsAt0 m c n hlt).2.2 (ix2 r k) = nrm (a0 m c) (a2 m c) (seqOf (row ⟨n, hlt⟩ r)) (posOf (row ⟨n, hlt⟩ r)) k := by
  intro n
  induction n with
  | zero =>
    intro hlt r k
    rw [show outsAt0 m c 0 hlt = outsAt0 m c (⟨0, hlt⟩ : Fin cfg0.N).val (⟨0, hlt⟩ : Fin cfg0.N).isLt from rfl, outA_s m c ⟨0, hlt⟩ rfl (by show ¬ 1 ≤ 0 % 6; decide), pay4_eq, form_apply, hn_eq]
  | succ n ih =>
    intro hlt r k
    rw [show outsAt0 m c (n + 1) hlt = outsAt0 m c (⟨n + 1, hlt⟩ : Fin cfg0.N).val (⟨n + 1, hlt⟩ : Fin cfg0.N).isLt from rfl]
    by_cases h : (n + 1) % 6 = 0
    · rw [outA_s m c ⟨n + 1, hlt⟩ h (by show ¬ 1 ≤ (n + 1) % 6; omega), pay4_eq, form_apply, hn_eq]
    · rw [outB_s m c ⟨n + 1, hlt⟩ h (by show 1 ≤ (n + 1) % 6; omega)]
      rw [← row_pred ⟨n + 1, hlt⟩ h (by show n + 1 - 1 < cfg0.N; omega) r]
      exact ih _ r k

/-- The gate's block at a first point. -/
theorem gate_first (c : Dev nD) (t : Fin cfg0.N) (h0 : t.val % 6 = 0) (r : Fin 2048) (q : Fin 128) :
    (outsAt0 m c t.val t.isLt).2.1 (ix2 r q) = G2 m c (ix2 (row t r) q) := by
  rw [outA_8 m c t h0 (by omega), pay5_apply]
  unfold G2
  rw [v65_apply _ _ _ _ _ (seqOf (row t r)) (posOf (row t r)) rfl rfl]
  simp only [hn_eq, blk3]
  split_ifs with h
  · rfl
  · simp only [mul_zero, Finset.sum_const_zero]

/-- The gate's block at every point. -/
theorem gate (c : Dev nD) : ∀ (n : Nat) (hlt : n < cfg0.N) (r : Fin 2048) (q : Fin 128),
    (outsAt0 m c n hlt).2.1 (ix2 r q) = G2 m c (ix2 (row ⟨n, hlt⟩ r) q) := by
  intro n
  induction n with
  | zero => exact fun hlt r q => gate_first m c ⟨0, hlt⟩ rfl r q
  | succ n ih =>
    intro hlt r q
    by_cases h : (n + 1) % 6 = 0
    · exact gate_first m c ⟨n + 1, hlt⟩ h r q
    · rw [show outsAt0 m c (n + 1) hlt = outsAt0 m c (⟨n + 1, hlt⟩ : Fin cfg0.N).val (⟨n + 1, hlt⟩ : Fin cfg0.N).isLt from rfl]
      rw [outB_8 m c ⟨n + 1, hlt⟩ h (by show 1 ≤ (n + 1) % 6; omega)]
      rw [← row_pred ⟨n + 1, hlt⟩ h (by show n + 1 - 1 < cfg0.N; omega) r]
      exact ih _ r q

/-- The projection's block at every point. -/
theorem columns (c : Dev nD) (t : Fin cfg0.N) (r : Fin 2048) (q : Fin 1024) :
    (outsAt0 m c t.val t.isLt).1 (ix2 r q) = G1 m c (ix2 (row t r) (col t q)) := by
  unfold G1
  have hq := q.isLt
  by_cases h0 : t.val % 6 = 0
  · rw [outA_7 m c t h0 (by omega), rope_eq m c t h0]
    rw [← v64_lo _ _ _ (row t r) q (seqOf (row t r)) (posOf (row t r)) rfl rfl]
    refine congrArg _ (congrArg (ix2 (row t r)) (Fin.ext ?_))
    show q.val = t.val % 6 * 1024 + q.val
    omega
  · rw [outB_7 m c t h0 (by omega), pay1_apply]
    rw [v64_hi _ _ _ (row t r) (col t q) (by show 1024 ≤ t.val % 6 * 1024 + q.val; omega) (seqOf (row t r)) (posOf (row t r)) rfl rfl]
    have hlt : t.val - 1 < cfg0.N := Nat.lt_of_le_of_lt (Nat.sub_le _ _) t.isLt
    unfold proj
    simp only [carried m c (t.val - 1) hlt, blk2, row_pred t h0 hlt]

/-- The first result's array. -/
theorem final7 (c : Dev nD) : Value.G7 m c = G1 m c := by
  funext i
  have h0 : (i 0).val < 16384 := (i 0).isLt
  have h1 : (i 1).val < 6144 := (i 1).isLt
  have hN : cfg0.N = 48 := N_0
  unfold Value.G7
  have hp : Value.pt7Of i < cfg0.N := by show 6 * ((i 0).val / 2048 - 0) + 1 * ((i 1).val / 1024 - 0) < cfg0.N; omega
  rw [dif_pos hp, ← Value.outsAt0_sweep m c _ hp]
  refine Eq.trans (congrArg _ (ValueIdx.eq_ix2 (Value.loc7Of i))) ?_
  refine (columns m c ⟨Value.pt7Of i, hp⟩ ⟨(i 0).val % 2048, Nat.mod_lt _ (by decide)⟩ ⟨(i 1).val % 1024, Nat.mod_lt _ (by decide)⟩).trans ?_
  refine congrArg (G1 m c) (funext fun a => Fin.ext ?_)
  match a with
  | ⟨0, _⟩ => show (6 * ((i 0).val / 2048 - 0) + 1 * ((i 1).val / 1024 - 0)) / 6 * 2048 + (i 0).val % 2048 = (i 0).val; omega
  | ⟨1, _⟩ => show (6 * ((i 0).val / 2048 - 0) + 1 * ((i 1).val / 1024 - 0)) % 6 * 1024 + (i 1).val % 1024 = (i 1).val; omega

/-- The second result's array. -/
theorem final8 (c : Dev nD) : Value.G8 m c = G2 m c := by
  funext i
  have h0 : (i 0).val < 16384 := (i 0).isLt
  have h1 : (i 1).val < 128 := (i 1).isLt
  have hN : cfg0.N = 48 := N_0
  unfold Value.G8
  have hp : Value.pt8Of i < cfg0.N := by show 6 * (1 * ((i 0).val / 2048 - 0) + 1 * ((i 1).val / 128 - 0)) + 5 < cfg0.N; omega
  rw [dif_pos hp, ← Value.outsAt0_sweep m c _ hp]
  refine Eq.trans (congrArg _ (ValueIdx.eq_ix2 (Value.loc8Of i))) ?_
  refine (gate m c (Value.pt8Of i) hp ⟨(i 0).val % 2048, Nat.mod_lt _ (by decide)⟩ ⟨(i 1).val % 128, Nat.mod_lt _ (by decide)⟩).trans ?_
  refine congrArg (G2 m c) (funext fun a => Fin.ext ?_)
  match a with
  | ⟨0, _⟩ => show (6 * (1 * ((i 0).val / 2048 - 0) + 1 * ((i 1).val / 128 - 0)) + 5) / 6 * 2048 + (i 0).val % 2048 = (i 0).val; omega
  | ⟨1, _⟩ => show (i 1).val % 128 = (i 1).val; omega

end Cert.InProjIdeal.RefValue

end
-- ==== Proof.InProjClaim.lean ====
/- The input projection's claims, from its runs. -/
module

public import proofs.«01_k».proof.Defs
public import proofs.«01_k».proof.Proof.InProjValue
public import proofs.«01_k».proof.Proof.Gen.InProj.Frame
public import Idealize.ShloMosaic.Lib.Claim
public import Idealize.ShloMosaic.Lib.Quiescent

@[expose] public section

noncomputable section

open Idealize.ShloMosaic Idealize.ShloMosaic.TcCoe Idealize.SL.Sem

namespace Cert.Proof.InProjClaims

theorem frame_p : Cert.quiescent_InProj := fun m ρ _ => Cert.InProj.Gen.frame m ρ
theorem frame_i : Cert.quiescent_InProjIdeal := fun m ρ _ => Cert.InProjIdeal.Gen.frame m ρ
/-- The reference declares no semaphore and writes no argument. -/
theorem frame_r : Cert.quiescent_InProjReferenceIdeal := fun m ρ _ =>
  (θ_run Cert.InProjReferenceIdeal.defs _ _).mono (fun r h => ⟨fun c => (h c).2.2, Idealize.ShloMosaic.sem_eq_zero_of_no_sems (by decide) r.2⟩)
    (Cert.InProjReferenceIdeal.Value.run (F := Ideal) m ρ)

/-- Nothing is renamed between the program and its real-number reading. -/
theorem preserves : Cert.preserves_InProj_InProjIdeal := trivial

/-- Over the extended reals kernel and reference end holding the same result. -/
theorem algebraic : Cert.algebraic_InProjIdeal_InProjReferenceIdeal := by
  intro m ρ m' ρ' _ hagree
  refine ⟨fun c => Cert.InProjIdeal.RefValue.G1 m c, fun c => Cert.InProjIdeal.RefValue.G2 m c, ?_, ?_⟩
  · exact (θ_run Cert.InProjIdeal.defs _ _).mono
      (fun _ h c => ⟨(h c).1.trans (Cert.InProjIdeal.RefValue.final7 m c), (h c).2.1.trans (Cert.InProjIdeal.RefValue.final8 m c), (h c).2.2⟩)
      (Cert.InProjIdeal.Value.run (F := Ideal) m ρ)
  · refine (θ_run Cert.InProjReferenceIdeal.defs _ _).mono (fun _ h c => ⟨(h c).1.trans ?_, (h c).2.1.trans ?_, (h c).2.2⟩)
      (Cert.InProjReferenceIdeal.Value.run (F := Ideal) m' ρ')
    · obtain ⟨h0, h1, h2⟩ := hagree c
      unfold Cert.InProjIdeal.RefValue.G1
      rw [Cert.InProjReferenceIdeal.Read.val_main_v64_eq, h0, h1, h2]
    · obtain ⟨h0, h1, h2⟩ := hagree c
      refine (Cert.InProjReferenceIdeal.Read.val_main_v65_eq (F := Ideal) _ _ _).trans ?_
      unfold Cert.InProjIdeal.RefValue.G2
      rw [h0, h1, h2]

end Cert.Proof.InProjClaims

end
-- ==== Proof.OutProjValue.lean ====
/- The output projection: what the kernel leaves in its result array is what the reference computes, index by index, over the extended reals.
   Both multiply the three concatenated layer outputs by the weights, scale each row by its own root mean square and add the residual;
   the kernel does it 1024 rows at a time and adds three products over 512 columns where the reference takes one over 1536. -/
module

public import proofs.«01_k».proof.Proof.Gen.OutProjIdeal.Value
public import proofs.«01_k».proof.Proof.Gen.OutProjReferenceIdeal.Run
public import proofs.«01_k».proof.Proof.Gen.OutProjReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.PureOps.Ideal.Laws

@[expose] public section

noncomputable section

namespace Cert.OutProjIdeal.RefValue

open Idealize.ShloMosaic hiding ix1 ix2 ix3 ix4 constant_apply
open Cert.OutProjIdeal Cert.OutProjIdeal.Gen Idealize.ShloMosaic.TcCoe Idealize.SL.Sem
open Idealize.ShloMosaic.Pipeline (Dat)
open Idealize.ShloMosaic.ValueIdx

/-- One entry of the product of the concatenated outputs and the weights, as the kernel adds it up. -/
def zed (v0 : Vec Ideal S1024x512 .bf16) (v2 : Vec Ideal S512x1024 .bf16) (v5 : Vec Ideal S1024x512 .bf16) (v7 : Vec Ideal S512x1024 .bf16)
    (v11 : Vec Ideal S1024x512 .bf16) (v13 : Vec Ideal S512x1024 .bf16) (r c : Fin 1024) : EReal :=
  (∑ k : Fin 512, v0 (ix2 r k) * v2 (ix2 k c)) + (∑ k : Fin 512, v5 (ix2 r k) * v7 (ix2 k c)) + (∑ k : Fin 512, v11 (ix2 r k) * v13 (ix2 k c))

/-- A product from the zero accumulator, at an entry. -/
theorem mm_apply (lhs : FVec Ideal S1024x512 .bf16) (rhs : FVec Ideal S512x1024 .bf16) (r c : Fin 1024) :
    matmul dot_S1024x512_S512x1024_S1024x1024_1_0_0_1_n_n none lhs rhs (constant (F := Ideal) S1024x1024 .f32 0x00000000#32) (ix2 r c)
      = ∑ k : Fin 512, lhs (ix2 r k) * rhs (ix2 k c) := by
  have h := Ideal.matmul_plain_apply (M := 1024) (K := 512) (N := 1024) none lhs rhs (constant (F := Ideal) S1024x1024 .f32 0x00000000#32) r c
  rw [constant_apply, Ideal.ofBits_zero_f32, zero_add] at h
  exact h

/-- The whole product block. -/
def zv (v0 : FVec Ideal S1024x512 .bf16) (v2 : FVec Ideal S512x1024 .bf16) (v5 : FVec Ideal S1024x512 .bf16) (v7 : FVec Ideal S512x1024 .bf16)
    (v11 : FVec Ideal S1024x512 .bf16) (v13 : FVec Ideal S512x1024 .bf16) : FVec Ideal S1024x1024 .f32 :=
  addf (addf (matmul dot_S1024x512_S512x1024_S1024x1024_1_0_0_1_n_n none v0 v2 (constant (F := Ideal) S1024x1024 .f32 0x00000000#32))
    (matmul dot_S1024x512_S512x1024_S1024x1024_1_0_0_1_n_n none v5 v7 (constant (F := Ideal) S1024x1024 .f32 0x00000000#32)))
    (matmul dot_S1024x512_S512x1024_S1024x1024_1_0_0_1_n_n none v11 v13 (constant (F := Ideal) S1024x1024 .f32 0x00000000#32))

theorem zv_apply (v0 : FVec Ideal S1024x512 .bf16) (v2 : FVec Ideal S512x1024 .bf16) (v5 : FVec Ideal S1024x512 .bf16) (v7 : FVec Ideal S512x1024 .bf16)
    (v11 : FVec Ideal S1024x512 .bf16) (v13 : FVec Ideal S512x1024 .bf16) (r c : Fin 1024) :
    zv v0 v2 v5 v7 v11 v13 (ix2 r c) = zed v0 v2 v5 v7 v11 v13 r c := by
  unfold zv
  rw [addf_apply, addf_apply, mm_apply, mm_apply, mm_apply]; rfl

/-- What the stored block is of the product block, the residual block and the row of weights. -/
def form (Z : FVec Ideal S1024x1024 .f32) (v22 : FVec Ideal S1024x1024 .f32) (v29 : FVec Ideal S1x1024 .f32) : FVec Ideal S1024x1024 .f32 :=
  addf v22 (mulf (mulf Z (broadcastTo S1024x1024 (rsqrt (addf (divf (shapeCast S1024x1 (multiReduction .add [1] S1024 (mulf Z Z) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))) broadcasts_S1024x1_S1024x1024))
    (broadcastTo S1024x1024 v29 broadcasts_S1x1024_S1024x1024))

/-- The sum of a row of squares. -/
theorem rowsum (Z : FVec Ideal S1024x1024 .f32) (r : Fin 1024) :
    multiReduction .add [1] S1024 (mulf Z Z) 0x00000000#32 reduces_S1024x1024_S1024 (.inl rfl) rfl (ix1 r) = ∑ k : Fin 1024, Z (ix2 r k) * Z (ix2 r k) := by
  refine (Ideal.multiReduction_add_single (mulf Z Z) 0x00000000#32 reduces_S1024x1024_S1024 (.inl rfl) rfl (ix1 r)).trans ?_
  have e : ∀ k, Shape.Reduces.lift reduces_S1024x1024_S1024 (ix1 r) k = ix2 r k := by
    intro k
    funext a; apply Fin.ext
    match a with | ⟨0, _⟩ => rfl | ⟨1, _⟩ => rfl
  simp only [e, mulf_apply]
  rfl

theorem form_apply (Z : FVec Ideal S1024x1024 .f32) (v22 : FVec Ideal S1024x1024 .f32) (v29 : FVec Ideal S1x1024 .f32) (r c : Fin 1024) :
    form Z v22 v29 (ix2 r c)
      = v22 (ix2 r c) + Z (ix2 r c)
          * Ideal.rsqrt (Ideal.div (∑ k : Fin 1024, Z (ix2 r k) * Z (ix2 r k)) (Ideal.ofBits .f32 0x44800000#32) + Ideal.ofBits .f32 0x358637BD#32)
          * v29 (ix2 (0 : Fin 1) c) := by
  unfold form
  rw [addf_apply, mulf_apply, mulf_apply]
  rw [broadcastTo_apply _ broadcasts_S1024x1_S1024x1024 (ix2 r c) (ix2 r (0 : Fin 1)) (by intro a; match a with | ⟨0, _⟩ => rfl | ⟨1, _⟩ => rfl)]
  rw [broadcastTo_apply _ broadcasts_S1x1024_S1024x1024 (ix2 r c) (ix2 (0 : Fin 1) c) (by intro a; match a with | ⟨0, _⟩ => rfl | ⟨1, _⟩ => rfl)]
  have hs : ∀ v : FVec Ideal S1024 .f32, shapeCast S1024x1 v shapeCasts_S1024_S1024x1 (ix2 r (0 : Fin 1)) = v (ix1 r) := by
    intro v
    exact shapeCast_apply v shapeCasts_S1024_S1024x1 (ix2 r (0 : Fin 1)) (ix1 r) (by rw [Shape.rowMajor_val_one, Shape.rowMajor_val_two]; simp [ix1, ix2])
  show _ + _ * Ideal.rsqrt (Ideal.div (shapeCast S1024x1 _ shapeCasts_S1024_S1024x1 (ix2 r (0 : Fin 1))) _ + _) * _ = _
  rw [hs]
  exact congrArg (fun s => v22 (ix2 r c) + Z (ix2 r c) * Ideal.rsqrt (Ideal.div s (Ideal.ofBits .f32 0x44800000#32) + Ideal.ofBits .f32 0x358637BD#32) * v29 (ix2 (0 : Fin 1) c)) (rowsum Z r)

/-- The stored block is that. -/
theorem pay_eq (v0 : Vec Ideal S1024x512 .bf16) (v2 : Vec Ideal S512x1024 .bf16) (v5 : Vec Ideal S1024x512 .bf16) (v7 : Vec Ideal S512x1024 .bf16)
    (v11 : Vec Ideal S1024x512 .bf16) (v13 : Vec Ideal S512x1024 .bf16) (v22 : Vec Ideal S1024x1024 .f32) (v29 : Vec Ideal S1x1024 .f32) :
    k0_pay1 v0 v2 v5 v7 v11 v13 v22 v29 = form (zv v0 v2 v5 v7 v11 v13) v22 v29 := by
  unfold k0_pay1
  dsimp only
  simp only [shapeCast_self]
  rfl

variable (m : (ℓ : Loc nD τ sig) → Buf (Elt Ideal) ℓ)

/-! What the region finds: the argument arrays, their two leading axes joined. -/

theorem V1 (c : Dev nD) (i : S16384x512.Idx) : V m c main_v1 i = m ((c : Thread nD τ).loc main_arg0) (ix3 ⟨(i 0).val / 4096, by have h := (i 0).isLt; change _ < 16384 at h; omega⟩ ⟨(i 0).val % 4096, by omega⟩ (i 1)) := by
  unfold V
  after_reads_at
  rfl
theorem V3 (c : Dev nD) (i : S16384x512.Idx) : V m c main_v3 i = m ((c : Thread nD τ).loc main_arg1) (ix3 ⟨(i 0).val / 4096, by have h := (i 0).isLt; change _ < 16384 at h; omega⟩ ⟨(i 0).val % 4096, by omega⟩ (i 1)) := by
  unfold V
  after_reads_at
  rfl
theorem V5 (c : Dev nD) (i : S16384x512.Idx) : V m c main_v5 i = m ((c : Thread nD τ).loc main_arg2) (ix3 ⟨(i 0).val / 4096, by have h := (i 0).isLt; change _ < 16384 at h; omega⟩ ⟨(i 0).val % 4096, by omega⟩ (i 1)) := by
  unfold V
  after_reads_at
  rfl
theorem V7 (c : Dev nD) (i : S16384x1024.Idx) : V m c main_v7 i = m ((c : Thread nD τ).loc main_arg4) (ix3 ⟨(i 0).val / 4096, by have h := (i 0).isLt; change _ < 16384 at h; omega⟩ ⟨(i 0).val % 4096, by omega⟩ (i 1)) := by
  unfold V
  after_reads_at
  rfl
theorem V6 (c : Dev nD) (i : S1536x1024.Idx) : V m c main_v6 i = m ((c : Thread nD τ).loc main_arg3) i := by
  unfold V
  after_reads_at
  try rfl
theorem V8 (c : Dev nD) (i : S1x1024.Idx) : V m c main_v8 i = m ((c : Thread nD τ).loc main_arg5) (ix1 (i 1)) := by
  unfold V
  after_reads_at
  try rfl

/-- Row `r` of block `t` in the whole array. -/
def row (t : Fin cfg0.N) (r : Fin 1024) : Fin 16384 := ⟨t.val * 1024 + r.val, by have h := t.isLt; have hN : cfg0.N = 16 := N_0; have := r.isLt; omega⟩

/-! The blocks of a point. -/

theorem blk0 (c : Dev nD) (t : Fin cfg0.N) (r : Fin 1024) (k : Fin 512) :
    iblk m c 0 t (ix2 r k) = V m c main_v1 (ix2 (row t r) k) := by
  unfold iblk
  show V m c main_v1 ((win0_0.rect t).emb (ix2 r k)) = _
  refine congrArg (V m c main_v1) (funext fun a => Fin.ext ?_)
  rw [Pipeline.Window.rect_emb_val _ _ _ _ rfl]
  match a with
  | ⟨0, _⟩ => rw [show win0_0.index t ⟨0, _⟩ = t.val from (by decide +kernel : ∀ t : Fin grid0.N, win0_0.index t 0 = t.val) t]; rfl
  | ⟨1, _⟩ => rw [show win0_0.index t ⟨1, _⟩ = 0 from (by decide +kernel : ∀ t : Fin grid0.N, win0_0.index t 1 = 0) t]; simp [ix2]
theorem blk1 (c : Dev nD) (t : Fin cfg0.N) (r : Fin 1024) (k : Fin 512) :
    iblk m c 1 t (ix2 r k) = V m c main_v3 (ix2 (row t r) k) := by
  unfold iblk
  show V m c main_v3 ((win0_1.rect t).emb (ix2 r k)) = _
  refine congrArg (V m c main_v3) (funext fun a => Fin.ext ?_)
  rw [Pipeline.Window.rect_emb_val _ _ _ _ rfl]
  match a with
  | ⟨0, _⟩ => rw [show win0_1.index t ⟨0, _⟩ = t.val from (by decide +kernel : ∀ t : Fin grid0.N, win0_1.index t 0 = t.val) t]; rfl
  | ⟨1, _⟩ => rw [show win0_1.index t ⟨1, _⟩ = 0 from (by decide +kernel : ∀ t : Fin grid0.N, win0_1.index t 1 = 0) t]; simp [ix2]
theorem blk2 (c : Dev nD) (t : Fin cfg0.N) (r : Fin 1024) (k : Fin 512) :
    iblk m c 2 t (ix2 r k) = V m c main_v5 (ix2 (row t r) k) := by
  unfold iblk
  show V m c main_v5 ((win0_2.rect t).emb (ix2 r k)) = _
  refine congrArg (V m c main_v5) (funext fun a => Fin.ext ?_)
  rw [Pipeline.Window.rect_emb_val _ _ _ _ rfl]
  match a with
  | ⟨0, _⟩ => rw [show win0_2.index t ⟨0, _⟩ = t.val from (by decide +kernel : ∀ t : Fin grid0.N, win0_2.index t 0 = t.val) t]; rfl
  | ⟨1, _⟩ => rw [show win0_2.index t ⟨1, _⟩ = 0 from (by decide +kernel : ∀ t : Fin grid0.N, win0_2.index t 1 = 0) t]; simp [ix2]
theorem blk4 (c : Dev nD) (t : Fin cfg0.N) (r : Fin 1024) (k : Fin 1024) :
    iblk m c 4 t (ix2 r k) = V m c main_v7 (ix2 (row t r) k) := by
  unfold iblk
  show V m c main_v7 ((win0_4.rect t).emb (ix2 r k)) = _
  refine congrArg (V m c main_v7) (funext fun a => Fin.ext ?_)
  rw [Pipeline.Window.rect_emb_val _ _ _ _ rfl]
  match a with
  | ⟨0, _⟩ => rw [show win0_4.index t ⟨0, _⟩ = t.val from (by decide +kernel : ∀ t : Fin grid0.N, win0_4.index t 0 = t.val) t]; rfl
  | ⟨1, _⟩ => rw [show win0_4.index t ⟨1, _⟩ = 0 from (by decide +kernel : ∀ t : Fin grid0.N, win0_4.index t 1 = 0) t]; simp [ix2]
theorem blk3 (c : Dev nD) (t : Fin cfg0.N) (r : Fin 1536) (k : Fin 1024) :
    iblk m c 3 t (ix2 r k) = V m c main_v6 (ix2 r k) := by
  unfold iblk
  show V m c main_v6 ((win0_3.rect t).emb (ix2 r k)) = _
  refine congrArg (V m c main_v6) (funext fun a => Fin.ext ?_)
  rw [Pipeline.Window.rect_emb_val _ _ _ _ rfl]
  match a with
  | ⟨0, _⟩ => rw [show win0_3.index t ⟨0, _⟩ = 0 from (by decide +kernel : ∀ t : Fin grid0.N, win0_3.index t 0 = 0) t]; simp [ix2]
  | ⟨1, _⟩ => rw [show win0_3.index t ⟨1, _⟩ = 0 from (by decide +kernel : ∀ t : Fin grid0.N, win0_3.index t 1 = 0) t]; simp [ix2]
theorem blk5 (c : Dev nD) (t : Fin cfg0.N) (r : Fin 1) (k : Fin 1024) :
    iblk m c 5 t (ix2 r k) = V m c main_v8 (ix2 r k) := by
  unfold iblk
  show V m c main_v8 ((win0_5.rect t).emb (ix2 r k)) = _
  refine congrArg (V m c main_v8) (funext fun a => Fin.ext ?_)
  rw [Pipeline.Window.rect_emb_val _ _ _ _ rfl]
  match a with
  | ⟨0, _⟩ => rw [show win0_5.index t ⟨0, _⟩ = 0 from (by decide +kernel : ∀ t : Fin grid0.N, win0_5.index t 0 = 0) t]; simp [ix2]
  | ⟨1, _⟩ => rw [show win0_5.index t ⟨1, _⟩ = 0 from (by decide +kernel : ∀ t : Fin grid0.N, win0_5.index t 1 = 0) t]; simp [ix2]

/-! The reference at an entry. -/

section Ref
open Cert.OutProjReferenceIdeal Cert.OutProjReferenceIdeal.Read

/-- The three outputs side by side. -/
theorem cat_lo (x0 x1 x2 : (⟨S4x4096x512, .f32⟩ : BufTy).Contents (Elt Ideal)) (b : Fin 4) (s : Fin 4096) (k : Fin 512) :
    val_main_v0 (F := Ideal) x0 x1 x2 (ix3 b s ⟨k.val, by omega⟩) = x0 (ix3 b s k) := by
  unfold val_main_v0
  have hk := k.isLt
  simp only [pointwise]
  rw [dif_pos trivial]
  exact congrArg x0 (funext fun a => Fin.ext (by match a with | ⟨0, _⟩ => rfl | ⟨1, _⟩ => rfl | ⟨2, _⟩ => rfl))
theorem cat_mid (x0 x1 x2 : (⟨S4x4096x512, .f32⟩ : BufTy).Contents (Elt Ideal)) (b : Fin 4) (s : Fin 4096) (k : Fin 512) :
    val_main_v0 (F := Ideal) x0 x1 x2 (ix3 b s ⟨512 + k.val, by omega⟩) = x1 (ix3 b s k) := by
  unfold val_main_v0
  have hk := k.isLt
  simp only [pointwise]
  rw [dif_neg (by change ¬ (512 + k.val < 512); omega), dif_pos (by change 512 + k.val - 512 < 512; omega)]
  exact congrArg x1 (funext fun a => Fin.ext (by match a with | ⟨0, _⟩ => rfl | ⟨1, _⟩ => rfl | ⟨2, _⟩ => exact Nat.add_sub_cancel_left _ _))
theorem cat_hi (x0 x1 x2 : (⟨S4x4096x512, .f32⟩ : BufTy).Contents (Elt Ideal)) (b : Fin 4) (s : Fin 4096) (k : Fin 512) :
    val_main_v0 (F := Ideal) x0 x1 x2 (ix3 b s ⟨512 + 512 + k.val, by omega⟩) = x2 (ix3 b s k) := by
  unfold val_main_v0
  have hk := k.isLt
  simp only [pointwise]
  rw [dif_neg (by change ¬ (512 + 512 + k.val < 512); omega), dif_neg (by change ¬ (512 + 512 + k.val - 512 < 512); omega)]
  exact congrArg x2 (funext fun a => Fin.ext (by match a with | ⟨0, _⟩ => rfl | ⟨1, _⟩ => rfl | ⟨2, _⟩ => change 512 + 512 + k.val - 512 - 512 = k.val; omega))

/-- A sum over 1536 columns in three parts. -/
theorem sum3 (f : Fin 1536 → EReal) :
    ∑ k : Fin 1536, f k = (∑ k : Fin 512, f ⟨k.val, by omega⟩) + (∑ k : Fin 512, f ⟨512 + k.val, by omega⟩) + (∑ k : Fin 512, f ⟨512 + 512 + k.val, by omega⟩) := by
  have h := Fin.sum_univ_add (a := 512 + 512) (b := 512) (fun k : Fin (512 + 512 + 512) => f k)
  have h2 := Fin.sum_univ_add (a := 512) (b := 512) (fun k : Fin (512 + 512) => f ⟨k.val, by omega⟩)
  refine h.trans ?_
  refine congrArg₂ (· + ·) ?_ rfl
  exact h2

/-- One entry of the reference's product. -/
def rz (x0 x1 x2 : (⟨S4x4096x512, .f32⟩ : BufTy).Contents (Elt Ideal)) (x3 : (⟨S1536x1024, .f32⟩ : BufTy).Contents (Elt Ideal)) (b : Fin 4) (s : Fin 4096) (c : Fin 1024) : EReal :=
  (∑ k : Fin 512, x0 (ix3 b s k) * x3 (ix2 ⟨k.val, by omega⟩ c)) + (∑ k : Fin 512, x1 (ix3 b s k) * x3 (ix2 ⟨512 + k.val, by omega⟩ c))
    + (∑ k : Fin 512, x2 (ix3 b s k) * x3 (ix2 ⟨512 + 512 + k.val, by omega⟩ c))

theorem v1_apply (x0 x1 x2 : (⟨S4x4096x512, .f32⟩ : BufTy).Contents (Elt Ideal)) (x3 : (⟨S1536x1024, .f32⟩ : BufTy).Contents (Elt Ideal)) (b : Fin 4) (s : Fin 4096) (c : Fin 1024) :
    val_main_v1 (F := Ideal) x0 x1 x2 x3 (ix3 b s c) = rz x0 x1 x2 x3 b s c := by
  rw [val_main_v1_apply]
  have el : ∀ k, lidx_main_v1 (ix3 b s c) k = ix3 b s k := fun k => funext fun a => by match a with | ⟨0, _⟩ => rfl | ⟨1, _⟩ => rfl | ⟨2, _⟩ => rfl
  have er : ∀ k, ridx_main_v1 (ix3 b s c) k = ix2 k c := fun k => funext fun a => by match a with | ⟨0, _⟩ => rfl | ⟨1, _⟩ => rfl
  simp only [el, er]
  rw [sum3]
  simp only [cat_lo, cat_mid, cat_hi]
  rfl

/-- The reference's result at row `4096 b + s` and column `c`. -/
theorem ref_apply (x0 x1 x2 : (⟨S4x4096x512, .f32⟩ : BufTy).Contents (Elt Ideal)) (x3 : (⟨S1536x1024, .f32⟩ : BufTy).Contents (Elt Ideal)) (x4 : (⟨S4x4096x1024, .f32⟩ : BufTy).Contents (Elt Ideal)) (x5 : (⟨S1024, .f32⟩ : BufTy).Contents (Elt Ideal)) (R : Fin 16384) (c : Fin 1024) (b : Fin 4) (s : Fin 4096) (hb : b.val = R.val / 4096) (hs : s.val = R.val % 4096) :
    val_main_v16 (F := Ideal) x0 x1 x2 x3 x4 x5 (ix2 R c)
      = x4 (ix3 b s c) + rz x0 x1 x2 x3 b s c
          * Ideal.rsqrt (Ideal.div (∑ k : Fin 1024, rz x0 x1 x2 x3 b s k * rz x0 x1 x2 x3 b s k) (Ideal.ofBits .f32 0x44800000#32) + Ideal.ofBits .f32 0x358637BD#32)
          * x5 (ix1 c) := by
  have hR := R.isLt
  have hc := c.isLt
  have e16 : idx_main_v16 (ix2 R c) = ix3 b s c := funext fun a => Fin.ext (by
    match a with
    | ⟨0, _⟩ => show (R.val * 1024 + c.val) / 4194304 = b.val; omega
    | ⟨1, _⟩ => show (R.val * 1024 + c.val) / 1024 % 4096 = s.val; omega
    | ⟨2, _⟩ => show (R.val * 1024 + c.val) % 1024 = c.val; omega)
  rw [val_main_v16_apply, e16, val_main_v15_apply, val_main_v14_apply, val_main_v11_apply, v1_apply, val_main_v10_apply, val_main_v9_apply, val_main_v8_apply, val_main_v7_apply,
    val_main_cst_1_apply, val_main_v6_apply, val_main_v5_apply, val_main_cst_0_apply, val_main_v4_apply, val_main_v3_apply, val_main_v13_apply, val_main_v12_apply, val_main_cst_apply]
  have e3 : ∀ k, idx_main_v3 (idx_main_v4 (idx_main_v10 (ix3 b s c))) k = ix3 b s k := fun k => funext fun a => by match a with | ⟨0, _⟩ => rfl | ⟨1, _⟩ => rfl | ⟨2, _⟩ => rfl
  have e5 : idx_main_v12 (idx_main_v13 (ix3 b s c)) = ix1 c := funext fun a => by match a with | ⟨0, _⟩ => rfl
  simp only [e3, e5, val_main_v2_apply, v1_apply]
  show _ + _ * Ideal.rsqrt (Ideal.div (Ideal.ofBits .f32 0x00000000#32 + _) _ + _) * _ = _
  rw [Ideal.ofBits_zero_f32, zero_add]
  rfl

end Ref

/-! The kernel's result. -/

/-- The reference's result of the kernel's arguments. -/
def G (c : Dev nD) : Buf (Elt Ideal) ((c : Thread nD τ).loc main_v9) :=
  Cert.OutProjReferenceIdeal.Read.val_main_v16 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem hz : (![0, 0] : Fin 2 → Nat) = fun _ => 0 := funext fun a => by fin_cases a <;> rfl

theorem ld_w (X : Vec Ideal S1536x1024 .bf16) (o : Nat) (ho : o + 512 ≤ 1536) (inb) (k : Fin 512) (c : Fin 1024) :
    View.ld X (Rect.unit (s := S1536x1024) ![o, 0] S512x1024.size inb) (ix2 k c) = X (ix2 ⟨o + k.val, by omega⟩ c) := by
  show X _ = X _
  refine congrArg X (funext fun a => Fin.ext ?_)
  match a with
  | ⟨0, _⟩ => simp [ix2]
  | ⟨1, _⟩ => simp [ix2]

theorem zed_eq (c : Dev nD) (t : Fin cfg0.N) (r q : Fin 1024) (b : Fin 4) (s : Fin 4096) (hb : b.val = (row t r).val / 4096) (hs : s.val = (row t r).val % 4096) :
    zed (iblk m c 0 t) (View.ld (iblk m c 3 t) r0_1) (iblk m c 1 t) (View.ld (iblk m c 3 t) r0_2) (iblk m c 2 t) (View.ld (iblk m c 3 t) r0_3) r q
      = rz (m ((c : Thread nD τ).loc main_arg0)) (m ((c : Thread nD τ).loc main_arg1)) (m ((c : Thread nD τ).loc main_arg2)) (m ((c : Thread nD τ).loc main_arg3)) b s q := by
  have hb' : b = ⟨(row t r).val / 4096, by rw [← hb]; exact b.isLt⟩ := Fin.ext hb
  have hs' : s = ⟨(row t r).val % 4096, by rw [← hs]; exact s.isLt⟩ := Fin.ext hs
  unfold zed rz
  refine congrArg₂ (· + ·) (congrArg₂ (· + ·) ?_ ?_) ?_
  · refine Finset.sum_congr rfl fun k _ => congrArg₂ (· * ·) ?_ ?_
    · rw [blk0, V1, hb', hs']; try rfl
    · rw [ld_w _ 0 (by omega), blk3, V6]
      exact congrArg _ (congrArg₂ ix2 (Fin.ext (Nat.zero_add _)) rfl)
  · refine Finset.sum_congr rfl fun k _ => congrArg₂ (· * ·) ?_ ?_
    · rw [blk1, V3, hb', hs']; try rfl
    · rw [ld_w _ 512 (by omega), blk3, V6]
  · refine Finset.sum_congr rfl fun k _ => congrArg₂ (· * ·) ?_ ?_
    · rw [blk2, V5, hb', hs']; try rfl
    · rw [ld_w _ 1024 (by omega), blk3, V6]

/-- What a point stores. -/
def stored (c : Dev nD) (t : Fin cfg0.N) : FVec Ideal S1024x1024 .f32 :=
  form (zv (iblk m c 0 t) (View.ld (iblk m c 3 t) r0_1) (iblk m c 1 t) (View.ld (iblk m c 3 t) r0_2) (iblk m c 2 t) (View.ld (iblk m c 3 t) r0_3)) (iblk m c 4 t) (iblk m c 5 t)

theorem stored_apply (c : Dev nD) (t : Fin cfg0.N) (r q : Fin 1024) : stored m c t (ix2 r q) = G m c (ix2 (row t r) q) := by
  have hR := (row t r).isLt
  have hz := fun q => zed_eq m c t r q ⟨(row t r).val / 4096, by omega⟩ ⟨(row t r).val % 4096, by omega⟩ rfl rfl
  unfold G stored
  rw [ref_apply _ _ _ _ _ _ (row t r) q ⟨(row t r).val / 4096, by omega⟩ ⟨(row t r).val % 4096, by omega⟩ rfl rfl, form_apply]
  simp only [zv_apply, hz]
  rw [blk4, V7, blk5, V8]

theorem out_eq (c : Dev nD) (t : Fin cfg0.N) :
    out0_6 (iblk m c 0 t) (iblk m c 1 t) (iblk m c 2 t) (iblk m c 3 t) (iblk m c 4 t) (iblk m c 5 t) = stored m c t := by
  unfold out0_6 stored
  rw [View.canon_unit_zero hz, View.ld_unit_zero (S := S1024x512) hz, View.ld_unit_zero (S := S1024x512) hz, View.ld_unit_zero (S := S1024x512) hz, View.ld_unit_zero (S := S1024x1024) hz, View.ld_unit_zero (S := S1x1024) hz]
  exact pay_eq _ _ _ _ _ _ _ _

theorem emb_eq (t : Fin cfg0.N) (r q : Fin 1024) : (win0_6.rect t).emb (ix2 r q) = ix2 (row t r) q := funext fun a => Fin.ext (by
  rw [Pipeline.Window.rect_emb_val _ _ _ _ rfl]
  match a with
  | ⟨0, _⟩ => rw [show win0_6.index t ⟨0, _⟩ = t.val from (by decide +kernel : ∀ t : Fin grid0.N, win0_6.index t 0 = t.val) t]; rfl
  | ⟨1, _⟩ => rw [show win0_6.index t ⟨1, _⟩ = 0 from (by decide +kernel : ∀ t : Fin grid0.N, win0_6.index t 1 = 0) t]; simp [ix2])

theorem flushed_eq (c : Dev nD) (t : Fin cfg0.N) :
    (dats m 0 c).flushed 6 t = (win0_6.blk t).view.read (Elt Ideal) (G m c) := by
  rw [Value.flushed6, out_eq]
  funext y
  obtain ⟨r, q, rfl⟩ : ∃ r q, y = ix2 r q := ⟨y 0, y 1, ValueIdx.eq_ix2 y⟩
  show stored m c t (ix2 r q) = G m c ((win0_6.rect t).emb (ix2 r q))
  rw [emb_eq]
  exact stored_apply m c t r q

/-- The blocks tile the result. -/
theorem cover (i : S16384x1024.Idx) : ∃ t : Fin cfg0.N, (cfg0.win 6).flush t = true ∧ i ∈ ((cfg0.win 6).blk t).view.set := by
  have h0 : (i 0).val < 16384 := (i 0).isLt
  have h1 : (i 1).val < 1024 := (i 1).isLt
  have hN : cfg0.N = 16 := N_0
  refine ⟨⟨(i 0).val / 1024, by omega⟩, flush0_6 _, ?_⟩
  refine (show ∀ t : Fin cfg0.N, t.val = (i 0).val / 1024 → i ∈ ((cfg0.win 6).blk t).view.set from fun t ht => ?_) _ rfl
  show i ∈ ((View.whole main_v9).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    rw [(by decide +kernel : ∀ t : Fin grid0.N, win0_6.index t 0 = t.val) t]
    omega
  | ⟨1, _⟩ =>
    show win0_6.index t 1 * 1024 ≤ (i 1).val ∧ (i 1).val < win0_6.index t 1 * 1024 + 1024
    rw [(by decide +kernel : ∀ t : Fin grid0.N, win0_6.index t 1 = 0) t]
    omega

/-- The result array after the run. -/
theorem final (c : Dev nD) : (dats m 0 c).arrAt 6 cfg0.N = G m c :=
  (dats m 0 c).arrAt_eq_of_cover 6 (G m c) (fun t _ => flushed_eq m c t) cover

end Cert.OutProjIdeal.RefValue

end
-- ==== Proof.OutProjClaim.lean ====
/- The output projection's claims, from its runs. -/
module

public import proofs.«01_k».proof.Defs
public import proofs.«01_k».proof.Proof.OutProjValue
public import proofs.«01_k».proof.Proof.Gen.OutProj.Frame
public import Idealize.ShloMosaic.Lib.Claim
public import Idealize.ShloMosaic.Lib.Quiescent

@[expose] public section

noncomputable section

open Idealize.ShloMosaic Idealize.ShloMosaic.TcCoe Idealize.SL.Sem

namespace Cert.Proof.OutProjClaims

theorem frame_p : Cert.quiescent_OutProj := fun m ρ _ => Cert.OutProj.Gen.frame m ρ
theorem frame_i : Cert.quiescent_OutProjIdeal := fun m ρ _ => Cert.OutProjIdeal.Gen.frame m ρ
/-- The reference declares no semaphore and writes no argument. -/
theorem frame_r : Cert.quiescent_OutProjReferenceIdeal := fun m ρ _ =>
  (θ_run Cert.OutProjReferenceIdeal.defs _ _).mono (fun r h => ⟨fun c => (h c).2, Idealize.ShloMosaic.sem_eq_zero_of_no_sems (by decide) r.2⟩)
    (Cert.OutProjReferenceIdeal.Value.run (F := Ideal) m ρ)

/-- Nothing is renamed between the program and its real-number reading. -/
theorem preserves : Cert.preserves_OutProj_OutProjIdeal := trivial

/-- Over the extended reals kernel and reference end holding the same result. -/
theorem algebraic : Cert.algebraic_OutProjIdeal_OutProjReferenceIdeal := by
  intro m ρ m' ρ' _ hagree
  refine ⟨fun c => Cert.OutProjIdeal.RefValue.G m c, ?_, ?_⟩
  · exact (θ_run Cert.OutProjIdeal.defs _ _).mono
      (fun _ h c => ⟨(h c).1.trans (Cert.OutProjIdeal.RefValue.final m c), (h c).2⟩)
      (Cert.OutProjIdeal.Value.run_blocks (F := Ideal) m ρ)
  · refine (θ_run Cert.OutProjReferenceIdeal.defs _ _).mono (fun _ h c => ⟨(h c).1.trans ?_, (h c).2⟩)
      (Cert.OutProjReferenceIdeal.Value.run (F := Ideal) m' ρ')
    obtain ⟨h0, h1, h2, h3, h4, h5⟩ := hagree c
    unfold Cert.OutProjIdeal.RefValue.G
    rw [Cert.OutProjReferenceIdeal.Read.val_main_v16_eq, h0, h1, h2, h3, h4, h5]

end Cert.Proof.OutProjClaims

end
-- ==== Proof.DifPre.lean ====
/- The differential attention's precondition read back: every entry of the projected rows and of the scalars is a real number. -/
module

public import proofs.«01_k».proof.Pre_diff_finite
public import Idealize.ShloMosaic.Lib.ReduceAll
public import Idealize.ShloMosaic.Lib.ValueIdx
public import Idealize.ShloMosaic.Lib.Claim
public import Idealize.ShloMosaic.Lib.Pointwise
public import Idealize.ShloMosaic.PureOps.Ideal.Laws

@[expose] public section

noncomputable section

namespace Cert.Pre_diff_finite.Read

open Idealize.ShloMosaic
open Cert.Pre_diff_finite

instance : Subsingleton S_.Idx := ⟨fun a b => funext fun k => k.elim0⟩

theorem inf_bits : Ideal.ofBits .f32 0x7F800000#32 = ⊤ := by simp [Ideal.ofBits, Ideal.ieee]

/-- An extended real whose absolute value is below +∞ is a real. -/
theorem real_of_abs (x : EReal) (h : max x (-x) < ⊤) : ∃ r : ℝ, x = (r : EReal) := by
  induction x using EReal.rec with
  | bot => simp at h
  | top => simp at h
  | coe r => exact ⟨r, rfl⟩

/-- If the precondition holds, each entry of both arrays it reads is a real. -/
theorem real_of_fn [Facts] (x0 : FVec Ideal S4x4096x6144 .f32) (x1 : FVec Ideal S4x64 .f32) (x2 : FVec Ideal S128 .f32) (h : fn (F := Ideal) x0 x1 x2 = fun _ => 1#1) :
    (∀ i, ∃ r : ℝ, x0 i = (r : EReal)) ∧ (∀ i, ∃ r : ℝ, x1 i = (r : EReal)) := by
  have hj := congrFun h (fun k => k.elim0)
  unfold fn at hj
  dsimp only at hj
  obtain ⟨ha, hb⟩ := IntOp.andi_eq_one.1 hj
  refine ⟨fun i => ?_, fun i => ?_⟩
  · have e := Host.reduce_andi_all _ _ _ _ _ ha i
    have e' : Ideal.cmp .olt (max (x0 i) (-(x0 i))) (Ideal.ofBits .f32 0x7F800000#32) = 1#1 := e
    rw [inf_bits] at e'
    refine real_of_abs _ ?_
    by_contra hn
    simp [Ideal.cmp, hn] at e'
  · have e := Host.reduce_andi_all _ _ _ _ _ hb i
    have e' : Ideal.cmp .olt (max (x1 i) (-(x1 i))) (Ideal.ofBits .f32 0x7F800000#32) = 1#1 := e
    rw [inf_bits] at e'
    refine real_of_abs _ ?_
    by_contra hn
    simp [Ideal.cmp, hn] at e'

end Cert.Pre_diff_finite.Read

end
-- ==== Proof.DifLoop.lean ====
/- The differential attention's loop: what one trip, and then the whole loop, does to the running maxima and sums. -/
module

public import proofs.«01_k».proof.Proof.Gen.DiffIdeal.Value
public import proofs.«01_k».proof.Proof.Gen.DiffReferenceIdeal.Run
public import proofs.«01_k».proof.Proof.Gen.DiffReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import proofs.«01_k».proof.Proof.SoftmaxStep
public import Idealize.ShloMosaic.Lib.Pipeline.ValueKit.Tiles

@[expose] public section

noncomputable section

namespace Cert.DiffIdeal.Dif

open Idealize.ShloMosaic hiding ix1 ix2 ix3 ix4 constant_apply
open Cert.DiffIdeal Cert.DiffIdeal.Gen Idealize.ShloMosaic.TcCoe Idealize.SL.Sem
open Idealize.ShloMosaic.Pipeline (Dat)
open Idealize.ShloMosaic.ValueIdx
open Cert.Softmax

set_option maxRecDepth 100000

/-- The state a loop carries: both heads' running maximum and running sums. -/
abbrev State : Type := FVec Ideal S1x1024 .f32 × FVec Ideal S144x1024 .f32 × FVec Ideal S1x1024 .f32 × FVec Ideal S144x1024 .f32

/-- A block's scores against all the queries. -/
def scoreM (A : FVec Ideal S1024x128 .bf16) (kb : Vec Ideal S1x512x128 .bf16) : FVec Ideal S512x1024 .f32 :=
  matmul dot_S512x128_S1024x128_S512x1024_1_1_0_0_n_n none (shapeCast S512x128 kb shapeCasts_S1x512x128_S512x128 : FVec Ideal S512x128 .bf16) A (constant S512x1024 .f32 0x00000000#32)

/-- A block's transposed values. -/
def vrow (vb : Vec Ideal S1x144x512 .bf16) : FVec Ideal S144x512 .bf16 :=
  shapeCast S144x512 vb shapeCasts_S1x144x512_S144x512

/-- The running maximum after a block of 512 keys. -/
def mN (m : FVec Ideal S1x1024 .f32) (s : FVec Ideal S512x1024 .f32) : FVec Ideal S1x1024 .f32 :=
  mNew (K := 512) (Q := 1024) m s reduces_S512x1024_S1024 shapeCasts_S1024_S1x1024
/-- The running sums after a block of 512 keys. -/
def aN (m : FVec Ideal S1x1024 .f32) (acc : FVec Ideal S144x1024 .f32) (V : FVec Ideal S144x512 .bf16) (s : FVec Ideal S512x1024 .f32) : FVec Ideal S144x1024 .f32 :=
  accNew (K := 512) (Q := 1024) (D := 144) m (mN m s) acc V s broadcasts_S1x1024_S512x1024 broadcasts_S1x1024_S144x1024 bitsLt_bf16_f32

/-- Both heads' state after a block of 512 keys with the scores `s0`, `s1` and the transposed values `vb`. -/
def step (st : State) (s0 s1 : FVec Ideal S512x1024 .f32) (vb : Vec Ideal S1x144x512 .bf16) : State :=
  (mN st.1 s0, aN st.1 st.2.1 (vrow vb) s0, mN st.2.2.1 s1, aN st.2.2.1 st.2.2.2 (vrow vb) s1)

theorem ld_off {S : Shape} {e : EltTy} (x : S.Idx → Elt Ideal e) {off off' : Fin S.rank → ℕ} (size : Fin S.rank → ℕ) (E' : off = off')
    (h : ∀ a, off a + size a ≤ S.size a) (h' : ∀ a, off' a + size a ≤ S.size a) :
    View.ld (Val := Elt Ideal) x (Rect.unit off size h) = View.ld (Val := Elt Ideal) x (Rect.unit off' size h') := by
  subst E'; rfl

/-- Block `b` of the keys. -/
def kld (x : Vec Ideal S1x4096x128 .bf16) (b : Fin 8) : Vec Ideal S1x512x128 .bf16 :=
  View.ld (Val := Elt Ideal) x (Rect.unit (s := S1x4096x128) ![0, 512 * b.val, 0] S1x512x128.size (by
    intro a; have := b.isLt
    match a with
    | ⟨0, _⟩ => show 0 + 1 ≤ 1; omega
    | ⟨1, _⟩ => show 512 * b.val + 512 ≤ 4096; omega
    | ⟨2, _⟩ => show 0 + 128 ≤ 128; omega))
/-- Block `b` of the transposed values. -/
def vld (x : Vec Ideal S8x144x512 .bf16) (b : Fin 8) : Vec Ideal S1x144x512 .bf16 :=
  View.ld (Val := Elt Ideal) x (Rect.unit (s := S8x144x512) ![b.val, 0, 0] S1x144x512.size (by
    intro a; have := b.isLt
    match a with
    | ⟨0, _⟩ => show b.val + 1 ≤ 8; omega
    | ⟨1, _⟩ => show 0 + 144 ≤ 144; omega
    | ⟨2, _⟩ => show 0 + 512 ≤ 512; omega))

/-- The state after block `b`, nothing masked. -/
def bstep (x1 : Vec Ideal S1x4096x128 .bf16) (xs0 : Vec Ideal S8x144x512 .bf16)
    (A0 A1 : FVec Ideal S1024x128 .bf16) (b : Fin 8) (st : State) : State :=
  step st (scoreM A0 (kld x1 b)) (scoreM A1 (kld x1 b)) (vld xs0 b)

/-- The first head's queries. -/
def qA0 (q : Vec Ideal S1x1024x128 .bf16) : FVec Ideal S1024x128 .bf16 := k0_pay39 q
/-- The second head's queries. -/
def qA1 (q : Vec Ideal S1x1024x128 .bf16) : FVec Ideal S1024x128 .bf16 := k0_pay40 q

theorem trips_eq : ∀ i : grid0.Coords, (k0_t1_loop i).trips = (i 2).val := by decide +kernel
theorem coord_lt (i : grid0.Coords) : (i 2).val < 4 := (i 2).isLt

/-- One trip is two blocks. -/
theorem trip_eq (𝒱 : Variants) (c : Dev nD) (bd : Option 𝒱.V) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S8x144x512 .bf16) (harg10 : arg10.IsWhole)
    (v3 : Vec Ideal S1x1024x128 .bf16)
    (x1 : Vec Ideal S1x4096x128 .bf16) (xs0 : Vec Ideal S8x144x512 .bf16) (k : Fin (k0_t1_loop i).trips) (st : State)
    (b b' : Fin 8) (hb : b.val = 2 * k.val) (hb' : b'.val = 2 * k.val + 1) :
    tripR_k0_t1 (F := Ideal) 𝒱 c bd i arg3 harg3 arg4 harg4 arg5 harg5 arg6 harg6 arg7 harg7 arg8 harg8 arg9 harg9 arg10 harg10 v3 (harg4.unread x1) (harg10.unread xs0) k st
      = bstep x1 xs0 (qA0 v3) (qA1 v3) b' (bstep x1 xs0 (qA0 v3) (qA1 v3) b st) := by
  unfold tripR_k0_t1
  unfold trip_k0_t1
  dsimp only
  have e1 : ∀ (r : Fin 2) (β : Fin 8) (hβ : β.val = 2 * k.val + r.val),
      View.ld (View.read (Elt Ideal) arg4.view (harg4.unread x1)) (Rect.unit (s := S1x4096x128) (k0_off1 i k (BitVec.ofNat 32 r.val)) S1x512x128.size (k0_off1_inb i k r)) = kld x1 β := by
    intro r β hβ
    rw [harg4.read_unread]
    exact ld_off x1 _ (by rw [k0_off1_eq i k r, show 1024 * k.val + 512 * r.val = 512 * β.val by omega]) _ _
  have e3 : ∀ (r : Fin 2) (β : Fin 8) (hβ : β.val = 2 * k.val + r.val),
      View.ld (View.read (Elt Ideal) arg10.view (harg10.unread xs0)) (Rect.unit (s := S8x144x512) (k0_off2 i k (BitVec.ofNat 32 r.val)) S1x144x512.size (k0_off2_inb i k r)) = vld xs0 β := by
    intro r β hβ
    rw [harg10.read_unread]
    exact ld_off xs0 _ (by rw [k0_off2_eq i k r, show 2 * k.val + r.val = β.val by omega]) _ _
  unfold bstep
  rw [← e1 0 b hb, ← e1 1 b' hb', ← e3 0 b hb, ← e3 1 b' hb']
  rfl

/-! ## Entries -/

/-- Key `κ` of block `b`. -/
def keyOf (b : Fin 8) (κ : Fin 512) : Fin 4096 := ⟨512 * b.val + κ.val, by have := b.isLt; have := κ.isLt; omega⟩

theorem kld_apply (x : Vec Ideal S1x4096x128 .bf16) (b : Fin 8) (κ : Fin 512) (d : Fin 128) :
    kld x b (ix3 (0 : Fin 1) κ d) = x (ix3 (0 : Fin 1) (keyOf b κ) d) := by
  unfold kld
  refine View.ld_unit_apply_of x _ _ _ _ _ ?_
  intro a
  match a with
  | ⟨0, _⟩ => rfl
  | ⟨1, _⟩ => rfl
  | ⟨2, _⟩ => show d.val = 0 + d.val; omega
theorem vld_apply (x : Vec Ideal S8x144x512 .bf16) (b : Fin 8) (r : Fin 144) (κ : Fin 512) :
    vld x b (ix3 (0 : Fin 1) r κ) = x (ix3 b r κ) := by
  unfold vld
  refine View.ld_unit_apply_of x _ _ _ _ _ ?_
  intro a
  match a with
  | ⟨0, _⟩ => rfl
  | ⟨1, _⟩ => show r.val = 0 + r.val; omega
  | ⟨2, _⟩ => show κ.val = 0 + κ.val; omega

theorem krow_apply (x : Vec Ideal S1x4096x128 .bf16) (b : Fin 8) (κ : Fin 512) (j : Fin 128) :
    (shapeCast S512x128 (kld x b) shapeCasts_S1x512x128_S512x128 : FVec Ideal S512x128 .bf16) (ix2 κ j) = x (ix3 (0 : Fin 1) (keyOf b κ) j) := by
  rw [shapeCast_apply _ shapeCasts_S1x512x128_S512x128 (ix2 κ j) (ix3 (0 : Fin 1) κ j) (by
    rw [Shape.rowMajor_val_two, Shape.rowMajor_val_three]
    show (0 * 512 + κ.val) * 128 + j.val = κ.val * 128 + j.val
    omega)]
  exact kld_apply x b κ j

theorem scoreM_apply (A : FVec Ideal S1024x128 .bf16) (x : Vec Ideal S1x4096x128 .bf16) (b : Fin 8) (κ : Fin 512) (q : Fin 1024) :
    scoreM A (kld x b) (ix2 κ q) = ∑ j : Fin 128, x (ix3 (0 : Fin 1) (keyOf b κ) j) * A (ix2 q j) := by
  unfold scoreM
  have h := Ideal.matmul_transposedRhs_apply (M := 512) (K := 128) (N := 1024) none (shapeCast S512x128 (kld x b) shapeCasts_S1x512x128_S512x128 : FVec Ideal S512x128 .bf16) A (constant (F := Ideal) S512x1024 .f32 0x00000000#32) κ q
  rw [constant_apply, Ideal.ofBits_zero_f32, zero_add] at h
  refine h.trans (Finset.sum_congr rfl fun j _ => ?_)
  rw [krow_apply]

theorem vrow_apply (vb : Vec Ideal S1x144x512 .bf16) (r : Fin 144) (κ : Fin 512) :
    vrow vb (ix2 r κ) = vb (ix3 (0 : Fin 1) r κ) := by
  unfold vrow
  rw [shapeCast_apply _ shapeCasts_S1x144x512_S144x512 (ix2 r κ) (ix3 (0 : Fin 1) r κ) (by
      rw [Shape.rowMajor_val_two, Shape.rowMajor_val_three]
      show (0 * 144 + r.val) * 512 + κ.val = r.val * 512 + κ.val
      omega)]

/-! ## The state over the keys so far -/

/-- A query's score at a key: masked past the query's chunk of 64. -/
def vis (s : Fin 1024 → Fin 4096 → ℝ) (q0 : ℕ) (q : Fin 1024) (key : Fin 4096) : EReal :=
  if key.val / 64 ≤ (q0 + q.val) / 64 then ((s q key : ℝ) : EReal) else ⊥

theorem vis_ne (s : Fin 1024 → Fin 4096 → ℝ) (q0 : ℕ) (q : Fin 1024) (key : Fin 4096) : vis s q0 q key ≠ ⊤ := by
  unfold vis; split_ifs
  · exact EReal.coe_ne_top _
  · exact bot_ne_top

/-- A key's weighted value; nothing past the last key. -/
def term (s : Fin 1024 → Fin 4096 → ℝ) (w : Fin 144 → Fin 4096 → ℝ) (q0 : ℕ) (r : Fin 144) (q : Fin 1024) (key : ℕ) : ℝ :=
  if h : key < 4096 then w r ⟨key, h⟩ * E (vis s q0 q ⟨key, h⟩) else 0

/-- The sum of the weighted values of the first `n` keys. -/
def Z (s : Fin 1024 → Fin 4096 → ℝ) (w : Fin 144 → Fin 4096 → ℝ) (q0 : ℕ) (r : Fin 144) (q : Fin 1024) (n : ℕ) : ℝ :=
  ∑ key ∈ Finset.range n, term s w q0 r q key

theorem Z_block (s : Fin 1024 → Fin 4096 → ℝ) (w : Fin 144 → Fin 4096 → ℝ) (q0 : ℕ) (r : Fin 144) (q : Fin 1024) (b : Fin 8) :
    Z s w q0 r q (512 * b.val) + ∑ κ : Fin 512, w r (keyOf b κ) * E (vis s q0 q (keyOf b κ)) = Z s w q0 r q (512 * (b.val + 1)) := by
  unfold Z
  rw [show 512 * (b.val + 1) = 512 * b.val + 512 by ring, Finset.sum_range_add, Finset.sum_range (n := 512)]
  refine congrArg (_ + ·) (Finset.sum_congr rfl fun κ _ => ?_)
  unfold term
  rw [dif_pos (by have := b.isLt; have := κ.isLt; omega)]
  rfl

/-- One head's state over the first `n` keys. -/
def Good (s : Fin 1024 → Fin 4096 → ℝ) (w : Fin 144 → Fin 4096 → ℝ) (q0 n : ℕ) (m : FVec Ideal S1x1024 .f32) (acc : FVec Ideal S144x1024 .f32) : Prop :=
  ∀ (r : Fin 144) (q : Fin 1024), Inv (Z s w q0 r q n) (m (ix2 (0 : Fin 1) q)) (acc (ix2 r q))

theorem Good.block {s : Fin 1024 → Fin 4096 → ℝ} {w : Fin 144 → Fin 4096 → ℝ} {q0 : ℕ} {m : FVec Ideal S1x1024 .f32} {acc : FVec Ideal S144x1024 .f32}
    (b : Fin 8) (V : FVec Ideal S144x512 .bf16) (S : FVec Ideal S512x1024 .f32) (h : Good s w q0 (512 * b.val) m acc)
    (hV : ∀ r κ, V (ix2 r κ) = ((w r (keyOf b κ) : ℝ) : EReal)) (hS : ∀ κ q, S (ix2 κ q) = vis s q0 q (keyOf b κ)) :
    Good s w q0 (512 * (b.val + 1)) (mN m S) (aN m acc V S) := by
  intro r q
  rw [← Z_block]
  have e : ∑ κ : Fin 512, w r (keyOf b κ) * E (vis s q0 q (keyOf b κ)) = ∑ κ : Fin 512, w r (keyOf b κ) * E (S (ix2 κ q)) :=
    Finset.sum_congr rfl fun κ _ => by rw [hS]
  rw [e]
  exact state_step (K := 512) (Q := 1024) (D := 144) m acc V S _ _ _ _ _ r q _ (fun κ => w r (keyOf b κ)) (h r q) (fun κ => hV r κ)
    (fun κ => by rw [hS]; exact vis_ne s q0 q _)

/-- What the kernel's operands hold: real scores of both heads and real transposed values. -/
structure Real' (x1 : Vec Ideal S1x4096x128 .bf16) (xs0 : Vec Ideal S8x144x512 .bf16)
    (A0 A1 : FVec Ideal S1024x128 .bf16) (s0 s1 : Fin 1024 → Fin 4096 → ℝ) (w : Fin 144 → Fin 4096 → ℝ) : Prop where
  hs0 : ∀ q key, ∑ j : Fin 128, x1 (ix3 (0 : Fin 1) key j) * A0 (ix2 q j) = ((s0 q key : ℝ) : EReal)
  hs1 : ∀ q key, ∑ j : Fin 128, x1 (ix3 (0 : Fin 1) key j) * A1 (ix2 q j) = ((s1 q key : ℝ) : EReal)
  hw : ∀ (r : Fin 144) (b : Fin 8) (κ : Fin 512), xs0 (ix3 b r κ) = ((w r (keyOf b κ) : ℝ) : EReal)

section
variable {x1 : Vec Ideal S1x4096x128 .bf16} {xs0 : Vec Ideal S8x144x512 .bf16}
  {A0 A1 : FVec Ideal S1024x128 .bf16} {s0 s1 : Fin 1024 → Fin 4096 → ℝ} {w : Fin 144 → Fin 4096 → ℝ}

theorem Real'.score0 (R : Real' x1 xs0 A0 A1 s0 s1 w) (b : Fin 8) (κ : Fin 512) (q : Fin 1024) :
    scoreM A0 (kld x1 b) (ix2 κ q) = ((s0 q (keyOf b κ) : ℝ) : EReal) := by rw [scoreM_apply, ← R.hs0]
theorem Real'.score1 (R : Real' x1 xs0 A0 A1 s0 s1 w) (b : Fin 8) (κ : Fin 512) (q : Fin 1024) :
    scoreM A1 (kld x1 b) (ix2 κ q) = ((s1 q (keyOf b κ) : ℝ) : EReal) := by rw [scoreM_apply, ← R.hs1]
theorem Real'.val (R : Real' x1 xs0 A0 A1 s0 s1 w) (b : Fin 8) (r : Fin 144) (κ : Fin 512) :
    vrow (vld xs0 b) (ix2 r κ) = ((w r (keyOf b κ) : ℝ) : EReal) := by rw [vrow_apply, vld_apply, R.hw]

/-- Both heads' state over the first `n` keys. -/
def GoodS (s0 s1 : Fin 1024 → Fin 4096 → ℝ) (w : Fin 144 → Fin 4096 → ℝ) (q0 n : ℕ) (st : State) : Prop :=
  Good s0 w q0 n st.1 st.2.1 ∧ Good s1 w q0 n st.2.2.1 st.2.2.2

theorem bstep_good (R : Real' x1 xs0 A0 A1 s0 s1 w) (b : Fin 8) (q0 : ℕ) (hq : 512 * (b.val + 1) ≤ q0) {st : State}
    (h : GoodS s0 s1 w q0 (512 * b.val) st) : GoodS s0 s1 w q0 (512 * (b.val + 1)) (bstep x1 xs0 A0 A1 b st) := by
  have hv : ∀ (s : Fin 1024 → Fin 4096 → ℝ) (κ : Fin 512) (q : Fin 1024), ((s q (keyOf b κ) : ℝ) : EReal) = vis s q0 q (keyOf b κ) := by
    intro s κ q
    unfold vis
    rw [if_pos (by show (512 * b.val + κ.val) / 64 ≤ (q0 + q.val) / 64; have := κ.isLt; omega)]
  exact ⟨h.1.block b _ _ (R.val b) fun κ q => (R.score0 b κ q).trans (hv s0 κ q), h.2.block b _ _ (R.val b) fun κ q => (R.score1 b κ q).trans (hv s1 κ q)⟩
end

/-- The loop leaves the state over the keys before the queries' block. -/
theorem loop_good (𝒱 : Variants) (c : Dev nD) (bd : Option 𝒱.V) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S8x144x512 .bf16) (harg10 : arg10.IsWhole)
    (v3 : Vec Ideal S1x1024x128 .bf16)
    (x1 : Vec Ideal S1x4096x128 .bf16) (xs0 : Vec Ideal S8x144x512 .bf16)
    (s0 s1 : Fin 1024 → Fin 4096 → ℝ) (w : Fin 144 → Fin 4096 → ℝ) (R : Real' x1 xs0 (qA0 v3) (qA1 v3) s0 s1 w)
    (init : State) (hinit : GoodS s0 s1 w (1024 * (i 2).val) 0 init) : ∀ n : ℕ, n ≤ (i 2).val →
    GoodS s0 s1 w (1024 * (i 2).val) (1024 * n)
      (st_k0_t1 (F := Ideal) 𝒱 c bd i arg3 harg3 arg4 harg4 arg5 harg5 arg6 harg6 arg7 harg7 arg8 harg8 arg9 harg9 arg10 harg10 v3 (harg4.unread x1) (harg10.unread xs0) init n) := by
  intro n
  induction n with
  | zero => intro _; rw [st_k0_t1_zero]; exact hinit
  | succ n ih =>
    intro hn
    have hi := coord_lt i
    have hk : n < (k0_t1_loop i).trips := by rw [trips_eq]; omega
    have hs := st_k0_t1_succ (F := Ideal) 𝒱 c bd i arg3 harg3 arg4 harg4 arg5 harg5 arg6 harg6 arg7 harg7 arg8 harg8 arg9 harg9 arg10 harg10 v3 (harg4.unread x1) (harg10.unread xs0) init ⟨n, hk⟩
    dsimp only at hs
    rw [hs, trip_eq 𝒱 c bd i arg3 harg3 arg4 harg4 arg5 harg5 arg6 harg6 arg7 harg7 arg8 harg8 arg9 harg9 arg10 harg10 v3 x1 xs0 ⟨n, hk⟩ _ (⟨2 * n, by omega⟩ : Fin 8) (⟨2 * n + 1, by omega⟩ : Fin 8) rfl rfl]
    have h0 := ih (by omega)
    rw [show 1024 * n = 512 * (⟨2 * n, by omega⟩ : Fin 8).val by show 1024 * n = 512 * (2 * n); omega] at h0
    have h1 := bstep_good R (⟨2 * n, by omega⟩ : Fin 8) (1024 * (i 2).val) (by show 512 * (2 * n + 1) ≤ _; omega) h0
    rw [show 512 * ((⟨2 * n, by omega⟩ : Fin 8).val + 1) = 512 * (⟨2 * n + 1, by omega⟩ : Fin 8).val from rfl] at h1
    have h2 := bstep_good R (⟨2 * n + 1, by omega⟩ : Fin 8) (1024 * (i 2).val) (by show 512 * (2 * n + 1 + 1) ≤ _; omega) h1
    rw [show 1024 * (n + 1) = 512 * ((⟨2 * n + 1, by omega⟩ : Fin 8).val + 1) by show 1024 * (n + 1) = 512 * (2 * n + 1 + 1); omega]
    exact h2

end Cert.DiffIdeal.Dif

end
-- ==== Proof.DifOut.lean ====
/- The differential attention's output block, as one function of the blocks it reads and of the rows the kernel carries. -/
module

public import proofs.«01_k».proof.Proof.Gen.DiffIdeal.Value
public import proofs.«01_k».proof.Proof.Gen.DiffReferenceIdeal.Run
public import proofs.«01_k».proof.Proof.Gen.DiffReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import Idealize.ShloMosaic.Lib.Pipeline.ValueKit.Tiles
public import proofs.«01_k».proof.Proof.DifLoop

@[expose] public section

noncomputable section

namespace Cert.DiffIdeal.Dif

open Idealize.ShloMosaic hiding ix1 ix2 ix3 ix4 constant_apply
open Cert.DiffIdeal Cert.DiffIdeal.Gen Idealize.ShloMosaic.TcCoe Idealize.SL.Sem
open Idealize.ShloMosaic.Pipeline (Dat)
open Idealize.ShloMosaic.ValueIdx
open Cert.Softmax

set_option maxRecDepth 100000

/-- Which keys of the diagonal's first block a query sees. -/
def maskA : IVec S512x1024 1 := k0_pay68 (k0_pay64 (iota .tc S512x1024 32 [0] iota_S512x1024_d0_w32)) (k0_pay65 (iota .tc S512x1024 32 [1] iota_S512x1024_d1_w32)) (k0_pay66 (iota .tc S512x1024 32 [1] iota_S512x1024_d1_w32)) (k0_pay67 (iota .tc S512x1024 32 [1] iota_S512x1024_d1_w32))
/-- Which keys of the diagonal's second block a query of the later half sees. -/
def maskB : IVec S512x512 1 := k0_pay87 (iota .tc S512x512 32 [1] iota_S512x512_d1_w32) (k0_pay83 (iota .tc S512x512 32 [0] iota_S512x512_d0_w32)) 64#32 (k0_pay84 (iota .tc S512x512 32 [1] iota_S512x512_d1_w32)) (k0_pay85 (iota .tc S512x512 32 [1] iota_S512x512_d1_w32)) k0_pay86

/-- The scores of the diagonal's first block, masked. -/
def scoreD0 (A : FVec Ideal S1024x128 .bf16) (kb : Vec Ideal S1x512x128 .bf16) : FVec Ideal S512x1024 .f32 :=
  select maskA (scoreM A kb) (broadcast S512x1024 (Named.named κ "mask" 0xF149F2CA#32 : Ideal .f32))
/-- The scores of the diagonal's second block against the later half of the queries, masked. -/
def scoreD1 (A : FVec Ideal S1024x128 .bf16) (kb : Vec Ideal S1x512x128 .bf16) : FVec Ideal S512x512 .f32 :=
  select maskB (matmul dot_S512x128_S512x128_S512x512_1_1_0_0_n_n none (shapeCast S512x128 kb shapeCasts_S1x512x128_S512x128 : FVec Ideal S512x128 .bf16)
    (extractStridedSlice S512x128 ![512, 0] A slices_S1024x128_o512_0_S512x128) (constant S512x512 .f32 0x00000000#32))
    (broadcast S512x512 (Named.named κ "mask" 0xF149F2CA#32 : Ideal .f32))

/-- The sums after the diagonal's second block: the earlier half of the queries keeps what it has. -/
def half (m : FVec Ideal S1x1024 .f32) (acc : FVec Ideal S144x1024 .f32) (V : FVec Ideal S144x512 .bf16) (s : FVec Ideal S512x512 .f32) : FVec Ideal S144x1024 .f32 :=
  concatenate S144x1024 1 [⟨S144x512, extractStridedSlice S144x512 ![0, 0] acc slices_S144x1024_o0_0_S144x512⟩,
    ⟨S144x512, accNew (K := 512) (Q := 512) (D := 144) (extractStridedSlice S1x512 ![0, 512] m slices_S1x1024_o0_512_S1x512)
      (mNew (K := 512) (Q := 512) (extractStridedSlice S1x512 ![0, 512] m slices_S1x1024_o0_512_S1x512) s reduces_S512x512_S512 shapeCasts_S512_S1x512)
      (extractStridedSlice S144x512 ![0, 512] acc slices_S144x1024_o0_512_S144x512) V s broadcasts_S1x512_S512x512 broadcasts_S1x512_S144x512 bitsLt_bf16_f32⟩]
    concatenates_S144x512_S144x512_S144x1024_d1

/-- The output block from both heads' sums, the head's scalars, the norm's weights and the gate. -/
def blockOut (a0 a1 : FVec Ideal S144x1024 .f32) (lam : Vec Ideal S4x64 .f32) (sub : Vec Ideal S1x128 .f32) (g : Vec Ideal S1x1024x128 .bf16) : Vec Ideal S1x1024x128 .bf16 :=
  k0_pay1 (k0_pay91 a0 a1 lam sub) (k0_pay92 g) (k0_pay93 (F := Ideal))

/-- The diagonal's two blocks and the end. -/
def fin (A0 A1 : FVec Ideal S1024x128 .bf16) (st : State) (kb kb' : Vec Ideal S1x512x128 .bf16)
    (vb vb' : Vec Ideal S1x144x512 .bf16) (lam : Vec Ideal S4x64 .f32) (sub : Vec Ideal S1x128 .f32) (g : Vec Ideal S1x1024x128 .bf16) : Vec Ideal S1x1024x128 .bf16 :=
  blockOut
    (half (step st (scoreD0 A0 kb) (scoreD0 A1 kb) vb).1 (step st (scoreD0 A0 kb) (scoreD0 A1 kb) vb).2.1 (vrow vb') (scoreD1 A0 kb'))
    (half (step st (scoreD0 A0 kb) (scoreD0 A1 kb) vb).2.2.1 (step st (scoreD0 A0 kb) (scoreD0 A1 kb) vb).2.2.2 (vrow vb') (scoreD1 A1 kb'))
    lam sub g

theorem hz3 : (![0, 0, 0] : Fin 3 → ℕ) = fun _ => 0 := by
  funext a; match a with | ⟨0, _⟩ => rfl | ⟨1, _⟩ => rfl | ⟨2, _⟩ => rfl
theorem hz2 : (![0, 0] : Fin 2 → ℕ) = fun _ => 0 := by
  funext a; match a with | ⟨0, _⟩ => rfl | ⟨1, _⟩ => rfl

/-- No trip of the second loop runs. -/
theorem trips2_eq : ∀ i : grid0.Coords, (k0_t2_loop i).trips = 0 := by decide +kernel

theorem t2_done (𝒱 : Variants) (c : Dev nD) (bd : Option 𝒱.V) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S8x144x512 .bf16) (harg10 : arg10.IsWhole)
    (v3 : Vec Ideal S1x1024x128 .bf16) (v24 : BitVec 32)
    (X4 : BufTy.Contents (Elt Ideal) arg4.view.ty) (X10 : BufTy.Contents (Elt Ideal) arg10.view.ty) (init : State) (n : ℕ) (h : n = 0) :
    st_k0_t2 (F := Ideal) 𝒱 c bd i arg3 harg3 arg4 harg4 arg5 harg5 arg6 harg6 arg7 harg7 arg8 harg8 arg9 harg9 arg10 harg10 v3 v24 X4 X10 init n = init := by
  rw [h]
  exact st_k0_t2_zero (F := Ideal) 𝒱 c bd i arg3 harg3 arg4 harg4 arg5 harg5 arg6 harg6 arg7 harg7 arg8 harg8 arg9 harg9 arg10 harg10 v3 v24 X4 X10 init

/-- The kernel's last payloads are the diagonal's two blocks and the end. -/
theorem pay_fin (A0 A1 : FVec Ideal S1024x128 .bf16) (st : State) (kb kb' : Vec Ideal S1x512x128 .bf16)
    (vb vb' : Vec Ideal S1x144x512 .bf16) (lam : Vec Ideal S4x64 .f32) (sub : Vec Ideal S1x128 .f32) (g : Vec Ideal S1x1024x128 .bf16) :
    k0_pay1 (k0_pay91
      (k0_pay89 (k0_pay73 st.1 st.2.1 (k0_pay62 A0 (k0_pay61 kb) (constant S512x1024 .f32 0x00000000#32)) (k0_pay64 (iota .tc S512x1024 32 [0] iota_S512x1024_d0_w32)) (k0_pay65 (iota .tc S512x1024 32 [1] iota_S512x1024_d1_w32)) (k0_pay66 (iota .tc S512x1024 32 [1] iota_S512x1024_d1_w32)) (k0_pay67 (iota .tc S512x1024 32 [1] iota_S512x1024_d1_w32)) vb) (iota .tc S512x512 32 [1] iota_S512x512_d1_w32)
        (k0_pay76 st.1 (k0_pay62 A0 (k0_pay61 kb) (constant S512x1024 .f32 0x00000000#32)) (k0_pay64 (iota .tc S512x1024 32 [0] iota_S512x1024_d0_w32)) (k0_pay65 (iota .tc S512x1024 32 [1] iota_S512x1024_d1_w32)) (k0_pay66 (iota .tc S512x1024 32 [1] iota_S512x1024_d1_w32)) (k0_pay67 (iota .tc S512x1024 32 [1] iota_S512x1024_d1_w32)))
        (k0_pay77 st.1 st.2.1 (k0_pay62 A0 (k0_pay61 kb) (constant S512x1024 .f32 0x00000000#32)) (k0_pay64 (iota .tc S512x1024 32 [0] iota_S512x1024_d0_w32)) (k0_pay65 (iota .tc S512x1024 32 [1] iota_S512x1024_d1_w32)) (k0_pay66 (iota .tc S512x1024 32 [1] iota_S512x1024_d1_w32)) (k0_pay67 (iota .tc S512x1024 32 [1] iota_S512x1024_d1_w32)) vb)
        (k0_pay81 A0 kb') (k0_pay83 (iota .tc S512x512 32 [0] iota_S512x512_d0_w32)) 64#32 (k0_pay84 (iota .tc S512x512 32 [1] iota_S512x512_d1_w32)) (k0_pay85 (iota .tc S512x512 32 [1] iota_S512x512_d1_w32)) k0_pay86 vb')
      (k0_pay90 (k0_pay75 st.2.2.1 st.2.2.2 (k0_pay63 A1 (k0_pay61 kb)) (k0_pay64 (iota .tc S512x1024 32 [0] iota_S512x1024_d0_w32)) (k0_pay65 (iota .tc S512x1024 32 [1] iota_S512x1024_d1_w32)) (k0_pay66 (iota .tc S512x1024 32 [1] iota_S512x1024_d1_w32)) (k0_pay67 (iota .tc S512x1024 32 [1] iota_S512x1024_d1_w32)) vb) (iota .tc S512x512 32 [1] iota_S512x512_d1_w32)
        (k0_pay78 st.2.2.1 (k0_pay63 A1 (k0_pay61 kb)) (k0_pay64 (iota .tc S512x1024 32 [0] iota_S512x1024_d0_w32)) (k0_pay65 (iota .tc S512x1024 32 [1] iota_S512x1024_d1_w32)) (k0_pay66 (iota .tc S512x1024 32 [1] iota_S512x1024_d1_w32)) (k0_pay67 (iota .tc S512x1024 32 [1] iota_S512x1024_d1_w32)))
        (k0_pay79 st.2.2.1 st.2.2.2 (k0_pay63 A1 (k0_pay61 kb)) (k0_pay64 (iota .tc S512x1024 32 [0] iota_S512x1024_d0_w32)) (k0_pay65 (iota .tc S512x1024 32 [1] iota_S512x1024_d1_w32)) (k0_pay66 (iota .tc S512x1024 32 [1] iota_S512x1024_d1_w32)) (k0_pay67 (iota .tc S512x1024 32 [1] iota_S512x1024_d1_w32)) vb)
        (k0_pay82 A1 kb') (k0_pay83 (iota .tc S512x512 32 [0] iota_S512x512_d0_w32)) 64#32 (k0_pay84 (iota .tc S512x512 32 [1] iota_S512x512_d1_w32)) (k0_pay85 (iota .tc S512x512 32 [1] iota_S512x512_d1_w32)) k0_pay86 vb')
      lam sub) (k0_pay92 g) (k0_pay93 (F := Ideal))
      = fin A0 A1 st kb kb' vb vb' lam sub g := rfl

/-- The output block as a function of the rows the kernel carries. -/
def outK (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S8x144x512 .bf16) (harg10 : arg10.IsWhole)
    (x0 : Vec Ideal S1x1024x128 .bf16) (x1 : Vec Ideal S1x4096x128 .bf16) (x3 : Vec Ideal S1x1024x128 .bf16) (x4 : Vec Ideal S4x64 .f32) (x5 : Vec Ideal S1x128 .f32)
    (X10 : BufTy.Contents (Elt Ideal) arg10.view.ty) : Vec Ideal S1x1024x128 .bf16 :=
  fin (qA0 x0) (qA1 x0)
    (st_k0_t1 (F := Ideal) Variants.none c none i arg3 harg3 arg4 harg4 arg5 harg5 arg6 harg6 arg7 harg7 arg8 harg8 arg9 harg9 arg10 harg10 x0 (harg4.unread x1) X10
      (k0_pay41 (F := Ideal), k0_pay42 (F := Ideal), k0_pay43 (F := Ideal), k0_pay44 (F := Ideal)) (k0_t1_loop i).trips)
    (View.ld (Val := Elt Ideal) x1 (Rect.unit (s := S1x4096x128) (k0_off5 i (BitVec.ofNat 32 (0 : Fin 2).val)) S1x512x128.size (k0_off5_inb i 0)))
    (View.ld (Val := Elt Ideal) x1 (Rect.unit (s := S1x4096x128) (k0_off5 i (BitVec.ofNat 32 (1 : Fin 2).val)) S1x512x128.size (k0_off5_inb i 1)))
    (View.ld (View.read (Elt Ideal) arg10.view X10) (Rect.unit (s := S8x144x512) (k0_off6 i (BitVec.ofNat 32 (0 : Fin 2).val)) S1x144x512.size (k0_off6_inb i 0)))
    (View.ld (View.read (Elt Ideal) arg10.view X10) (Rect.unit (s := S8x144x512) (k0_off6 i (BitVec.ofNat 32 (1 : Fin 2).val)) S1x144x512.size (k0_off6_inb i 1)))
    x4 x5 x3

theorem out_B (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S8x144x512 .bf16) (harg10 : arg10.IsWhole) (hc0 : ¬cond0_0 i)
    (x0 : Vec Ideal S1x1024x128 .bf16) (x1 : Vec Ideal S1x4096x128 .bf16) (x2 : Vec Ideal S1x4096x128 .bf16) (x3 : Vec Ideal S1x1024x128 .bf16) (x4 : Vec Ideal S4x64 .f32) (x5 : Vec Ideal S1x128 .f32) (xs0 : Vec Ideal S8x144x512 .bf16) :
    out0_B_6 (F := Ideal) c i arg3 harg3 arg4 harg4 arg5 harg5 arg6 harg6 arg7 harg7 arg8 harg8 arg9 harg9 arg10 harg10 hc0 x0 x1 x2 x3 x4 x5 xs0
      = outK c i arg3 harg3 arg4 harg4 arg5 harg5 arg6 harg6 arg7 harg7 arg8 harg8 arg9 harg9 arg10 harg10 x0 x1 x3 x4 x5 (harg10.unread xs0) := by
  unfold out0_B_6
  unfold kernelRun0_B
  dsimp only
  refine (View.read_writes_junk_eq_canon _ _).trans ?_
  rw [View.canon_unit_zero (S := S1x1024x128) hz3]
  have e3 : View.ld (View.read (Elt Ideal) arg3.view (harg3.unread x0)) (Rect.unit (s := S1x1024x128) ![0, 0, 0] S1x1024x128.size inb_S1x1024x128_S1x1024x128_0_0_0) = x0 := by
    rw [harg3.read_unread]; exact View.ld_unit_zero (S := S1x1024x128) hz3 _ _
  have e6 : View.ld (View.read (Elt Ideal) arg6.view (harg6.unread x3)) (Rect.unit (s := S1x1024x128) ![0, 0, 0] S1x1024x128.size inb_S1x1024x128_S1x1024x128_0_0_0) = x3 := by
    rw [harg6.read_unread]; exact View.ld_unit_zero (S := S1x1024x128) hz3 _ _
  have e7 : View.ld (View.read (Elt Ideal) arg7.view (harg7.unread x4)) (Rect.unit (s := S4x64) ![0, 0] S4x64.size inb_S4x64_S4x64_0_0) = x4 := by
    rw [harg7.read_unread]; exact View.ld_unit_zero (S := S4x64) hz2 _ _
  have e8 : View.ld (View.read (Elt Ideal) arg8.view (harg8.unread x5)) (Rect.unit (s := S1x128) ![0, 0] S1x128.size inb_S1x128_S1x128_0_0) = x5 := by
    rw [harg8.read_unread]; exact View.ld_unit_zero (S := S1x128) hz2 _ _
  have e4 := harg4.read_unread (Val := Elt Ideal) x1
  unfold kernelRun0_B.sl.r_21 kernelRun0_B.sl.r_20 kernelRun0_B.sl.r_19 kernelRun0_B.sl.r_18 kernelRun0_B.sl.r_17 kernelRun0_B.sl.r_16 kernelRun0_B.sl.r_15 kernelRun0_B.sl.r_14 kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
  simp only [View.readAt_eq_ld, e3, e6, e7, e8, e4]
  unfold outK
  rw [t2_done (h := trips2_eq i)]
  exact pay_fin _ _ _ _ _ _ _ _ _ _

theorem out_A (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S8x144x512 .bf16) (harg10 : arg10.IsWhole) (hc0 : cond0_0 i)
    (x0 : Vec Ideal S1x1024x128 .bf16) (x1 : Vec Ideal S1x4096x128 .bf16) (x2 : Vec Ideal S1x4096x128 .bf16) (x3 : Vec Ideal S1x1024x128 .bf16) (x4 : Vec Ideal S4x64 .f32) (x5 : Vec Ideal S1x128 .f32) :
    out0_A_6 (F := Ideal) c i arg3 harg3 arg4 harg4 arg5 harg5 arg6 harg6 arg7 harg7 arg8 harg8 arg9 harg9 arg10 harg10 hc0 x0 x1 x2 x3 x4 x5
      = outK c i arg3 harg3 arg4 harg4 arg5 harg5 arg6 harg6 arg7 harg7 arg8 harg8 arg9 harg9 arg10 harg10 x0 x1 x3 x4 x5 (arg10.view.writes (Elt Ideal) arg10.view.junk (kernelRun0_A.sl.HS0_16 c arg5 harg5 x2)) := by
  unfold out0_A_6
  unfold kernelRun0_A
  dsimp only
  refine (View.read_writes_junk_eq_canon _ _).trans ?_
  rw [View.canon_unit_zero (S := S1x1024x128) hz3]
  have e3 : View.ld (View.read (Elt Ideal) arg3.view (harg3.unread x0)) (Rect.unit (s := S1x1024x128) ![0, 0, 0] S1x1024x128.size inb_S1x1024x128_S1x1024x128_0_0_0) = x0 := by
    rw [harg3.read_unread]; exact View.ld_unit_zero (S := S1x1024x128) hz3 _ _
  have e6 : View.ld (View.read (Elt Ideal) arg6.view (harg6.unread x3)) (Rect.unit (s := S1x1024x128) ![0, 0, 0] S1x1024x128.size inb_S1x1024x128_S1x1024x128_0_0_0) = x3 := by
    rw [harg6.read_unread]; exact View.ld_unit_zero (S := S1x1024x128) hz3 _ _
  have e7 : View.ld (View.read (Elt Ideal) arg7.view (harg7.unread x4)) (Rect.unit (s := S4x64) ![0, 0] S4x64.size inb_S4x64_S4x64_0_0) = x4 := by
    rw [harg7.read_unread]; exact View.ld_unit_zero (S := S4x64) hz2 _ _
  have e8 : View.ld (View.read (Elt Ideal) arg8.view (harg8.unread x5)) (Rect.unit (s := S1x128) ![0, 0] S1x128.size inb_S1x128_S1x128_0_0) = x5 := by
    rw [harg8.read_unread]; exact View.ld_unit_zero (S := S1x128) hz2 _ _
  have e4 := harg4.read_unread (Val := Elt Ideal) x1
  unfold kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [View.readAt_eq_ld, e3, e6, e7, e8, e4]
  unfold outK
  rw [t2_done (h := trips2_eq i)]
  exact pay_fin _ _ _ _ _ _ _ _ _ _

end Cert.DiffIdeal.Dif

end
-- ==== Proof.DifFin.lean ====
/- The diagonal's masks, the two heads' sums at the end, and the differential attention's output block entry by entry. -/
module

public import proofs.«01_k».proof.Proof.Gen.DiffIdeal.Value
public import proofs.«01_k».proof.Proof.Gen.DiffReferenceIdeal.Run
public import proofs.«01_k».proof.Proof.Gen.DiffReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import Idealize.ShloMosaic.Lib.Pipeline.ValueKit.Tiles
public import proofs.«01_k».proof.Proof.DifOut

@[expose] public section

noncomputable section

namespace Cert.DiffIdeal.Dif

open Idealize.ShloMosaic hiding ix1 ix2 ix3 ix4 constant_apply
open Cert.DiffIdeal Cert.DiffIdeal.Gen Idealize.ShloMosaic.TcCoe Idealize.SL.Sem
open Idealize.ShloMosaic.Pipeline (Dat)
open Idealize.ShloMosaic.ValueIdx
open Cert.Softmax

set_option maxRecDepth 100000

theorem toInt_small (a : ℕ) (ha : a < 2 ^ 31) : (BitVec.ofNat 32 a).toInt = (a : ℤ) := by
  rw [BitVec.toInt_ofNat', Int.bmod_eq_of_le (by omega) (by omega)]

theorem sle_small (a b : ℕ) (ha : a < 2 ^ 31) (hb : b < 2 ^ 31) : (BitVec.ofNat 32 a).sle (BitVec.ofNat 32 b) = decide (a ≤ b) := by
  rw [BitVec.sle_eq_decide, toInt_small a ha, toInt_small b hb]
  simp

theorem mask_eq : (Named.named κ "mask" 0xF149F2CA#32 : Ideal .f32) = ⊥ := IdealRules.named_const.ideal_named_scalar _ _ _ _ rfl

/-! ## The masks -/

/-- A query's chunk, as the kernel works it out. -/
def flq (v : IVec S512x1024 32) : IVec S512x1024 32 :=
  select (andi (k0_pay66 v) (k0_pay67 v)) (subi (k0_pay65 v) (broadcast S512x1024 1#32)) (k0_pay65 v)
/-- A later query's chunk, as the kernel works it out. -/
def flq2 (v : IVec S512x512 32) : IVec S512x512 32 :=
  select (andi (cmpi .ne (k0_pay85 v) k0_pay86) (cmpi .ne (remsi v (broadcast S512x512 64#32)) (broadcast S512x512 0#32))) (subi (k0_pay84 v) (broadcast S512x512 1#32)) (k0_pay84 v)

/-- The chunk of a position, word by word. -/
def fl (x : BitVec 32) : BitVec 32 :=
  Scalar.select
    (IntOp.andi
      (IntOp.cmpi CmpIPredicate.ne (IntOp.subi ((IntOp.cmpi CmpIPredicate.sgt x 0#32).setWidth 32) ((IntOp.cmpi CmpIPredicate.slt x 0#32).setWidth 32))
        (Scalar.subi (Scalar.extui (Scalar.cmpi .sgt 64#32 0#32)) (Scalar.extui (Scalar.cmpi .slt 64#32 0#32))))
      (IntOp.cmpi CmpIPredicate.ne (IntOp.remsi ArithUnit.vector x 64#32) 0#32))
    (IntOp.subi (IntOp.divsi ArithUnit.vector x 64#32) 1#32) (IntOp.divsi ArithUnit.vector x 64#32)

theorem fl_small : ∀ n : Fin 1024, fl (BitVec.ofNat 32 n.val) = BitVec.ofNat 32 (n.val / 64) := by decide +kernel

theorem pay64_fl (v : IVec S512x1024 32) (i : S512x1024.Idx) : k0_pay64 v i = fl (v i) := rfl
theorem flq_fl (v : IVec S512x1024 32) (i : S512x1024.Idx) : flq v i = fl (v i) := rfl
theorem pay83_fl (v : IVec S512x512 32) (i : S512x512.Idx) : k0_pay83 v i = fl (v i) := rfl
theorem flq2_fl (v : IVec S512x512 32) (i : S512x512.Idx) : flq2 v i = fl (v i) := rfl
theorem pay68_pt (u v : IVec S512x1024 32) (i : S512x1024.Idx) : k0_pay68 u (k0_pay65 v) (k0_pay66 v) (k0_pay67 v) i = BitVec.ofBool (BitVec.sle (u i) (flq v i)) := rfl
theorem pay87_pt (u v : IVec S512x512 32) (i : S512x512.Idx) : k0_pay87 v u 64#32 (k0_pay84 v) (k0_pay85 v) k0_pay86 i = BitVec.ofBool (BitVec.sle (u i) (flq2 v i)) := rfl

theorem iota_A0 (κ : Fin 512) (q : Fin 1024) : (iota .tc S512x1024 32 [0] iota_S512x1024_d0_w32) (ix2 κ q) = BitVec.ofNat 32 κ.val := by
  show BitVec.ofNat 32 (0 * 512 + κ.val) = _
  simp only [Nat.zero_mul, Nat.zero_add]
theorem iota_A1 (κ : Fin 512) (q : Fin 1024) : (iota .tc S512x1024 32 [1] iota_S512x1024_d1_w32) (ix2 κ q) = BitVec.ofNat 32 q.val := by
  show BitVec.ofNat 32 (0 * 1024 + q.val) = _
  simp only [Nat.zero_mul, Nat.zero_add]
theorem iota_B0 (κ : Fin 512) (q : Fin 512) : (iota .tc S512x512 32 [0] iota_S512x512_d0_w32) (ix2 κ q) = BitVec.ofNat 32 κ.val := by
  show BitVec.ofNat 32 (0 * 512 + κ.val) = _
  simp only [Nat.zero_mul, Nat.zero_add]
theorem iota_B1 (κ : Fin 512) (q : Fin 512) : (iota .tc S512x512 32 [1] iota_S512x512_d1_w32) (ix2 κ q) = BitVec.ofNat 32 q.val := by
  show BitVec.ofNat 32 (0 * 512 + q.val) = _
  simp only [Nat.zero_mul, Nat.zero_add]

theorem maskA_apply (κ : Fin 512) (q : Fin 1024) : maskA (ix2 κ q) = BitVec.ofBool (decide (κ.val / 64 ≤ q.val / 64)) := by
  have hκ := κ.isLt
  have hq := q.isLt
  unfold maskA
  rw [pay68_pt, pay64_fl, flq_fl, iota_A0, iota_A1, fl_small ⟨κ.val, by omega⟩, fl_small q, sle_small _ _ (by omega) (by omega)]

theorem maskB_apply (κ : Fin 512) (q : Fin 512) : maskB (ix2 κ q) = BitVec.ofBool (decide (κ.val / 64 ≤ q.val / 64)) := by
  have hκ := κ.isLt
  have hq := q.isLt
  unfold maskB
  rw [pay87_pt, pay83_fl, flq2_fl, iota_B0, iota_B1, fl_small ⟨κ.val, by omega⟩, fl_small ⟨q.val, by omega⟩, sle_small _ _ (by omega) (by omega)]

theorem scoreD0_apply (A : FVec Ideal S1024x128 .bf16) (kb) (κ : Fin 512) (q : Fin 1024) :
    scoreD0 A kb (ix2 κ q) = if κ.val / 64 ≤ q.val / 64 then scoreM A kb (ix2 κ q) else ⊥ := by
  unfold scoreD0
  rw [select_apply, maskA_apply]
  split_ifs with hc
  · rw [decide_eq_true hc]; rfl
  · rw [decide_eq_false hc]; exact mask_eq

theorem scoreD1_apply (A : FVec Ideal S1024x128 .bf16) (x : Vec Ideal S1x4096x128 .bf16) (b : Fin 8) (κ : Fin 512) (q : Fin 512) :
    scoreD1 A (kld x b) (ix2 κ q) = if κ.val / 64 ≤ q.val / 64 then scoreM A (kld x b) (ix2 κ (⟨512 + q.val, by omega⟩ : Fin 1024)) else ⊥ := by
  unfold scoreD1
  rw [select_apply, maskB_apply]
  split_ifs with hc
  · rw [decide_eq_true hc]
    have h := Ideal.matmul_transposedRhs_apply (M := 512) (K := 128) (N := 512) none (shapeCast S512x128 (kld x b) shapeCasts_S1x512x128_S512x128 : FVec Ideal S512x128 .bf16)
      (extractStridedSlice S512x128 ![512, 0] A slices_S1024x128_o512_0_S512x128) (constant (F := Ideal) S512x512 .f32 0x00000000#32) κ q
    rw [constant_apply, Ideal.ofBits_zero_f32, zero_add] at h
    refine h.trans ?_
    rw [scoreM_apply]
    refine Finset.sum_congr rfl fun j _ => congrArg₂ (· * ·) (krow_apply x b κ j) ?_
    exact extractStridedSlice_apply ![512, 0] _ slices_S1024x128_o512_0_S512x128 (ix2 q j) (ix2 (⟨512 + q.val, by omega⟩ : Fin 1024) j) (by
      intro a; match a with | ⟨0, _⟩ => rfl | ⟨1, _⟩ => show j.val = 0 + j.val; omega)
  · rw [decide_eq_false hc]; exact mask_eq

/-- The earlier half of the queries keeps its sums. -/
theorem half_left (m : FVec Ideal S1x1024 .f32) (acc : FVec Ideal S144x1024 .f32) (V : FVec Ideal S144x512 .bf16) (s : FVec Ideal S512x512 .f32)
    (r : Fin 144) (q : Fin 1024) (hq : q.val < 512) : half m acc V s (ix2 r q) = acc (ix2 r q) := by
  unfold half
  refine (concatenate_pair_apply_left (t := S144x1024) (s₁ := S144x512) (s₂ := S144x512) 1 _ _ _ (ix2 r q) rfl (ix2 r (⟨q.val, hq⟩ : Fin 512)) (by
    intro b; match b with | ⟨0, _⟩ => rfl | ⟨1, _⟩ => rfl)).trans ?_
  exact extractStridedSlice_apply ![0, 0] _ slices_S144x1024_o0_0_S144x512 (ix2 r (⟨q.val, hq⟩ : Fin 512)) (ix2 r q) (by
      intro a; match a with | ⟨0, _⟩ => show r.val = 0 + r.val; omega | ⟨1, _⟩ => show q.val = 0 + q.val; omega)

/-- The later half of the maxima. -/
def mlate (m : FVec Ideal S1x1024 .f32) : FVec Ideal S1x512 .f32 := extractStridedSlice S1x512 ![0, 512] m slices_S1x1024_o0_512_S1x512
/-- The later half of the sums. -/
def alate (a : FVec Ideal S144x1024 .f32) : FVec Ideal S144x512 .f32 := extractStridedSlice S144x512 ![0, 512] a slices_S144x1024_o0_512_S144x512
theorem mlate_apply (m : FVec Ideal S1x1024 .f32) (q : Fin 512) : mlate m (ix2 (0 : Fin 1) q) = m (ix2 (0 : Fin 1) (⟨512 + q.val, by omega⟩ : Fin 1024)) := by
  unfold mlate
  exact extractStridedSlice_apply ![0, 512] _ slices_S1x1024_o0_512_S1x512 (ix2 (0 : Fin 1) q) (ix2 (0 : Fin 1) (⟨512 + q.val, by omega⟩ : Fin 1024)) (by
      intro a; match a with | ⟨0, _⟩ => rfl | ⟨1, _⟩ => rfl)
theorem alate_apply (a : FVec Ideal S144x1024 .f32) (r : Fin 144) (q : Fin 512) : alate a (ix2 r q) = a (ix2 r (⟨512 + q.val, by omega⟩ : Fin 1024)) := by
  unfold alate
  exact extractStridedSlice_apply ![0, 512] _ slices_S144x1024_o0_512_S144x512 (ix2 r q) (ix2 r (⟨512 + q.val, by omega⟩ : Fin 1024)) (by
      intro a; match a with | ⟨0, _⟩ => show r.val = 0 + r.val; omega | ⟨1, _⟩ => rfl)

theorem half_right (m : FVec Ideal S1x1024 .f32) (acc : FVec Ideal S144x1024 .f32) (V : FVec Ideal S144x512 .bf16) (s : FVec Ideal S512x512 .f32)
    (r : Fin 144) (q : Fin 512) : half m acc V s (ix2 r (⟨512 + q.val, by omega⟩ : Fin 1024))
      = accNew (K := 512) (Q := 512) (D := 144) (mlate m) (mNew (K := 512) (Q := 512) (mlate m) s reduces_S512x512_S512 shapeCasts_S512_S1x512)
          (alate acc) V s broadcasts_S1x512_S512x512 broadcasts_S1x512_S144x512 bitsLt_bf16_f32 (ix2 r q) := by
  unfold half
  exact (concatenate_pair_apply_right (t := S144x1024) (s₁ := S144x512) (s₂ := S144x512) 1 _ _ _ (ix2 r (⟨512 + q.val, by omega⟩ : Fin 1024)) rfl rfl (ix2 r q) (by
    intro b; match b with | ⟨0, _⟩ => intro _; rfl | ⟨1, _⟩ => intro h; exact absurd rfl h) (by show q.val + 512 = 512 + q.val; omega))

theorem term_masked (s : Fin 1024 → Fin 4096 → ℝ) (w : Fin 144 → Fin 4096 → ℝ) (q0 : ℕ) (r : Fin 144) (q : Fin 1024) (key : ℕ) (h : (q0 + q.val) / 64 < key / 64) :
    term s w q0 r q key = 0 := by
  unfold term
  split_ifs with hk
  · unfold vis
    rw [if_neg (by show ¬ key / 64 ≤ _; omega), E_bot, mul_zero]
  · rfl

/-- Keys past the query add nothing. -/
theorem Z_masked (s : Fin 1024 → Fin 4096 → ℝ) (w : Fin 144 → Fin 4096 → ℝ) (q0 : ℕ) (r : Fin 144) (q : Fin 1024) (n k : ℕ) (h : (q0 + q.val) / 64 < n / 64) :
    Z s w q0 r q (n + k) = Z s w q0 r q n := by
  unfold Z
  rw [Finset.sum_range_add]
  rw [Finset.sum_eq_zero (s := Finset.range k) fun x _ => term_masked s w q0 r q (n + x) (by omega), add_zero]

/-- A head's sums at the end: every query's row over one maximum. -/
def Final (s : Fin 1024 → Fin 4096 → ℝ) (w : Fin 144 → Fin 4096 → ℝ) (q0 : ℕ) (a : FVec Ideal S144x1024 .f32) : Prop :=
  ∀ q : Fin 1024, ∃ μ : EReal, ∀ r : Fin 144, Inv (Z s w q0 r q (q0 + 1024)) μ (a (ix2 r q))

theorem Good.final {s : Fin 1024 → Fin 4096 → ℝ} {w : Fin 144 → Fin 4096 → ℝ} {q0 : ℕ} {m : FVec Ideal S1x1024 .f32} {acc : FVec Ideal S144x1024 .f32}
    (b b' : Fin 8) (hb : q0 = 512 * b.val) (hb' : b'.val = b.val + 1) (V V' : FVec Ideal S144x512 .bf16) (S : FVec Ideal S512x1024 .f32) (S' : FVec Ideal S512x512 .f32)
    (h : Good s w q0 q0 m acc)
    (hV : ∀ r κ, V (ix2 r κ) = ((w r (keyOf b κ) : ℝ) : EReal)) (hV' : ∀ r κ, V' (ix2 r κ) = ((w r (keyOf b' κ) : ℝ) : EReal))
    (hS : ∀ κ q, S (ix2 κ q) = vis s q0 q (keyOf b κ)) (hS' : ∀ κ (q : Fin 512), S' (ix2 κ q) = vis s q0 (⟨512 + q.val, by omega⟩ : Fin 1024) (keyOf b' κ)) :
    Final s w q0 (half (mN m S) (aN m acc V S) V' S') := by
  subst hb
  have h1 := h.block b V S hV hS
  intro q
  have e : 512 * b.val + 1024 = 512 * (b'.val + 1) := by omega
  by_cases hq : q.val < 512
  · refine ⟨mN m S (ix2 (0 : Fin 1) q), fun r => ?_⟩
    rw [half_left _ _ _ _ r q hq]
    have h2 := h1 r q
    rw [show 512 * b.val + 1024 = 512 * (b.val + 1) + 512 by ring, Z_masked s w _ r q _ _ (by omega)]
    exact h2
  · have hq' : q = (⟨512 + (⟨q.val - 512, by omega⟩ : Fin 512).val, by show 512 + (q.val - 512) < 1024; omega⟩ : Fin 1024) :=
      Fin.ext (by show q.val = 512 + (q.val - 512); omega)
    suffices key : ∀ p : Fin 512, ∃ μ : EReal, ∀ r : Fin 144, Inv (Z s w (512 * b.val) r (⟨512 + p.val, by omega⟩ : Fin 1024) (512 * b.val + 1024)) μ
        (half (mN m S) (aN m acc V S) V' S' (ix2 r (⟨512 + p.val, by omega⟩ : Fin 1024))) by
      rw [hq']
      exact key _
    intro p
    refine ⟨mNew (K := 512) (Q := 512) (mlate (mN m S)) S' reduces_S512x512_S512 shapeCasts_S512_S1x512 (ix2 (0 : Fin 1) p), fun r => ?_⟩
    rw [half_right]
    rw [e, ← Z_block, hb']
    have h2 := h1 r (⟨512 + p.val, by omega⟩ : Fin 1024)
    rw [← mlate_apply (mN m S) p, ← alate_apply (aN m acc V S) r p] at h2
    have e2 : ∑ κ : Fin 512, w r (keyOf b' κ) * E (vis s (512 * b.val) (⟨512 + p.val, by omega⟩ : Fin 1024) (keyOf b' κ)) = ∑ κ : Fin 512, w r (keyOf b' κ) * E (S' (ix2 κ p)) :=
      Finset.sum_congr rfl fun κ _ => by rw [hS']
    rw [e2]
    exact state_step (K := 512) (Q := 512) (D := 144) (mlate (mN m S)) (alate (aN m acc V S)) V' S' _ _ _ _ _ r p _ (fun κ => w r (keyOf b' κ)) h2 (fun κ => hV' r κ)
      (fun κ => by rw [hS']; exact vis_ne s _ _ _)

/-- The rows of weighted values over the row of weights. -/
def quot (a : FVec Ideal S144x1024 .f32) : FVec Ideal S128x1024 .f32 :=
  divf (extractStridedSlice S128x1024 ![0, 0] a slices_S144x1024_o0_0_S128x1024)
    (broadcastTo S128x1024 (extractStridedSlice S1x1024 ![128, 0] a slices_S144x1024_o128_0_S1x1024) broadcasts_S1x1024_S128x1024)

/-- A row of weighted values over the row of weights. -/
theorem quot_apply {s : Fin 1024 → Fin 4096 → ℝ} {w : Fin 144 → Fin 4096 → ℝ} {q0 : ℕ} {a : FVec Ideal S144x1024 .f32} (h : Final s w q0 a)
    (d : Fin 128) (q : Fin 1024) (hd : 0 < Z s w q0 (128 : Fin 144) q (q0 + 1024)) :
    quot a (ix2 d q) = ((Z s w q0 (⟨d.val, by omega⟩ : Fin 144) q (q0 + 1024) / Z s w q0 (128 : Fin 144) q (q0 + 1024) : ℝ) : EReal) := by
  obtain ⟨μ, hμ⟩ := h q
  unfold quot
  rw [divf_apply]
  rw [extractStridedSlice_apply ![0, 0] _ slices_S144x1024_o0_0_S128x1024 (ix2 d q) (ix2 (⟨d.val, by omega⟩ : Fin 144) q) (by
      intro a; match a with | ⟨0, _⟩ => show d.val = 0 + d.val; omega | ⟨1, _⟩ => show q.val = 0 + q.val; omega)]
  rw [broadcastTo_apply _ broadcasts_S1x1024_S128x1024 (ix2 d q) (ix2 (0 : Fin 1) q) (by intro a; match a with | ⟨0, _⟩ => rfl | ⟨1, _⟩ => rfl)]
  rw [extractStridedSlice_apply ![128, 0] _ slices_S144x1024_o128_0_S1x1024 (ix2 (0 : Fin 1) q) (ix2 (128 : Fin 144) q) (by
      intro a; match a with | ⟨0, _⟩ => rfl | ⟨1, _⟩ => show q.val = 0 + q.val; omega)]
  exact Inv.div hd (hμ _) (hμ _)

/-- A gate's entry. -/
def sil (g : EReal) : EReal := Ideal.div g (1 + Ideal.exp (0 - g))

/-- The second head's weight, from the rows of scalars. -/
def lamE (l : Vec Ideal S4x64 .f32) : EReal :=
  Ideal.exp (∑ j : Fin 64, l (ix2 (0 : Fin 4) j) * l (ix2 (1 : Fin 4) j)) - Ideal.exp (∑ j : Fin 64, l (ix2 (2 : Fin 4) j) * l (ix2 (3 : Fin 4) j))
    + Ideal.ofBits .f32 0x3E4CCCCD#32

/-- The second head's weight, as the kernel works it out. -/
def lamV (l : Vec Ideal S4x64 .f32) : FVec Ideal S1x1 .f32 :=
  addf (subf
    (exp (shapeCast S1x1 (multiReduction .add [1] S1 (mulf (extractStridedSlice S1x64 ![0, 0] l slices_S4x64_o0_0_S1x64) (extractStridedSlice S1x64 ![1, 0] l slices_S4x64_o1_0_S1x64) : FVec Ideal S1x64 .f32) 0x00000000#32 reduces_S1x64_S1 (.inl rfl) rfl) shapeCasts_S1_S1x1))
    (exp (shapeCast S1x1 (multiReduction .add [1] S1 (mulf (extractStridedSlice S1x64 ![2, 0] l slices_S4x64_o2_0_S1x64) (extractStridedSlice S1x64 ![3, 0] l slices_S4x64_o3_0_S1x64) : FVec Ideal S1x64 .f32) 0x00000000#32 reduces_S1x64_S1 (.inl rfl) rfl) shapeCasts_S1_S1x1)))
    (broadcast S1x1 (Scalar.ofBits .f32 0x3E4CCCCD#32))

theorem dot64 (X Y : FVec Ideal S1x64 .f32) :
    (shapeCast S1x1 (multiReduction .add [1] S1 (mulf X Y) 0x00000000#32 reduces_S1x64_S1 (.inl rfl) rfl) shapeCasts_S1_S1x1 : FVec Ideal S1x1 .f32) (ix2 (0 : Fin 1) (0 : Fin 1))
      = ∑ j : Fin 64, X (ix2 (0 : Fin 1) j) * Y (ix2 (0 : Fin 1) j) := by
  refine (shapeCast_apply _ shapeCasts_S1_S1x1 (ix2 (0 : Fin 1) (0 : Fin 1)) (ix1 (0 : Fin 1)) (by rw [Shape.rowMajor_val_one, Shape.rowMajor_val_two]; rfl)).trans ?_
  refine (Ideal.multiReduction_add_single (mulf X Y) 0x00000000#32 reduces_S1x64_S1 (.inl rfl) rfl (ix1 (0 : Fin 1))).trans ?_
  have e : ∀ k, Shape.Reduces.lift reduces_S1x64_S1 (ix1 (0 : Fin 1)) k = ix2 (0 : Fin 1) k := by
    intro k
    funext a; apply Fin.ext
    match a with | ⟨0, _⟩ => rfl | ⟨1, _⟩ => rfl
  simp only [e, mulf_apply]
  rfl

theorem lam_row (l : Vec Ideal S4x64 .f32) (i : Fin 4) (h : S4x64.Slices ![i.val, 0] S1x64) (j : Fin 64) :
    (extractStridedSlice S1x64 ![i.val, 0] l h : FVec Ideal S1x64 .f32) (ix2 (0 : Fin 1) j) = l (ix2 i j) :=
  extractStridedSlice_apply ![i.val, 0] _ h (ix2 (0 : Fin 1) j) (ix2 i j) (by
    intro a; match a with | ⟨0, _⟩ => rfl | ⟨1, _⟩ => show j.val = 0 + j.val; omega)

theorem lamV_apply (l : Vec Ideal S4x64 .f32) : lamV l (ix2 (0 : Fin 1) (0 : Fin 1)) = lamE l := by
  unfold lamV lamE
  show Ideal.exp ((shapeCast S1x1 _ shapeCasts_S1_S1x1 : FVec Ideal S1x1 .f32) (ix2 (0 : Fin 1) (0 : Fin 1))) - Ideal.exp ((shapeCast S1x1 _ shapeCasts_S1_S1x1 : FVec Ideal S1x1 .f32) (ix2 (0 : Fin 1) (0 : Fin 1))) + _ = _
  rw [dot64, dot64]
  have h0 := lam_row l 0 slices_S4x64_o0_0_S1x64
  have h1 := lam_row l 1 slices_S4x64_o1_0_S1x64
  have h2 := lam_row l 2 slices_S4x64_o2_0_S1x64
  have h3 := lam_row l 3 slices_S4x64_o3_0_S1x64
  refine congrArg₂ (· + ·) (congrArg₂ (fun a b => Ideal.exp a - Ideal.exp b) ?_ ?_) rfl
  · exact Finset.sum_congr rfl fun j _ => congrArg₂ (· * ·) (h0 j) (h1 j)
  · exact Finset.sum_congr rfl fun j _ => congrArg₂ (· * ·) (h2 j) (h3 j)

/-- A row, normalised, weighted, scaled and gated: an entry. -/
def post (o : Fin 128 → EReal) (w g : EReal) (d : Fin 128) : EReal :=
  o d * Ideal.rsqrt (Ideal.div (∑ k : Fin 128, o k * o k) (Ideal.ofBits .f32 0x43000000#32) + Ideal.ofBits .f32 0x358637BD#32) * w * Ideal.ofBits .f32 0x3F4CCCCD#32 * sil g

/-- The difference of the heads, a row to a query. -/
def comb (a0 a1 : FVec Ideal S144x1024 .f32) (l : Vec Ideal S4x64 .f32) : FVec Ideal S1024x128 .f32 :=
  transpose S1024x128 [1, 0] (subf (quot a0) (mulf (broadcastTo S128x1024 (lamV l) broadcasts_S1x1_S128x1024) (quot a1))) transposes_S128x1024_p1_0_S1024x128

theorem comb_apply (a0 a1 : FVec Ideal S144x1024 .f32) (l : Vec Ideal S4x64 .f32) (q : Fin 1024) (d : Fin 128) :
    comb a0 a1 l (ix2 q d) = quot a0 (ix2 d q) - lamE l * quot a1 (ix2 d q) := by
  unfold comb
  rw [transpose_apply _ _ transposes_S128x1024_p1_0_S1024x128 (ix2 q d) (ix2 d q) (by
    intro a; match a with | ⟨0, _⟩ => rfl | ⟨1, _⟩ => rfl)]
  rw [subf_apply, mulf_apply]
  rw [broadcastTo_apply _ broadcasts_S1x1_S128x1024 (ix2 d q) (ix2 (0 : Fin 1) (0 : Fin 1)) (by intro a; match a with | ⟨0, _⟩ => rfl | ⟨1, _⟩ => rfl)]
  rw [lamV_apply]

/-- The normalised, weighted and scaled rows. -/
def norm (o : FVec Ideal S1024x128 .f32) (sub : Vec Ideal S1x128 .f32) : FVec Ideal S1024x128 .f32 :=
  mulf (mulf (mulf o (broadcastTo S1024x128 (rsqrt (addf (divf (shapeCast S1024x1 (multiReduction .add [1] S1024 (mulf o o) 0x00000000#32 reduces_S1024x128_S1024 (.inl rfl) rfl) shapeCasts_S1024_S1024x1)
    (broadcast S1024x1 (Scalar.ofBits .f32 0x43000000#32))) (broadcast S1024x1 (Scalar.ofBits .f32 0x358637BD#32)))) broadcasts_S1024x1_S1024x128))
    (broadcastTo S1024x128 (shapeCast S1x128 sub shapeCasts_S1x128_S1x128 : FVec Ideal S1x128 .f32) broadcasts_S1x128_S1024x128)) (broadcast S1024x128 (Scalar.ofBits .f32 0x3F4CCCCD#32))

theorem pay91_eq (a0 a1 : FVec Ideal S144x1024 .f32) (l : Vec Ideal S4x64 .f32) (sub : Vec Ideal S1x128 .f32) :
    k0_pay91 a0 a1 l sub = norm (comb a0 a1 l) sub := rfl

theorem sumsq (Z : FVec Ideal S1024x128 .f32) (r : Fin 1024) :
    multiReduction .add [1] S1024 (mulf Z Z) 0x00000000#32 reduces_S1024x128_S1024 (.inl rfl) rfl (ix1 r) = ∑ k : Fin 128, Z (ix2 r k) * Z (ix2 r k) := by
  refine (Ideal.multiReduction_add_single (mulf Z Z) 0x00000000#32 reduces_S1024x128_S1024 (.inl rfl) rfl (ix1 r)).trans ?_
  have e : ∀ k, Shape.Reduces.lift reduces_S1024x128_S1024 (ix1 r) k = ix2 r k := by
    intro k
    funext a; apply Fin.ext
    match a with | ⟨0, _⟩ => rfl | ⟨1, _⟩ => rfl
  simp only [e, mulf_apply]
  rfl

theorem norm_apply (Z : FVec Ideal S1024x128 .f32) (g : Vec Ideal S1x128 .f32) (r : Fin 1024) (c : Fin 128) :
    norm Z g (ix2 r c) = Z (ix2 r c) * Ideal.rsqrt (Ideal.div (∑ k : Fin 128, Z (ix2 r k) * Z (ix2 r k)) (Ideal.ofBits .f32 0x43000000#32) + Ideal.ofBits .f32 0x358637BD#32)
      * g (ix2 (0 : Fin 1) c) * Ideal.ofBits .f32 0x3F4CCCCD#32 := by
  unfold norm
  rw [mulf_apply, mulf_apply, mulf_apply]
  rw [broadcastTo_apply _ broadcasts_S1024x1_S1024x128 (ix2 r c) (ix2 r (0 : Fin 1)) (by intro a; match a with | ⟨0, _⟩ => rfl | ⟨1, _⟩ => rfl)]
  rw [broadcastTo_apply _ broadcasts_S1x128_S1024x128 (ix2 r c) (ix2 (0 : Fin 1) c) (by intro a; match a with | ⟨0, _⟩ => rfl | ⟨1, _⟩ => rfl)]
  rw [shapeCast_apply g shapeCasts_S1x128_S1x128 (ix2 (0 : Fin 1) c) (ix2 (0 : Fin 1) c) rfl]
  have hs : ∀ v : FVec Ideal S1024 .f32, shapeCast S1024x1 v shapeCasts_S1024_S1024x1 (ix2 r (0 : Fin 1)) = v (ix1 r) := by
    intro v
    exact shapeCast_apply v shapeCasts_S1024_S1024x1 (ix2 r (0 : Fin 1)) (ix1 r) (by rw [Shape.rowMajor_val_one, Shape.rowMajor_val_two]; simp [ix1, ix2])
  show _ * Ideal.rsqrt (Ideal.div (shapeCast S1024x1 _ shapeCasts_S1024_S1024x1 (ix2 r (0 : Fin 1))) _ + _) * _ * _ = _
  rw [hs]
  exact congrArg (fun s => Z (ix2 r c) * Ideal.rsqrt (Ideal.div s (Ideal.ofBits .f32 0x43000000#32) + Ideal.ofBits .f32 0x358637BD#32) * g (ix2 (0 : Fin 1) c) * Ideal.ofBits .f32 0x3F4CCCCD#32) (sumsq Z r)

theorem gate_apply (g : Vec Ideal S1x1024x128 .bf16) (q : Fin 1024) (l : Fin 128) : k0_pay92 g (ix2 q l) = g (ix3 (0 : Fin 1) q l) := by
  show (extf .f32 (shapeCast S1024x128 g shapeCasts_S1x1024x128_S1024x128 : FVec Ideal S1024x128 .bf16) bitsLt_bf16_f32 : FVec Ideal S1024x128 .f32) (ix2 q l) = _
  rw [extf_apply]
  exact shapeCast_apply _ shapeCasts_S1x1024x128_S1024x128 (ix2 q l) (ix3 (0 : Fin 1) q l) (by
      rw [Shape.rowMajor_val_two, Shape.rowMajor_val_three]
      show (0 * 1024 + q.val) * 128 + l.val = q.val * 128 + l.val
      omega)

/-- An entry of the output block. -/
theorem blockOut_apply (a0 a1 : FVec Ideal S144x1024 .f32) (lam : Vec Ideal S4x64 .f32) (sub : Vec Ideal S1x128 .f32) (g : Vec Ideal S1x1024x128 .bf16) (q : Fin 1024) (d : Fin 128) :
    blockOut a0 a1 lam sub g (ix3 (0 : Fin 1) q d)
      = post (fun k => quot a0 (ix2 k q) - lamE lam * quot a1 (ix2 k q)) (sub (ix2 (0 : Fin 1) d)) (g (ix3 (0 : Fin 1) q d)) d := by
  unfold blockOut k0_pay1
  rw [shapeCast_apply _ _ (ix3 (0 : Fin 1) q d) (ix2 q d) (by
      rw [Shape.rowMajor_val_two, Shape.rowMajor_val_three]
      show q.val * 128 + d.val = (0 * 1024 + q.val) * 128 + d.val
      omega)]
  rw [truncf_apply, mulf_apply, pay91_eq, norm_apply]
  unfold post
  simp only [comb_apply]
  refine congrArg₂ (fun a b : EReal => a * b) rfl ?_
  unfold sil
  rw [divf_apply, gate_apply]
  refine congrArg (Ideal.div _) ?_
  rw [addf_apply]
  refine congrArg₂ (· + ·) ?_ ?_
  · show Ideal.ofBits .f32 0x3F800000#32 = 1
    exact Ideal.ofBits_one_f32
  · show Ideal.exp (_ - _) = _
    rw [gate_apply]
    refine congrArg (fun z => Ideal.exp (z - _)) ?_
    exact Ideal.ofBits_zero_f32

/-- The state before any key. -/
theorem init_good (s0 s1 : Fin 1024 → Fin 4096 → ℝ) (w : Fin 144 → Fin 4096 → ℝ) (q0 : ℕ) :
    GoodS s0 s1 w q0 0 (k0_pay41 (F := Ideal), k0_pay42 (F := Ideal), k0_pay43 (F := Ideal), k0_pay44 (F := Ideal)) := by
  have hm : ∀ q : Fin 1024, k0_pay41 (F := Ideal) (ix2 (0 : Fin 1) q) = ⊥ := fun q => mask_eq
  have hm' : ∀ q : Fin 1024, k0_pay43 (F := Ideal) (ix2 (0 : Fin 1) q) = ⊥ := fun q => mask_eq
  have ha : ∀ (r : Fin 144) (q : Fin 1024), k0_pay42 (F := Ideal) (ix2 r q) = 0 := fun r q => Ideal.ofBits_zero_f32
  have ha' : ∀ (r : Fin 144) (q : Fin 1024), k0_pay44 (F := Ideal) (ix2 r q) = 0 := fun r q => Ideal.ofBits_zero_f32
  constructor
  · intro r q
    show Inv (Z s0 w q0 r q 0) (k0_pay41 (F := Ideal) (ix2 (0 : Fin 1) q)) (k0_pay42 (F := Ideal) (ix2 r q))
    rw [hm, ha, show Z s0 w q0 r q 0 = 0 from Finset.sum_range_zero _]
    exact Inv.init
  · intro r q
    show Inv (Z s1 w q0 r q 0) (k0_pay43 (F := Ideal) (ix2 (0 : Fin 1) q)) (k0_pay44 (F := Ideal) (ix2 r q))
    rw [hm', ha', show Z s1 w q0 r q 0 = 0 from Finset.sum_range_zero _]
    exact Inv.init

/-- Both heads' sums at the end. -/
theorem fin_final {x1 : Vec Ideal S1x4096x128 .bf16} {xs0 : Vec Ideal S8x144x512 .bf16}
    {A0 A1 : FVec Ideal S1024x128 .bf16} {s0 s1 : Fin 1024 → Fin 4096 → ℝ} {w : Fin 144 → Fin 4096 → ℝ}
    (R : Real' x1 xs0 A0 A1 s0 s1 w) (q0 : ℕ) (b b' : Fin 8) (hb : q0 = 512 * b.val) (hb' : b'.val = b.val + 1) (st : State)
    (h : GoodS s0 s1 w q0 q0 st) (lam : Vec Ideal S4x64 .f32) (sub : Vec Ideal S1x128 .f32) (g : Vec Ideal S1x1024x128 .bf16) :
    ∃ a0 a1 : FVec Ideal S144x1024 .f32, Final s0 w q0 a0 ∧ Final s1 w q0 a1
      ∧ fin A0 A1 st (kld x1 b) (kld x1 b') (vld xs0 b) (vld xs0 b') lam sub g = blockOut a0 a1 lam sub g := by
  have hD0 : ∀ (s : Fin 1024 → Fin 4096 → ℝ) (κ : Fin 512) (q : Fin 1024), (if κ.val / 64 ≤ q.val / 64 then ((s q (keyOf b κ) : ℝ) : EReal) else ⊥) = vis s q0 q (keyOf b κ) := by
    intro s κ q
    unfold vis
    refine if_congr ?_ rfl rfl
    show κ.val / 64 ≤ q.val / 64 ↔ (512 * b.val + κ.val) / 64 ≤ (q0 + q.val) / 64
    omega
  have hD1 : ∀ (s : Fin 1024 → Fin 4096 → ℝ) (κ : Fin 512) (q : Fin 512),
      (if κ.val / 64 ≤ q.val / 64 then ((s (⟨512 + q.val, by omega⟩ : Fin 1024) (keyOf b' κ) : ℝ) : EReal) else ⊥) = vis s q0 (⟨512 + q.val, by omega⟩ : Fin 1024) (keyOf b' κ) := by
    intro s κ q
    unfold vis
    refine if_congr ?_ rfl rfl
    show κ.val / 64 ≤ q.val / 64 ↔ (512 * b'.val + κ.val) / 64 ≤ (q0 + (512 + q.val)) / 64
    omega
  refine ⟨_, _, ?_, ?_, rfl⟩
  · exact h.1.final b b' hb hb' _ _ _ _ (R.val b) (R.val b') (fun κ q => by rw [scoreD0_apply, R.score0]; exact hD0 s0 κ q)
      (fun κ q => by rw [scoreD1_apply, R.score0]; exact hD1 s0 κ q)
  · exact h.2.final b b' hb hb' _ _ _ _ (R.val b) (R.val b') (fun κ q => by rw [scoreD0_apply, R.score1]; exact hD0 s1 κ q)
      (fun κ q => by rw [scoreD1_apply, R.score1]; exact hD1 s1 κ q)

end Cert.DiffIdeal.Dif

end
-- ==== Proof.DifCols.lean ====
/- The differential attention's two heads of queries, its scores as sums of reals, and its transposed values. -/
module

public import proofs.«01_k».proof.Proof.Gen.DiffIdeal.Value
public import proofs.«01_k».proof.Proof.Gen.DiffReferenceIdeal.Run
public import proofs.«01_k».proof.Proof.Gen.DiffReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import Idealize.ShloMosaic.Lib.Pipeline.ValueKit.Tiles
public import proofs.«01_k».proof.Proof.DifFin

@[expose] public section

noncomputable section

namespace Cert.DiffIdeal.Dif

open Idealize.ShloMosaic hiding ix1 ix2 ix3 ix4 constant_apply
open Cert.DiffIdeal Cert.DiffIdeal.Gen Idealize.ShloMosaic.TcCoe Idealize.SL.Sem
open Idealize.ShloMosaic.Pipeline (Dat)
open Idealize.ShloMosaic.ValueIdx
open Cert.Softmax

set_option maxRecDepth 100000

theorem half_lane : ∀ l : Fin 128, k0_pay37 (ix2 (0 : Fin 1) l) = BitVec.ofBool (decide (l.val < 64)) := by decide +kernel

theorem sel_row_q {e : FTy} (m : IVec S1x128 1) (P : Fin 128 → Bool) (hm : ∀ l : Fin 128, m (ix2 (0 : Fin 1) l) = BitVec.ofBool (P l)) (a b : FVec Ideal S1024x128 e) (r : Fin 1024) (l : Fin 128) :
    select (broadcastTo S1024x128 (shapeCast S1x128 m shapeCasts_S1x128_S1x128) broadcasts_S1x128_S1024x128) a b (ix2 r l) = if P l then a (ix2 r l) else b (ix2 r l) := by
  rw [select_apply, shapeCast_self, broadcastTo_apply _ broadcasts_S1x128_S1024x128 (ix2 r l) (ix2 (0 : Fin 1) l) (by intro a; match a with | ⟨0, _⟩ => rfl | ⟨1, _⟩ => rfl), hm]
  cases P l <;> rfl

theorem q_entry (x0 : Vec Ideal S1x1024x128 .bf16) (q : Fin 1024) (j : Fin 128) : k0_pay36 x0 (ix2 q j) = x0 (ix3 (0 : Fin 1) q j) :=
  shapeCast_apply _ shapeCasts_S1x1024x128_S1024x128 (ix2 q j) (ix3 (0 : Fin 1) q j) (by
      rw [Shape.rowMajor_val_two, Shape.rowMajor_val_three]
      show (0 * 1024 + q.val) * 128 + j.val = q.val * 128 + j.val
      omega)

theorem qA0_apply (x0 : Vec Ideal S1x1024x128 .bf16) (q : Fin 1024) (j : Fin 128) :
    qA0 x0 (ix2 q j) = if j.val < 64 then x0 (ix3 (0 : Fin 1) q j) else 0 := by
  have z : (Scalar.ofBits (F := Ideal) .bf16 0x0000#16) = 0 := Ideal.ofBits_zero_bf16
  unfold qA0 k0_pay39
  rw [sel_row_q _ _ half_lane]
  simp only [decide_eq_true_eq]
  exact if_congr Iff.rfl (q_entry x0 q j) z
theorem qA1_apply (x0 : Vec Ideal S1x1024x128 .bf16) (q : Fin 1024) (j : Fin 128) :
    qA1 x0 (ix2 q j) = if j.val < 64 then 0 else x0 (ix3 (0 : Fin 1) q j) := by
  have z : (Scalar.ofBits (F := Ideal) .bf16 0x0000#16) = 0 := Ideal.ofBits_zero_bf16
  unfold qA1 k0_pay40
  rw [sel_row_q _ _ half_lane]
  simp only [decide_eq_true_eq]
  exact if_congr Iff.rfl z (q_entry x0 q j)

/-! ## The scores -/

theorem split128 (f : ℕ → ℝ) : ∑ j : Fin 128, f j.val = (∑ d ∈ Finset.range 64, f d) + ∑ d ∈ Finset.range 64, f (64 + d) := by
  rw [Fin.sum_univ_eq_sum_range f 128, show 128 = 64 + 64 by rfl, Finset.sum_range_add]

/-- A key's score against a query, of the head the lanes `64 u …` hold, in base two. -/
def sc (u : ℕ) (qr : Fin 1024 → ℕ → ℝ) (kr : Fin 4096 → ℕ → ℝ) (q : Fin 1024) (key : Fin 4096) : ℝ :=
  ∑ d ∈ Finset.range 64, kr key (64 * u + d) * qr q (64 * u + d)

theorem score_sum0 (qr : Fin 1024 → ℕ → ℝ) (kr : Fin 4096 → ℕ → ℝ) (q : Fin 1024) (key : Fin 4096) :
    ∑ j : Fin 128, kr key j.val * (if j.val < 64 then qr q j.val else 0) = sc 0 qr kr q key := by
  rw [split128 (fun j => kr key j * (if j < 64 then qr q j else 0))]
  rw [Finset.sum_eq_zero (s := Finset.range 64) (f := fun d => kr key (64 + d) * (if 64 + d < 64 then qr q (64 + d) else 0)) fun d _ => by
    rw [if_neg (by omega), mul_zero]]
  rw [add_zero]
  unfold sc
  refine Finset.sum_congr rfl fun d hd => ?_
  rw [if_pos (Finset.mem_range.1 hd)]
  simp only [Nat.mul_zero, Nat.zero_add]

theorem score_sum1 (qr : Fin 1024 → ℕ → ℝ) (kr : Fin 4096 → ℕ → ℝ) (q : Fin 1024) (key : Fin 4096) :
    ∑ j : Fin 128, kr key j.val * (if j.val < 64 then 0 else qr q j.val) = sc 1 qr kr q key := by
  rw [split128 (fun j => kr key j * (if j < 64 then 0 else qr q j))]
  rw [Finset.sum_eq_zero (s := Finset.range 64) (f := fun d => kr key d * (if d < 64 then 0 else qr q d)) fun d hd => by
    rw [if_pos (Finset.mem_range.1 hd), mul_zero]]
  rw [zero_add]
  unfold sc
  refine Finset.sum_congr rfl fun d hd => ?_
  rw [if_neg (by omega)]

/-! ## The carried rows -/

/-- A transposed value, or a one. -/
def vtAt (x2 : Vec Ideal S1x4096x128 .bf16) (b : Fin 8) (r : Fin 144) (κ : Fin 512) : EReal :=
  if h : r.val < 128 then x2 (ix3 (0 : Fin 1) (keyOf b κ) (⟨r.val, h⟩ : Fin 128)) else 1
/-- The transposed values over sixteen rows of ones. -/
def VT (x2 : Vec Ideal S1x4096x128 .bf16) : Vec Ideal S8x144x512 .bf16 := fun y => vtAt x2 (y 0) (y 1) (y 2)
/-- The weights: the values, then ones. -/
def wt (vr : Fin 4096 → ℕ → ℝ) (r : Fin 144) (key : Fin 4096) : ℝ := if r.val < 128 then vr key r.val else 1

theorem real_block (x0 : Vec Ideal S1x1024x128 .bf16) (x1 x2 : Vec Ideal S1x4096x128 .bf16)
    (qr : Fin 1024 → ℕ → ℝ) (kr vr : Fin 4096 → ℕ → ℝ)
    (hq : ∀ q (l : Fin 128), x0 (ix3 (0 : Fin 1) q l) = ((qr q l.val : ℝ) : EReal))
    (hk : ∀ key (l : Fin 128), x1 (ix3 (0 : Fin 1) key l) = ((kr key l.val : ℝ) : EReal))
    (hv : ∀ key (l : Fin 128), x2 (ix3 (0 : Fin 1) key l) = ((vr key l.val : ℝ) : EReal)) :
    Real' x1 (VT x2) (qA0 x0) (qA1 x0) (sc 0 qr kr) (sc 1 qr kr) (wt vr) where
  hs0 q key := by
    rw [← score_sum0, ← sum_coe]
    refine Finset.sum_congr rfl fun j _ => ?_
    rw [EReal.coe_mul, hk, qA0_apply]
    refine congrArg (_ * ·) ?_
    split_ifs with h
    · exact hq q _
    · rfl
  hs1 q key := by
    rw [← score_sum1, ← sum_coe]
    refine Finset.sum_congr rfl fun j _ => ?_
    rw [EReal.coe_mul, hk, qA1_apply]
    refine congrArg (_ * ·) ?_
    split_ifs with h
    · rfl
    · exact hq q _
  hw r b κ := by
    show vtAt x2 b r κ = _
    unfold vtAt wt
    by_cases h : r.val < 128
    · rw [if_pos h, dif_pos h, hv]
    · rw [if_neg h, dif_neg h, EReal.coe_one]

end Cert.DiffIdeal.Dif

end
-- ==== Proof.DifFill.lean ====
/- What the first point of a pass leaves in the differential attention's scratch: the transposed values over rows of ones. -/
module

public import proofs.«01_k».proof.Proof.Gen.DiffIdeal.Value
public import proofs.«01_k».proof.Proof.Gen.DiffReferenceIdeal.Run
public import proofs.«01_k».proof.Proof.Gen.DiffReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import Idealize.ShloMosaic.Lib.Pipeline.ValueKit.Tiles
public import proofs.«01_k».proof.Proof.DifCols

@[expose] public section

noncomputable section

namespace Cert.DiffIdeal.Dif

open Idealize.ShloMosaic hiding ix1 ix2 ix3 ix4 constant_apply
open Cert.DiffIdeal Cert.DiffIdeal.Gen Idealize.ShloMosaic.TcCoe Idealize.SL.Sem
open Idealize.ShloMosaic.Pipeline (Dat)
open Idealize.ShloMosaic.ValueIdx
open Cert.Softmax

set_option maxRecDepth 100000

/-- A block of transposed values. -/
def vT (L : Vec Ideal S1x512x128 .bf16) : FVec Ideal S1x128x512 .bf16 := k0_pay2 L

theorem cast_apply {e : EltTy} (L : Vec Ideal S1x512x128 e) (κ : Fin 512) (d : Fin 128) :
    (shapeCast S512x128 L shapeCasts_S1x512x128_S512x128 : Vec Ideal S512x128 e) (ix2 κ d) = L (ix3 (0 : Fin 1) κ d) :=
  shapeCast_apply _ shapeCasts_S1x512x128_S512x128 (ix2 κ d) (ix3 (0 : Fin 1) κ d) (by
      rw [Shape.rowMajor_val_two, Shape.rowMajor_val_three]
      show (0 * 512 + κ.val) * 128 + d.val = κ.val * 128 + d.val
      omega)

theorem vT_apply (L : Vec Ideal S1x512x128 .bf16) (d : Fin 128) (κ : Fin 512) : vT L (ix3 (0 : Fin 1) d κ) = L (ix3 (0 : Fin 1) κ d) := by
  unfold vT k0_pay2
  rw [shapeCast_apply _ shapeCasts_S128x512_S1x128x512 (ix3 (0 : Fin 1) d κ) (ix2 d κ) (by
      rw [Shape.rowMajor_val_two, Shape.rowMajor_val_three]
      show d.val * 512 + κ.val = (0 * 128 + d.val) * 512 + κ.val
      omega)]
  rw [truncf_apply, transpose_apply _ _ transposes_S512x128_p1_0_S128x512 (ix2 d κ) (ix2 κ d) (by
    intro a; match a with | ⟨0, _⟩ => rfl | ⟨1, _⟩ => rfl)]
  rw [extf_apply]
  exact cast_apply L κ _

/-- A piece of the scratch, as its rows' numbers say. -/
theorem put_v (x2 : Vec Ideal S1x4096x128 .bf16) (o : ℕ) (h : ∀ a, (![0, o, 0] : Fin 3 → ℕ) a + S1x512x128.size a ≤ S1x4096x128.size a) (n : ℕ) (ho : o = 512 * n) (d : Fin 128) (κ : Fin 512)
    (b : Fin 8) (r : Fin 144) (κ' : Fin 512) (hb : b.val = n) (hr : r.val = d.val) (hκ : κ'.val = κ.val) :
    vT (View.ld (Val := Elt Ideal) x2 (Rect.unit (s := S1x4096x128) ![0, o, 0] S1x512x128.size h)) (ix3 (0 : Fin 1) d κ) = vtAt x2 b r κ' := by
  rw [vT_apply]
  unfold vtAt
  have hd := d.isLt
  rw [dif_pos (by omega)]
  refine View.ld_unit_apply_of x2 _ _ _ _ _ ?_
  intro a
  match a with
  | ⟨0, _⟩ => rfl
  | ⟨1, _⟩ => show 512 * b.val + κ'.val = o + κ.val; omega
  | ⟨2, _⟩ => show r.val = 0 + d.val; omega
theorem put_one (x2 : Vec Ideal S1x4096x128 .bf16) (d : Fin 16) (κ : Fin 512) (b : Fin 8) (r : Fin 144) (κ' : Fin 512) (hr : r.val = 128 + d.val) :
    k0_pay3 (F := Ideal) (ix3 (0 : Fin 1) d κ) = vtAt x2 b r κ' := by
  unfold vtAt
  have hd := d.isLt
  rw [dif_neg (by omega)]
  exact Ideal.ofBits_one_bf16

/-- An index whose leading axis has one entry. -/
theorem ix_one {a b : ℕ} (x : (⟨3, ![1, a, b]⟩ : Shape).Idx) : ∃ (d : Fin a) (k : Fin b), x = ix3 (0 : Fin 1) d k :=
  ⟨x 1, x 2, funext fun i => by
    match i with
    | ⟨0, _⟩ => exact Subsingleton.elim (α := Fin 1) _ _
    | ⟨1, _⟩ => rfl
    | ⟨2, _⟩ => rfl⟩

/-- What the first point of a pass leaves in the scratch, read through any whole view. -/
theorem fill_vt {sg : RefSig} {kd : Kind} {sp : Space} (W : View sg kd sp S8x144x512 .bf16) (f : W.ty.Contents (Elt Ideal)) (c : Dev nD) (arg5 : Memref sig .tc .vmem S1x4096x128 .bf16) (harg5 : arg5.IsWhole) (x2 : Vec Ideal S1x4096x128 .bf16)
    (cover : ∀ y : S8x144x512.Idx, ∃ pc ∈ kernelRun0_A.sl.HS0_16 (F := Ideal) c arg5 harg5 x2, y ∈ pc.1.set) :
    W.read (Elt Ideal) (W.writes (Elt Ideal) f (kernelRun0_A.sl.HS0_16 c arg5 harg5 x2)) = VT x2 := by
  funext y
  refine View.read_writes_apply_of_pieces (Val := Elt Ideal) W f (VT x2) _ ?_ y (cover y)
  have eL : ∀ (o : ℕ) (h : ∀ a, (![0, o, 0] : Fin 3 → ℕ) a + S1x512x128.size a ≤ S1x4096x128.size a),
      View.readAt (Elt Ideal) arg5.view (Rect.unit (s := S1x4096x128) ![0, o, 0] S1x512x128.size h).toLoadRect (harg5.unread x2) = View.ld (Val := Elt Ideal) x2 (Rect.unit (s := S1x4096x128) ![0, o, 0] S1x512x128.size h) := by
    intro o h
    rw [View.readAt_eq_ld, harg5.read_unread]
  unfold kernelRun0_A.sl.HS0_16
  intro p hp
  simp only [List.mem_cons, List.not_mem_nil, or_false] at hp
  rcases hp with rfl | rfl | rfl | rfl | rfl | rfl | rfl | rfl | rfl | rfl | rfl | rfl | rfl | rfl | rfl | rfl
  · intro x
    obtain ⟨d, κ, rfl⟩ := ix_one (a := 16) (b := 512) x
    exact put_one x2 d κ _ _ _ (by simp [ix3])
  · intro x
    obtain ⟨d, κ, rfl⟩ := ix_one (a := 128) (b := 512) x
    refine Eq.trans (b := vT (View.readAt (Elt Ideal) arg5.view (Rect.unit (s := S1x4096x128) ![0, 3584, 0] S1x512x128.size (by decide)).toLoadRect (harg5.unread x2)) (ix3 (0 : Fin 1) d κ)) rfl ?_
    rw [eL]
    exact put_v x2 3584 _ 7 rfl d κ _ _ _ (by simp [ix3]) (by simp [ix3]) (by simp [ix3])
  · intro x
    obtain ⟨d, κ, rfl⟩ := ix_one (a := 16) (b := 512) x
    exact put_one x2 d κ _ _ _ (by simp [ix3])
  · intro x
    obtain ⟨d, κ, rfl⟩ := ix_one (a := 128) (b := 512) x
    refine Eq.trans (b := vT (View.readAt (Elt Ideal) arg5.view (Rect.unit (s := S1x4096x128) ![0, 3072, 0] S1x512x128.size (by decide)).toLoadRect (harg5.unread x2)) (ix3 (0 : Fin 1) d κ)) rfl ?_
    rw [eL]
    exact put_v x2 3072 _ 6 rfl d κ _ _ _ (by simp [ix3]) (by simp [ix3]) (by simp [ix3])
  · intro x
    obtain ⟨d, κ, rfl⟩ := ix_one (a := 16) (b := 512) x
    exact put_one x2 d κ _ _ _ (by simp [ix3])
  · intro x
    obtain ⟨d, κ, rfl⟩ := ix_one (a := 128) (b := 512) x
    refine Eq.trans (b := vT (View.readAt (Elt Ideal) arg5.view (Rect.unit (s := S1x4096x128) ![0, 2560, 0] S1x512x128.size (by decide)).toLoadRect (harg5.unread x2)) (ix3 (0 : Fin 1) d κ)) rfl ?_
    rw [eL]
    exact put_v x2 2560 _ 5 rfl d κ _ _ _ (by simp [ix3]) (by simp [ix3]) (by simp [ix3])
  · intro x
    obtain ⟨d, κ, rfl⟩ := ix_one (a := 16) (b := 512) x
    exact put_one x2 d κ _ _ _ (by simp [ix3])
  · intro x
    obtain ⟨d, κ, rfl⟩ := ix_one (a := 128) (b := 512) x
    refine Eq.trans (b := vT (View.readAt (Elt Ideal) arg5.view (Rect.unit (s := S1x4096x128) ![0, 2048, 0] S1x512x128.size (by decide)).toLoadRect (harg5.unread x2)) (ix3 (0 : Fin 1) d κ)) rfl ?_
    rw [eL]
    exact put_v x2 2048 _ 4 rfl d κ _ _ _ (by simp [ix3]) (by simp [ix3]) (by simp [ix3])
  · intro x
    obtain ⟨d, κ, rfl⟩ := ix_one (a := 16) (b := 512) x
    exact put_one x2 d κ _ _ _ (by simp [ix3])
  · intro x
    obtain ⟨d, κ, rfl⟩ := ix_one (a := 128) (b := 512) x
    refine Eq.trans (b := vT (View.readAt (Elt Ideal) arg5.view (Rect.unit (s := S1x4096x128) ![0, 1536, 0] S1x512x128.size (by decide)).toLoadRect (harg5.unread x2)) (ix3 (0 : Fin 1) d κ)) rfl ?_
    rw [eL]
    exact put_v x2 1536 _ 3 rfl d κ _ _ _ (by simp [ix3]) (by simp [ix3]) (by simp [ix3])
  · intro x
    obtain ⟨d, κ, rfl⟩ := ix_one (a := 16) (b := 512) x
    exact put_one x2 d κ _ _ _ (by simp [ix3])
  · intro x
    obtain ⟨d, κ, rfl⟩ := ix_one (a := 128) (b := 512) x
    refine Eq.trans (b := vT (View.readAt (Elt Ideal) arg5.view (Rect.unit (s := S1x4096x128) ![0, 1024, 0] S1x512x128.size (by decide)).toLoadRect (harg5.unread x2)) (ix3 (0 : Fin 1) d κ)) rfl ?_
    rw [eL]
    exact put_v x2 1024 _ 2 rfl d κ _ _ _ (by simp [ix3]) (by simp [ix3]) (by simp [ix3])
  · intro x
    obtain ⟨d, κ, rfl⟩ := ix_one (a := 16) (b := 512) x
    exact put_one x2 d κ _ _ _ (by simp [ix3])
  · intro x
    obtain ⟨d, κ, rfl⟩ := ix_one (a := 128) (b := 512) x
    refine Eq.trans (b := vT (View.readAt (Elt Ideal) arg5.view (Rect.unit (s := S1x4096x128) ![0, 512, 0] S1x512x128.size (by decide)).toLoadRect (harg5.unread x2)) (ix3 (0 : Fin 1) d κ)) rfl ?_
    rw [eL]
    exact put_v x2 512 _ 1 rfl d κ _ _ _ (by simp [ix3]) (by simp [ix3]) (by simp [ix3])
  · intro x
    obtain ⟨d, κ, rfl⟩ := ix_one (a := 16) (b := 512) x
    exact put_one x2 d κ _ _ _ (by simp [ix3])
  · intro x
    obtain ⟨d, κ, rfl⟩ := ix_one (a := 128) (b := 512) x
    refine Eq.trans (b := vT (View.readAt (Elt Ideal) arg5.view (Rect.unit (s := S1x4096x128) ![0, 0, 0] S1x512x128.size (by decide)).toLoadRect (harg5.unread x2)) (ix3 (0 : Fin 1) d κ)) rfl ?_
    rw [eL]
    exact put_v x2 0 _ 0 rfl d κ _ _ _ (by simp [ix3]) (by simp [ix3]) (by simp [ix3])

end Cert.DiffIdeal.Dif

end
-- ==== Proof.DifBlock.lean ====
/- The differential attention's output block, entry by entry, from the operands' reals. -/
module

public import proofs.«01_k».proof.Proof.Gen.DiffIdeal.Value
public import proofs.«01_k».proof.Proof.Gen.DiffReferenceIdeal.Run
public import proofs.«01_k».proof.Proof.Gen.DiffReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import Idealize.ShloMosaic.Lib.Pipeline.ValueKit.Tiles
public import proofs.«01_k».proof.Proof.DifCols

@[expose] public section

noncomputable section

namespace Cert.DiffIdeal.Dif

open Idealize.ShloMosaic hiding ix1 ix2 ix3 ix4 constant_apply
open Cert.DiffIdeal Cert.DiffIdeal.Gen Idealize.ShloMosaic.TcCoe Idealize.SL.Sem
open Idealize.ShloMosaic.Pipeline (Dat)
open Idealize.ShloMosaic.ValueIdx
open Cert.Softmax

set_option maxRecDepth 100000

/-- The sum over the keys up to the diagonal block's end is the sum over all of them. -/
theorem Z_all (s : Fin 1024 → Fin 4096 → ℝ) (w : Fin 144 → Fin 4096 → ℝ) (q0 : ℕ) (hq0 : q0 + 1024 ≤ 4096) (h64 : q0 % 64 = 0) (r : Fin 144) (q : Fin 1024) :
    Z s w q0 r q (q0 + 1024) = ∑ key : Fin 4096, w r key * E (vis s q0 q key) := by
  rw [← Z_masked s w q0 r q (q0 + 1024) (4096 - (q0 + 1024)) (by have := q.isLt; omega), show q0 + 1024 + (4096 - (q0 + 1024)) = 4096 by omega]
  unfold Z
  rw [Finset.sum_range]
  refine Finset.sum_congr rfl fun key _ => ?_
  unfold term
  rw [dif_pos key.isLt]

theorem E_nonneg (x : EReal) : 0 ≤ E x := by
  unfold E; split_ifs
  · exact le_rfl
  · exact (Real.rpow_pos_of_pos (by norm_num) _).le
theorem E_pos (x : EReal) (hx : x ≠ ⊥) : 0 < E x := by
  unfold E; rw [if_neg hx]; exact Real.rpow_pos_of_pos (by norm_num) _

/-- The weights of a row add up to more than nothing: the first key is always visible. -/
theorem sum_pos (s : Fin 1024 → Fin 4096 → ℝ) (q0 : ℕ) (q : Fin 1024) : 0 < ∑ key : Fin 4096, E (vis s q0 q key) := by
  refine Finset.sum_pos' (fun key _ => E_nonneg _) ⟨(0 : Fin 4096), Finset.mem_univ _, E_pos _ ?_⟩
  unfold vis
  rw [if_pos (show (0 : Fin 4096).val / 64 ≤ (q0 + q.val) / 64 from Nat.zero_le _)]
  exact EReal.coe_ne_bot _

/-- The softmax's weighted mean of the values, for the head the lanes `64 u …` hold. -/
def mean (u : ℕ) (q0 : ℕ) (qr : Fin 1024 → ℕ → ℝ) (kr vr : Fin 4096 → ℕ → ℝ) (q : Fin 1024) (d : ℕ) : ℝ :=
  (∑ key : Fin 4096, vr key d * E (vis (sc u qr kr) q0 q key)) / ∑ key : Fin 4096, E (vis (sc u qr kr) q0 q key)

theorem quot_mean (u q0 : ℕ) (hq0 : q0 + 1024 ≤ 4096) (h64 : q0 % 64 = 0) (qr : Fin 1024 → ℕ → ℝ) (kr vr : Fin 4096 → ℕ → ℝ) (a : FVec Ideal S144x1024 .f32)
    (f : Final (sc u qr kr) (wt vr) q0 a) (q : Fin 1024) (d : Fin 128) : quot a (ix2 d q) = ((mean u q0 qr kr vr q d.val : ℝ) : EReal) := by
  have hone : ∀ key, wt vr (128 : Fin 144) key = 1 := fun key => if_neg (by decide)
  have hw : ∀ key, wt vr (⟨d.val, by omega⟩ : Fin 144) key = vr key d.val := fun key => if_pos d.isLt
  rw [quot_apply f d q (by rw [Z_all _ _ _ hq0 h64]; simp only [hone, one_mul]; exact sum_pos _ _ _)]
  rw [Z_all _ _ _ hq0 h64, Z_all _ _ _ hq0 h64]
  simp only [hone, one_mul, hw]
  rfl

/-- One entry of the output block: the difference of the heads' means, normalised, weighted, scaled and gated. -/
theorem out_entry (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S8x144x512 .bf16) (harg10 : arg10.IsWhole)
    (x0 : Vec Ideal S1x1024x128 .bf16) (x1 x2 : Vec Ideal S1x4096x128 .bf16) (x3 : Vec Ideal S1x1024x128 .bf16) (x4 : Vec Ideal S4x64 .f32) (x5 : Vec Ideal S1x128 .f32)
    (qr : Fin 1024 → ℕ → ℝ) (kr vr : Fin 4096 → ℕ → ℝ)
    (hq : ∀ q (l : Fin 128), x0 (ix3 (0 : Fin 1) q l) = ((qr q l.val : ℝ) : EReal))
    (hk : ∀ key (l : Fin 128), x1 (ix3 (0 : Fin 1) key l) = ((kr key l.val : ℝ) : EReal))
    (hv : ∀ key (l : Fin 128), x2 (ix3 (0 : Fin 1) key l) = ((vr key l.val : ℝ) : EReal)) (q : Fin 1024) (l : Fin 128) :
    outK c i arg3 harg3 arg4 harg4 arg5 harg5 arg6 harg6 arg7 harg7 arg8 harg8 arg9 harg9 arg10 harg10 x0 x1 x3 x4 x5 (harg10.unread (VT x2)) (ix3 (0 : Fin 1) q l)
      = post (fun k => ((mean 0 (1024 * (i 2).val) qr kr vr q k.val : ℝ) : EReal) - lamE x4 * ((mean 1 (1024 * (i 2).val) qr kr vr q k.val : ℝ) : EReal)) (x5 (ix2 (0 : Fin 1) l)) (x3 (ix3 (0 : Fin 1) q l)) l := by
  have hi := coord_lt i
  have R := real_block x0 x1 x2 qr kr vr hq hk hv
  have G := loop_good Variants.none c none i arg3 harg3 arg4 harg4 arg5 harg5 arg6 harg6 arg7 harg7 arg8 harg8 arg9 harg9 arg10 harg10 x0 x1 (VT x2) _ _ _ R _ (init_good _ _ _ _) (i 2).val le_rfl
  obtain ⟨a0, a1, f0, f1, e⟩ := fin_final R (1024 * (i 2).val) (⟨2 * (i 2).val, by omega⟩ : Fin 8) (⟨2 * (i 2).val + 1, by omega⟩ : Fin 8) (by show _ = 512 * (2 * (i 2).val); omega) rfl _ (G) x4 x5 x3
  have e8 : ∀ r : Fin 2, View.ld (Val := Elt Ideal) x1 (Rect.unit (s := S1x4096x128) (k0_off5 i (BitVec.ofNat 32 r.val)) S1x512x128.size (k0_off5_inb i r)) = kld x1 (⟨2 * (i 2).val + r.val, by omega⟩ : Fin 8) := fun r =>
    ld_off x1 _ (by rw [k0_off5_eq]; congr 2; show _ = 512 * (2 * (i 2).val + r.val); omega) _ _
  have e10 : ∀ r : Fin 2, View.ld (Val := Elt Ideal) (VT x2) (Rect.unit (s := S8x144x512) (k0_off6 i (BitVec.ofNat 32 r.val)) S1x144x512.size (k0_off6_inb i r)) = vld (VT x2) (⟨2 * (i 2).val + r.val, by omega⟩ : Fin 8) := fun r =>
    ld_off (VT x2) _ (by rw [k0_off6_eq]) _ _
  unfold outK
  rw [harg10.read_unread, e8 0, e8 1, e10 0, e10 1]
  rw [trips_eq i]
  refine (congrFun e _).trans ?_
  rw [blockOut_apply]
  simp only [quot_mean 0 (1024 * (i 2).val) (by omega) (by omega) qr kr vr a0 f0, quot_mean 1 (1024 * (i 2).val) (by omega) (by omega) qr kr vr a1 f1]

end Cert.DiffIdeal.Dif

end
-- ==== Proof.DifHost.lean ====
/- What the differential attention's host code prepares. -/
module

public import proofs.«01_k».proof.Proof.Gen.DiffIdeal.Value
public import proofs.«01_k».proof.Proof.Gen.DiffReferenceIdeal.Run
public import proofs.«01_k».proof.Proof.Gen.DiffReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import Idealize.ShloMosaic.Lib.Pipeline.ValueKit.Tiles
public import proofs.«01_k».proof.Proof.DifCols

@[expose] public section

noncomputable section

namespace Cert.DiffIdeal.Dif

open Idealize.ShloMosaic hiding ix1 ix2 ix3 ix4 constant_apply
open Cert.DiffIdeal Cert.DiffIdeal.Gen Idealize.ShloMosaic.TcCoe Idealize.SL.Sem
open Idealize.ShloMosaic.Pipeline (Dat)
open Idealize.ShloMosaic.ValueIdx
open Cert.Softmax

set_option maxRecDepth 100000

variable (m : (ℓ : Loc nD τ sig) → Buf (Elt Ideal) ℓ)

/-- The host's floor division by 512. -/
def fdv (x : BitVec 32) : BitVec 32 :=
  Scalar.select
    (IntOp.andi
      (IntOp.cmpi CmpIPredicate.ne (if x = 0 then 0 else if x.msb = true then -1 else 1 : BitVec 32)
        (if (512#32 : BitVec 32) = 0 then 0 else if (512#32 : BitVec 32).msb = true then -1 else 1 : BitVec 32))
      (IntOp.cmpi CmpIPredicate.ne (IntOp.remsi ArithUnit.host x 512#32) 0#32))
    (IntOp.subi (IntOp.divsi ArithUnit.host x 512#32) 1#32) (IntOp.divsi ArithUnit.host x 512#32)
/-- The divisor of the host's remainder by four. -/
def four : BitVec 32 := Scalar.select (IntOp.cmpi CmpIPredicate.eq 4#32 0#32) (1#32) 4#32
/-- The host's remainder by four. -/
def frm (x : BitVec 32) : BitVec 32 :=
  Scalar.select
    (IntOp.andi (IntOp.cmpi CmpIPredicate.ne (IntOp.cmpi CmpIPredicate.slt (IntOp.remsi ArithUnit.host x four) 0#32) (IntOp.cmpi CmpIPredicate.slt four 0#32))
      (IntOp.cmpi CmpIPredicate.ne (IntOp.remsi ArithUnit.host x four) 0#32))
    (IntOp.addi (IntOp.remsi ArithUnit.host x four) four) (IntOp.remsi ArithUnit.host x four)

/-- The number of a column's group, its remainder by four compared with zero. -/
theorem group_eq : ∀ n : Fin 6144, IntOp.cmpi CmpIPredicate.eq (frm (fdv (BitVec.ofNat 32 n.val))) 0#32 = BitVec.ofBool (decide (n.val / 512 % 4 = 0)) := by
  decide +kernel

/-- An entry of the projected rows. -/
def P (c : Dev nD) (b : Fin 4) (s : Fin 4096) (l : Fin 6144) : EReal := m ((c : Thread nD τ).loc main_arg0) (ix3 b s l)
theorem bits_two : Ideal.ofBits .f32 0x40000000#32 = ((2 : ℝ) : EReal) := by
  simp [Ideal.ofBits, Ideal.ieee]
  rw [← EReal.coe_mul]
  norm_num
theorem bits_eighth : Ideal.ofBits .f32 0x3E000000#32 = ((1 / 8 : ℝ) : EReal) := by
  simp [Ideal.ofBits, Ideal.ieee]
  rw [← EReal.coe_mul]
  norm_num

/-- The host's factor of base two. -/
theorem log2e : Ideal.div 1 (Ideal.log (Ideal.ofBits FTy.f32 1073741824#32)) = ((1 / Real.log 2 : ℝ) : EReal) := by
  rw [bits_two, Ideal.log_coe, if_neg (by norm_num)]
  rw [Ideal.div_coe (Real.log_pos (by norm_num)).ne', one_mul]

/-- A column's factor: the queries' columns carry the softmax's scale and the factor of base two. -/
def colScale (n : ℕ) : ℝ := if n / 512 % 4 = 0 then 1 / Real.log 2 * (1 / 8) else 1

theorem V12 (c : Dev nD) (b : Fin 4) (s : Fin 4096) (l : Fin 6144) : V m c main_v12 (ix3 b s l) = P m c b s l * ((colScale l.val : ℝ) : EReal) := by
  unfold V
  after_reads_at
  refine Eq.trans (b := P m c b s l * Scalar.select (IntOp.cmpi CmpIPredicate.eq (frm (fdv (BitVec.ofNat 32 l.val))) 0#32)
    (Ideal.div 1 (Ideal.log (Ideal.ofBits FTy.f32 1073741824#32)) * Ideal.ofBits FTy.f32 1040187392#32) (Ideal.ofBits FTy.f32 1065353216#32)) rfl ?_
  rw [group_eq l]
  refine congrArg (P m c b s l * ·) ?_
  unfold Scalar.select colScale
  by_cases h : l.val / 512 % 4 = 0
  · rw [decide_eq_true h, if_pos h, log2e, bits_eighth, ← EReal.coe_mul]
    rfl
  · rw [decide_eq_false h, if_neg h]
    exact Ideal.ofBits_one_f32

/-- A scalar of the second head's weight. -/
def Lam (c : Dev nD) (a : Fin 4) (j : Fin 64) : EReal := m ((c : Thread nD τ).loc main_arg1) (ix2 a j)
/-- A weight of the heads' norm. -/
def Sub (c : Dev nD) (d : Fin 128) : EReal := m ((c : Thread nD τ).loc main_arg2) (ix1 d)

theorem V13 (c : Dev nD) (d : Fin 128) : V m c main_v13 (ix2 (0 : Fin 1) d) = Sub m c d := by
  unfold V
  after_reads_at
  rfl

end Cert.DiffIdeal.Dif

end
-- ==== Proof.DifPoint.lean ====
/- What the differential attention carries from point to point, and the blocks a point reads. -/
module

public import proofs.«01_k».proof.Proof.Gen.DiffIdeal.Value
public import proofs.«01_k».proof.Proof.Gen.DiffReferenceIdeal.Run
public import proofs.«01_k».proof.Proof.Gen.DiffReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import Idealize.ShloMosaic.Lib.Pipeline.ValueKit.Tiles
public import proofs.«01_k».proof.Proof.DifFill
public import proofs.«01_k».proof.Proof.DifBlock
public import proofs.«01_k».proof.Proof.DifHost

@[expose] public section

noncomputable section

namespace Cert.DiffIdeal.Dif

open Idealize.ShloMosaic hiding ix1 ix2 ix3 ix4 constant_apply
open Cert.DiffIdeal Cert.DiffIdeal.Gen Idealize.ShloMosaic.TcCoe Idealize.SL.Sem
open Idealize.ShloMosaic.Pipeline (Dat)
open Idealize.ShloMosaic.ValueIdx
open Cert.Softmax

set_option maxRecDepth 100000

variable (m : (ℓ : Loc nD τ sig) → Buf (Elt Ideal) ℓ)

theorem pt_lt (t : Fin cfg0.N) : t.val < 64 := lt_of_lt_of_eq t.isLt N_0

/-- The batch, the row and the pair of heads of a point. -/
def pb (t : Fin cfg0.N) : Fin 4 := ⟨t.val / 16, by have := pt_lt t; omega⟩
def prow (t : Fin cfg0.N) (q : Fin 1024) : Fin 4096 := ⟨1024 * (t.val % 4) + q.val, by have := q.isLt; omega⟩
def pcol (t : Fin cfg0.N) (o : ℕ) (l : Fin 128) : ℕ := o + (128 * (t.val / 4 % 4) + l.val)

theorem pcol_lt (t : Fin cfg0.N) (o : ℕ) (ho : o + 512 ≤ 6144) (l : Fin 128) : pcol t o l < 6144 := by
  have := l.isLt; unfold pcol; omega

theorem blk0 (c : Dev nD) (t : Fin cfg0.N) (q : Fin 1024) (l : Fin 128) :
    iblk m c 0 t (ix3 (0 : Fin 1) q l) = V m c main_v12 (ix3 (pb t) (prow t q) (⟨pcol t 0 l, pcol_lt t 0 (by decide) l⟩ : Fin 6144)) := by
  unfold iblk
  show V m c main_v12 ((win0_0.rect t).emb (ix3 (0 : Fin 1) q l)) = _
  refine congrArg (V m c main_v12) (funext fun a => Fin.ext ?_)
  rw [Pipeline.Window.rect_emb_val _ _ _ _ rfl]
  match a with
  | ⟨0, _⟩ => rw [show win0_0.index t ⟨0, _⟩ = t.val / 16 from (by decide +kernel : ∀ t : Fin grid0.N, win0_0.index t 0 = t.val / 16) t]; show t.val / 16 * 1 + 0 = t.val / 16; omega
  | ⟨1, _⟩ => rw [show win0_0.index t ⟨1, _⟩ = t.val % 4 from (by decide +kernel : ∀ t : Fin grid0.N, win0_0.index t 1 = t.val % 4) t]; show t.val % 4 * 1024 + q.val = 1024 * (t.val % 4) + q.val; omega
  | ⟨2, _⟩ => rw [show win0_0.index t ⟨2, _⟩ = t.val / 4 % 4 from (by decide +kernel : ∀ t : Fin grid0.N, win0_0.index t 2 = t.val / 4 % 4) t]; show (t.val / 4 % 4) * 128 + l.val = 0 + (128 * (t.val / 4 % 4) + l.val); omega

theorem blk1 (c : Dev nD) (t : Fin cfg0.N) (q : Fin 4096) (l : Fin 128) :
    iblk m c 1 t (ix3 (0 : Fin 1) q l) = V m c main_v12 (ix3 (pb t) q (⟨pcol t 512 l, pcol_lt t 512 (by decide) l⟩ : Fin 6144)) := by
  unfold iblk
  show V m c main_v12 ((win0_1.rect t).emb (ix3 (0 : Fin 1) q l)) = _
  refine congrArg (V m c main_v12) (funext fun a => Fin.ext ?_)
  rw [Pipeline.Window.rect_emb_val _ _ _ _ rfl]
  match a with
  | ⟨0, _⟩ => rw [show win0_1.index t ⟨0, _⟩ = t.val / 16 from (by decide +kernel : ∀ t : Fin grid0.N, win0_1.index t 0 = t.val / 16) t]; show t.val / 16 * 1 + 0 = t.val / 16; omega
  | ⟨1, _⟩ => rw [show win0_1.index t ⟨1, _⟩ = 0 from (by decide +kernel : ∀ t : Fin grid0.N, win0_1.index t 1 = 0) t]; show 0 * 4096 + q.val = q.val; omega
  | ⟨2, _⟩ => rw [show win0_1.index t ⟨2, _⟩ = 4 + t.val / 4 % 4 from (by decide +kernel : ∀ t : Fin grid0.N, win0_1.index t 2 = 4 + t.val / 4 % 4) t]; show (4 + t.val / 4 % 4) * 128 + l.val = 512 + (128 * (t.val / 4 % 4) + l.val); omega

theorem blk2 (c : Dev nD) (t : Fin cfg0.N) (q : Fin 4096) (l : Fin 128) :
    iblk m c 2 t (ix3 (0 : Fin 1) q l) = V m c main_v12 (ix3 (pb t) q (⟨pcol t 1024 l, pcol_lt t 1024 (by decide) l⟩ : Fin 6144)) := by
  unfold iblk
  show V m c main_v12 ((win0_2.rect t).emb (ix3 (0 : Fin 1) q l)) = _
  refine congrArg (V m c main_v12) (funext fun a => Fin.ext ?_)
  rw [Pipeline.Window.rect_emb_val _ _ _ _ rfl]
  match a with
  | ⟨0, _⟩ => rw [show win0_2.index t ⟨0, _⟩ = t.val / 16 from (by decide +kernel : ∀ t : Fin grid0.N, win0_2.index t 0 = t.val / 16) t]; show t.val / 16 * 1 + 0 = t.val / 16; omega
  | ⟨1, _⟩ => rw [show win0_2.index t ⟨1, _⟩ = 0 from (by decide +kernel : ∀ t : Fin grid0.N, win0_2.index t 1 = 0) t]; show 0 * 4096 + q.val = q.val; omega
  | ⟨2, _⟩ => rw [show win0_2.index t ⟨2, _⟩ = 8 + t.val / 4 % 4 from (by decide +kernel : ∀ t : Fin grid0.N, win0_2.index t 2 = 8 + t.val / 4 % 4) t]; show (8 + t.val / 4 % 4) * 128 + l.val = 1024 + (128 * (t.val / 4 % 4) + l.val); omega

theorem blk3 (c : Dev nD) (t : Fin cfg0.N) (q : Fin 1024) (l : Fin 128) :
    iblk m c 3 t (ix3 (0 : Fin 1) q l) = V m c main_v12 (ix3 (pb t) (prow t q) (⟨pcol t 1536 l, pcol_lt t 1536 (by decide) l⟩ : Fin 6144)) := by
  unfold iblk
  show V m c main_v12 ((win0_3.rect t).emb (ix3 (0 : Fin 1) q l)) = _
  refine congrArg (V m c main_v12) (funext fun a => Fin.ext ?_)
  rw [Pipeline.Window.rect_emb_val _ _ _ _ rfl]
  match a with
  | ⟨0, _⟩ => rw [show win0_3.index t ⟨0, _⟩ = t.val / 16 from (by decide +kernel : ∀ t : Fin grid0.N, win0_3.index t 0 = t.val / 16) t]; show t.val / 16 * 1 + 0 = t.val / 16; omega
  | ⟨1, _⟩ => rw [show win0_3.index t ⟨1, _⟩ = t.val % 4 from (by decide +kernel : ∀ t : Fin grid0.N, win0_3.index t 1 = t.val % 4) t]; show t.val % 4 * 1024 + q.val = 1024 * (t.val % 4) + q.val; omega
  | ⟨2, _⟩ => rw [show win0_3.index t ⟨2, _⟩ = 12 + t.val / 4 % 4 from (by decide +kernel : ∀ t : Fin grid0.N, win0_3.index t 2 = 12 + t.val / 4 % 4) t]; show (12 + t.val / 4 % 4) * 128 + l.val = 1536 + (128 * (t.val / 4 % 4) + l.val); omega

theorem blk4 (c : Dev nD) (t : Fin cfg0.N) (i : Fin 4) (j : Fin 64) :
    iblk m c 4 t (ix2 i j) = Lam m c i j := by
  unfold iblk
  show V m c main_arg1 ((win0_4.rect t).emb (ix2 i j)) = _
  rw [V_main_arg1]
  refine congrArg (m ((c : Thread nD τ).loc main_arg1)) (funext fun a => Fin.ext ?_)
  rw [Pipeline.Window.rect_emb_val _ _ _ _ rfl]
  match a with
  | ⟨0, _⟩ => rw [show win0_4.index t ⟨0, _⟩ = 0 from (by decide +kernel : ∀ t : Fin grid0.N, win0_4.index t 0 = 0) t]; show 0 * 4 + i.val = i.val; omega
  | ⟨1, _⟩ => rw [show win0_4.index t ⟨1, _⟩ = 0 from (by decide +kernel : ∀ t : Fin grid0.N, win0_4.index t 1 = 0) t]; show 0 * 64 + j.val = j.val; omega

theorem blk5 (c : Dev nD) (t : Fin cfg0.N) (d : Fin 128) :
    iblk m c 5 t (ix2 (0 : Fin 1) d) = Sub m c d := by
  refine Eq.trans ?_ (V13 m c d)
  unfold iblk
  show V m c main_v13 ((win0_5.rect t).emb (ix2 (0 : Fin 1) d)) = _
  refine congrArg (V m c main_v13) (funext fun a => Fin.ext ?_)
  rw [Pipeline.Window.rect_emb_val _ _ _ _ rfl]
  match a with
  | ⟨0, _⟩ => rw [show win0_5.index t ⟨0, _⟩ = 0 from (by decide +kernel : ∀ t : Fin grid0.N, win0_5.index t 0 = 0) t]; show 0 * 1 + 0 = 0; omega
  | ⟨1, _⟩ => rw [show win0_5.index t ⟨1, _⟩ = 0 from (by decide +kernel : ∀ t : Fin grid0.N, win0_5.index t 1 = 0) t]; show 0 * 128 + d.val = d.val; omega

theorem same2 (c : Dev nD) (t t' : Fin cfg0.N) (h : t.val / 4 = t'.val / 4) : iblk m c 2 t = iblk m c 2 t' := by
  have hb : pb t = pb t' := Fin.ext (by show t.val / 16 = t'.val / 16; omega)
  have hc : ∀ o l, pcol t o l = pcol t' o l := fun o l => by unfold pcol; rw [h]
  funext y
  obtain ⟨q, l, rfl⟩ := ix_one (a := 4096) (b := 128) y
  rw [blk2, blk2, hb]
  exact congrArg _ (congrArg _ (Fin.ext (hc _ l)))

theorem scr_A_0 (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S8x144x512 .bf16) (harg10 : arg10.IsWhole) (hc0 : cond0_0 i)
    (x0 : Vec Ideal S1x1024x128 .bf16) (x1 : Vec Ideal S1x4096x128 .bf16) (x2 : Vec Ideal S1x4096x128 .bf16) (x3 : Vec Ideal S1x1024x128 .bf16) (x4 : Vec Ideal S4x64 .f32) (x5 : Vec Ideal S1x128 .f32) :
    sout0_A_0 (F := Ideal) c i arg3 harg3 arg4 harg4 arg5 harg5 arg6 harg6 arg7 harg7 arg8 harg8 arg9 harg9 arg10 harg10 hc0 x0 x1 x2 x3 x4 x5 = VT x2 := by
  have cover := scover0_A_0 (F := Ideal) c i arg3 harg3 arg4 harg4 arg5 harg5 arg6 harg6 arg7 harg7 arg8 harg8 arg9 harg9 arg10 harg10 hc0 x0 x1 x2 x3 x4 x5
  unfold sout0_A_0
  unfold kernelRun0_A at cover ⊢
  dsimp only at cover ⊢
  exact fill_vt _ _ c arg5 harg5 _ cover

theorem cover_A_0 (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S8x144x512 .bf16) (harg10 : arg10.IsWhole) (hc0 : cond0_0 i)
    (x0 : Vec Ideal S1x1024x128 .bf16) (x1 : Vec Ideal S1x4096x128 .bf16) (x2 : Vec Ideal S1x4096x128 .bf16) (x3 : Vec Ideal S1x1024x128 .bf16) (x4 : Vec Ideal S4x64 .f32) (x5 : Vec Ideal S1x128 .f32) :
    ∀ y, ∃ pc ∈ kernelRun0_A.sl.HS0_16 (F := Ideal) c arg5 harg5 x2, y ∈ pc.1.set := by
  have cover := scover0_A_0 (F := Ideal) c i arg3 harg3 arg4 harg4 arg5 harg5 arg6 harg6 arg7 harg7 arg8 harg8 arg9 harg9 arg10 harg10 hc0 x0 x1 x2 x3 x4 x5
  unfold kernelRun0_A at cover
  dsimp only at cover
  exact cover

theorem out_A_fill (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S8x144x512 .bf16) (harg10 : arg10.IsWhole) (hc0 : cond0_0 i)
    (x0 : Vec Ideal S1x1024x128 .bf16) (x1 : Vec Ideal S1x4096x128 .bf16) (x2 : Vec Ideal S1x4096x128 .bf16) (x3 : Vec Ideal S1x1024x128 .bf16) (x4 : Vec Ideal S4x64 .f32) (x5 : Vec Ideal S1x128 .f32) :
    out0_A_6 (F := Ideal) c i arg3 harg3 arg4 harg4 arg5 harg5 arg6 harg6 arg7 harg7 arg8 harg8 arg9 harg9 arg10 harg10 hc0 x0 x1 x2 x3 x4 x5
      = outK c i arg3 harg3 arg4 harg4 arg5 harg5 arg6 harg6 arg7 harg7 arg8 harg8 arg9 harg9 arg10 harg10 x0 x1 x3 x4 x5 (harg10.unread (VT x2)) := by
  have e10 := harg10.eq_unread (fill_vt arg10.view arg10.view.junk c arg5 harg5 x2 (cover_A_0 c i arg3 harg3 arg4 harg4 arg5 harg5 arg6 harg6 arg7 harg7 arg8 harg8 arg9 harg9 arg10 harg10 hc0 x0 x1 x2 x3 x4 x5))
  refine (out_A c i arg3 harg3 arg4 harg4 arg5 harg5 arg6 harg6 arg7 harg7 arg8 harg8 arg9 harg9 arg10 harg10 hc0 x0 x1 x2 x3 x4 x5).trans ?_
  rw [e10]

/-- The carried rows are a whole buffer. -/
theorem hw0 : (scM0_0).IsWhole := Memref.isWhole_whole _

theorem fst_of {α β : Type} {p : α × β} {a : α} {b : β} (h : p = (a, b)) : p.1 = a := by rw [h]
theorem snd_of {α β : Type} {p : α × β} {a : α} {b : β} (h : p = (a, b)) : p.2 = b := by rw [h]

theorem scr_A (c : Dev nD) (t : Fin cfg0.N) (h : t.val % 4 = 0) : (outsAt0 m c t.val t.isLt).2 = VT (iblk m c 2 t) :=
  (snd_of (outsAt0_A m c t h)).trans
    (scr_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 hw0 ((hcond0_0 t).mpr h) (iblk m c 0 t) (iblk m c 1 t) (iblk m c 2 t) (iblk m c 3 t) (iblk m c 4 t) (iblk m c 5 t))

theorem scr_B (c : Dev nD) (t : Fin cfg0.N) (h : ¬ t.val % 4 = 0) :
    (outsAt0 m c t.val t.isLt).2 = (outsAt0 m c (t.val - 1) (Nat.lt_of_le_of_lt (Nat.sub_le _ _) t.isLt)).2 :=
  (snd_of (outsAt0_B m c t h)).trans rfl

/-- What the carried rows hold after every point: the values of the point's own batch and heads. -/
theorem scr (c : Dev nD) : ∀ (n : ℕ) (hn : n < cfg0.N), (outsAt0 m c n hn).2 = VT (iblk m c 2 ⟨n, hn⟩) := by
  intro n
  induction n with
  | zero =>
    intro hn
    exact scr_A m c ⟨0, hn⟩ (Nat.zero_mod _)
  | succ n ih =>
    intro hn
    by_cases h : (n + 1) % 4 = 0
    · exact scr_A m c ⟨n + 1, hn⟩ h
    · have hq : (⟨n, Nat.lt_of_succ_lt hn⟩ : Fin cfg0.N).val / 4 = (⟨n + 1, hn⟩ : Fin cfg0.N).val / 4 := by show n / 4 = (n + 1) / 4; omega
      have e2 := same2 m c _ _ hq
      have hi := ih (Nat.lt_of_succ_lt hn)
      rw [e2] at hi
      exact (scr_B m c ⟨n + 1, hn⟩ h).trans hi

theorem out_pt_B (c : Dev nD) (t : Fin cfg0.N) (h : ¬ t.val % 4 = 0) (X : Vec Ideal S8x144x512 .bf16)
    (hX : (outsAt0 m c (t.val - 1) (Nat.lt_of_le_of_lt (Nat.sub_le _ _) t.isLt)).2 = X) :
    (outsAt0 m c t.val t.isLt).1 = outK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 hw0 (iblk m c 0 t) (iblk m c 1 t) (iblk m c 3 t) (iblk m c 4 t) (iblk m c 5 t)
      (hw0.unread X) := by
  subst hX
  have e1 : (outsAt0 m c t.val t.isLt).1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 hw0 (fun e => h ((hcond0_0 t).mp e)) (iblk m c 0 t) (iblk m c 1 t) (iblk m c 2 t) (iblk m c 3 t) (iblk m c 4 t) (iblk m c 5 t) (outsAt0 m c (t.val - 1) (Nat.lt_of_le_of_lt (Nat.sub_le _ _) t.isLt)).2 := fst_of (outsAt0_B m c t h)
  rw [e1]
  have e2 := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 hw0 (fun e => h ((hcond0_0 t).mp e)) (iblk m c 0 t) (iblk m c 1 t) (iblk m c 2 t) (iblk m c 3 t) (iblk m c 4 t) (iblk m c 5 t) (outsAt0 m c (t.val - 1) (Nat.lt_of_le_of_lt (Nat.sub_le _ _) t.isLt)).2
  rw [e2]

/-- The output block of a point. -/
theorem out_pt (c : Dev nD) (t : Fin cfg0.N) :
    (outsAt0 m c t.val t.isLt).1 = outK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 hw0 (iblk m c 0 t) (iblk m c 1 t) (iblk m c 3 t) (iblk m c 4 t) (iblk m c 5 t)
      (hw0.unread (VT (iblk m c 2 t))) := by
  by_cases h : t.val % 4 = 0
  · have e1 : (outsAt0 m c t.val t.isLt).1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 hw0 ((hcond0_0 t).mpr h) (iblk m c 0 t) (iblk m c 1 t) (iblk m c 2 t) (iblk m c 3 t) (iblk m c 4 t) (iblk m c 5 t) := fst_of (outsAt0_A m c t h)
    rw [e1]
    have e2 := out_A_fill c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 hw0 ((hcond0_0 t).mpr h) (iblk m c 0 t) (iblk m c 1 t) (iblk m c 2 t) (iblk m c 3 t) (iblk m c 4 t) (iblk m c 5 t)
    rw [e2]
  · have hs := scr m c (t.val - 1) (Nat.lt_of_le_of_lt (Nat.sub_le _ _) t.isLt)
    have hq : (⟨t.val - 1, Nat.lt_of_le_of_lt (Nat.sub_le _ _) t.isLt⟩ : Fin cfg0.N).val / 4 = t.val / 4 := by show (t.val - 1) / 4 = t.val / 4; omega
    rw [same2 m c _ t hq] at hs
    exact out_pt_B m c t h _ hs

end Cert.DiffIdeal.Dif

end
-- ==== Proof.DifFlush.lean ====
/- A point's block of the differential attention's result, and that the blocks tile it. -/
module

public import proofs.«01_k».proof.Proof.Gen.DiffIdeal.Value
public import proofs.«01_k».proof.Proof.Gen.DiffReferenceIdeal.Run
public import proofs.«01_k».proof.Proof.Gen.DiffReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import Idealize.ShloMosaic.Lib.Pipeline.ValueKit.Tiles
public import proofs.«01_k».proof.Proof.DifPoint

@[expose] public section

noncomputable section

namespace Cert.DiffIdeal.Dif

open Idealize.ShloMosaic hiding ix1 ix2 ix3 ix4 constant_apply
open Cert.DiffIdeal Cert.DiffIdeal.Gen Idealize.ShloMosaic.TcCoe Idealize.SL.Sem
open Idealize.ShloMosaic.Pipeline (Dat)
open Idealize.ShloMosaic.ValueIdx
open Cert.Softmax

set_option maxRecDepth 100000

variable (m : (ℓ : Loc nD τ sig) → Buf (Elt Ideal) ℓ)

/-- A column of the result. -/
def ocol (t : Fin cfg0.N) (l : Fin 128) : Fin 512 := ⟨128 * (t.val / 4 % 4) + l.val, by have := l.isLt; omega⟩

theorem emb_eq (t : Fin cfg0.N) (q : Fin 1024) (l : Fin 128) : (win0_6.rect t).emb (ix3 (0 : Fin 1) q l) = ix3 (pb t) (prow t q) (ocol t l) := funext fun a => Fin.ext (by
  rw [Pipeline.Window.rect_emb_val _ _ _ _ rfl]
  match a with
  | ⟨0, _⟩ => rw [show win0_6.index t ⟨0, _⟩ = t.val / 16 from (by decide +kernel : ∀ t : Fin grid0.N, win0_6.index t 0 = t.val / 16) t]; show t.val / 16 * 1 + 0 = t.val / 16; omega
  | ⟨1, _⟩ => rw [show win0_6.index t ⟨1, _⟩ = t.val % 4 from (by decide +kernel : ∀ t : Fin grid0.N, win0_6.index t 1 = t.val % 4) t]; show t.val % 4 * 1024 + q.val = 1024 * (t.val % 4) + q.val; omega
  | ⟨2, _⟩ => rw [show win0_6.index t ⟨2, _⟩ = t.val / 4 % 4 from (by decide +kernel : ∀ t : Fin grid0.N, win0_6.index t 2 = t.val / 4 % 4) t]; show t.val / 4 % 4 * 128 + l.val = 128 * (t.val / 4 % 4) + l.val; omega)

theorem cut_pt (t : Fin cfg0.N) (o : Vec Ideal S1x1024x128 .bf16) (q : Fin 1024) (l : Fin 128) :
    (cfg0.win 6).cut (grid0.coords t) o (ix3 (0 : Fin 1) q l) = o (ix3 (0 : Fin 1) q l) := rfl

theorem read_pt (t : Fin cfg0.N) (c : Dev nD) (g : Buf (Elt Ideal) ((c : Thread nD τ).loc main_v14)) (q : Fin 1024) (l : Fin 128) :
    (win0_6.blk t).view.read (Elt Ideal) g (ix3 (0 : Fin 1) q l) = g ((win0_6.rect t).emb (ix3 (0 : Fin 1) q l)) := rfl

/-- A point writes back a block of `g` if its rows are `g`'s. -/
theorem flushed_of (c : Dev nD) (g : Buf (Elt Ideal) ((c : Thread nD τ).loc main_v14)) (t : Fin cfg0.N)
    (h : ∀ (q : Fin 1024) (l : Fin 128), (outsAt0 m c t.val t.isLt).1 (ix3 (0 : Fin 1) q l) = g (ix3 (pb t) (prow t q) (ocol t l))) :
    (dats m 0 c).flushed 6 t = (win0_6.blk t).view.read (Elt Ideal) g := by
  refine (Value.flushed6 m c t).trans ?_
  generalize (outsAt0 m c t.val t.isLt).1 = o at h ⊢
  funext y
  obtain ⟨q, l, rfl⟩ := ix_one (a := 1024) (b := 128) y
  exact (cut_pt t o q l).trans ((h q l).trans ((congrArg g (emb_eq t q l)).symm.trans (read_pt t c g q l).symm))

/-- The blocks tile the result. -/
theorem cover (i : S4x4096x512.Idx) : ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 512 := (i 2).isLt
  have hN : cfg0.N = 64 := N_0
  refine ⟨⟨16 * (i 0).val + 4 * ((i 2).val / 128) + (i 1).val / 1024, by omega⟩, flush0_6 _, ?_⟩
  refine (show ∀ t : Fin cfg0.N, t.val = 16 * (i 0).val + 4 * ((i 2).val / 128) + (i 1).val / 1024 → i ∈ ((cfg0.win 6).blk t).view.set from fun t ht => ?_) _ rfl
  show i ∈ ((View.whole main_v14).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    rw [(by decide +kernel : ∀ t : Fin grid0.N, win0_6.index t 0 = t.val / 16) t]
    omega
  | ⟨1, _⟩ =>
    show win0_6.index t 1 * 1024 ≤ (i 1).val ∧ (i 1).val < win0_6.index t 1 * 1024 + 1024
    rw [(by decide +kernel : ∀ t : Fin grid0.N, win0_6.index t 1 = t.val % 4) t]
    omega
  | ⟨2, _⟩ =>
    show win0_6.index t 2 * 128 ≤ (i 2).val ∧ (i 2).val < win0_6.index t 2 * 128 + 128
    rw [(by decide +kernel : ∀ t : Fin grid0.N, win0_6.index t 2 = t.val / 4 % 4) t]
    omega

end Cert.DiffIdeal.Dif

end
-- ==== Proof.DifRef.lean ====
/- The differential attention's reference, an entry at a time: the difference of two softmaxes over the keys of the blocks up to the row's own, normed and gated. -/
module

public import proofs.«01_k».proof.Proof.Gen.DiffReferenceIdeal.Read
public import Idealize.ShloMosaic.Lib.Claim
public import Idealize.ShloMosaic.Lib.ValueIdx
public import Idealize.ShloMosaic.Lib.Pointwise
public import Idealize.ShloMosaic.Lib.KernelVsHost
public import Idealize.ShloMosaic.Lib.Affine
public import Idealize.ShloMosaic.PureOps.Ideal.Laws
public import proofs.«01_k».proof.Proof.DifFin

@[expose] public section

noncomputable section

namespace Cert.DiffReferenceIdeal.DifRef

open Idealize.ShloMosaic hiding ix1 ix2 ix3 ix4 ix5 constant_apply
open Cert.DiffReferenceIdeal Cert.DiffReferenceIdeal.Gen Cert.DiffReferenceIdeal.Read Idealize.ShloMosaic.TcCoe Idealize.SL.Sem
open Idealize.ShloMosaic.ValueIdx
open Cert.Softmax
open Cert.DiffIdeal.Dif (sle_small lamE sil)

set_option maxRecDepth 100000

variable (x0 : (⟨S4x4096x6144, .f32⟩ : BufTy).Contents (Elt Ideal)) (x1 : (⟨S4x64, .f32⟩ : BufTy).Contents (Elt Ideal)) (x2 : (⟨S128, .f32⟩ : BufTy).Contents (Elt Ideal))
  (pr : Fin 4 → Fin 4096 → ℕ → ℝ) (lr : Fin 4 → Fin 64 → ℝ)

/-- One of a head's two scores of a row and a key. -/
def lg (b h : Fin 4) (u : ℕ) (s key : Fin 4096) : ℝ :=
  (∑ d : Fin 64, pr b s (128 * h.val + (64 * u + d.val)) * pr b key (512 + (128 * h.val + (64 * u + d.val)))) * (1 / 8)

/-- The score, −∞ at a key of a block after the row's. -/
def xs (b h : Fin 4) (u : ℕ) (s key : Fin 4096) : EReal := if key.val / 64 ≤ s.val / 64 then ((lg pr b h u s key : ℝ) : EReal) else ⊥

/-- A key's share of a row. -/
def pb (b h : Fin 4) (u : ℕ) (s key : Fin 4096) : ℝ := Ee (xs pr b h u s key) / ∑ j : Fin 4096, Ee (xs pr b h u s j)

/-- One of the two weighted means of a value column. -/
def mn (b h : Fin 4) (u : ℕ) (s : Fin 4096) (d : ℕ) : ℝ :=
  (∑ key : Fin 4096, pr b key (1024 + (128 * h.val + d)) * Ee (xs pr b h u s key)) / ∑ key : Fin 4096, Ee (xs pr b h u s key)

theorem q_apply (h0 : ∀ b s (l : Fin 6144), x0 (ix3 b s l) = ((pr b s l.val : ℝ) : EReal)) (b h : Fin 4) (u : Fin 2) (s : Fin 4096) (d : Fin 64) :
    val_main_v6 (F := Ideal) x0 (ix5 b h u s d) = ((pr b s ((128 * h.val + (64 * u.val + d.val))) : ℝ) : EReal) := by
  have hb := b.isLt; have hh := h.isLt; have hs := s.isLt; have hd := d.isLt; have hu := u.isLt
  rw [val_main_v6_apply, val_main_v5_apply, val_main_v1_apply, val_main_v0_apply]
  refine Eq.trans (congrArg x0 (a₂ := ix3 b s (⟨(128 * h.val + (64 * u.val + d.val)), by omega⟩ : Fin 6144)) (funext fun a => Fin.ext ?_)) (h0 b s _)
  match a with
  | ⟨0, _⟩ => show ((((b.val * 4096 + s.val) * 4 + h.val) * 2 + u.val) * 64 + d.val) / 2097152 = b.val; omega
  | ⟨1, _⟩ => show ((((b.val * 4096 + s.val) * 4 + h.val) * 2 + u.val) * 64 + d.val) / 512 % 4096 = s.val; omega
  | ⟨2, _⟩ => show ((((b.val * 4096 + s.val) * 4 + h.val) * 2 + u.val) * 64 + d.val) % 512 = (128 * h.val + (64 * u.val + d.val)); omega

theorem k_apply (h0 : ∀ b s (l : Fin 6144), x0 (ix3 b s l) = ((pr b s l.val : ℝ) : EReal)) (b h : Fin 4) (u : Fin 2) (s : Fin 4096) (d : Fin 64) :
    val_main_v8 (F := Ideal) x0 (ix5 b h u s d) = ((pr b s (512 + (128 * h.val + (64 * u.val + d.val))) : ℝ) : EReal) := by
  have hb := b.isLt; have hh := h.isLt; have hs := s.isLt; have hd := d.isLt; have hu := u.isLt
  rw [val_main_v8_apply, val_main_v7_apply, val_main_v2_apply, val_main_v0_apply]
  refine Eq.trans (congrArg x0 (a₂ := ix3 b s (⟨512 + (128 * h.val + (64 * u.val + d.val)), by omega⟩ : Fin 6144)) (funext fun a => Fin.ext ?_)) (h0 b s _)
  match a with
  | ⟨0, _⟩ => show ((((b.val * 4096 + s.val) * 4 + h.val) * 2 + u.val) * 64 + d.val) / 2097152 = b.val; omega
  | ⟨1, _⟩ => show ((((b.val * 4096 + s.val) * 4 + h.val) * 2 + u.val) * 64 + d.val) / 512 % 4096 = s.val; omega
  | ⟨2, _⟩ => show 512 + ((((b.val * 4096 + s.val) * 4 + h.val) * 2 + u.val) * 64 + d.val) % 512 = 512 + (128 * h.val + (64 * u.val + d.val)); omega

theorem v_apply (h0 : ∀ b s (l : Fin 6144), x0 (ix3 b s l) = ((pr b s l.val : ℝ) : EReal)) (b h : Fin 4) (s : Fin 4096) (d : Fin 128) :
    val_main_v10 (F := Ideal) x0 (ix4 b h s d) = ((pr b s (1024 + (128 * h.val + d.val)) : ℝ) : EReal) := by
  have hb := b.isLt; have hh := h.isLt; have hs := s.isLt; have hd := d.isLt
  rw [val_main_v10_apply, val_main_v9_apply, val_main_v3_apply, val_main_v0_apply]
  refine Eq.trans (congrArg x0 (a₂ := ix3 b s (⟨1024 + (128 * h.val + d.val), by omega⟩ : Fin 6144)) (funext fun a => Fin.ext ?_)) (h0 b s _)
  match a with
  | ⟨0, _⟩ => show (((b.val * 4096 + s.val) * 4 + h.val) * 128 + d.val) / 2097152 = b.val; omega
  | ⟨1, _⟩ => show (((b.val * 4096 + s.val) * 4 + h.val) * 128 + d.val) / 512 % 4096 = s.val; omega
  | ⟨2, _⟩ => show 1024 + (((b.val * 4096 + s.val) * 4 + h.val) * 128 + d.val) % 512 = 1024 + (128 * h.val + d.val); omega

theorem g_apply (h0 : ∀ b s (l : Fin 6144), x0 (ix3 b s l) = ((pr b s l.val : ℝ) : EReal)) (b : Fin 4) (s : Fin 4096) (l : Fin 512) :
    val_main_v4 (F := Ideal) x0 (ix3 b s l) = ((pr b s (1536 + l.val) : ℝ) : EReal) := by
  have hl := l.isLt
  rw [val_main_v4_apply, val_main_v0_apply]
  refine Eq.trans (congrArg x0 (a₂ := ix3 b s (⟨1536 + l.val, by omega⟩ : Fin 6144)) (funext fun a => Fin.ext ?_)) (h0 b s _)
  match a with
  | ⟨0, _⟩ => rfl
  | ⟨1, _⟩ => rfl
  | ⟨2, _⟩ => rfl

theorem eighth : Ideal.ofBits .f32 0x3E000000#32 = ((1 / 8 : ℝ) : EReal) := by
  simp [Ideal.ofBits, Ideal.ieee]
  rw [← EReal.coe_mul]; norm_num

theorem dot_apply (h0 : ∀ b s (l : Fin 6144), x0 (ix3 b s l) = ((pr b s l.val : ℝ) : EReal)) (b h : Fin 4) (u : Fin 2) (s key : Fin 4096) :
    val_main_v29 (F := Ideal) x0 (ix5 b h u s key) = ((∑ d : Fin 64, pr b s (128 * h.val + (64 * u.val + d.val)) * pr b key (512 + (128 * h.val + (64 * u.val + d.val))) : ℝ) : EReal) := by
  rw [val_main_v29_apply]
  have el : ∀ k, lidx_main_v29 (ix5 b h u s key) k = ix5 b h u s k := fun k => funext fun a => by match a with | ⟨0, _⟩ => rfl | ⟨1, _⟩ => rfl | ⟨2, _⟩ => rfl | ⟨3, _⟩ => rfl | ⟨4, _⟩ => rfl
  have er : ∀ k, ridx_main_v29 (ix5 b h u s key) k = ix5 b h u key k := fun k => funext fun a => by match a with | ⟨0, _⟩ => rfl | ⟨1, _⟩ => rfl | ⟨2, _⟩ => rfl | ⟨3, _⟩ => rfl | ⟨4, _⟩ => rfl
  simp only [el, er, q_apply x0 pr h0, k_apply x0 pr h0, ← EReal.coe_mul]
  exact sum_coe _

theorem score_apply (h0 : ∀ b s (l : Fin 6144), x0 (ix3 b s l) = ((pr b s l.val : ℝ) : EReal)) (b h : Fin 4) (u : Fin 2) (s key : Fin 4096) :
    val_main_v31 (F := Ideal) x0 (ix5 b h u s key) = ((lg pr b h u.val s key : ℝ) : EReal) := by
  rw [val_main_v31_apply, dot_apply x0 pr h0, val_main_v30_apply, val_main_cst_2_apply]
  show _ * Ideal.ofBits .f32 0x3E000000#32 = _
  rw [eighth, ← EReal.coe_mul]
  rfl

/-- The reference's floor division by 64. -/
def fdv64 (x : BitVec 32) : BitVec 32 :=
  Scalar.select
    (IntOp.andi
      (IntOp.cmpi CmpIPredicate.ne (if x = 0 then 0 else if x.msb = true then -1 else 1 : BitVec 32)
        (if (64#32 : BitVec 32) = 0 then 0 else if (64#32 : BitVec 32).msb = true then -1 else 1 : BitVec 32))
      (IntOp.cmpi CmpIPredicate.ne (IntOp.remsi ArithUnit.host x 64#32) 0#32))
    (IntOp.subi (IntOp.divsi ArithUnit.host x 64#32) 1#32) (IntOp.divsi ArithUnit.host x 64#32)

theorem fdv64_eq : ∀ n : Fin 4096, fdv64 (BitVec.ofNat 32 n.val) = BitVec.ofNat 32 (n.val / 64) := by decide +kernel

theorem block_apply (n : Fin 4096) : val_main_v28 (F := Ideal) (ix1 n) = BitVec.ofNat 32 (n.val / 64) := by
  rw [← fdv64_eq n, val_main_v28_apply, val_main_call0_v11_apply, val_main_call0_v13_apply, val_main_call0_v2_apply, val_main_call0_v6_apply, val_main_call0_v10_apply,
    val_main_call0_v5_apply, val_main_call0_v8_apply, val_main_call0_v9_apply, val_main_call0_v7_apply, val_main_call0_v12_apply, val_main_call0_v1_apply]
  rfl

theorem masked_apply (h0 : ∀ b s (l : Fin 6144), x0 (ix3 b s l) = ((pr b s l.val : ℝ) : EReal)) (b h : Fin 4) (u : Fin 2) (s key : Fin 4096) :
    val_main_v37 (F := Ideal) x0 (ix5 b h u s key) = xs pr b h u.val s key := by
  rw [val_main_v37_apply, score_apply x0 pr h0, val_main_call1_v1_apply, val_main_v36_apply, val_main_v34_apply, val_main_v35_apply, val_main_v32_apply, val_main_v33_apply,
    val_main_call1_v2_apply, val_main_call1_v0_apply, val_main_cst_3_apply]
  have e1 : idx_main_v32 (idx_main_v34 (idx_main_call1_v1 (ix5 b h u s key))) = ix1 key := funext fun a => by match a with | ⟨0, _⟩ => rfl
  have e2 : idx_main_v33 (idx_main_v35 (idx_main_call1_v1 (ix5 b h u s key))) = ix1 s := funext fun a => by match a with | ⟨0, _⟩ => rfl
  rw [e1, e2, block_apply, block_apply]
  have hm : IntOp.cmpi CmpIPredicate.sle (BitVec.ofNat 32 (key.val / 64)) (BitVec.ofNat 32 (s.val / 64)) = BitVec.ofBool (decide (key.val / 64 ≤ s.val / 64)) := congrArg BitVec.ofBool (sle_small (key.val / 64) (s.val / 64) (by have := key.isLt; omega) (by have := s.isLt; omega))
  show Scalar.select _ _ (Ideal.ofBits .f32 0xFF800000#32) = _
  rw [hm, ofBits_neg_inf]
  unfold xs
  by_cases hk : key.val / 64 ≤ s.val / 64
  · rw [if_pos hk, decide_eq_true hk]; rfl
  · rw [if_neg hk, decide_eq_false hk]; rfl

theorem max_apply (h0 : ∀ b s (l : Fin 6144), x0 (ix3 b s l) = ((pr b s l.val : ℝ) : EReal)) (b h : Fin 4) (u : Fin 2) (s : Fin 4096) :
    val_main_v38 (F := Ideal) x0 (ix4 b h u s) = top (xs pr b h u.val s) := by
  have e : ∀ k, val_main_v37 (F := Ideal) x0 (ix5 b h u s k) = xs pr b h u.val s k := masked_apply x0 pr h0 b h u s
  unfold val_main_v38
  generalize val_main_v37 (F := Ideal) x0 = y at e
  simp only [pointwise]
  refine (congrArg₂ (fun z f => (Finset.univ : Finset (Fin 4096)).fold max z f) (y' := fun k => xs pr b h u.val s k) (?_ : _ = (⊥ : EReal)) (funext fun k => ?_))
  · exact ofBits_neg_inf
  · exact e k

theorem rowmax_apply (h0 : ∀ b s (l : Fin 6144), x0 (ix3 b s l) = ((pr b s l.val : ℝ) : EReal)) (b h : Fin 4) (u : Fin 2) (s : Fin 4096) :
    val_main_v40 (F := Ideal) x0 (ix4 b h u s) = top (xs pr b h u.val s) := by
  rw [val_main_v40_apply, val_main_v39_apply, val_main_cst_5_apply, max_apply x0 pr h0]
  show max (Ideal.ofBits .f32 0xFF800000#32) _ = _
  rw [ofBits_neg_inf]
  exact max_eq_right bot_le

theorem exp_apply (h0 : ∀ b s (l : Fin 6144), x0 (ix3 b s l) = ((pr b s l.val : ℝ) : EReal)) (b h : Fin 4) (u : Fin 2) (s key : Fin 4096) :
    val_main_v44 (F := Ideal) x0 (ix5 b h u s key) = Ideal.exp (xs pr b h u.val s key - top (xs pr b h u.val s)) := by
  rw [val_main_v44_apply, val_main_v43_apply, masked_apply x0 pr h0, val_main_v42_apply, val_main_v41_apply]
  have e : idx_main_v41 (idx_main_v42 (ix5 b h u s key)) = ix4 b h u s := funext fun a => by match a with | ⟨0, _⟩ => rfl | ⟨1, _⟩ => rfl | ⟨2, _⟩ => rfl | ⟨3, _⟩ => rfl
  rw [e, rowmax_apply x0 pr h0]
  rfl

/-- A softmax's share, as a quotient of reals. -/
theorem share {ι : Type*} [Fintype ι] (x : ι → EReal) (hx : ∀ k, x k ≠ ⊤) (k₀ : ι) (hk : x k₀ ≠ ⊥) (k : ι) :
    Ideal.div (Ideal.exp (x k - top x)) (∑ j, Ideal.exp (x j - top x)) = ((Ee (x k) / ∑ j, Ee (x j) : ℝ) : EReal) := by
  have h1 : top x ≠ ⊤ := top_ne x hx
  have h2 : top x ≠ ⊥ := fun h => hk (le_bot_iff.1 (h ▸ le_top' x k₀))
  generalize top x = M at h1 h2 ⊢
  induction M using EReal.rec with
  | bot => exact absurd rfl h2
  | top => exact absurd rfl h1
  | coe μ =>
    have hp : 0 < ∑ k, Ee (x k) := Finset.sum_pos' (fun k _ => Ee_nonneg _) ⟨k₀, Finset.mem_univ _, Ee_pos _ hk⟩
    have he : (0 : ℝ) < Real.exp (-μ) := Real.exp_pos _
    have hs : ∑ j, Ideal.exp (x j - (μ : EReal)) = (((∑ k, Ee (x k)) * Real.exp (-μ) : ℝ) : EReal) := by
      rw [Finset.sum_mul, ← sum_coe]
      exact Finset.sum_congr rfl fun k _ => exp_sub _ (hx k) μ
    rw [hs, exp_sub _ (hx k), Ideal.div_coe (mul_pos hp he).ne', ← EReal.coe_mul]
    refine congrArg _ ?_
    have := hp.ne'
    have := he.ne'
    field_simp

theorem prob_apply (h0 : ∀ b s (l : Fin 6144), x0 (ix3 b s l) = ((pr b s l.val : ℝ) : EReal)) (b h : Fin 4) (u : Fin 2) (s key : Fin 4096) :
    val_main_v48 (F := Ideal) x0 (ix5 b h u s key) = ((pb pr b h u.val s key : ℝ) : EReal) := by
  rw [val_main_v48_apply, exp_apply x0 pr h0, val_main_v47_apply, val_main_v46_apply, val_main_v45_apply, val_main_cst_6_apply]
  have e : ∀ k, idx_main_v45 (idx_main_v46 (idx_main_v47 (ix5 b h u s key))) k = ix5 b h u s k := fun k => funext fun a => by match a with | ⟨0, _⟩ => rfl | ⟨1, _⟩ => rfl | ⟨2, _⟩ => rfl | ⟨3, _⟩ => rfl | ⟨4, _⟩ => rfl
  simp only [e, exp_apply x0 pr h0]
  show Ideal.div _ (Ideal.ofBits .f32 0x00000000#32 + _) = _
  rw [Ideal.ofBits_zero_f32, zero_add]
  refine share (xs pr b h u.val s) (fun k => ?_) s ?_ key
  · unfold xs; split_ifs
    · exact EReal.coe_ne_top _
    · exact bot_ne_top
  · unfold xs; rw [if_pos le_rfl]; exact EReal.coe_ne_bot _

/-- The 64 positions of a row of scalars. -/
def e64 : Fin 64 ≃ S64.Idx := ⟨fun k => ix1 k, fun i => i 0, fun _ => rfl, fun i => (ValueIdx.eq_ix1 i).symm⟩

theorem lam_apply (i : S_.Idx) : val_main_v26 (F := Ideal) x1 i = lamE x1 := by
  rw [val_main_v26_apply, val_main_v25_apply, val_main_v17_apply, val_main_v24_apply, val_main_v16_apply, val_main_v23_apply, val_main_cst_1_apply, val_main_cst_apply, val_main_cst_0_apply,
    ← Equiv.sum_comp e64, ← Equiv.sum_comp e64]
  have e1 : ∀ j : Fin 64, val_main_v15 (F := Ideal) x1 (e64 j) = x1 (ix2 (0 : Fin 4) j) * x1 (ix2 (1 : Fin 4) j) := by
    intro j
    rw [val_main_v15_apply, val_main_v12_apply, val_main_v14_apply, val_main_v11_apply, val_main_v13_apply]
    refine congrArg₂ (fun a b : EReal => a * b) (congrArg x1 (funext fun a => Fin.ext ?_)) (congrArg x1 (funext fun a => Fin.ext ?_))
    · match a with
      | ⟨0, _⟩ => rfl
      | ⟨1, _⟩ => exact Nat.mod_eq_of_lt j.isLt
    · match a with
      | ⟨0, _⟩ => rfl
      | ⟨1, _⟩ => exact Nat.mod_eq_of_lt j.isLt
  have e2 : ∀ j : Fin 64, val_main_v22 (F := Ideal) x1 (e64 j) = x1 (ix2 (2 : Fin 4) j) * x1 (ix2 (3 : Fin 4) j) := by
    intro j
    rw [val_main_v22_apply, val_main_v19_apply, val_main_v21_apply, val_main_v18_apply, val_main_v20_apply]
    refine congrArg₂ (fun a b : EReal => a * b) (congrArg x1 (funext fun a => Fin.ext ?_)) (congrArg x1 (funext fun a => Fin.ext ?_))
    · match a with
      | ⟨0, _⟩ => rfl
      | ⟨1, _⟩ => exact Nat.mod_eq_of_lt j.isLt
    · match a with
      | ⟨0, _⟩ => rfl
      | ⟨1, _⟩ => exact Nat.mod_eq_of_lt j.isLt
  simp only [e1, e2]
  show Ideal.exp (Ideal.ofBits .f32 0x00000000#32 + _) - Ideal.exp (Ideal.ofBits .f32 0x00000000#32 + _) + _ = _
  rw [Ideal.ofBits_zero_f32, zero_add, zero_add]
  rfl

theorem fifth : Ideal.ofBits .f32 0x3E4CCCCD#32 = ((13421773 / 67108864 : ℝ) : EReal) := by
  simp [Ideal.ofBits, Ideal.ieee]
  rw [← EReal.coe_mul]; norm_num

/-- The second softmax's weight, as a real. -/
def lamR : ℝ := Real.exp (∑ j : Fin 64, lr 0 j * lr 1 j) - Real.exp (∑ j : Fin 64, lr 2 j * lr 3 j) + 13421773 / 67108864

theorem lam_real (h1 : ∀ a j, x1 (ix2 a j) = ((lr a j : ℝ) : EReal)) : lamE x1 = ((lamR lr : ℝ) : EReal) := by
  unfold lamE
  simp only [h1, ← EReal.coe_mul]
  rw [sum_coe, sum_coe, Ideal.exp_coe, Ideal.exp_coe, fifth, ← EReal.coe_sub, ← EReal.coe_add]
  rfl

theorem weight_apply (h0 : ∀ b s (l : Fin 6144), x0 (ix3 b s l) = ((pr b s l.val : ℝ) : EReal)) (h1 : ∀ a j, x1 (ix2 a j) = ((lr a j : ℝ) : EReal)) (b h : Fin 4) (s key : Fin 4096) :
    val_main_v55 (F := Ideal) x0 x1 (ix4 b h s key) = ((pb pr b h 0 s key - lamR lr * pb pr b h 1 s key : ℝ) : EReal) := by
  have hb := b.isLt; have hh := h.isLt; have hs := s.isLt; have hk := key.isLt
  rw [val_main_v55_apply, val_main_v50_apply, val_main_v49_apply, val_main_v54_apply, val_main_v53_apply, val_main_v52_apply, val_main_v51_apply, lam_apply, lam_real x1 lr h1]
  have e0 : idx_main_v49 (idx_main_v50 (ix4 b h s key)) = ix5 b h (0 : Fin 2) s key := funext fun a => Fin.ext (by
    match a with
    | ⟨0, _⟩ => show (((b.val * 4 + h.val) * 4096 + s.val) * 4096 + key.val) / 67108864 = b.val; omega
    | ⟨1, _⟩ => show (((b.val * 4 + h.val) * 4096 + s.val) * 4096 + key.val) / 16777216 % 4 = h.val; omega
    | ⟨2, _⟩ => rfl
    | ⟨3, _⟩ => show (((b.val * 4 + h.val) * 4096 + s.val) * 4096 + key.val) / 4096 % 4096 = s.val; omega
    | ⟨4, _⟩ => show (((b.val * 4 + h.val) * 4096 + s.val) * 4096 + key.val) % 4096 = key.val; omega)
  have e1 : idx_main_v51 (idx_main_v52 (ix4 b h s key)) = ix5 b h (1 : Fin 2) s key := funext fun a => Fin.ext (by
    match a with
    | ⟨0, _⟩ => show (((b.val * 4 + h.val) * 4096 + s.val) * 4096 + key.val) / 67108864 = b.val; omega
    | ⟨1, _⟩ => show (((b.val * 4 + h.val) * 4096 + s.val) * 4096 + key.val) / 16777216 % 4 = h.val; omega
    | ⟨2, _⟩ => rfl
    | ⟨3, _⟩ => show (((b.val * 4 + h.val) * 4096 + s.val) * 4096 + key.val) / 4096 % 4096 = s.val; omega
    | ⟨4, _⟩ => show (((b.val * 4 + h.val) * 4096 + s.val) * 4096 + key.val) % 4096 = key.val; omega)
  rw [e0, e1, prob_apply x0 pr h0, prob_apply x0 pr h0]
  show ((pb pr b h 0 s key : ℝ) : EReal) - ((lamR lr : ℝ) : EReal) * ((pb pr b h 1 s key : ℝ) : EReal) = _
  rw [← EReal.coe_mul, ← EReal.coe_sub]

theorem mn_eq (b h : Fin 4) (u : ℕ) (s : Fin 4096) (d : ℕ) :
    mn pr b h u s d = ∑ key : Fin 4096, pb pr b h u s key * pr b key (1024 + (128 * h.val + d)) := by
  unfold mn pb
  rw [Finset.sum_div]
  exact Finset.sum_congr rfl fun k _ => by ring

/-- A head's difference of two weighted means of the values. -/
theorem diff_apply (h0 : ∀ b s (l : Fin 6144), x0 (ix3 b s l) = ((pr b s l.val : ℝ) : EReal)) (h1 : ∀ a j, x1 (ix2 a j) = ((lr a j : ℝ) : EReal)) (b h : Fin 4) (s : Fin 4096) (d : Fin 128) :
    val_main_v56 (F := Ideal) x0 x1 (ix4 b h s d) = ((mn pr b h 0 s d.val : ℝ) : EReal) - lamE x1 * ((mn pr b h 1 s d.val : ℝ) : EReal) := by
  rw [val_main_v56_apply]
  have el : ∀ k, lidx_main_v56 (ix4 b h s d) k = ix4 b h s k := fun k => funext fun a => by match a with | ⟨0, _⟩ => rfl | ⟨1, _⟩ => rfl | ⟨2, _⟩ => rfl | ⟨3, _⟩ => rfl
  have er : ∀ k, ridx_main_v56 (ix4 b h s d) k = ix4 b h k d := fun k => funext fun a => by match a with | ⟨0, _⟩ => rfl | ⟨1, _⟩ => rfl | ⟨2, _⟩ => rfl | ⟨3, _⟩ => rfl
  simp only [el, er, weight_apply x0 x1 pr lr h0 h1, v_apply x0 pr h0, ← EReal.coe_mul]
  rw [lam_real x1 lr h1, ← EReal.coe_mul, ← EReal.coe_sub]
  refine (sum_coe _).trans (congrArg _ ?_)
  rw [mn_eq, mn_eq, Finset.mul_sum, ← Finset.sum_sub_distrib]
  exact Finset.sum_congr rfl fun k _ => by ring

/-- The gate of a real, either way of writing it. -/
theorem gate_two (g : ℝ) : (g : EReal) * Ideal.div 1 (1 + Ideal.exp (-(g : EReal))) = sil (g : EReal) := by
  unfold sil
  have e : (1 : EReal) + Ideal.exp (-(g : EReal)) = ((1 + Real.exp (-g) : ℝ) : EReal) := by
    rw [← EReal.coe_neg, Ideal.exp_coe, ← EReal.coe_one, ← EReal.coe_add]
  have hne : (1 + Real.exp (-g) : ℝ) ≠ 0 := by have := Real.exp_pos (-g); positivity
  rw [zero_sub, e, Ideal.div_coe hne, Ideal.div_coe hne, one_mul]

theorem silu_apply (h0 : ∀ b s (l : Fin 6144), x0 (ix3 b s l) = ((pr b s l.val : ℝ) : EReal)) (b : Fin 4) (s : Fin 4096) (l : Fin 512) :
    val_main_v74 (F := Ideal) x0 (ix3 b s l) = sil ((pr b s (1536 + l.val) : ℝ) : EReal) := by
  rw [val_main_v74_apply, val_main_call2_v5_apply, val_main_call2_v4_apply, val_main_call2_cst_0_apply,
    val_main_call2_v3_apply, val_main_call2_v2_apply, val_main_call2_cst_apply, val_main_call2_v1_apply, val_main_call2_v0_apply, g_apply x0 pr h0, ← gate_two]
  show (((pr b s (1536 + l.val) : ℝ) : EReal) * Ideal.div (Ideal.ofBits .f32 0x3F800000#32) (Ideal.ofBits .f32 0x3F800000#32 + Ideal.exp (-((pr b s (1536 + l.val) : ℝ) : EReal)))) = _
  rw [Ideal.ofBits_one_f32]

theorem norm_two (x S c1 c2 w c3 : Ideal .f32) :
    FloatOps.mulf (FloatOps.mulf (FloatOps.mulf x (FloatOps.hostUnary .rsqrt (FloatOps.addf (FloatOps.hostDivf S c1) c2))) w) c3
      = (show EReal from x) * Ideal.rsqrt (Ideal.div S c1 + c2) * w * c3 := rfl

theorem last_two (a b : Ideal .f32) : FloatOps.truncf (F := Ideal) .bf16 bitsLt_bf16_f32 (FloatOps.mulf a b) = (show EReal from a) * b := rfl

theorem lit (x : BitVec 32) : FloatOps.ofBits (F := Ideal) .f32 x = Ideal.ofBits .f32 x := rfl

theorem sq_apply (h0 : ∀ b s (l : Fin 6144), x0 (ix3 b s l) = ((pr b s l.val : ℝ) : EReal)) (h1 : ∀ a j, x1 (ix2 a j) = ((lr a j : ℝ) : EReal)) (b h : Fin 4) (s : Fin 4096) (o : Fin 128 → EReal)
    (hd : ∀ k : Fin 128, val_main_v56 (F := Ideal) x0 x1 (ix4 b h s k) = o k) :
    val_main_v58 (F := Ideal) x0 x1 (ix3 b h s) = ∑ k, o k * o k := by
  rw [val_main_v58_apply, val_main_cst_7_apply, lit, Ideal.ofBits_zero_f32]
  have e : ∀ k, idx_main_v58 (ix3 b h s) k = ix4 b h s k := fun k => funext fun a => by match a with | ⟨0, _⟩ => rfl | ⟨1, _⟩ => rfl | ⟨2, _⟩ => rfl | ⟨3, _⟩ => rfl
  have hq : ∀ k, val_main_v57 (F := Ideal) x0 x1 (idx_main_v58 (ix3 b h s) k) = o k * o k := fun k => by
    rw [e, val_main_v57_apply, hd]
    rfl
  rw [Finset.sum_congr rfl fun k _ => hq k]
  exact zero_add _

theorem norm_apply (h0 : ∀ b s (l : Fin 6144), x0 (ix3 b s l) = ((pr b s l.val : ℝ) : EReal)) (h1 : ∀ a j, x1 (ix2 a j) = ((lr a j : ℝ) : EReal)) (b h : Fin 4) (s : Fin 4096) (d : Fin 128) (o : Fin 128 → EReal)
    (ho : ∀ k : Fin 128, ((mn pr b h 0 s k.val : ℝ) : EReal) - lamE x1 * ((mn pr b h 1 s k.val : ℝ) : EReal) = o k) :
    val_main_v71 (F := Ideal) x0 x1 x2 (ix4 b h s d)
      = o d * Ideal.rsqrt (Ideal.div (∑ k, o k * o k) (Ideal.ofBits .f32 0x43000000#32) + Ideal.ofBits .f32 0x358637BD#32) * x2 (ix1 d) * Ideal.ofBits .f32 0x3F4CCCCD#32 := by
  have hd : ∀ k : Fin 128, val_main_v56 (F := Ideal) x0 x1 (ix4 b h s k) = o k := fun k => (diff_apply x0 x1 pr lr h0 h1 b h s k).trans (ho k)
  have e : idx_main_v59 (idx_main_v65 (ix4 b h s d)) = ix3 b h s := funext fun a => by match a with | ⟨0, _⟩ => rfl | ⟨1, _⟩ => rfl | ⟨2, _⟩ => rfl
  have e2 : idx_main_v67 (idx_main_v68 (ix4 b h s d)) = ix1 d := funext fun a => by match a with | ⟨0, _⟩ => rfl
  rw [val_main_v71_apply, val_main_v70_apply, val_main_cst_10_apply, val_main_v69_apply, val_main_v68_apply, val_main_v67_apply, val_main_v66_apply, hd, val_main_v65_apply, val_main_v64_apply,
    val_main_v63_apply, val_main_v62_apply, val_main_cst_9_apply, val_main_v61_apply, val_main_v60_apply, val_main_cst_8_apply, val_main_v59_apply, e, e2, sq_apply x0 x1 pr lr h0 h1 b h s o hd, lit, lit, lit]
  exact norm_two _ _ _ _ _ _

/-- The reference's result at an entry. -/
theorem ref_apply (h0 : ∀ b s (l : Fin 6144), x0 (ix3 b s l) = ((pr b s l.val : ℝ) : EReal)) (h1 : ∀ a j, x1 (ix2 a j) = ((lr a j : ℝ) : EReal)) (b : Fin 4) (s : Fin 4096) (l : Fin 512) (h : Fin 4) (d : Fin 128) (hl' : l.val = 128 * h.val + d.val) (o : Fin 128 → EReal)
    (ho : ∀ k : Fin 128, ((mn pr b h 0 s k.val : ℝ) : EReal) - lamE x1 * ((mn pr b h 1 s k.val : ℝ) : EReal) = o k) :
    val_main_v76 (F := Ideal) x0 x1 x2 (ix3 b s l) = Cert.DiffIdeal.Dif.post o (x2 (ix1 d)) ((pr b s (1536 + l.val) : ℝ) : EReal) d := by
  have hb := b.isLt; have hs := s.isLt; have hl := l.isLt; have hd := d.isLt; have hh := h.isLt
  rw [val_main_v76_apply, val_main_v75_apply, val_main_v73_apply, val_main_v72_apply, silu_apply x0 pr h0]
  have e : idx_main_v72 (idx_main_v73 (ix3 b s l)) = ix4 b h s d := funext fun a => Fin.ext (by
    match a with
    | ⟨0, _⟩ => show ((b.val * 4096 + s.val) * 512 + l.val) / 2097152 = b.val; omega
    | ⟨1, _⟩ => show ((b.val * 4096 + s.val) * 512 + l.val) / 128 % 4 = h.val; omega
    | ⟨2, _⟩ => show ((b.val * 4096 + s.val) * 512 + l.val) / 512 % 4096 = s.val; omega
    | ⟨3, _⟩ => show ((b.val * 4096 + s.val) * 512 + l.val) % 128 = d.val; omega)
  rw [e, norm_apply x0 x1 x2 pr lr h0 h1 b h s d o ho]
  unfold Cert.DiffIdeal.Dif.post
  exact last_two _ _

end Cert.DiffReferenceIdeal.DifRef

end
-- ==== Proof.DifEntry.lean ====
/- The differential attention: what the kernel leaves in its result array is what the reference computes, index by index, over the extended reals, for real arguments. -/
module

public import proofs.«01_k».proof.Proof.Gen.DiffIdeal.Value
public import proofs.«01_k».proof.Proof.Gen.DiffReferenceIdeal.Run
public import proofs.«01_k».proof.Proof.Gen.DiffReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import Idealize.ShloMosaic.Lib.Pipeline.ValueKit.Tiles
public import proofs.«01_k».proof.Proof.DifFlush
public import proofs.«01_k».proof.Proof.DifRef

@[expose] public section

noncomputable section

namespace Cert.DiffIdeal.Dif

open Idealize.ShloMosaic hiding ix1 ix2 ix3 ix4 constant_apply
open Cert.DiffIdeal Cert.DiffIdeal.Gen Idealize.ShloMosaic.TcCoe Idealize.SL.Sem
open Idealize.ShloMosaic.Pipeline (Dat)
open Idealize.ShloMosaic.ValueIdx
open Cert.Softmax

set_option maxRecDepth 100000

variable (m : (ℓ : Loc nD τ sig) → Buf (Elt Ideal) ℓ)

theorem Ee_of (b : ℝ) : E ((1 / Real.log 2 * b : ℝ) : EReal) = Ee ((b : ℝ) : EReal) := by
  rw [mul_comm]; exact E_scaled b

section Point

variable (pr : Fin 4 → Fin 4096 → ℕ → ℝ) (lr : Fin 4 → Fin 64 → ℝ)

/-- The head of a point. -/
def hd (t : Fin cfg0.N) : Fin 4 := ⟨t.val / 4 % 4, Nat.mod_lt _ (by decide)⟩

/-- The query, key and value numbers a point reads. -/
def qr (t : Fin cfg0.N) (q : Fin 1024) (n : ℕ) : ℝ := pr (pb t) (prow t q) (128 * (t.val / 4 % 4) + n) * (1 / Real.log 2 * (1 / 8))
def kr (t : Fin cfg0.N) (key : Fin 4096) (n : ℕ) : ℝ := pr (pb t) key (512 + (128 * (t.val / 4 % 4) + n))
def vr (t : Fin cfg0.N) (key : Fin 4096) (n : ℕ) : ℝ := pr (pb t) key (1024 + (128 * (t.val / 4 % 4) + n))

theorem coord2 (t : Fin cfg0.N) : (grid0.coords t 2).val = t.val % 4 := (by decide +kernel : ∀ t : Fin grid0.N, (grid0.coords t 2).val = t.val % 4) t

theorem sum64 (f : ℕ → ℝ) : ∑ d ∈ Finset.range 64, f d = ∑ d : Fin 64, f d.val := Finset.sum_range f

/-- The kernel's score is the reference's, over the logarithm of two. -/
theorem score_eq (t : Fin cfg0.N) (u : ℕ) (q : Fin 1024) (key : Fin 4096) :
    sc u (qr pr t) (kr pr t) q key = 1 / Real.log 2 * Cert.DiffReferenceIdeal.DifRef.lg pr (pb t) (hd t) u (prow t q) key := by
  unfold sc Cert.DiffReferenceIdeal.DifRef.lg
  rw [sum64]
  have e : ∀ d : Fin 64, kr pr t key (64 * u + d.val) * qr pr t q (64 * u + d.val)
      = (pr (pb t) (prow t q) (128 * (hd t).val + (64 * u + d.val)) * pr (pb t) key (512 + (128 * (hd t).val + (64 * u + d.val)))) * (1 / Real.log 2 * (1 / 8)) := by
    intro d
    have e1 : (hd t).val = t.val / 4 % 4 := rfl
    unfold kr qr
    rw [e1]; ring
  rw [Finset.sum_congr rfl fun d _ => e d, ← Finset.sum_mul]
  ring

theorem weight_eq (t : Fin cfg0.N) (u : ℕ) (q : Fin 1024) (key : Fin 4096) :
    E (vis (sc u (qr pr t) (kr pr t)) (1024 * (t.val % 4)) q key) = Ee (Cert.DiffReferenceIdeal.DifRef.xs pr (pb t) (hd t) u (prow t q) key) := by
  unfold vis Cert.DiffReferenceIdeal.DifRef.xs
  have e : (prow t q).val = 1024 * (t.val % 4) + q.val := rfl
  rw [e]
  by_cases h : key.val / 64 ≤ (1024 * (t.val % 4) + q.val) / 64
  · rw [if_pos h, if_pos h, score_eq]
    exact Ee_of _
  · rw [if_neg h, if_neg h, E_bot, Ee_bot]

theorem mean_eq (t : Fin cfg0.N) (u : ℕ) (q : Fin 1024) (d : ℕ) :
    mean u (1024 * (grid0.coords t 2).val) (qr pr t) (kr pr t) (vr pr t) q d = Cert.DiffReferenceIdeal.DifRef.mn pr (pb t) (hd t) u (prow t q) d := by
  rw [coord2]
  unfold mean Cert.DiffReferenceIdeal.DifRef.mn
  simp only [weight_eq]
  rfl

variable (c : Dev nD) (hP : ∀ b s (l : Fin 6144), m ((c : Thread nD τ).loc main_arg0) (ix3 b s l) = ((pr b s l.val : ℝ) : EReal))
  (hL : ∀ a j, m ((c : Thread nD τ).loc main_arg1) (ix2 a j) = ((lr a j : ℝ) : EReal))

include hP in
theorem V12_real (b : Fin 4) (s : Fin 4096) (l : Fin 6144) : V m c main_v12 (ix3 b s l) = ((pr b s l.val * colScale l.val : ℝ) : EReal) := by
  rw [V12, EReal.coe_mul]
  exact congrArg (· * _) (hP b s l)

include hP in
theorem in0 (t : Fin cfg0.N) (q : Fin 1024) (l : Fin 128) : iblk m c 0 t (ix3 (0 : Fin 1) q l) = ((qr pr t q l.val : ℝ) : EReal) := by
  rw [blk0, V12_real m pr c hP]
  have hl := l.isLt
  have e : colScale (pcol t 0 l) = 1 / Real.log 2 * (1 / 8) := if_pos (by unfold pcol; omega)
  show ((pr _ _ (pcol t 0 l) * colScale (pcol t 0 l) : ℝ) : EReal) = _
  rw [e]
  unfold qr pcol
  rw [zero_add]

include hP in
theorem in1 (t : Fin cfg0.N) (q : Fin 4096) (l : Fin 128) : iblk m c 1 t (ix3 (0 : Fin 1) q l) = ((kr pr t q l.val : ℝ) : EReal) := by
  rw [blk1, V12_real m pr c hP]
  have hl := l.isLt
  have e : colScale (pcol t 512 l) = 1 := if_neg (by unfold pcol; omega)
  show ((pr _ _ (pcol t 512 l) * colScale (pcol t 512 l) : ℝ) : EReal) = _
  rw [e, mul_one]; rfl

include hP in
theorem in2 (t : Fin cfg0.N) (q : Fin 4096) (l : Fin 128) : iblk m c 2 t (ix3 (0 : Fin 1) q l) = ((vr pr t q l.val : ℝ) : EReal) := by
  rw [blk2, V12_real m pr c hP]
  have hl := l.isLt
  have e : colScale (pcol t 1024 l) = 1 := if_neg (by unfold pcol; omega)
  show ((pr _ _ (pcol t 1024 l) * colScale (pcol t 1024 l) : ℝ) : EReal) = _
  rw [e, mul_one]; rfl

include hP in
theorem in3 (t : Fin cfg0.N) (q : Fin 1024) (l : Fin 128) : iblk m c 3 t (ix3 (0 : Fin 1) q l) = ((pr (pb t) (prow t q) (1536 + (128 * (t.val / 4 % 4) + l.val)) : ℝ) : EReal) := by
  rw [blk3, V12_real m pr c hP]
  have hl := l.isLt
  have e : colScale (pcol t 1536 l) = 1 := if_neg (by unfold pcol; omega)
  show ((pr _ _ (pcol t 1536 l) * colScale (pcol t 1536 l) : ℝ) : EReal) = _
  rw [e, mul_one]
  rfl

/-- The reference's result of the kernel's arguments. -/
def G (c : Dev nD) : Buf (Elt Ideal) ((c : Thread nD τ).loc main_v14) :=
  Cert.DiffReferenceIdeal.Read.val_main_v76 (F := Ideal) (m ((c : Thread nD τ).loc main_arg0)) (m ((c : Thread nD τ).loc main_arg1)) (m ((c : Thread nD τ).loc main_arg2))

theorem lam_eq (t : Fin cfg0.N) : lamE (iblk m c 4 t) = lamE (m ((c : Thread nD τ).loc main_arg1)) := by
  unfold lamE
  simp only [blk4]
  rfl

/-- The difference of means a point's row holds. -/
def ov (t : Fin cfg0.N) (q : Fin 1024) (k : Fin 128) : EReal :=
  ((Cert.DiffReferenceIdeal.DifRef.mn pr (pb t) (hd t) 0 (prow t q) k.val : ℝ) : EReal) - lamE (m ((c : Thread nD τ).loc main_arg1)) * ((Cert.DiffReferenceIdeal.DifRef.mn pr (pb t) (hd t) 1 (prow t q) k.val : ℝ) : EReal)

include hP in
theorem kernel_apply (t : Fin cfg0.N) (q : Fin 1024) (l : Fin 128) :
    (outsAt0 m c t.val t.isLt).1 (ix3 (0 : Fin 1) q l)
      = Cert.DiffIdeal.Dif.post (ov m pr c t q) (Sub m c l) ((pr (pb t) (prow t q) (1536 + (128 * (t.val / 4 % 4) + l.val)) : ℝ) : EReal) l := by
  rw [out_pt]
  refine (out_entry c (grid0.coords t) _ _ _ _ _ _ _ _ _ _ _ _ _ _ _ _ _ _ _ _ _ _ (qr pr t) (kr pr t) (vr pr t)
    (in0 m pr c hP t) (in1 m pr c hP t) (in2 m pr c hP t) q l).trans ?_
  rw [blk5, in3 m pr c hP, lam_eq]
  refine congrArg (fun o => Cert.DiffIdeal.Dif.post o _ _ l) (funext fun k => ?_)
  rw [mean_eq, mean_eq]
  rfl

include hP hL in
theorem refer_apply (t : Fin cfg0.N) (q : Fin 1024) (l : Fin 128) :
    G m c (ix3 (pb t) (prow t q) (ocol t l))
      = Cert.DiffIdeal.Dif.post (ov m pr c t q) (Sub m c l) ((pr (pb t) (prow t q) (1536 + (128 * (t.val / 4 % 4) + l.val)) : ℝ) : EReal) l := by
  unfold G
  exact Cert.DiffReferenceIdeal.DifRef.ref_apply _ _ _ pr lr hP hL (pb t) (prow t q) (ocol t l) (hd t) l rfl (ov m pr c t q) (fun _ => rfl)

include hP hL in
/-- One entry of a point's block is the reference's. -/
theorem stored_apply (t : Fin cfg0.N) (q : Fin 1024) (l : Fin 128) :
    (outsAt0 m c t.val t.isLt).1 (ix3 (0 : Fin 1) q l) = G m c (ix3 (pb t) (prow t q) (ocol t l)) :=
  (kernel_apply m pr c hP t q l).trans (refer_apply m pr lr c hP hL t q l).symm

end Point

end Cert.DiffIdeal.Dif

end
-- ==== Proof.DifValue.lean ====
/- The differential attention: what the kernel leaves in its result array is what the reference computes, index by index, over the extended reals, for real arguments. -/
module

public import proofs.«01_k».proof.Proof.Gen.DiffIdeal.Value
public import proofs.«01_k».proof.Proof.Gen.DiffReferenceIdeal.Run
public import proofs.«01_k».proof.Proof.Gen.DiffReferenceIdeal.Read
public import Idealize.ShloMosaic.Lib.Claim
public import Idealize.ShloMosaic.Lib.ValueIdx
public import Idealize.ShloMosaic.Lib.MatmulPlain
public import Idealize.ShloMosaic.Lib.Pipeline.Value
public import Idealize.ShloMosaic.Lib.StableHlo.ReadAt
public import Idealize.ShloMosaic.Lib.Pointwise
public import Idealize.ShloMosaic.Lib.Pipeline.ReadBack
public import Idealize.ShloMosaic.Lib.KernelVsHost
public import Idealize.ShloMosaic.PureOps.Ideal.Laws
public import Idealize.ShloMosaic.Lib.Pipeline.ValueKit.Tiles
public import proofs.«01_k».proof.Proof.DifEntry

@[expose] public section

noncomputable section

namespace Cert.DiffIdeal.Dif

open Idealize.ShloMosaic hiding ix1 ix2 ix3 ix4 constant_apply
open Cert.DiffIdeal Cert.DiffIdeal.Gen Idealize.ShloMosaic.TcCoe Idealize.SL.Sem
open Idealize.ShloMosaic.Pipeline (Dat)
open Idealize.ShloMosaic.ValueIdx
open Cert.Softmax

set_option maxRecDepth 100000

variable (m : (ℓ : Loc nD τ sig) → Buf (Elt Ideal) ℓ)

section Point

variable (pr : Fin 4 → Fin 4096 → ℕ → ℝ) (lr : Fin 4 → Fin 64 → ℝ)
variable (c : Dev nD) (hP : ∀ b s (l : Fin 6144), m ((c : Thread nD τ).loc main_arg0) (ix3 b s l) = ((pr b s l.val : ℝ) : EReal))
  (hL : ∀ a j, m ((c : Thread nD τ).loc main_arg1) (ix2 a j) = ((lr a j : ℝ) : EReal))

include hP hL in
/-- The result array after the run. -/
theorem final_real : (dats m 0 c).arrAt 6 cfg0.N = G m c :=
  (dats m 0 c).arrAt_eq_of_cover 6 (G m c) (fun t _ => flushed_of m c (G m c) t (stored_apply m pr lr c hP hL t)) cover

end Point

/-- The result array after the run, when the projected rows and the scalars are reals. -/
theorem final (c : Dev nD) (h0 : ∀ i, ∃ r : ℝ, m ((c : Thread nD τ).loc main_arg0) i = (r : EReal)) (h1 : ∀ i, ∃ r : ℝ, m ((c : Thread nD τ).loc main_arg1) i = (r : EReal)) :
    (dats m 0 c).arrAt 6 cfg0.N = G m c := by
  choose f hf using h0
  choose g hg using h1
  refine final_real m (fun b s n => if h : n < 6144 then f (ix3 b s (⟨n, h⟩ : Fin 6144)) else 0) (fun a j => g (ix2 a j)) c (fun b s l => ?_) (fun a j => hg _)
  rw [dif_pos l.isLt]
  exact hf _

end Cert.DiffIdeal.Dif

end
-- ==== Proof.DiffClaim.lean ====
/- The differential attention's claims, from its runs. -/
module

public import proofs.«01_k».proof.Defs
public import proofs.«01_k».proof.Proof.Gen.DiffIdeal.Frame
public import proofs.«01_k».proof.Proof.Gen.DiffReferenceIdeal.Run
public import proofs.«01_k».proof.Proof.Gen.Diff.Frame
public import proofs.«01_k».proof.Proof.Gen.Pre_diff_finite
public import proofs.«01_k».proof.Proof.DifPre
public import proofs.«01_k».proof.Proof.DifValue
public import Idealize.ShloMosaic.Lib.Claim
public import Idealize.ShloMosaic.Lib.Quiescent

@[expose] public section

noncomputable section

open Idealize.ShloMosaic Idealize.ShloMosaic.TcCoe Idealize.SL.Sem

namespace Cert.Proof.DiffClaims

theorem frame_p : Cert.quiescent_Diff := fun m ρ _ => Cert.Diff.Gen.frame m ρ
theorem frame_i : Cert.quiescent_DiffIdeal := fun m ρ _ => Cert.DiffIdeal.Gen.frame m ρ
theorem frame_i_pre : Cert.quiescent_DiffIdeal_pre_diff_finite := fun m ρ _ => Cert.DiffIdeal.Gen.frame m ρ
/-- The reference declares no semaphore and writes no argument. -/
theorem frame_r : Cert.quiescent_DiffReferenceIdeal := fun m ρ _ =>
  (θ_run Cert.DiffReferenceIdeal.defs _ _).mono (fun r h => ⟨fun c => (h c).2, Idealize.ShloMosaic.sem_eq_zero_of_no_sems (by decide) r.2⟩)
    (Cert.DiffReferenceIdeal.Value.run (F := Ideal) m ρ)

theorem frame_r_pre : Cert.quiescent_DiffReferenceIdeal_pre_diff_finite := fun m ρ _ =>
  (θ_run Cert.DiffReferenceIdeal.defs _ _).mono (fun r h => ⟨fun c => (h c).2, Idealize.ShloMosaic.sem_eq_zero_of_no_sems (by decide) r.2⟩)
    (Cert.DiffReferenceIdeal.Value.run (F := Ideal) m ρ)

/-- The one constant the two programs differ in, the mask, reads −∞ under its name. -/
theorem preserves : Cert.preserves_Diff_DiffIdeal :=
  IdealRules.named_const.statement Cert.DiffIdeal.κ "mask" .f32 0xF149F2CA#32 ⊥ rfl

/-- Over the extended reals kernel and reference end holding the same result, when the projected rows and the scalars are reals. -/
theorem algebraic : Cert.algebraic_DiffIdeal_DiffReferenceIdeal_pre_diff_finite := by
  intro m ρ m' ρ' hpre hagree
  have hreal := fun c => Cert.Pre_diff_finite.Read.real_of_fn _ _ _ (hpre c)
  refine ⟨fun c => Cert.DiffIdeal.Dif.G m c, ?_, ?_⟩
  · exact (θ_run Cert.DiffIdeal.defs _ _).mono
      (fun _ h c => ⟨(h c).1.trans (Cert.DiffIdeal.Dif.final m c (hreal c).1 (hreal c).2), (h c).2⟩)
      (Cert.DiffIdeal.Value.run_blocks (F := Ideal) m ρ)
  · refine (θ_run Cert.DiffReferenceIdeal.defs _ _).mono (fun _ h c => ⟨(h c).1.trans ?_, (h c).2⟩)
      (Cert.DiffReferenceIdeal.Value.run (F := Ideal) m' ρ')
    obtain ⟨h0, h1, h2⟩ := hagree c
    unfold Cert.DiffIdeal.Dif.G
    rw [Cert.DiffReferenceIdeal.Read.val_main_v76_eq, h0, h1, h2]

end Cert.Proof.DiffClaims

end
-- ==== Proof.lean ====
module

public import proofs.«01_k».proof.Defs
public import proofs.«01_k».proof.Proof.FoxClaim
public import proofs.«01_k».proof.Proof.InProjClaim
public import proofs.«01_k».proof.Proof.OutProjClaim
public import proofs.«01_k».proof.Proof.DiffClaim
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.Diff
public import proofs.«01_k».proof.Proof.Gen.Diff.Skeleton
public import proofs.«01_k».proof.Proof.Gen.Diff.Loops
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Loops
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffReferenceIdeal
public import proofs.«01_k».proof.Proof.Gen.Pre_finite
public import proofs.«01_k».proof.Proof.Gen.Pre_diff_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.InProj.Gen.facts, Cert.InProjIdeal.Gen.facts, Cert.InProjReferenceIdeal.Gen.facts, Cert.OutProj.Gen.facts, Cert.OutProjIdeal.Gen.facts, Cert.OutProjReferenceIdeal.Gen.facts, Cert.Diff.Gen.facts, Cert.DiffIdeal.Gen.facts, Cert.DiffReferenceIdeal.Gen.facts, Cert.Pre_finite.Gen.facts, Cert.Pre_diff_finite.Gen.facts,
  FoxClaims.frame_p, FoxClaims.frame_i, FoxClaims.frame_i_pre, FoxClaims.frame_r, FoxClaims.frame_r_pre,
  InProjClaims.frame_p, InProjClaims.frame_i, InProjClaims.frame_r,
  OutProjClaims.frame_p, OutProjClaims.frame_i, OutProjClaims.frame_r, DiffClaims.frame_p, DiffClaims.frame_i, DiffClaims.frame_i_pre, DiffClaims.frame_r, DiffClaims.frame_r_pre,
  FoxClaims.preserves, FoxClaims.algebraic, InProjClaims.preserves, InProjClaims.algebraic,
  OutProjClaims.preserves, OutProjClaims.algebraic, DiffClaims.preserves, DiffClaims.algebraic⟩

end Cert.Proof

end
